-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRefIdeal (m : (ℓ : Loc Cert.GateDxRefIdeal.nD Cert.GateDxRefIdeal.τ Cert.GateDxRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdIdeal_finite_glu [hPre_finite_glu : Cert.Pre_finite_glu.Facts] (m : (ℓ : Loc Cert.GluBwdIdeal.nD Cert.GluBwdIdeal.τ Cert.GluBwdIdeal.sig) → Buf (Elt Ideal) ℓ) : Prop :=
  ∀ c : Dev Cert.GluBwdIdeal.nD,
    (Cert.Pre_finite_glu.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4))) = (fun _ => 1#1)

def Pre_GluBwdRefIdeal (m : (ℓ : Loc Cert.GluBwdRefIdeal.nD Cert.GluBwdRefIdeal.τ Cert.GluBwdRefIdeal.sig) → Buf (Elt Ideal) ℓ) : Prop :=
  True

def Pre_GluBwdRefIdeal_finite_glu [hPre_finite_glu : Cert.Pre_finite_glu.Facts] (m : (ℓ : Loc Cert.GluBwdRefIdeal.nD Cert.GluBwdRefIdeal.τ Cert.GluBwdRefIdeal.sig) → Buf (Elt Ideal) ℓ) : Prop :=
  ∀ c : Dev Cert.GluBwdRefIdeal.nD,
    (Cert.Pre_finite_glu.fn (F := Ideal) (m ((c.tc : Thread Cert.GluBwdRefIdeal.nD Cert.GluBwdRefIdeal.τ).loc Cert.GluBwdRefIdeal.main_arg0)) (m ((c.tc : Thread Cert.GluBwdRefIdeal.nD Cert.GluBwdRefIdeal.τ).loc Cert.GluBwdRefIdeal.main_arg1)) (m ((c.tc : Thread Cert.GluBwdRefIdeal.nD Cert.GluBwdRefIdeal.τ).loc Cert.GluBwdRefIdeal.main_arg2)) (m ((c.tc : Thread Cert.GluBwdRefIdeal.nD Cert.GluBwdRefIdeal.τ).loc Cert.GluBwdRefIdeal.main_arg3)) (m ((c.tc : Thread Cert.GluBwdRefIdeal.nD Cert.GluBwdRefIdeal.τ).loc Cert.GluBwdRefIdeal.main_arg4))) = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_finite_ret [hPre_finite_ret : Cert.Pre_finite_ret.Facts] (m : (ℓ : Loc Cert.RetIdeal.nD Cert.RetIdeal.τ Cert.RetIdeal.sig) → Buf (Elt Ideal) ℓ) : Prop :=
  ∀ c : Dev Cert.RetIdeal.nD,
    (Cert.Pre_finite_ret.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2))) = (fun _ => 1#1)

def Pre_RetRefIdeal (m : (ℓ : Loc Cert.RetRefIdeal.nD Cert.RetRefIdeal.τ Cert.RetRefIdeal.sig) → Buf (Elt Ideal) ℓ) : Prop :=
  True

def Pre_RetRefIdeal_finite_ret [hPre_finite_ret : Cert.Pre_finite_ret.Facts] (m : (ℓ : Loc Cert.RetRefIdeal.nD Cert.RetRefIdeal.τ Cert.RetRefIdeal.sig) → Buf (Elt Ideal) ℓ) : Prop :=
  ∀ c : Dev Cert.RetRefIdeal.nD,
    (Cert.Pre_finite_ret.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2))) = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_RotBwd (m : (ℓ : Loc Cert.RotBwd.nD Cert.RotBwd.τ Cert.RotBwd.sig) → Buf (Elt Bits) ℓ) : Prop :=
  True

def Pre_RotBwdIdeal (m : (ℓ : Loc Cert.RotBwdIdeal.nD Cert.RotBwdIdeal.τ Cert.RotBwdIdeal.sig) → Buf (Elt Ideal) ℓ) : Prop :=
  True

def Pre_RotBwdRefIdeal (m : (ℓ : Loc Cert.RotBwdRefIdeal.nD Cert.RotBwdRefIdeal.τ Cert.RotBwdRefIdeal.sig) → Buf (Elt Ideal) ℓ) : Prop :=
  True

def Pre_Rot (m : (ℓ : Loc Cert.Rot.nD Cert.Rot.τ Cert.Rot.sig) → Buf (Elt Bits) ℓ) : Prop :=
  True

def Pre_RotIdeal (m : (ℓ : Loc Cert.RotIdeal.nD Cert.RotIdeal.τ Cert.RotIdeal.sig) → Buf (Elt Ideal) ℓ) : Prop :=
  True

def Pre_RotRefIdeal (m : (ℓ : Loc Cert.RotRefIdeal.nD Cert.RotRefIdeal.τ Cert.RotRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1)
      ∧ r.2.mem ((c.tc : Thread Cert.GateDx.nD Cert.GateDx.τ).loc Cert.GateDx.main_arg2) = m ((c.tc : Thread Cert.GateDx.nD Cert.GateDx.τ).loc Cert.GateDx.main_arg2))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
      ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1)
      ∧ r.2.mem ((c.tc : Thread Cert.GateDxRefIdeal.nD Cert.GateDxRefIdeal.τ).loc Cert.GateDxRefIdeal.main_arg2) = m ((c.tc : Thread Cert.GateDxRefIdeal.nD Cert.GateDxRefIdeal.τ).loc Cert.GateDxRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1)
      ∧ r.2.mem ((c.tc : Thread Cert.GateDw.nD Cert.GateDw.τ).loc Cert.GateDw.main_arg2) = m ((c.tc : Thread Cert.GateDw.nD Cert.GateDw.τ).loc Cert.GateDw.main_arg2))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
      ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1)
      ∧ r.2.mem ((c.tc : Thread Cert.GateDwRefIdeal.nD Cert.GateDwRefIdeal.τ).loc Cert.GateDwRefIdeal.main_arg2) = m ((c.tc : Thread Cert.GateDwRefIdeal.nD Cert.GateDwRefIdeal.τ).loc Cert.GateDwRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3)
      ∧ r.2.mem ((c.tc : Thread Cert.GluBwd.nD Cert.GluBwd.τ).loc Cert.GluBwd.main_arg4) = m ((c.tc : Thread Cert.GluBwd.nD Cert.GluBwd.τ).loc Cert.GluBwd.main_arg4))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4))
      ∧ r.2.sem = fun _ => 0)

def quiescent_GluBwdIdeal_pre_finite_glu [hGluBwdIdeal : Cert.GluBwdIdeal.Facts] [hPre_finite_glu : Cert.Pre_finite_glu.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal_finite_glu m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2)
      ∧ r.2.mem ((c.tc : Thread Cert.GluBwdRefIdeal.nD Cert.GluBwdRefIdeal.τ).loc Cert.GluBwdRefIdeal.main_arg3) = m ((c.tc : Thread Cert.GluBwdRefIdeal.nD Cert.GluBwdRefIdeal.τ).loc Cert.GluBwdRefIdeal.main_arg3)
      ∧ r.2.mem ((c.tc : Thread Cert.GluBwdRefIdeal.nD Cert.GluBwdRefIdeal.τ).loc Cert.GluBwdRefIdeal.main_arg4) = m ((c.tc : Thread Cert.GluBwdRefIdeal.nD Cert.GluBwdRefIdeal.τ).loc Cert.GluBwdRefIdeal.main_arg4))
      ∧ r.2.sem = fun _ => 0)

def quiescent_GluBwdRefIdeal_pre_finite_glu [hGluBwdRefIdeal : Cert.GluBwdRefIdeal.Facts] [hPre_finite_glu : Cert.Pre_finite_glu.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal_finite_glu m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2)
      ∧ r.2.mem ((c.tc : Thread Cert.GluBwdRefIdeal.nD Cert.GluBwdRefIdeal.τ).loc Cert.GluBwdRefIdeal.main_arg3) = m ((c.tc : Thread Cert.GluBwdRefIdeal.nD Cert.GluBwdRefIdeal.τ).loc Cert.GluBwdRefIdeal.main_arg3)
      ∧ r.2.mem ((c.tc : Thread Cert.GluBwdRefIdeal.nD Cert.GluBwdRefIdeal.τ).loc Cert.GluBwdRefIdeal.main_arg4) = m ((c.tc : Thread Cert.GluBwdRefIdeal.nD Cert.GluBwdRefIdeal.τ).loc Cert.GluBwdRefIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

def quiescent_RetIdeal_pre_finite_ret [hRetIdeal : Cert.RetIdeal.Facts] [hPre_finite_ret : Cert.Pre_finite_ret.Facts] : Prop :=
  ∀ (m : (ℓ : Loc Cert.RetIdeal.nD Cert.RetIdeal.τ Cert.RetIdeal.sig) → Buf (Elt Ideal) ℓ) (g : Dev Cert.RetIdeal.nD → PrngReg), Pre_RetIdeal_finite_ret m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0)

def quiescent_RetRefIdeal_pre_finite_ret [hRetRefIdeal : Cert.RetRefIdeal.Facts] [hPre_finite_ret : Cert.Pre_finite_ret.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal_finite_ret m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_RotBwd [hRotBwd : Cert.RotBwd.Facts] : Prop :=
  ∀ (m : (ℓ : Loc Cert.RotBwd.nD Cert.RotBwd.τ Cert.RotBwd.sig) → Buf (Elt Bits) ℓ) (g : Dev Cert.RotBwd.nD → PrngReg), Pre_RotBwd m →
    θ_run (Cert.RotBwd.defs (F := Bits)) (onTc (τ := Cert.RotBwd.τ) (Cert.RotBwd.main (F := Bits))) ⟨m, fun _ => 0, g⟩ (fun r => (∀ c : Dev Cert.RotBwd.nD,
      r.2.mem ((c.tc : Thread Cert.RotBwd.nD Cert.RotBwd.τ).loc Cert.RotBwd.main_arg0) = m ((c.tc : Thread Cert.RotBwd.nD Cert.RotBwd.τ).loc Cert.RotBwd.main_arg0)
      ∧ r.2.mem ((c.tc : Thread Cert.RotBwd.nD Cert.RotBwd.τ).loc Cert.RotBwd.main_arg1) = m ((c.tc : Thread Cert.RotBwd.nD Cert.RotBwd.τ).loc Cert.RotBwd.main_arg1)
      ∧ r.2.mem ((c.tc : Thread Cert.RotBwd.nD Cert.RotBwd.τ).loc Cert.RotBwd.main_arg2) = m ((c.tc : Thread Cert.RotBwd.nD Cert.RotBwd.τ).loc Cert.RotBwd.main_arg2))
      ∧ r.2.sem = fun _ => 0)

def quiescent_RotBwdIdeal [hRotBwdIdeal : Cert.RotBwdIdeal.Facts] : Prop :=
  ∀ (m : (ℓ : Loc Cert.RotBwdIdeal.nD Cert.RotBwdIdeal.τ Cert.RotBwdIdeal.sig) → Buf (Elt Ideal) ℓ) (g : Dev Cert.RotBwdIdeal.nD → PrngReg), Pre_RotBwdIdeal m →
    θ_run (Cert.RotBwdIdeal.defs (F := Ideal)) (onTc (τ := Cert.RotBwdIdeal.τ) (Cert.RotBwdIdeal.main (F := Ideal))) ⟨m, fun _ => 0, g⟩ (fun r => (∀ c : Dev Cert.RotBwdIdeal.nD,
      r.2.mem ((c.tc : Thread Cert.RotBwdIdeal.nD Cert.RotBwdIdeal.τ).loc Cert.RotBwdIdeal.main_arg0) = m ((c.tc : Thread Cert.RotBwdIdeal.nD Cert.RotBwdIdeal.τ).loc Cert.RotBwdIdeal.main_arg0)
      ∧ r.2.mem ((c.tc : Thread Cert.RotBwdIdeal.nD Cert.RotBwdIdeal.τ).loc Cert.RotBwdIdeal.main_arg1) = m ((c.tc : Thread Cert.RotBwdIdeal.nD Cert.RotBwdIdeal.τ).loc Cert.RotBwdIdeal.main_arg1)
      ∧ r.2.mem ((c.tc : Thread Cert.RotBwdIdeal.nD Cert.RotBwdIdeal.τ).loc Cert.RotBwdIdeal.main_arg2) = m ((c.tc : Thread Cert.RotBwdIdeal.nD Cert.RotBwdIdeal.τ).loc Cert.RotBwdIdeal.main_arg2))
      ∧ r.2.sem = fun _ => 0)

def quiescent_RotBwdRefIdeal [hRotBwdRefIdeal : Cert.RotBwdRefIdeal.Facts] : Prop :=
  ∀ (m : (ℓ : Loc Cert.RotBwdRefIdeal.nD Cert.RotBwdRefIdeal.τ Cert.RotBwdRefIdeal.sig) → Buf (Elt Ideal) ℓ) (g : Dev Cert.RotBwdRefIdeal.nD → PrngReg), Pre_RotBwdRefIdeal m →
    θ_run (Cert.RotBwdRefIdeal.defs (F := Ideal)) (onTc (τ := Cert.RotBwdRefIdeal.τ) (Cert.RotBwdRefIdeal.main (F := Ideal))) ⟨m, fun _ => 0, g⟩ (fun r => (∀ c : Dev Cert.RotBwdRefIdeal.nD,
      r.2.mem ((c.tc : Thread Cert.RotBwdRefIdeal.nD Cert.RotBwdRefIdeal.τ).loc Cert.RotBwdRefIdeal.main_arg0) = m ((c.tc : Thread Cert.RotBwdRefIdeal.nD Cert.RotBwdRefIdeal.τ).loc Cert.RotBwdRefIdeal.main_arg0)
      ∧ r.2.mem ((c.tc : Thread Cert.RotBwdRefIdeal.nD Cert.RotBwdRefIdeal.τ).loc Cert.RotBwdRefIdeal.main_arg1) = m ((c.tc : Thread Cert.RotBwdRefIdeal.nD Cert.RotBwdRefIdeal.τ).loc Cert.RotBwdRefIdeal.main_arg1)
      ∧ r.2.mem ((c.tc : Thread Cert.RotBwdRefIdeal.nD Cert.RotBwdRefIdeal.τ).loc Cert.RotBwdRefIdeal.main_arg2) = m ((c.tc : Thread Cert.RotBwdRefIdeal.nD Cert.RotBwdRefIdeal.τ).loc Cert.RotBwdRefIdeal.main_arg2))
      ∧ r.2.sem = fun _ => 0)

def quiescent_Rot [hRot : Cert.Rot.Facts] : Prop :=
  ∀ (m : (ℓ : Loc Cert.Rot.nD Cert.Rot.τ Cert.Rot.sig) → Buf (Elt Bits) ℓ) (g : Dev Cert.Rot.nD → PrngReg), Pre_Rot m →
    θ_run (Cert.Rot.defs (F := Bits)) (onTc (τ := Cert.Rot.τ) (Cert.Rot.main (F := Bits))) ⟨m, fun _ => 0, g⟩ (fun r => (∀ c : Dev Cert.Rot.nD,
      r.2.mem ((c.tc : Thread Cert.Rot.nD Cert.Rot.τ).loc Cert.Rot.main_arg0) = m ((c.tc : Thread Cert.Rot.nD Cert.Rot.τ).loc Cert.Rot.main_arg0))
      ∧ r.2.sem = fun _ => 0)

def quiescent_RotIdeal [hRotIdeal : Cert.RotIdeal.Facts] : Prop :=
  ∀ (m : (ℓ : Loc Cert.RotIdeal.nD Cert.RotIdeal.τ Cert.RotIdeal.sig) → Buf (Elt Ideal) ℓ) (g : Dev Cert.RotIdeal.nD → PrngReg), Pre_RotIdeal m →
    θ_run (Cert.RotIdeal.defs (F := Ideal)) (onTc (τ := Cert.RotIdeal.τ) (Cert.RotIdeal.main (F := Ideal))) ⟨m, fun _ => 0, g⟩ (fun r => (∀ c : Dev Cert.RotIdeal.nD,
      r.2.mem ((c.tc : Thread Cert.RotIdeal.nD Cert.RotIdeal.τ).loc Cert.RotIdeal.main_arg0) = m ((c.tc : Thread Cert.RotIdeal.nD Cert.RotIdeal.τ).loc Cert.RotIdeal.main_arg0))
      ∧ r.2.sem = fun _ => 0)

def quiescent_RotRefIdeal [hRotRefIdeal : Cert.RotRefIdeal.Facts] : Prop :=
  ∀ (m : (ℓ : Loc Cert.RotRefIdeal.nD Cert.RotRefIdeal.τ Cert.RotRefIdeal.sig) → Buf (Elt Ideal) ℓ) (g : Dev Cert.RotRefIdeal.nD → PrngReg), Pre_RotRefIdeal m →
    θ_run (Cert.RotRefIdeal.defs (F := Ideal)) (onTc (τ := Cert.RotRefIdeal.τ) (Cert.RotRefIdeal.main (F := Ideal))) ⟨m, fun _ => 0, g⟩ (fun r => (∀ c : Dev Cert.RotRefIdeal.nD,
      r.2.mem ((c.tc : Thread Cert.RotRefIdeal.nD Cert.RotRefIdeal.τ).loc Cert.RotRefIdeal.main_arg0) = m ((c.tc : Thread Cert.RotRefIdeal.nD Cert.RotRefIdeal.τ).loc Cert.RotRefIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v313) = v0 c
          ∧ r.2.mem ((c.tc : Thread Cert.ReferenceIdeal.nD Cert.ReferenceIdeal.τ).loc Cert.ReferenceIdeal.main_v312) = v1 c
          ∧ r.2.mem ((c.tc : Thread Cert.ReferenceIdeal.nD Cert.ReferenceIdeal.τ).loc Cert.ReferenceIdeal.main_v311) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v1) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v3) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v1) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_GateDx_GateDxIdeal : Prop :=
  True

def algebraic_GateDxIdeal_GateDxRefIdeal [hGateDxIdeal : Cert.GateDxIdeal.Facts] [hGateDxRefIdeal : Cert.GateDxRefIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)
      ∧ m' ((c.tc : Thread Cert.GateDxRefIdeal.nD Cert.GateDxRefIdeal.τ).loc Cert.GateDxRefIdeal.main_arg2) = m ((c.tc : Thread Cert.GateDxIdeal.nD Cert.GateDxIdeal.τ).loc Cert.GateDxIdeal.main_arg2)) →
    ∃ (v0 : (c : Dev Cert.GateDxIdeal.nD) → Buf (Elt Ideal) ((c.tc : Thread Cert.GateDxIdeal.nD Cert.GateDxIdeal.τ).loc Cert.GateDxIdeal.main_v3)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v3) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
          ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v3) = v0 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1)
          ∧ r.2.mem ((c.tc : Thread Cert.GateDxRefIdeal.nD Cert.GateDxRefIdeal.τ).loc Cert.GateDxRefIdeal.main_arg2) = m' ((c.tc : Thread Cert.GateDxRefIdeal.nD Cert.GateDxRefIdeal.τ).loc Cert.GateDxRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)) →
    ∃ (v0 : (c : Dev Cert.UpDxIdeal.nD) → Buf (Elt Ideal) ((c.tc : Thread Cert.UpDxIdeal.nD Cert.UpDxIdeal.τ).loc Cert.UpDxIdeal.main_v3)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v3) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)
      ∧ m' ((c.tc : Thread Cert.GateDwRefIdeal.nD Cert.GateDwRefIdeal.τ).loc Cert.GateDwRefIdeal.main_arg2) = m ((c.tc : Thread Cert.GateDwIdeal.nD Cert.GateDwIdeal.τ).loc Cert.GateDwIdeal.main_arg2)) →
    ∃ (v0 : (c : Dev Cert.GateDwIdeal.nD) → Buf (Elt Ideal) ((c.tc : Thread Cert.GateDwIdeal.nD Cert.GateDwIdeal.τ).loc Cert.GateDwIdeal.main_v2)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v2) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
          ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v5) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1)
          ∧ r.2.mem ((c.tc : Thread Cert.GateDwRefIdeal.nD Cert.GateDwRefIdeal.τ).loc Cert.GateDwRefIdeal.main_arg2) = m' ((c.tc : Thread Cert.GateDwRefIdeal.nD Cert.GateDwRefIdeal.τ).loc Cert.GateDwRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v1)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v1) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v1)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v1) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v0) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v0) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_GluBwd_GluBwdIdeal : Prop :=
  True

def algebraic_GluBwdIdeal_GluBwdRefIdeal_pre_finite_glu [hGluBwdIdeal : Cert.GluBwdIdeal.Facts] [hGluBwdRefIdeal : Cert.GluBwdRefIdeal.Facts] [hPre_finite_glu : Cert.Pre_finite_glu.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal_finite_glu m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)
      ∧ m' ((c.tc : Thread Cert.GluBwdRefIdeal.nD Cert.GluBwdRefIdeal.τ).loc Cert.GluBwdRefIdeal.main_arg2) = m ((c.tc : Thread Cert.GluBwdIdeal.nD Cert.GluBwdIdeal.τ).loc Cert.GluBwdIdeal.main_arg2)
      ∧ m' ((c.tc : Thread Cert.GluBwdRefIdeal.nD Cert.GluBwdRefIdeal.τ).loc Cert.GluBwdRefIdeal.main_arg3) = m ((c.tc : Thread Cert.GluBwdIdeal.nD Cert.GluBwdIdeal.τ).loc Cert.GluBwdIdeal.main_arg3)
      ∧ m' ((c.tc : Thread Cert.GluBwdRefIdeal.nD Cert.GluBwdRefIdeal.τ).loc Cert.GluBwdRefIdeal.main_arg4) = m ((c.tc : Thread Cert.GluBwdIdeal.nD Cert.GluBwdIdeal.τ).loc Cert.GluBwdIdeal.main_arg4)) →
    ∃ (v0 : (c : Dev Cert.GluBwdIdeal.nD) → Buf (Elt Ideal) ((c.tc : Thread Cert.GluBwdIdeal.nD Cert.GluBwdIdeal.τ).loc Cert.GluBwdIdeal.main_v1_0)) (v1 : (c : Dev Cert.GluBwdIdeal.nD) → Buf (Elt Ideal) ((c.tc : Thread Cert.GluBwdIdeal.nD Cert.GluBwdIdeal.τ).loc Cert.GluBwdIdeal.main_v1_1)) (v2 : (c : Dev Cert.GluBwdIdeal.nD) → Buf (Elt Ideal) ((c.tc : Thread Cert.GluBwdIdeal.nD Cert.GluBwdIdeal.τ).loc Cert.GluBwdIdeal.main_v1_2)) (v3 : (c : Dev Cert.GluBwdIdeal.nD) → Buf (Elt Ideal) ((c.tc : Thread Cert.GluBwdIdeal.nD Cert.GluBwdIdeal.τ).loc Cert.GluBwdIdeal.main_v1_3)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v1_0) = v0 c
          ∧ r.2.mem ((c.tc : Thread Cert.GluBwdIdeal.nD Cert.GluBwdIdeal.τ).loc Cert.GluBwdIdeal.main_v1_1) = v1 c
          ∧ r.2.mem ((c.tc : Thread Cert.GluBwdIdeal.nD Cert.GluBwdIdeal.τ).loc Cert.GluBwdIdeal.main_v1_2) = v2 c
          ∧ r.2.mem ((c.tc : Thread Cert.GluBwdIdeal.nD Cert.GluBwdIdeal.τ).loc Cert.GluBwdIdeal.main_v1_3) = v3 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
          ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
          ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v70) = v0 c
          ∧ r.2.mem ((c.tc : Thread Cert.GluBwdRefIdeal.nD Cert.GluBwdRefIdeal.τ).loc Cert.GluBwdRefIdeal.main_v71) = v1 c
          ∧ r.2.mem ((c.tc : Thread Cert.GluBwdRefIdeal.nD Cert.GluBwdRefIdeal.τ).loc Cert.GluBwdRefIdeal.main_v65) = v2 c
          ∧ r.2.mem ((c.tc : Thread Cert.GluBwdRefIdeal.nD Cert.GluBwdRefIdeal.τ).loc Cert.GluBwdRefIdeal.main_v72) = v3 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1)
          ∧ r.2.mem ((c.tc : Thread Cert.GluBwdRefIdeal.nD Cert.GluBwdRefIdeal.τ).loc Cert.GluBwdRefIdeal.main_arg2) = m' ((c.tc : Thread Cert.GluBwdRefIdeal.nD Cert.GluBwdRefIdeal.τ).loc Cert.GluBwdRefIdeal.main_arg2)
          ∧ r.2.mem ((c.tc : Thread Cert.GluBwdRefIdeal.nD Cert.GluBwdRefIdeal.τ).loc Cert.GluBwdRefIdeal.main_arg3) = m' ((c.tc : Thread Cert.GluBwdRefIdeal.nD Cert.GluBwdRefIdeal.τ).loc Cert.GluBwdRefIdeal.main_arg3)
          ∧ r.2.mem ((c.tc : Thread Cert.GluBwdRefIdeal.nD Cert.GluBwdRefIdeal.τ).loc Cert.GluBwdRefIdeal.main_arg4) = m' ((c.tc : Thread Cert.GluBwdRefIdeal.nD Cert.GluBwdRefIdeal.τ).loc Cert.GluBwdRefIdeal.main_arg4))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v28) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_Ret_RetIdeal : Prop :=
  True

def algebraic_RetIdeal_RetRefIdeal_pre_finite_ret [hRetIdeal : Cert.RetIdeal.Facts] [hRetRefIdeal : Cert.RetRefIdeal.Facts] [hPre_finite_ret : Cert.Pre_finite_ret.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal_finite_ret m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)) →
    ∃ (v0 : (c : Dev Cert.RetIdeal.nD) → Buf (Elt Ideal) ((c.tc : Thread Cert.RetIdeal.nD Cert.RetIdeal.τ).loc Cert.RetIdeal.main_v10)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v10) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v178) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v36) = v0 c
          ∧ r.2.mem ((c.tc : Thread Cert.NormBwdRefIdeal.nD Cert.NormBwdRefIdeal.τ).loc Cert.NormBwdRefIdeal.main_v37) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_RotBwd_RotBwdIdeal : Prop :=
  True

def algebraic_RotBwdIdeal_RotBwdRefIdeal [hRotBwdIdeal : Cert.RotBwdIdeal.Facts] [hRotBwdRefIdeal : Cert.RotBwdRefIdeal.Facts] : Prop :=
  ∀ (m : (ℓ : Loc Cert.RotBwdIdeal.nD Cert.RotBwdIdeal.τ Cert.RotBwdIdeal.sig) → Buf (Elt Ideal) ℓ) (g : Dev Cert.RotBwdIdeal.nD → PrngReg)
    (m' : (ℓ : Loc Cert.RotBwdRefIdeal.nD Cert.RotBwdRefIdeal.τ Cert.RotBwdRefIdeal.sig) → Buf (Elt Ideal) ℓ) (g' : Dev Cert.RotBwdRefIdeal.nD → PrngReg), Pre_RotBwdIdeal m →
    (∀ c : Dev Cert.RotBwdIdeal.nD,
      m' ((c.tc : Thread Cert.RotBwdRefIdeal.nD Cert.RotBwdRefIdeal.τ).loc Cert.RotBwdRefIdeal.main_arg0) = m ((c.tc : Thread Cert.RotBwdIdeal.nD Cert.RotBwdIdeal.τ).loc Cert.RotBwdIdeal.main_arg0)
      ∧ m' ((c.tc : Thread Cert.RotBwdRefIdeal.nD Cert.RotBwdRefIdeal.τ).loc Cert.RotBwdRefIdeal.main_arg1) = m ((c.tc : Thread Cert.RotBwdIdeal.nD Cert.RotBwdIdeal.τ).loc Cert.RotBwdIdeal.main_arg1)
      ∧ m' ((c.tc : Thread Cert.RotBwdRefIdeal.nD Cert.RotBwdRefIdeal.τ).loc Cert.RotBwdRefIdeal.main_arg2) = m ((c.tc : Thread Cert.RotBwdIdeal.nD Cert.RotBwdIdeal.τ).loc Cert.RotBwdIdeal.main_arg2)) →
    ∃ (v0 : (c : Dev Cert.RotBwdIdeal.nD) → Buf (Elt Ideal) ((c.tc : Thread Cert.RotBwdIdeal.nD Cert.RotBwdIdeal.τ).loc Cert.RotBwdIdeal.main_v19_0)) (v1 : (c : Dev Cert.RotBwdIdeal.nD) → Buf (Elt Ideal) ((c.tc : Thread Cert.RotBwdIdeal.nD Cert.RotBwdIdeal.τ).loc Cert.RotBwdIdeal.main_v19_1)),
      θ_run (Cert.RotBwdIdeal.defs (F := Ideal)) (onTc (τ := Cert.RotBwdIdeal.τ) (Cert.RotBwdIdeal.main (F := Ideal))) ⟨m, fun _ => 0, g⟩ (fun r => ∀ c : Dev Cert.RotBwdIdeal.nD,
          r.2.mem ((c.tc : Thread Cert.RotBwdIdeal.nD Cert.RotBwdIdeal.τ).loc Cert.RotBwdIdeal.main_v19_0) = v0 c
          ∧ r.2.mem ((c.tc : Thread Cert.RotBwdIdeal.nD Cert.RotBwdIdeal.τ).loc Cert.RotBwdIdeal.main_v19_1) = v1 c
          ∧ r.2.mem ((c.tc : Thread Cert.RotBwdIdeal.nD Cert.RotBwdIdeal.τ).loc Cert.RotBwdIdeal.main_arg0) = m ((c.tc : Thread Cert.RotBwdIdeal.nD Cert.RotBwdIdeal.τ).loc Cert.RotBwdIdeal.main_arg0)
          ∧ r.2.mem ((c.tc : Thread Cert.RotBwdIdeal.nD Cert.RotBwdIdeal.τ).loc Cert.RotBwdIdeal.main_arg1) = m ((c.tc : Thread Cert.RotBwdIdeal.nD Cert.RotBwdIdeal.τ).loc Cert.RotBwdIdeal.main_arg1)
          ∧ r.2.mem ((c.tc : Thread Cert.RotBwdIdeal.nD Cert.RotBwdIdeal.τ).loc Cert.RotBwdIdeal.main_arg2) = m ((c.tc : Thread Cert.RotBwdIdeal.nD Cert.RotBwdIdeal.τ).loc Cert.RotBwdIdeal.main_arg2))
      ∧ θ_run (Cert.RotBwdRefIdeal.defs (F := Ideal)) (onTc (τ := Cert.RotBwdRefIdeal.τ) (Cert.RotBwdRefIdeal.main (F := Ideal))) ⟨m', fun _ => 0, g'⟩ (fun r => ∀ c : Dev Cert.RotBwdRefIdeal.nD,
          r.2.mem ((c.tc : Thread Cert.RotBwdRefIdeal.nD Cert.RotBwdRefIdeal.τ).loc Cert.RotBwdRefIdeal.main_v110) = v0 c
          ∧ r.2.mem ((c.tc : Thread Cert.RotBwdRefIdeal.nD Cert.RotBwdRefIdeal.τ).loc Cert.RotBwdRefIdeal.main_v111) = v1 c
          ∧ r.2.mem ((c.tc : Thread Cert.RotBwdRefIdeal.nD Cert.RotBwdRefIdeal.τ).loc Cert.RotBwdRefIdeal.main_arg0) = m' ((c.tc : Thread Cert.RotBwdRefIdeal.nD Cert.RotBwdRefIdeal.τ).loc Cert.RotBwdRefIdeal.main_arg0)
          ∧ r.2.mem ((c.tc : Thread Cert.RotBwdRefIdeal.nD Cert.RotBwdRefIdeal.τ).loc Cert.RotBwdRefIdeal.main_arg1) = m' ((c.tc : Thread Cert.RotBwdRefIdeal.nD Cert.RotBwdRefIdeal.τ).loc Cert.RotBwdRefIdeal.main_arg1)
          ∧ r.2.mem ((c.tc : Thread Cert.RotBwdRefIdeal.nD Cert.RotBwdRefIdeal.τ).loc Cert.RotBwdRefIdeal.main_arg2) = m' ((c.tc : Thread Cert.RotBwdRefIdeal.nD Cert.RotBwdRefIdeal.τ).loc Cert.RotBwdRefIdeal.main_arg2))

def preserves_Rot_RotIdeal : Prop :=
  True

def algebraic_RotIdeal_RotRefIdeal [hRotIdeal : Cert.RotIdeal.Facts] [hRotRefIdeal : Cert.RotRefIdeal.Facts] : Prop :=
  ∀ (m : (ℓ : Loc Cert.RotIdeal.nD Cert.RotIdeal.τ Cert.RotIdeal.sig) → Buf (Elt Ideal) ℓ) (g : Dev Cert.RotIdeal.nD → PrngReg)
    (m' : (ℓ : Loc Cert.RotRefIdeal.nD Cert.RotRefIdeal.τ Cert.RotRefIdeal.sig) → Buf (Elt Ideal) ℓ) (g' : Dev Cert.RotRefIdeal.nD → PrngReg), Pre_RotIdeal m →
    (∀ c : Dev Cert.RotIdeal.nD,
      m' ((c.tc : Thread Cert.RotRefIdeal.nD Cert.RotRefIdeal.τ).loc Cert.RotRefIdeal.main_arg0) = m ((c.tc : Thread Cert.RotIdeal.nD Cert.RotIdeal.τ).loc Cert.RotIdeal.main_arg0)) →
    ∃ (v0 : (c : Dev Cert.RotIdeal.nD) → Buf (Elt Ideal) ((c.tc : Thread Cert.RotIdeal.nD Cert.RotIdeal.τ).loc Cert.RotIdeal.main_v19_0)) (v1 : (c : Dev Cert.RotIdeal.nD) → Buf (Elt Ideal) ((c.tc : Thread Cert.RotIdeal.nD Cert.RotIdeal.τ).loc Cert.RotIdeal.main_v19_1)),
      θ_run (Cert.RotIdeal.defs (F := Ideal)) (onTc (τ := Cert.RotIdeal.τ) (Cert.RotIdeal.main (F := Ideal))) ⟨m, fun _ => 0, g⟩ (fun r => ∀ c : Dev Cert.RotIdeal.nD,
          r.2.mem ((c.tc : Thread Cert.RotIdeal.nD Cert.RotIdeal.τ).loc Cert.RotIdeal.main_v19_0) = v0 c
          ∧ r.2.mem ((c.tc : Thread Cert.RotIdeal.nD Cert.RotIdeal.τ).loc Cert.RotIdeal.main_v19_1) = v1 c
          ∧ r.2.mem ((c.tc : Thread Cert.RotIdeal.nD Cert.RotIdeal.τ).loc Cert.RotIdeal.main_arg0) = m ((c.tc : Thread Cert.RotIdeal.nD Cert.RotIdeal.τ).loc Cert.RotIdeal.main_arg0))
      ∧ θ_run (Cert.RotRefIdeal.defs (F := Ideal)) (onTc (τ := Cert.RotRefIdeal.τ) (Cert.RotRefIdeal.main (F := Ideal))) ⟨m', fun _ => 0, g'⟩ (fun r => ∀ c : Dev Cert.RotRefIdeal.nD,
          r.2.mem ((c.tc : Thread Cert.RotRefIdeal.nD Cert.RotRefIdeal.τ).loc Cert.RotRefIdeal.main_v70) = v0 c
          ∧ r.2.mem ((c.tc : Thread Cert.RotRefIdeal.nD Cert.RotRefIdeal.τ).loc Cert.RotRefIdeal.main_v71) = v1 c
          ∧ r.2.mem ((c.tc : Thread Cert.RotRefIdeal.nD Cert.RotRefIdeal.τ).loc Cert.RotRefIdeal.main_arg0) = m' ((c.tc : Thread Cert.RotRefIdeal.nD Cert.RotRefIdeal.τ).loc Cert.RotRefIdeal.main_arg0))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hGateDx : Cert.GateDx.Facts) (hGateDxIdeal : Cert.GateDxIdeal.Facts) (hGateDxRefIdeal : Cert.GateDxRefIdeal.Facts) (hUpDx : Cert.UpDx.Facts) (hUpDxIdeal : Cert.UpDxIdeal.Facts) (hUpDxRefIdeal : Cert.UpDxRefIdeal.Facts) (hGateDw : Cert.GateDw.Facts) (hGateDwIdeal : Cert.GateDwIdeal.Facts) (hGateDwRefIdeal : Cert.GateDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hInDw : Cert.InDw.Facts) (hInDwIdeal : Cert.InDwIdeal.Facts) (hInDwRefIdeal : Cert.InDwRefIdeal.Facts) (hDown : Cert.Down.Facts) (hDownIdeal : Cert.DownIdeal.Facts) (hDownRefIdeal : Cert.DownRefIdeal.Facts) (hGate : Cert.Gate.Facts) (hGateIdeal : Cert.GateIdeal.Facts) (hGateRefIdeal : Cert.GateRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hGluBwd : Cert.GluBwd.Facts) (hGluBwdIdeal : Cert.GluBwdIdeal.Facts) (hGluBwdRefIdeal : Cert.GluBwdRefIdeal.Facts) (hGlu : Cert.Glu.Facts) (hGluIdeal : Cert.GluIdeal.Facts) (hGluRefIdeal : Cert.GluRefIdeal.Facts) (hRet : Cert.Ret.Facts) (hRetIdeal : Cert.RetIdeal.Facts) (hRetRefIdeal : Cert.RetRefIdeal.Facts) (hNormBwd : Cert.NormBwd.Facts) (hNormBwdIdeal : Cert.NormBwdIdeal.Facts) (hNormBwdRefIdeal : Cert.NormBwdRefIdeal.Facts) (hNorm : Cert.Norm.Facts) (hNormIdeal : Cert.NormIdeal.Facts) (hNormRefIdeal : Cert.NormRefIdeal.Facts) (hRotBwd : Cert.RotBwd.Facts) (hRotBwdIdeal : Cert.RotBwdIdeal.Facts) (hRotBwdRefIdeal : Cert.RotBwdRefIdeal.Facts) (hRot : Cert.Rot.Facts) (hRotIdeal : Cert.RotIdeal.Facts) (hRotRefIdeal : Cert.RotRefIdeal.Facts) (hPre_finite : Cert.Pre_finite.Facts) (hPre_finite_glu : Cert.Pre_finite_glu.Facts) (hPre_finite_ret : Cert.Pre_finite_ret.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_GateDx (hGateDx := hGateDx)
    ∧ quiescent_GateDxIdeal (hGateDxIdeal := hGateDxIdeal)
    ∧ quiescent_GateDxRefIdeal (hGateDxRefIdeal := hGateDxRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_Down (hDown := hDown)
    ∧ quiescent_DownIdeal (hDownIdeal := hDownIdeal)
    ∧ quiescent_DownRefIdeal (hDownRefIdeal := hDownRefIdeal)
    ∧ quiescent_Gate (hGate := hGate)
    ∧ quiescent_GateIdeal (hGateIdeal := hGateIdeal)
    ∧ quiescent_GateRefIdeal (hGateRefIdeal := hGateRefIdeal)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ quiescent_GluBwd (hGluBwd := hGluBwd)
    ∧ quiescent_GluBwdIdeal (hGluBwdIdeal := hGluBwdIdeal)
    ∧ quiescent_GluBwdIdeal_pre_finite_glu (hGluBwdIdeal := hGluBwdIdeal) (hPre_finite_glu := hPre_finite_glu)
    ∧ quiescent_GluBwdRefIdeal (hGluBwdRefIdeal := hGluBwdRefIdeal)
    ∧ quiescent_GluBwdRefIdeal_pre_finite_glu (hGluBwdRefIdeal := hGluBwdRefIdeal) (hPre_finite_glu := hPre_finite_glu)
    ∧ quiescent_Glu (hGlu := hGlu)
    ∧ quiescent_GluIdeal (hGluIdeal := hGluIdeal)
    ∧ quiescent_GluRefIdeal (hGluRefIdeal := hGluRefIdeal)
    ∧ quiescent_Ret (hRet := hRet)
    ∧ quiescent_RetIdeal (hRetIdeal := hRetIdeal)
    ∧ quiescent_RetIdeal_pre_finite_ret (hRetIdeal := hRetIdeal) (hPre_finite_ret := hPre_finite_ret)
    ∧ quiescent_RetRefIdeal (hRetRefIdeal := hRetRefIdeal)
    ∧ quiescent_RetRefIdeal_pre_finite_ret (hRetRefIdeal := hRetRefIdeal) (hPre_finite_ret := hPre_finite_ret)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_Norm (hNorm := hNorm)
    ∧ quiescent_NormIdeal (hNormIdeal := hNormIdeal)
    ∧ quiescent_NormRefIdeal (hNormRefIdeal := hNormRefIdeal)
    ∧ quiescent_RotBwd (hRotBwd := hRotBwd)
    ∧ quiescent_RotBwdIdeal (hRotBwdIdeal := hRotBwdIdeal)
    ∧ quiescent_RotBwdRefIdeal (hRotBwdRefIdeal := hRotBwdRefIdeal)
    ∧ quiescent_Rot (hRot := hRot)
    ∧ quiescent_RotIdeal (hRotIdeal := hRotIdeal)
    ∧ quiescent_RotRefIdeal (hRotRefIdeal := hRotRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_GateDx_GateDxIdeal
    ∧ algebraic_GateDxIdeal_GateDxRefIdeal (hGateDxIdeal := hGateDxIdeal) (hGateDxRefIdeal := hGateDxRefIdeal)
    ∧ preserves_UpDx_UpDxIdeal
    ∧ algebraic_UpDxIdeal_UpDxRefIdeal (hUpDxIdeal := hUpDxIdeal) (hUpDxRefIdeal := hUpDxRefIdeal)
    ∧ preserves_GateDw_GateDwIdeal
    ∧ algebraic_GateDwIdeal_GateDwRefIdeal (hGateDwIdeal := hGateDwIdeal) (hGateDwRefIdeal := hGateDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_InDw_InDwIdeal
    ∧ algebraic_InDwIdeal_InDwRefIdeal (hInDwIdeal := hInDwIdeal) (hInDwRefIdeal := hInDwRefIdeal)
    ∧ preserves_Down_DownIdeal
    ∧ algebraic_DownIdeal_DownRefIdeal (hDownIdeal := hDownIdeal) (hDownRefIdeal := hDownRefIdeal)
    ∧ preserves_Gate_GateIdeal
    ∧ algebraic_GateIdeal_GateRefIdeal (hGateIdeal := hGateIdeal) (hGateRefIdeal := hGateRefIdeal)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
    ∧ preserves_GluBwd_GluBwdIdeal
    ∧ algebraic_GluBwdIdeal_GluBwdRefIdeal_pre_finite_glu (hGluBwdIdeal := hGluBwdIdeal) (hGluBwdRefIdeal := hGluBwdRefIdeal) (hPre_finite_glu := hPre_finite_glu)
    ∧ preserves_Glu_GluIdeal
    ∧ algebraic_GluIdeal_GluRefIdeal (hGluIdeal := hGluIdeal) (hGluRefIdeal := hGluRefIdeal)
    ∧ preserves_Ret_RetIdeal
    ∧ algebraic_RetIdeal_RetRefIdeal_pre_finite_ret (hRetIdeal := hRetIdeal) (hRetRefIdeal := hRetRefIdeal) (hPre_finite_ret := hPre_finite_ret)
    ∧ preserves_NormBwd_NormBwdIdeal
    ∧ algebraic_NormBwdIdeal_NormBwdRefIdeal (hNormBwdIdeal := hNormBwdIdeal) (hNormBwdRefIdeal := hNormBwdRefIdeal)
    ∧ preserves_Norm_NormIdeal
    ∧ algebraic_NormIdeal_NormRefIdeal (hNormIdeal := hNormIdeal) (hNormRefIdeal := hNormRefIdeal)
    ∧ preserves_RotBwd_RotBwdIdeal
    ∧ algebraic_RotBwdIdeal_RotBwdRefIdeal (hRotBwdIdeal := hRotBwdIdeal) (hRotBwdRefIdeal := hRotBwdRefIdeal)
    ∧ preserves_Rot_RotIdeal
    ∧ algebraic_RotIdeal_RotRefIdeal (hRotIdeal := hRotIdeal) (hRotRefIdeal := hRotRefIdeal)
-- ==== Pre_finite.lean ====
abbrev S2048x512 : Shape := ⟨2, ![2048, 512]⟩
abbrev S2048x3584 : Shape := ⟨2, ![2048, 3584]⟩
abbrev S_ : Shape := ⟨0, ![]⟩

class Facts : Prop where
  bcast_S_S2048x512 : S_.BroadcastsInDim S2048x512 (![] : Fin 0 → Fin S2048x512.rank)
  slices_S2048x3584_S2048x512_0_2560 : S2048x3584.Slices ![0, 2560] S2048x512

variable [Facts]

def fn {F : FTy → Type} [FloatOps F] (main_arg0 : FVec F S2048x512 .f32) (main_arg1 : FVec F S2048x512 .f32) (main_arg2 : FVec F S2048x3584 .f32) (main_arg3 : FVec F S2048x512 .f32) : IVec S2048x512 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : IVec S2048x512 1 := andi main_v2 main_v5
  let main_v7 : FVec F S2048x512 .f32 := (extractStridedSlice S2048x512 ![0, 2560] · slices_S2048x3584_S2048x512_0_2560) main_arg2
  let main_v8 : FVec F S2048x512 .f32 := Host.absf main_v7
  let main_cst_1 : FVec F S_ .f32 := constant S_ .f32 0x7F800000#32
  let main_v9 : FVec F S2048x512 .f32 := broadcastInDim S2048x512 ![] bcast_S_S2048x512 main_cst_1
  let main_v10 : IVec S2048x512 1 := cmpf .olt main_v8 main_v9
  let main_v11 : IVec S2048x512 1 := andi main_v6 main_v10
  let main_v12 : FVec F S2048x512 .f32 := Host.absf main_arg3
  let main_cst_2 : FVec F S_ .f32 := constant S_ .f32 0x7F800000#32
  let main_v13 : FVec F S2048x512 .f32 := broadcastInDim S2048x512 ![] bcast_S_S2048x512 main_cst_2
  let main_v14 : IVec S2048x512 1 := cmpf .olt main_v12 main_v13
  let main_v15 : IVec S2048x512 1 := andi main_v11 main_v14
  main_v15
-- ==== Pre_finite_glu.lean ====
abbrev S2048x2816 : Shape := ⟨2, ![2048, 2816]⟩
abbrev S3x2816 : Shape := ⟨2, ![3, 2816]⟩
abbrev S2816 : Shape := ⟨1, ![2816]⟩
abbrev S_ : Shape := ⟨0, ![]⟩

class Facts : Prop where
  bcast_S_S2048x2816 : S_.BroadcastsInDim S2048x2816 (![] : Fin 0 → Fin S2048x2816.rank)

variable [Facts]

def fn {F : FTy → Type} [FloatOps F] (main_arg0 : FVec F S2048x2816 .f32) (main_arg1 : FVec F S2048x2816 .f32) (main_arg2 : FVec F S3x2816 .f32) (main_arg3 : FVec F S2816 .f32) (main_arg4 : FVec F S2048x2816 .f32) : IVec S2048x2816 1 :=
  let main_v0 : FVec F S2048x2816 .f32 := Host.absf main_arg1
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_v3 : FVec F S2048x2816 .f32 := Host.absf main_arg4
  let main_cst_0 : FVec F S_ .f32 := constant S_ .f32 0x7F800000#32
  let main_v4 : FVec F S2048x2816 .f32 := broadcastInDim S2048x2816 ![] bcast_S_S2048x2816 main_cst_0
  let main_v5 : IVec S2048x2816 1 := cmpf .olt main_v3 main_v4
  let main_v6 : IVec S2048x2816 1 := andi main_v2 main_v5
  main_v6
-- ==== Pre_finite_ret.lean ====
abbrev S2048x512 : Shape := ⟨2, ![2048, 512]⟩
abbrev S2048x3584 : Shape := ⟨2, ![2048, 3584]⟩
abbrev S_ : Shape := ⟨0, ![]⟩

class Facts : Prop where
  bcast_S_S2048x512 : S_.BroadcastsInDim S2048x512 (![] : Fin 0 → Fin S2048x512.rank)
  slices_S2048x3584_S2048x512_0_2560 : S2048x3584.Slices ![0, 2560] S2048x512

variable [Facts]

def fn {F : FTy → Type} [FloatOps F] (main_arg0 : FVec F S2048x512 .f32) (main_arg1 : FVec F S2048x512 .f32) (main_arg2 : FVec F S2048x3584 .f32) : IVec S2048x512 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : IVec S2048x512 1 := andi main_v2 main_v5
  let main_v7 : FVec F S2048x512 .f32 := (extractStridedSlice S2048x512 ![0, 2560] · slices_S2048x3584_S2048x512_0_2560) main_arg2
  let main_v8 : FVec F S2048x512 .f32 := Host.absf main_v7
  let main_cst_1 : FVec F S_ .f32 := constant S_ .f32 0x7F800000#32
  let main_v9 : FVec F S2048x512 .f32 := broadcastInDim S2048x512 ![] bcast_S_S2048x512 main_cst_1
  let main_v10 : IVec S2048x512 1 := cmpf .olt main_v8 main_v9
  let main_v11 : IVec S2048x512 1 := andi main_v6 main_v10
  main_v11
-- ==== Kernel.lean ====
abbrev S2048x512 : Shape := ⟨2, ![2048, 512]⟩
abbrev S2048x3584 : Shape := ⟨2, ![2048, 3584]⟩
abbrev S4 : Shape := ⟨1, ![4]⟩
abbrev S_ : Shape := ⟨0, ![]⟩
abbrev S4x1x1 : Shape := ⟨3, ![4, 1, 1]⟩
abbrev S4x1x128 : Shape := ⟨3, ![4, 1, 128]⟩
abbrev S1x1x128 : Shape := ⟨3, ![1, 1, 128]⟩
abbrev S2048x128 : Shape := ⟨2, ![2048, 128]⟩
abbrev S1x128 : Shape := ⟨2, ![1, 128]⟩
abbrev S1x1 : Shape := ⟨2, ![1, 1]⟩
abbrev S512x128 : Shape := ⟨2, ![512, 128]⟩
abbrev S512x512 : Shape := ⟨2, ![512, 512]⟩

abbrev nBuf : Space → Nat
  | .hbm => 20
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x3584, .f32⟩
  | .hbm, ⟨3, _⟩ => ⟨S2048x512, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S4x1x1, .f32⟩
  | .hbm, ⟨16, _⟩ => ⟨S4x1x128, .f32⟩
  | .hbm, ⟨17, _⟩ => ⟨S2048x512, .f32⟩
  | .hbm, ⟨18, _⟩ => ⟨S2048x512, .f32⟩
  | .hbm, ⟨19, _⟩ => ⟨S2048x512, .f32⟩
  | .local _ .vmem, ⟨0, _⟩ => ⟨S1x1x128, .f32⟩
  | .local _ .vmem, ⟨1, _⟩ => ⟨S1x1x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v7 : BitVec 32 := Scalar.addi c0_i32 c4_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v8 : BitVec 32 := Scalar.muli arg9 c512_i32
  v8
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v8 : BitVec 32 := Scalar.muli arg9 c512_i32
  let v9 : BitVec 32 := v8
  let v10 : Index := Scalar.indexCast v9
  let c0_8 : Index := 0#32
  ![v10.toNat, 0]
@[reducible] def k0_t2_loop (k0_t1 : Fin k0_t1_loop.trips) : Scf.Loop 32 :=
  let c0_i32_12 : BitVec 32 := 0#32
  let c0_i32 : BitVec 32 := 0#32
  let c1_i32 : BitVec 32 := 1#32
  let arg9 : BitVec 32 := Scf.iv c0_i32 c1_i32 k0_t1
  let c1_i32_10 : BitVec 32 := 1#32
  let v16 : BitVec 32 := Scalar.addi arg9 c1_i32_10
  let v18 : BitVec 32 := Scalar.subi v16 c0_i32_12
  let c1_i32_13 : BitVec 32 := 1#32
  let v20 : BitVec 32 := Scalar.divsi v18 c1_i32_13
  let v21 : BitVec 32 := Scalar.muli v20 c1_i32_13
  let v22 : BitVec 32 := Scalar.addi c0_i32_12 v21
  let c1_i32_14 : BitVec 32 := 1#32
  ⟨c0_i32_12, v22, c1_i32_14⟩
def k0_mult2 (k0_t1 : Fin k0_t1_loop.trips) (k0_t2 : Fin (k0_t2_loop k0_t1).trips) : BitVec 32 :=
  let c0_i32_12 : BitVec 32 := 0#32
  let c1_i32_14 : BitVec 32 := 1#32
  let arg10 : BitVec 32 := Scf.iv c0_i32_12 c1_i32_14 k0_t2
  let c512_i32_17 : BitVec 32 := 512#32
  let v27 : BitVec 32 := Scalar.muli arg10 c512_i32_17
  v27
def k0_off2 (k0_t1 : Fin k0_t1_loop.trips) (k0_t2 : Fin (k0_t2_loop k0_t1).trips) : Fin 2 → Nat :=
  let c0_i32_12 : BitVec 32 := 0#32
  let c1_i32_14 : BitVec 32 := 1#32
  let arg10 : BitVec 32 := Scf.iv c0_i32_12 c1_i32_14 k0_t2
  let c512_i32_17 : BitVec 32 := 512#32
  let v27 : BitVec 32 := Scalar.muli arg10 c512_i32_17
  let v28 : BitVec 32 := v27
  let v29 : Index := Scalar.indexCast v28
  let c0_18 : Index := 0#32
  ![v29.toNat, 0]
@[reducible] def k0_t3_loop (k0_t1 : Fin k0_t1_loop.trips) : Scf.Loop 32 :=
  let c0_i32_12 : BitVec 32 := 0#32
  let c0_i32 : BitVec 32 := 0#32
  let c1_i32 : BitVec 32 := 1#32
  let arg9 : BitVec 32 := Scf.iv c0_i32 c1_i32 k0_t1
  let c1_i32_10 : BitVec 32 := 1#32
  let v16 : BitVec 32 := Scalar.addi arg9 c1_i32_10
  let v18 : BitVec 32 := Scalar.subi v16 c0_i32_12
  let c1_i32_13 : BitVec 32 := 1#32
  let v20 : BitVec 32 := Scalar.divsi v18 c1_i32_13
  let v21 : BitVec 32 := Scalar.muli v20 c1_i32_13
  let v22 : BitVec 32 := Scalar.addi c0_i32_12 v21
  let v19 : BitVec 32 := Scalar.addi c0_i32_12 v18
  let c1_i32_15 : BitVec 32 := 1#32
  ⟨v22, v19, c1_i32_15⟩
def k0_mult3 (k0_t1 : Fin k0_t1_loop.trips) (k0_t3 : Fin (k0_t3_loop k0_t1).trips) : BitVec 32 :=
  let c0_i32_12 : BitVec 32 := 0#32
  let c0_i32 : BitVec 32 := 0#32
  let c1_i32 : BitVec 32 := 1#32
  let arg9 : BitVec 32 := Scf.iv c0_i32 c1_i32 k0_t1
  let c1_i32_10 : BitVec 32 := 1#32
  let v16 : BitVec 32 := Scalar.addi arg9 c1_i32_10
  let v18 : BitVec 32 := Scalar.subi v16 c0_i32_12
  let c1_i32_13 : BitVec 32 := 1#32
  let v20 : BitVec 32 := Scalar.divsi v18 c1_i32_13
  let v21 : BitVec 32 := Scalar.muli v20 c1_i32_13
  let v22 : BitVec 32 := Scalar.addi c0_i32_12 v21
  let c1_i32_15 : BitVec 32 := 1#32
  let arg10 : BitVec 32 := Scf.iv v22 c1_i32_15 k0_t3
  let c512_i32_17 : BitVec 32 := 512#32
  let v27 : BitVec 32 := Scalar.muli arg10 c512_i32_17
  v27
def k0_off3 (k0_t1 : Fin k0_t1_loop.trips) (k0_t3 : Fin (k0_t3_loop k0_t1).trips) : Fin 2 → Nat :=
  let c0_i32_12 : BitVec 32 := 0#32
  let c0_i32 : BitVec 32 := 0#32
  let c1_i32 : BitVec 32 := 1#32
  let arg9 : BitVec 32 := Scf.iv c0_i32 c1_i32 k0_t1
  let c1_i32_10 : BitVec 32 := 1#32
  let v16 : BitVec 32 := Scalar.addi arg9 c1_i32_10
  let v18 : BitVec 32 := Scalar.subi v16 c0_i32_12
  let c1_i32_13 : BitVec 32 := 1#32
  let v20 : BitVec 32 := Scalar.divsi v18 c1_i32_13
  let v21 : BitVec 32 := Scalar.muli v20 c1_i32_13
  let v22 : BitVec 32 := Scalar.addi c0_i32_12 v21
  let c1_i32_15 : BitVec 32 := 1#32
  let arg10 : BitVec 32 := Scf.iv v22 c1_i32_15 k0_t3
  let c512_i32_17 : BitVec 32 := 512#32
  let v27 : BitVec 32 := Scalar.muli arg10 c512_i32_17
  let v28 : BitVec 32 := v27
  let v29 : Index := Scalar.indexCast v28
  let c0_18 : Index := 0#32
  ![v29.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2048x512 : Shape := ⟨2, ![2048, 512]⟩
abbrev S2048x3584 : Shape := ⟨2, ![2048, 3584]⟩
abbrev S4 : Shape := ⟨1, ![4]⟩
abbrev S_ : Shape := ⟨0, ![]⟩
abbrev S1x16x128x4x128 : Shape := ⟨5, ![1, 16, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x16x4x128x128 : Shape := ⟨5, ![1, 16, 4, 128, 128]⟩
abbrev S1x1x4x128x128 : Shape := ⟨5, ![1, 1, 4, 128, 128]⟩
abbrev S4x1 : Shape := ⟨2, ![4, 1]⟩
abbrev S4x128 : Shape := ⟨2, ![4, 128]⟩
abbrev S128x4 : Shape := ⟨2, ![128, 4]⟩
abbrev S1x1x128x4x1 : Shape := ⟨5, ![1, 1, 128, 4, 1]⟩
abbrev S1x4x1x1 : Shape := ⟨4, ![1, 4, 1, 1]⟩
abbrev S1x4x128x128 : Shape := ⟨4, ![1, 4, 128, 128]⟩
abbrev S16x1x4x128x128 : Shape := ⟨5, ![16, 1, 4, 128, 128]⟩
abbrev S0x1x4x128x128 : Shape := ⟨5, ![0, 1, 4, 128, 128]⟩

abbrev nBuf : Space → Nat
  | .hbm => 335
  | .vmem => 0
  | .smem => 0
  | _ => 0

abbrev hbmTy0_0 (i : Nat) : BufTy := match i % 128 with
  | 0 => ⟨S2048x512, .f32⟩
  | 1 => ⟨S2048x512, .f32⟩
  | 2 => ⟨S2048x3584, .f32⟩
  | 3 => ⟨S2048x512, .f32⟩
  | 4 => ⟨S2048x512, .f32⟩
  | 5 => ⟨S2048x512, .f32⟩
  | 6 => ⟨S2048x512, .f32⟩
  | 7 => ⟨S2048x512, .f32⟩
  | 8 => ⟨S2048x512, .f32⟩
  | 9 => ⟨S2048x512, .f32⟩
  | 10 => ⟨S2048x512, .f32⟩
  | 11 => ⟨S4, .f32⟩
  | 12 => ⟨S_, .f32⟩
  | 13 => ⟨S4, .f32⟩
  | 14 => ⟨S4, .f32⟩
  | 15 => ⟨S_, .f32⟩
  | 16 => ⟨S4, .f32⟩
  | 17 => ⟨S4, .f32⟩
  | 18 => ⟨S_, .f32⟩
  | 19 => ⟨S4, .f32⟩
  | 20 => ⟨S4, .f32⟩
  | 21 => ⟨S4, .f32⟩
  | 22 => ⟨S1x16x128x4x128, .f32⟩
  | 23 => ⟨S1x16x128x4x128, .f32⟩
  | 24 => ⟨S1x16x128x4x128, .f32⟩
  | 25 => ⟨S128, .f32⟩
  | 26 => ⟨S128x1, .f32⟩
  | 27 => ⟨S1x128, .f32⟩
  | 28 => ⟨S128x128, .f32⟩
  | 29 => ⟨S128x128, .f32⟩
  | 30 => ⟨S128x128, .f32⟩
  | 31 => ⟨S1x128x128, .f32⟩
  | 32 => ⟨S_, .f32⟩
  | 33 => ⟨S1x128x128, .f32⟩
  | 34 => ⟨S1x128x128, .i1⟩
  | 35 => ⟨S_, .f32⟩
  | 36 => ⟨S128x128, .f32⟩
  | 37 => ⟨S128x128, .f32⟩
  | 38 => ⟨S1x128x128, .f32⟩
  | 39 => ⟨S4x1x1, .f32⟩
  | 40 => ⟨S4x128x128, .f32⟩
  | 41 => ⟨S4x128x128, .f32⟩
  | 42 => ⟨S4x128x128, .f32⟩
  | 43 => ⟨S4x128x128, .f32⟩
  | 44 => ⟨S_, .f32⟩
  | 45 => ⟨S_, .f32⟩
  | 46 => ⟨S4x128x128, .i1⟩
  | 47 => ⟨S4x128x128, .f32⟩
  | 48 => ⟨S4x128x128, .f32⟩
  | 49 => ⟨S1x16x4x128x128, .f32⟩
  | 50 => ⟨S1x1x4x128x128, .f32⟩
  | 51 => ⟨S1x16x4x128x128, .f32⟩
  | 52 => ⟨S1x16x4x128x128, .f32⟩
  | 53 => ⟨S1x16x4x128x128, .f32⟩
  | 54 => ⟨S1x16x128x4x128, .f32⟩
  | 55 => ⟨S_, .f32⟩
  | 56 => ⟨S128, .f32⟩
  | 57 => ⟨S128, .f32⟩
  | 58 => ⟨S1x128, .f32⟩
  | 59 => ⟨S4x1, .f32⟩
  | 60 => ⟨S4x128, .f32⟩
  | 61 => ⟨S4x128, .f32⟩
  | 62 => ⟨S4x128, .f32⟩
  | 63 => ⟨S4x128, .f32⟩
  | 64 => ⟨S128x4, .f32⟩
  | 65 => ⟨S1x1x128x4x1, .f32⟩
  | 66 => ⟨S1x16x128x4x128, .f32⟩
  | 67 => ⟨S1x16x128x4x128, .f32⟩
  | 68 => ⟨S1x16x4x128x128, .f32⟩
  | 69 => ⟨S_, .f32⟩
  | 70 => ⟨S4, .f32⟩
  | 71 => ⟨S4, .f32⟩
  | 72 => ⟨S4, .f32⟩
  | 73 => ⟨S1x4x1x1, .f32⟩
  | 74 => ⟨S_, .f32⟩
  | 75 => ⟨S1x4x128x128, .f32⟩
  | 76 => ⟨S16x1x4x128x128, .f32⟩
  | 77 => ⟨S0x1x4x128x128, .f32⟩
  | 78 => ⟨S16x1x4x128x128, .f32⟩
  | 79 => ⟨S_, .f32⟩
  | 80 => ⟨S0x1x4x128x128, .f32⟩
  | 81 => ⟨S1x1x4x128x128, .f32⟩
  | 82 => ⟨S1x4x128x128, .f32⟩
  | 83 => ⟨S1x4x128x128, .f32⟩
  | 84 => ⟨S1x4x128x128, .f32⟩
  | 85 => ⟨S1x4x128x128, .f32⟩
  | 86 => ⟨S1x1x4x128x128, .f32⟩
  | 87 => ⟨S1x4x128x128, .f32⟩
  | 88 => ⟨S1x4x128x128, .f32⟩
  | 89 => ⟨S1x4x128x128, .f32⟩
  | 90 => ⟨S1x4x128x128, .f32⟩
  | 91 => ⟨S1x1x4x128x128, .f32⟩
  | 92 => ⟨S1x4x128x128, .f32⟩
  | 93 => ⟨S1x4x128x128, .f32⟩
  | 94 => ⟨S1x4x128x128, .f32⟩
  | 95 => ⟨S1x4x128x128, .f32⟩
  | 96 => ⟨S1x1x4x128x128, .f32⟩
  | 97 => ⟨S1x4x128x128, .f32⟩
  | 98 => ⟨S1x4x128x128, .f32⟩
  | 99 => ⟨S1x4x128x128, .f32⟩
  | 100 => ⟨S1x4x128x128, .f32⟩
  | 101 => ⟨S1x1x4x128x128, .f32⟩
  | 102 => ⟨S1x4x128x128, .f32⟩
  | 103 => ⟨S1x4x128x128, .f32⟩
  | 104 => ⟨S1x4x128x128, .f32⟩
  | 105 => ⟨S1x4x128x128, .f32⟩
  | 106 => ⟨S1x1x4x128x128, .f32⟩
  | 107 => ⟨S1x4x128x128, .f32⟩
  | 108 => ⟨S1x4x128x128, .f32⟩
  | 109 => ⟨S1x4x128x128, .f32⟩
  | 110 => ⟨S1x4x128x128, .f32⟩
  | 111 => ⟨S1x1x4x128x128, .f32⟩
  | 112 => ⟨S1x4x128x128, .f32⟩
  | 113 => ⟨S1x4x128x128, .f32⟩
  | 114 => ⟨S1x4x128x128, .f32⟩
  | 115 => ⟨S1x4x128x128, .f32⟩
  | 116 => ⟨S1x1x4x128x128, .f32⟩
  | 117 => ⟨S1x4x128x128, .f32⟩
  | 118 => ⟨S1x4x128x128, .f32⟩
  | 119 => ⟨S1x4x128x128, .f32⟩
  | 120 => ⟨S1x4x128x128, .f32⟩
  | 121 => ⟨S1x1x4x128x128, .f32⟩
  | 122 => ⟨S1x4x128x128, .f32⟩
  | 123 => ⟨S1x4x128x128, .f32⟩
  | 124 => ⟨S1x4x128x128, .f32⟩
  | 125 => ⟨S1x4x128x128, .f32⟩
  | 126 => ⟨S1x1x4x128x128, .f32⟩
  | 127 => ⟨S1x4x128x128, .f32⟩
  | _ => ⟨S2048x512, .f32⟩

abbrev hbmTy0_1 (i : Nat) : BufTy := match i % 128 with
  | 0 => ⟨S1x4x128x128, .f32⟩
  | 1 => ⟨S1x4x128x128, .f32⟩
  | 2 => ⟨S1x4x128x128, .f32⟩
  | 3 => ⟨S1x1x4x128x128, .f32⟩
  | 4 => ⟨S1x4x128x128, .f32⟩
  | 5 => ⟨S1x4x128x128, .f32⟩
  | 6 => ⟨S1x4x128x128, .f32⟩
  | 7 => ⟨S1x4x128x128, .f32⟩
  | 8 => ⟨S1x1x4x128x128, .f32⟩
  | 9 => ⟨S1x4x128x128, .f32⟩
  | 10 => ⟨S1x4x128x128, .f32⟩
  | 11 => ⟨S1x4x128x128, .f32⟩
  | 12 => ⟨S1x4x128x128, .f32⟩
  | 13 => ⟨S1x1x4x128x128, .f32⟩
  | 14 => ⟨S1x4x128x128, .f32⟩
  | 15 => ⟨S1x4x128x128, .f32⟩
  | 16 => ⟨S1x4x128x128, .f32⟩
  | 17 => ⟨S1x4x128x128, .f32⟩
  | 18 => ⟨S1x1x4x128x128, .f32⟩
  | 19 => ⟨S1x4x128x128, .f32⟩
  | 20 => ⟨S1x4x128x128, .f32⟩
  | 21 => ⟨S1x4x128x128, .f32⟩
  | 22 => ⟨S1x4x128x128, .f32⟩
  | 23 => ⟨S1x1x4x128x128, .f32⟩
  | 24 => ⟨S1x4x128x128, .f32⟩
  | 25 => ⟨S1x4x128x128, .f32⟩
  | 26 => ⟨S1x4x128x128, .f32⟩
  | 27 => ⟨S1x4x128x128, .f32⟩
  | 28 => ⟨S1x1x4x128x128, .f32⟩
  | 29 => ⟨S1x4x128x128, .f32⟩
  | 30 => ⟨S1x4x128x128, .f32⟩
  | 31 => ⟨S1x4x128x128, .f32⟩
  | 32 => ⟨S1x4x128x128, .f32⟩
  | 33 => ⟨S1x1x4x128x128, .f32⟩
  | 34 => ⟨S1x1x4x128x128, .f32⟩
  | 35 => ⟨S1x1x4x128x128, .f32⟩
  | 36 => ⟨S1x1x4x128x128, .f32⟩
  | 37 => ⟨S1x1x4x128x128, .f32⟩
  | 38 => ⟨S1x1x4x128x128, .f32⟩
  | 39 => ⟨S1x1x4x128x128, .f32⟩
  | 40 => ⟨S1x1x4x128x128, .f32⟩
  | 41 => ⟨S1x1x4x128x128, .f32⟩
  | 42 => ⟨S1x1x4x128x128, .f32⟩
  | 43 => ⟨S1x1x4x128x128, .f32⟩
  | 44 => ⟨S1x1x4x128x128, .f32⟩
  | 45 => ⟨S1x1x4x128x128, .f32⟩
  | 46 => ⟨S1x1x4x128x128, .f32⟩
  | 47 => ⟨S1x1x4x128x128, .f32⟩
  | 48 => ⟨S1x1x4x128x128, .f32⟩
  | 49 => ⟨S16x1x4x128x128, .f32⟩
  | 50 => ⟨S16x1x4x128x128, .f32⟩
  | 51 => ⟨S1x16x4x128x128, .f32⟩
  | 52 => ⟨S_, .f32⟩
  | 53 => ⟨S128, .f32⟩
  | 54 => ⟨S128, .f32⟩
  | 55 => ⟨S1x128, .f32⟩
  | 56 => ⟨S4x1, .f32⟩
  | 57 => ⟨S4x128, .f32⟩
  | 58 => ⟨S4x128, .f32⟩
  | 59 => ⟨S4x128, .f32⟩
  | 60 => ⟨S4x128, .f32⟩
  | 61 => ⟨S1x16x4x128x128, .f32⟩
  | 62 => ⟨S1x16x128x4x128, .f32⟩
  | 63 => ⟨S128x4, .f32⟩
  | 64 => ⟨S1x1x128x4x1, .f32⟩
  | 65 => ⟨S1x16x128x4x128, .f32⟩
  | 66 => ⟨S1x16x128x4x128, .f32⟩
  | 67 => ⟨S1x16x128x4x128, .f32⟩
  | 68 => ⟨S2048x512, .f32⟩
  | 69 => ⟨S_, .f32⟩
  | 70 => ⟨S1x4x128x128, .f32⟩
  | 71 => ⟨S1x16x128x4x128, .f32⟩
  | 72 => ⟨S1x16x128x4x128, .f32⟩
  | 73 => ⟨S1x16x128x4x128, .f32⟩
  | 74 => ⟨S1x16x4x128x128, .f32⟩
  | 75 => ⟨S1x16x4x128x128, .f32⟩
  | 76 => ⟨S1x16x128x4x128, .f32⟩
  | 77 => ⟨S1x16x4x128x128, .f32⟩
  | 78 => ⟨S1x16x4x128x128, .f32⟩
  | 79 => ⟨S16x1x4x128x128, .f32⟩
  | 80 => ⟨S_, .f32⟩
  | 81 => ⟨S1x4x128x128, .f32⟩
  | 82 => ⟨S16x1x4x128x128, .f32⟩
  | 83 => ⟨S0x1x4x128x128, .f32⟩
  | 84 => ⟨S_, .f32⟩
  | 85 => ⟨S0x1x4x128x128, .f32⟩
  | 86 => ⟨S1x1x4x128x128, .f32⟩
  | 87 => ⟨S1x4x128x128, .f32⟩
  | 88 => ⟨S1x4x128x128, .f32⟩
  | 89 => ⟨S1x4x128x128, .f32⟩
  | 90 => ⟨S1x4x128x128, .f32⟩
  | 91 => ⟨S1x1x4x128x128, .f32⟩
  | 92 => ⟨S1x4x128x128, .f32⟩
  | 93 => ⟨S1x4x128x128, .f32⟩
  | 94 => ⟨S1x4x128x128, .f32⟩
  | 95 => ⟨S1x4x128x128, .f32⟩
  | 96 => ⟨S1x1x4x128x128, .f32⟩
  | 97 => ⟨S1x4x128x128, .f32⟩
  | 98 => ⟨S1x4x128x128, .f32⟩
  | 99 => ⟨S1x4x128x128, .f32⟩
  | 100 => ⟨S1x4x128x128, .f32⟩
  | 101 => ⟨S1x1x4x128x128, .f32⟩
  | 102 => ⟨S1x4x128x128, .f32⟩
  | 103 => ⟨S1x4x128x128, .f32⟩
  | 104 => ⟨S1x4x128x128, .f32⟩
  | 105 => ⟨S1x4x128x128, .f32⟩
  | 106 => ⟨S1x1x4x128x128, .f32⟩
  | 107 => ⟨S1x4x128x128, .f32⟩
  | 108 => ⟨S1x4x128x128, .f32⟩
  | 109 => ⟨S1x4x128x128, .f32⟩
  | 110 => ⟨S1x4x128x128, .f32⟩
  | 111 => ⟨S1x1x4x128x128, .f32⟩
  | 112 => ⟨S1x4x128x128, .f32⟩
  | 113 => ⟨S1x4x128x128, .f32⟩
  | 114 => ⟨S1x4x128x128, .f32⟩
  | 115 => ⟨S1x4x128x128, .f32⟩
  | 116 => ⟨S1x1x4x128x128, .f32⟩
  | 117 => ⟨S1x4x128x128, .f32⟩
  | 118 => ⟨S1x4x128x128, .f32⟩
  | 119 => ⟨S1x4x128x128, .f32⟩
  | 120 => ⟨S1x4x128x128, .f32⟩
  | 121 => ⟨S1x1x4x128x128, .f32⟩
  | 122 => ⟨S1x4x128x128, .f32⟩
  | 123 => ⟨S1x4x128x128, .f32⟩
  | 124 => ⟨S1x4x128x128, .f32⟩
  | 125 => ⟨S1x4x128x128, .f32⟩
  | 126 => ⟨S1x1x4x128x128, .f32⟩
  | 127 => ⟨S1x4x128x128, .f32⟩
  | _ => ⟨S2048x512, .f32⟩

abbrev hbmTy0_2 (i : Nat) : BufTy := match i % 128 with
  | 0 => ⟨S1x4x128x128, .f32⟩
  | 1 => ⟨S1x4x128x128, .f32⟩
  | 2 => ⟨S1x4x128x128, .f32⟩
  | 3 => ⟨S1x1x4x128x128, .f32⟩
  | 4 => ⟨S1x4x128x128, .f32⟩
  | 5 => ⟨S1x4x128x128, .f32⟩
  | 6 => ⟨S1x4x128x128, .f32⟩
  | 7 => ⟨S1x4x128x128, .f32⟩
  | 8 => ⟨S1x1x4x128x128, .f32⟩
  | 9 => ⟨S1x4x128x128, .f32⟩
  | 10 => ⟨S1x4x128x128, .f32⟩
  | 11 => ⟨S1x4x128x128, .f32⟩
  | 12 => ⟨S1x4x128x128, .f32⟩
  | 13 => ⟨S1x1x4x128x128, .f32⟩
  | 14 => ⟨S1x4x128x128, .f32⟩
  | 15 => ⟨S1x4x128x128, .f32⟩
  | 16 => ⟨S1x4x128x128, .f32⟩
  | 17 => ⟨S1x4x128x128, .f32⟩
  | 18 => ⟨S1x1x4x128x128, .f32⟩
  | 19 => ⟨S1x4x128x128, .f32⟩
  | 20 => ⟨S1x4x128x128, .f32⟩
  | 21 => ⟨S1x4x128x128, .f32⟩
  | 22 => ⟨S1x4x128x128, .f32⟩
  | 23 => ⟨S1x1x4x128x128, .f32⟩
  | 24 => ⟨S1x4x128x128, .f32⟩
  | 25 => ⟨S1x4x128x128, .f32⟩
  | 26 => ⟨S1x4x128x128, .f32⟩
  | 27 => ⟨S1x4x128x128, .f32⟩
  | 28 => ⟨S1x1x4x128x128, .f32⟩
  | 29 => ⟨S1x4x128x128, .f32⟩
  | 30 => ⟨S1x4x128x128, .f32⟩
  | 31 => ⟨S1x4x128x128, .f32⟩
  | 32 => ⟨S1x4x128x128, .f32⟩
  | 33 => ⟨S1x1x4x128x128, .f32⟩
  | 34 => ⟨S1x4x128x128, .f32⟩
  | 35 => ⟨S1x4x128x128, .f32⟩
  | 36 => ⟨S1x4x128x128, .f32⟩
  | 37 => ⟨S1x4x128x128, .f32⟩
  | 38 => ⟨S1x1x4x128x128, .f32⟩
  | 39 => ⟨S1x1x4x128x128, .f32⟩
  | 40 => ⟨S1x1x4x128x128, .f32⟩
  | 41 => ⟨S1x1x4x128x128, .f32⟩
  | 42 => ⟨S1x1x4x128x128, .f32⟩
  | 43 => ⟨S1x1x4x128x128, .f32⟩
  | 44 => ⟨S1x1x4x128x128, .f32⟩
  | 45 => ⟨S1x1x4x128x128, .f32⟩
  | 46 => ⟨S1x1x4x128x128, .f32⟩
  | 47 => ⟨S1x1x4x128x128, .f32⟩
  | 48 => ⟨S1x1x4x128x128, .f32⟩
  | 49 => ⟨S1x1x4x128x128, .f32⟩
  | 50 => ⟨S1x1x4x128x128, .f32⟩
  | 51 => ⟨S1x1x4x128x128, .f32⟩
  | 52 => ⟨S1x1x4x128x128, .f32⟩
  | 53 => ⟨S1x1x4x128x128, .f32⟩
  | 54 => ⟨S16x1x4x128x128, .f32⟩
  | 55 => ⟨S16x1x4x128x128, .f32⟩
  | 56 => ⟨S1x16x4x128x128, .f32⟩
  | 57 => ⟨S1x16x4x128x128, .f32⟩
  | 58 => ⟨S1x16x128x4x128, .f32⟩
  | 59 => ⟨S1x16x4x128x128, .f32⟩
  | 60 => ⟨S1x16x128x4x128, .f32⟩
  | 61 => ⟨S1x16x128x4x128, .f32⟩
  | 62 => ⟨S1x16x128x4x128, .f32⟩
  | 63 => ⟨S1x16x4x128x128, .f32⟩
  | 64 => ⟨S1x16x4x128x128, .f32⟩
  | 65 => ⟨S1x16x4x128x128, .f32⟩
  | 66 => ⟨S1x16x128x4x128, .f32⟩
  | 67 => ⟨S1x16x128x4x128, .f32⟩
  | 68 => ⟨S1x16x4x128x128, .f32⟩
  | 69 => ⟨S1x16x4x128x128, .f32⟩
  | 70 => ⟨S1x16x4x128x128, .f32⟩
  | 71 => ⟨S1x16x128x4x128, .f32⟩
  | 72 => ⟨S1x16x128x4x128, .f32⟩
  | 73 => ⟨S1x16x4x128x128, .f32⟩
  | 74 => ⟨S1x16x128x4x128, .f32⟩
  | 75 => ⟨S1x16x128x4x128, .f32⟩
  | 76 => ⟨S2048x512, .f32⟩
  | 77 => ⟨S2048x512, .f32⟩
  | 78 => ⟨S2048x512, .f32⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_cst_9 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_cst_10 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_cst_11 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_cst_12 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_v270 : Ref sig .tc := ⟨.hbm, 291, rfl⟩
abbrev main_v271 : Ref sig .tc := ⟨.hbm, 292, rfl⟩
abbrev main_v272 : Ref sig .tc := ⟨.hbm, 293, rfl⟩
abbrev main_v273 : Ref sig .tc := ⟨.hbm, 294, rfl⟩
abbrev main_v274 : Ref sig .tc := ⟨.hbm, 295, rfl⟩
abbrev main_v275 : Ref sig .tc := ⟨.hbm, 296, rfl⟩
abbrev main_v276 : Ref sig .tc := ⟨.hbm, 297, rfl⟩
abbrev main_v277 : Ref sig .tc := ⟨.hbm, 298, rfl⟩
abbrev main_v278 : Ref sig .tc := ⟨.hbm, 299, rfl⟩
abbrev main_v279 : Ref sig .tc := ⟨.hbm, 300, rfl⟩
abbrev main_v280 : Ref sig .tc := ⟨.hbm, 301, rfl⟩
abbrev main_v281 : Ref sig .tc := ⟨.hbm, 302, rfl⟩
abbrev main_v282 : Ref sig .tc := ⟨.hbm, 303, rfl⟩
abbrev main_v283 : Ref sig .tc := ⟨.hbm, 304, rfl⟩
abbrev main_v284 : Ref sig .tc := ⟨.hbm, 305, rfl⟩
abbrev main_v285 : Ref sig .tc := ⟨.hbm, 306, rfl⟩
abbrev main_v286 : Ref sig .tc := ⟨.hbm, 307, rfl⟩
abbrev main_v287 : Ref sig .tc := ⟨.hbm, 308, rfl⟩
abbrev main_v288 : Ref sig .tc := ⟨.hbm, 309, rfl⟩
abbrev main_v289 : Ref sig .tc := ⟨.hbm, 310, rfl⟩
abbrev main_v290 : Ref sig .tc := ⟨.hbm, 311, rfl⟩
abbrev main_v291 : Ref sig .tc := ⟨.hbm, 312, rfl⟩
abbrev main_v292 : Ref sig .tc := ⟨.hbm, 313, rfl⟩
abbrev main_v293 : Ref sig .tc := ⟨.hbm, 314, rfl⟩
abbrev main_v294 : Ref sig .tc := ⟨.hbm, 315, rfl⟩
abbrev main_v295 : Ref sig .tc := ⟨.hbm, 316, rfl⟩
abbrev main_v296 : Ref sig .tc := ⟨.hbm, 317, rfl⟩
abbrev main_v297 : Ref sig .tc := ⟨.hbm, 318, rfl⟩
abbrev main_v298 : Ref sig .tc := ⟨.hbm, 319, rfl⟩
abbrev main_v299 : Ref sig .tc := ⟨.hbm, 320, rfl⟩
abbrev main_v300 : Ref sig .tc := ⟨.hbm, 321, rfl⟩
abbrev main_v301 : Ref sig .tc := ⟨.hbm, 322, rfl⟩
abbrev main_v302 : Ref sig .tc := ⟨.hbm, 323, rfl⟩
abbrev main_v303 : Ref sig .tc := ⟨.hbm, 324, rfl⟩
abbrev main_v304 : Ref sig .tc := ⟨.hbm, 325, rfl⟩
abbrev main_v305 : Ref sig .tc := ⟨.hbm, 326, rfl⟩
abbrev main_v306 : Ref sig .tc := ⟨.hbm, 327, rfl⟩
abbrev main_v307 : Ref sig .tc := ⟨.hbm, 328, rfl⟩
abbrev main_v308 : Ref sig .tc := ⟨.hbm, 329, rfl⟩
abbrev main_v309 : Ref sig .tc := ⟨.hbm, 330, rfl⟩
abbrev main_v310 : Ref sig .tc := ⟨.hbm, 331, rfl⟩
abbrev main_v311 : Ref sig .tc := ⟨.hbm, 332, rfl⟩
abbrev main_v312 : Ref sig .tc := ⟨.hbm, 333, rfl⟩
abbrev main_v313 : Ref sig .tc := ⟨.hbm, 334, rfl⟩

abbrev nD : Nat := 1
abbrev τ : Topo := Topo.v7x

variable {F : FTy → Type} [FloatOps F]
-- ==== DownDx.lean ====
abbrev S2048x2816 : Shape := ⟨2, ![2048, 2816]⟩
abbrev S2816x1024 : Shape := ⟨2, ![2816, 1024]⟩
abbrev S2048x1024 : Shape := ⟨2, ![2048, 1024]⟩
abbrev S256x1024 : Shape := ⟨2, ![256, 1024]⟩
abbrev S256x2816 : Shape := ⟨2, ![256, 2816]⟩

abbrev nBuf : Space → Nat
  | .hbm => 5
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2816x1024, .bf16⟩
  | .hbm, ⟨4, _⟩ => ⟨S2048x2816, .f32⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1024x2816, .f32⟩
  | .hbm, ⟨5, _⟩ => ⟨S2816x1024, .f32⟩
  | .hbm, ⟨6, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDw.lean ====
abbrev S2048x2816 : Shape := ⟨2, ![2048, 2816]⟩
abbrev S2816x1024 : Shape := ⟨2, ![2816, 1024]⟩
abbrev S2048x1024 : Shape := ⟨2, ![2048, 1024]⟩
abbrev S256x2816 : Shape := ⟨2, ![256, 2816]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x2816, .bf16⟩
  | .hbm, ⟨4, _⟩ => ⟨S2816x1024, .bf16⟩
  | .local _ .vmem, ⟨0, _⟩ => ⟨S256x2816, .bf16⟩
  | .local _ .vmem, ⟨1, _⟩ => ⟨S256x2816, .bf16⟩
  | .local _ .vmem, ⟨2, _⟩ => ⟨S256x1024, .f32⟩
  | .local _ .vmem, ⟨3, _⟩ => ⟨S256x1024, .f32⟩
  | .local _ .vmem, ⟨4, _⟩ => ⟨S2816x1024, .bf16⟩
  | .local _ .vmem, ⟨5, _⟩ => ⟨S2816x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DownDwRefIdeal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1024x2816, .f32⟩
  | .hbm, ⟨5, _⟩ => ⟨S2816x1024, .f32⟩
  | .hbm, ⟨6, _⟩ => ⟨S2048x2816, .f32⟩
  | .hbm, ⟨7, _⟩ => ⟨S2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateDx.lean ====
abbrev S2048x1024 : Shape := ⟨2, ![2048, 1024]⟩
abbrev S1024x2816 : Shape := ⟨2, ![1024, 2816]⟩
abbrev S2048x2816 : Shape := ⟨2, ![2048, 2816]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x2816, .f32⟩
  | .hbm, ⟨3, _⟩ => ⟨S2048x2816, .bf16⟩
  | .hbm, ⟨4, _⟩ => ⟨S2816x1024, .f32⟩
  | .hbm, ⟨5, _⟩ => ⟨S2816x1024, .bf16⟩
  | .hbm, ⟨6, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDxRefIdeal.lean ====
abbrev S2048x1024 : Shape := ⟨2, ![2048, 1024]⟩
abbrev S1024x2816 : Shape := ⟨2, ![1024, 2816]⟩
abbrev S2048x2816 : Shape := ⟨2, ![2048, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x2816, .f32⟩
  | .hbm, ⟨3, _⟩ => ⟨S2048x2816, .f32⟩
  | .hbm, ⟨4, _⟩ => ⟨S2816x1024, .f32⟩
  | .hbm, ⟨5, _⟩ => ⟨S1024x2816, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDx.lean ====
abbrev S2048x1024 : Shape := ⟨2, ![2048, 1024]⟩
abbrev S1024x2816 : Shape := ⟨2, ![1024, 2816]⟩
abbrev S2048x2816 : Shape := ⟨2, ![2048, 2816]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x2816, .f32⟩
  | .hbm, ⟨3, _⟩ => ⟨S2048x1024, .f32⟩
  | .hbm, ⟨4, _⟩ => ⟨S2048x2816, .bf16⟩
  | .hbm, ⟨5, _⟩ => ⟨S2816x1024, .f32⟩
  | .hbm, ⟨6, _⟩ => ⟨S2816x1024, .bf16⟩
  | .hbm, ⟨7, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxRefIdeal.lean ====
abbrev S2048x1024 : Shape := ⟨2, ![2048, 1024]⟩
abbrev S1024x2816 : Shape := ⟨2, ![1024, 2816]⟩
abbrev S2048x2816 : Shape := ⟨2, ![2048, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x2816, .f32⟩
  | .hbm, ⟨3, _⟩ => ⟨S2048x1024, .f32⟩
  | .hbm, ⟨4, _⟩ => ⟨S2048x2816, .f32⟩
  | .hbm, ⟨5, _⟩ => ⟨S2816x1024, .f32⟩
  | .hbm, ⟨6, _⟩ => ⟨S1024x2816, .f32⟩
  | .hbm, ⟨7, _⟩ => ⟨S2048x1024, .f32⟩
  | .hbm, ⟨8, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== GateDw.lean ====
abbrev S2048x1024 : Shape := ⟨2, ![2048, 1024]⟩
abbrev S1024x2816 : Shape := ⟨2, ![1024, 2816]⟩
abbrev S2048x2816 : Shape := ⟨2, ![2048, 2816]⟩
abbrev S2816x1024 : Shape := ⟨2, ![2816, 1024]⟩
abbrev S256x2816 : Shape := ⟨2, ![256, 2816]⟩
abbrev S256x1024 : Shape := ⟨2, ![256, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x2816, .f32⟩
  | .hbm, ⟨3, _⟩ => ⟨S2048x2816, .bf16⟩
  | .hbm, ⟨4, _⟩ => ⟨S2048x1024, .bf16⟩
  | .hbm, ⟨5, _⟩ => ⟨S2816x1024, .bf16⟩
  | .local _ .vmem, ⟨0, _⟩ => ⟨S256x2816, .bf16⟩
  | .local _ .vmem, ⟨1, _⟩ => ⟨S256x2816, .bf16⟩
  | .local _ .vmem, ⟨2, _⟩ => ⟨S256x1024, .bf16⟩
  | .local _ .vmem, ⟨3, _⟩ => ⟨S256x1024, .bf16⟩
  | .local _ .vmem, ⟨4, _⟩ => ⟨S2816x1024, .bf16⟩
  | .local _ .vmem, ⟨5, _⟩ => ⟨S2816x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateDwRefIdeal.lean ====
abbrev S2048x1024 : Shape := ⟨2, ![2048, 1024]⟩
abbrev S1024x2816 : Shape := ⟨2, ![1024, 2816]⟩
abbrev S2048x2816 : Shape := ⟨2, ![2048, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x2816, .f32⟩
  | .hbm, ⟨3, _⟩ => ⟨S2048x2816, .f32⟩
  | .hbm, ⟨4, _⟩ => ⟨S2816x1024, .f32⟩
  | .hbm, ⟨5, _⟩ => ⟨S1024x2816, .f32⟩
  | .hbm, ⟨6, _⟩ => ⟨S2048x1024, .f32⟩
  | .hbm, ⟨7, _⟩ => ⟨S2816x1024, .f32⟩
  | .hbm, ⟨8, _⟩ => ⟨S2816x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDx.lean ====
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024x1024, .bf16⟩
  | .hbm, ⟨4, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S2048x1024 : Shape := ⟨2, ![2048, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S2048x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S2048x1024 : Shape := ⟨2, ![2048, 1024]⟩
abbrev S1024x3584 : Shape := ⟨2, ![1024, 3584]⟩
abbrev S2048x3584 : Shape := ⟨2, ![2048, 3584]⟩
abbrev S3584x1024 : Shape := ⟨2, ![3584, 1024]⟩
abbrev S2048x512 : Shape := ⟨2, ![2048, 512]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x3584, .f32⟩
  | .hbm, ⟨2, _⟩ => ⟨S2048x3584, .f32⟩
  | .hbm, ⟨3, _⟩ => ⟨S2048x3584, .bf16⟩
  | .hbm, ⟨4, _⟩ => ⟨S3584x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![7, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S2048x1024 : Shape := ⟨2, ![2048, 1024]⟩
abbrev S1024x3584 : Shape := ⟨2, ![1024, 3584]⟩
abbrev S2048x3584 : Shape := ⟨2, ![2048, 3584]⟩
abbrev S3584x1024 : Shape := ⟨2, ![3584, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3584, .f32⟩
  | .hbm, ⟨2, _⟩ => ⟨S2048x3584, .f32⟩
  | .hbm, ⟨3, _⟩ => ⟨S2048x3584, .f32⟩
  | .hbm, ⟨4, _⟩ => ⟨S3584x1024, .f32⟩
  | .hbm, ⟨5, _⟩ => ⟨S1024x3584, .f32⟩
  | .hbm, ⟨6, _⟩ => ⟨S2048x1024, .f32⟩
  | .hbm, ⟨7, _⟩ => ⟨S3584x1024, .f32⟩
  | .hbm, ⟨8, _⟩ => ⟨S3584x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S2048x2816 : Shape := ⟨2, ![2048, 2816]⟩
abbrev S2816x1024 : Shape := ⟨2, ![2816, 1024]⟩
abbrev S2048x1024 : Shape := ⟨2, ![2048, 1024]⟩
abbrev S512x2816 : Shape := ⟨2, ![512, 2816]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x2816, .bf16⟩
  | .hbm, ⟨4, _⟩ => ⟨S2816x1024, .bf16⟩
  | .hbm, ⟨5, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Gate.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S256x1024 : Shape := ⟨2, ![256, 1024]⟩
abbrev S256x2816 : Shape := ⟨2, ![256, 2816]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x1024, .bf16⟩
  | .hbm, ⟨3, _⟩ => ⟨S2816x1024, .f32⟩
  | .hbm, ⟨4, _⟩ => ⟨S2816x1024, .bf16⟩
  | .hbm, ⟨5, _⟩ => ⟨S2048x2816, .f32⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRefIdeal.lean ====
abbrev S2048x1024 : Shape := ⟨2, ![2048, 1024]⟩
abbrev S1024x2816 : Shape := ⟨2, ![1024, 2816]⟩
abbrev S2048x2816 : Shape := ⟨2, ![2048, 2816]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Out.lean ====
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S1024x1024, .bf16⟩
  | .hbm, ⟨5, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== In.lean ====
abbrev S2048x1024 : Shape := ⟨2, ![2048, 1024]⟩
abbrev S1024x3584 : Shape := ⟨2, ![1024, 3584]⟩
abbrev S3584x1024 : Shape := ⟨2, ![3584, 1024]⟩
abbrev S2048x3584 : Shape := ⟨2, ![2048, 3584]⟩
abbrev S512x1024 : Shape := ⟨2, ![512, 1024]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x3584, .f32⟩
  | .hbm, ⟨2, _⟩ => ⟨S3584x1024, .f32⟩
  | .hbm, ⟨3, _⟩ => ⟨S3584x1024, .bf16⟩
  | .hbm, ⟨4, _⟩ => ⟨S2048x3584, .f32⟩
  | .local _ .vmem, ⟨0, _⟩ => ⟨S2048x1024, .f32⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S2048x1024 : Shape := ⟨2, ![2048, 1024]⟩
abbrev S1024x3584 : Shape := ⟨2, ![1024, 3584]⟩
abbrev S2048x3584 : Shape := ⟨2, ![2048, 3584]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3584, .f32⟩
  | .hbm, ⟨2, _⟩ => ⟨S2048x3584, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GluBwd.lean ====
abbrev S2048x2816 : Shape := ⟨2, ![2048, 2816]⟩
abbrev S3x2816 : Shape := ⟨2, ![3, 2816]⟩
abbrev S2816 : Shape := ⟨1, ![2816]⟩
abbrev S1x2816 : Shape := ⟨2, ![1, 2816]⟩
abbrev S256x2816 : Shape := ⟨2, ![256, 2816]⟩
abbrev S8x2816 : Shape := ⟨2, ![8, 2816]⟩
abbrev S272x2816 : Shape := ⟨2, ![272, 2816]⟩
abbrev S264x2816 : Shape := ⟨2, ![264, 2816]⟩

abbrev nBuf : Space → Nat
  | .hbm => 10
  | .vmem => 22
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S3x2816, .f32⟩
  | .hbm, ⟨3, _⟩ => ⟨S2816, .f32⟩
  | .hbm, ⟨4, _⟩ => ⟨S2048x2816, .f32⟩
  | .hbm, ⟨5, _⟩ => ⟨S1x2816, .f32⟩
  | .hbm, ⟨6, _⟩ => ⟨S2048x2816, .bf16⟩
  | .hbm, ⟨7, _⟩ => ⟨S2048x2816, .bf16⟩
  | .hbm, ⟨8, _⟩ => ⟨S3x2816, .f32⟩
  | .hbm, ⟨9, _⟩ => ⟨S1x2816, .f32⟩
  | .local _ .vmem, ⟨0, _⟩ => ⟨S256x2816, .f32⟩
  | .local _ .vmem, ⟨1, _⟩ => ⟨S256x2816, .f32⟩
  | .local _ .vmem, ⟨2, _⟩ => ⟨S8x2816, .f32⟩
  | .local _ .vmem, ⟨3, _⟩ => ⟨S8x2816, .f32⟩
  | .local _ .vmem, ⟨4, _⟩ => ⟨S8x2816, .f32⟩
  | .local _ .vmem, ⟨5, _⟩ => ⟨S8x2816, .f32⟩
  | .local _ .vmem, ⟨6, _⟩ => ⟨S256x2816, .f32⟩
  | .local _ .vmem, ⟨7, _⟩ => ⟨S256x2816, .f32⟩
  | .local _ .vmem, ⟨8, _⟩ => ⟨S8x2816, .f32⟩
  | .local _ .vmem, ⟨9, _⟩ => ⟨S8x2816, .f32⟩
  | .local _ .vmem, ⟨10, _⟩ => ⟨S256x2816, .f32⟩
  | .local _ .vmem, ⟨11, _⟩ => ⟨S256x2816, .f32⟩
  | .local _ .vmem, ⟨12, _⟩ => ⟨S8x2816, .f32⟩
  | .local _ .vmem, ⟨13, _⟩ => ⟨S8x2816, .f32⟩
  | .local _ .vmem, ⟨14, _⟩ => ⟨S3x2816, .f32⟩
  | .local _ .vmem, ⟨15, _⟩ => ⟨S1x2816, .f32⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S3x2816, .f32⟩
  | .local _ .vmem, ⟨21, _⟩ => ⟨S1x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GluBwdRefIdeal.lean ====
abbrev S2048x2816 : Shape := ⟨2, ![2048, 2816]⟩
abbrev S3x2816 : Shape := ⟨2, ![3, 2816]⟩
abbrev S2816 : Shape := ⟨1, ![2816]⟩
abbrev S_ : Shape := ⟨0, ![]⟩
abbrev S2x2816 : Shape := ⟨2, ![2, 2816]⟩
abbrev S2046x2816 : Shape := ⟨2, ![2046, 2816]⟩
abbrev S1x2816 : Shape := ⟨2, ![1, 2816]⟩
abbrev S2047x2816 : Shape := ⟨2, ![2047, 2816]⟩

abbrev nBuf : Space → Nat
  | .hbm => 110
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S3x2816, .f32⟩
  | .hbm, ⟨3, _⟩ => ⟨S2816, .f32⟩
  | .hbm, ⟨4, _⟩ => ⟨S2048x2816, .f32⟩
  | .hbm, ⟨5, _⟩ => ⟨S_, .f32⟩
  | .hbm, ⟨6, _⟩ => ⟨S2x2816, .f32⟩
  | .hbm, ⟨7, _⟩ => ⟨S2046x2816, .f32⟩
  | .hbm, ⟨8, _⟩ => ⟨S2048x2816, .f32⟩
  | .hbm, ⟨9, _⟩ => ⟨S_, .f32⟩
  | .hbm, ⟨10, _⟩ => ⟨S2x2816, .f32⟩
  | .hbm, ⟨11, _⟩ => ⟨S1x2816, .f32⟩
  | .hbm, ⟨12, _⟩ => ⟨S2816, .f32⟩
  | .hbm, ⟨13, _⟩ => ⟨S1x2816, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S1x2816, .f32⟩
  | .hbm, ⟨18, _⟩ => ⟨S2047x2816, .f32⟩
  | .hbm, ⟨19, _⟩ => ⟨S2048x2816, .f32⟩
  | .hbm, ⟨20, _⟩ => ⟨S_, .f32⟩
  | .hbm, ⟨21, _⟩ => ⟨S1x2816, .f32⟩
  | .hbm, ⟨22, _⟩ => ⟨S1x2816, .f32⟩
  | .hbm, ⟨23, _⟩ => ⟨S2816, .f32⟩
  | .hbm, ⟨24, _⟩ => ⟨S1x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S1x2816, .f32⟩
  | .hbm, ⟨29, _⟩ => ⟨S2816, .f32⟩
  | .hbm, ⟨30, _⟩ => ⟨S1x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S1x2816, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S_, .f32⟩
  | .hbm, ⟨40, _⟩ => ⟨S2048x2816, .f32⟩
  | .hbm, ⟨41, _⟩ => ⟨S2048x2816, .f32⟩
  | .hbm, ⟨42, _⟩ => ⟨S_, .f32⟩
  | .hbm, ⟨43, _⟩ => ⟨S2048x2816, .f32⟩
  | .hbm, ⟨44, _⟩ => ⟨S2048x2816, .f32⟩
  | .hbm, ⟨45, _⟩ => ⟨S_, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S2048x2816, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S_, .f32⟩
  | .hbm, ⟨58, _⟩ => ⟨S2816, .f32⟩
  | .hbm, ⟨59, _⟩ => ⟨S1x2816, .f32⟩
  | .hbm, ⟨60, _⟩ => ⟨S_, .f32⟩
  | .hbm, ⟨61, _⟩ => ⟨S2816, .f32⟩
  | .hbm, ⟨62, _⟩ => ⟨S2048x2816, .f32⟩
  | .hbm, ⟨63, _⟩ => ⟨S_, .f32⟩
  | .hbm, ⟨64, _⟩ => ⟨S2816, .f32⟩
  | .hbm, ⟨65, _⟩ => ⟨S1x2816, .f32⟩
  | .hbm, ⟨66, _⟩ => ⟨S2048x2816, .f32⟩
  | .hbm, ⟨67, _⟩ => ⟨S2048x2816, .f32⟩
  | .hbm, ⟨68, _⟩ => ⟨S_, .f32⟩
  | .hbm, ⟨69, _⟩ => ⟨S2816, .f32⟩
  | .hbm, ⟨70, _⟩ => ⟨S1x2816, .f32⟩
  | .hbm, ⟨71, _⟩ => ⟨S_, .f32⟩
  | .hbm, ⟨72, _⟩ => ⟨S3x2816, .f32⟩
  | .hbm, ⟨73, _⟩ => ⟨S2048x2816, .f32⟩
  | .hbm, ⟨74, _⟩ => ⟨S_, .f32⟩
  | .hbm, ⟨75, _⟩ => ⟨S2816, .f32⟩
  | .hbm, ⟨76, _⟩ => ⟨S1x2816, .f32⟩
  | .hbm, ⟨77, _⟩ => ⟨S2048x2816, .f32⟩
  | .hbm, ⟨78, _⟩ => ⟨S2048x2816, .f32⟩
  | .hbm, ⟨79, _⟩ => ⟨S_, .f32⟩
  | .hbm, ⟨80, _⟩ => ⟨S2816, .f32⟩
  | .hbm, ⟨81, _⟩ => ⟨S1x2816, .f32⟩
  | .hbm, ⟨82, _⟩ => ⟨S_, .f32⟩
  | .hbm, ⟨83, _⟩ => ⟨S3x2816, .f32⟩
  | .hbm, ⟨84, _⟩ => ⟨S3x2816, .f32⟩
  | .hbm, ⟨85, _⟩ => ⟨S1x2816, .f32⟩
  | .hbm, ⟨86, _⟩ => ⟨S2047x2816, .f32⟩
  | .hbm, ⟨87, _⟩ => ⟨S_, .f32⟩
  | .hbm, ⟨88, _⟩ => ⟨S2048x2816, .f32⟩
  | .hbm, ⟨89, _⟩ => ⟨S2048x2816, .f32⟩
  | .hbm, ⟨90, _⟩ => ⟨S2048x2816, .f32⟩
  | .hbm, ⟨91, _⟩ => ⟨S_, .f32⟩
  | .hbm, ⟨92, _⟩ => ⟨S2816, .f32⟩
  | .hbm, ⟨93, _⟩ => ⟨S1x2816, .f32⟩
  | .hbm, ⟨94, _⟩ => ⟨S2048x2816, .f32⟩
  | .hbm, ⟨95, _⟩ => ⟨S2048x2816, .f32⟩
  | .hbm, ⟨96, _⟩ => ⟨S_, .f32⟩
  | .hbm, ⟨97, _⟩ => ⟨S2816, .f32⟩
  | .hbm, ⟨98, _⟩ => ⟨S1x2816, .f32⟩
  | .hbm, ⟨99, _⟩ => ⟨S_, .f32⟩
  | .hbm, ⟨100, _⟩ => ⟨S3x2816, .f32⟩
  | .hbm, ⟨101, _⟩ => ⟨S3x2816, .f32⟩
  | .hbm, ⟨102, _⟩ => ⟨S2x2816, .f32⟩
  | .hbm, ⟨103, _⟩ => ⟨S2046x2816, .f32⟩
  | .hbm, ⟨104, _⟩ => ⟨S_, .f32⟩
  | .hbm, ⟨105, _⟩ => ⟨S2048x2816, .f32⟩
  | .hbm, ⟨106, _⟩ => ⟨S2048x2816, .f32⟩
  | .hbm, ⟨107, _⟩ => ⟨S2048x2816, .bf16⟩
  | .hbm, ⟨108, _⟩ => ⟨S2048x2816, .bf16⟩
  | .hbm, ⟨109, _⟩ => ⟨S1x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v28_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v28_1 : Ref sig .tc := ⟨.hbm, 48, rfl⟩
abbrev main_v28_0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩
abbrev main_cst_3 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_cst_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_11 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_13 : Ref sig .tc := ⟨.hbm, 96, rfl⟩
abbrev main_v62 : Ref sig .tc := ⟨.hbm, 97, rfl⟩
abbrev main_v63 : Ref sig .tc := ⟨.hbm, 98, rfl⟩
abbrev main_cst_14 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩

abbrev nD : Nat := 1
abbrev τ : Topo := Topo.v7x

variable {F : FTy → Type} [FloatOps F]
-- ==== Glu.lean ====
abbrev S2048x2816 : Shape := ⟨2, ![2048, 2816]⟩
abbrev S3x2816 : Shape := ⟨2, ![3, 2816]⟩
abbrev S2816 : Shape := ⟨1, ![2816]⟩
abbrev S1x2816 : Shape := ⟨2, ![1, 2816]⟩
abbrev S256x2816 : Shape := ⟨2, ![256, 2816]⟩
abbrev S8x2816 : Shape := ⟨2, ![8, 2816]⟩
abbrev S264x2816 : Shape := ⟨2, ![264, 2816]⟩

abbrev nBuf : Space → Nat
  | .hbm => 6
  | .vmem => 10
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S3x2816, .f32⟩
  | .hbm, ⟨3, _⟩ => ⟨S2816, .f32⟩
  | .hbm, ⟨4, _⟩ => ⟨S1x2816, .f32⟩
  | .hbm, ⟨5, _⟩ => ⟨S2048x2816, .bf16⟩
  | .local _ .vmem, ⟨0, _⟩ => ⟨S256x2816, .f32⟩
  | .local _ .vmem, ⟨1, _⟩ => ⟨S256x2816, .f32⟩
  | .local _ .vmem, ⟨2, _⟩ => ⟨S8x2816, .f32⟩
  | .local _ .vmem, ⟨3, _⟩ => ⟨S8x2816, .f32⟩
  | .local _ .vmem, ⟨4, _⟩ => ⟨S256x2816, .f32⟩
  | .local _ .vmem, ⟨5, _⟩ => ⟨S256x2816, .f32⟩
  | .local _ .vmem, ⟨6, _⟩ => ⟨S3x2816, .f32⟩
  | .local _ .vmem, ⟨7, _⟩ => ⟨S1x2816, .f32⟩
  | .local _ .vmem, ⟨8, _⟩ => ⟨S256x2816, .bf16⟩
  | .local _ .vmem, ⟨9, _⟩ => ⟨S256x2816, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GluRefIdeal.lean ====
abbrev S2048x2816 : Shape := ⟨2, ![2048, 2816]⟩
abbrev S3x2816 : Shape := ⟨2, ![3, 2816]⟩
abbrev S2816 : Shape := ⟨1, ![2816]⟩
abbrev S_ : Shape := ⟨0, ![]⟩
abbrev S2x2816 : Shape := ⟨2, ![2, 2816]⟩
abbrev S2046x2816 : Shape := ⟨2, ![2046, 2816]⟩
abbrev S1x2816 : Shape := ⟨2, ![1, 2816]⟩
abbrev S2047x2816 : Shape := ⟨2, ![2047, 2816]⟩

abbrev nBuf : Space → Nat
  | .hbm => 43
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S3x2816, .f32⟩
  | .hbm, ⟨3, _⟩ => ⟨S2816, .f32⟩
  | .hbm, ⟨4, _⟩ => ⟨S_, .f32⟩
  | .hbm, ⟨5, _⟩ => ⟨S2x2816, .f32⟩
  | .hbm, ⟨6, _⟩ => ⟨S2046x2816, .f32⟩
  | .hbm, ⟨7, _⟩ => ⟨S2048x2816, .f32⟩
  | .hbm, ⟨8, _⟩ => ⟨S1x2816, .f32⟩
  | .hbm, ⟨9, _⟩ => ⟨S2816, .f32⟩
  | .hbm, ⟨10, _⟩ => ⟨S1x2816, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S1x2816, .f32⟩
  | .hbm, ⟨15, _⟩ => ⟨S2047x2816, .f32⟩
  | .hbm, ⟨16, _⟩ => ⟨S2048x2816, .f32⟩
  | .hbm, ⟨17, _⟩ => ⟨S1x2816, .f32⟩
  | .hbm, ⟨18, _⟩ => ⟨S2816, .f32⟩
  | .hbm, ⟨19, _⟩ => ⟨S1x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S1x2816, .f32⟩
  | .hbm, ⟨24, _⟩ => ⟨S2816, .f32⟩
  | .hbm, ⟨25, _⟩ => ⟨S1x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S1x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Ret.lean ====
abbrev S2048x512 : Shape := ⟨2, ![2048, 512]⟩
abbrev S2048x3584 : Shape := ⟨2, ![2048, 3584]⟩
abbrev S4 : Shape := ⟨1, ![4]⟩
abbrev S_ : Shape := ⟨0, ![]⟩
abbrev S4x1x1 : Shape := ⟨3, ![4, 1, 1]⟩
abbrev S4x1x128 : Shape := ⟨3, ![4, 1, 128]⟩
abbrev S1x1x128 : Shape := ⟨3, ![1, 1, 128]⟩
abbrev S512x128 : Shape := ⟨2, ![512, 128]⟩
abbrev S2048x128 : Shape := ⟨2, ![2048, 128]⟩
abbrev S1x128 : Shape := ⟨2, ![1, 128]⟩
abbrev S1x1 : Shape := ⟨2, ![1, 1]⟩
abbrev S512x512 : Shape := ⟨2, ![512, 512]⟩

abbrev nBuf : Space → Nat
  | .hbm => 17
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x3584, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S4x1x1, .f32⟩
  | .hbm, ⟨15, _⟩ => ⟨S4x1x128, .f32⟩
  | .hbm, ⟨16, _⟩ => ⟨S2048x512, .f32⟩
  | .local _ .vmem, ⟨0, _⟩ => ⟨S1x1x128, .f32⟩
  | .local _ .vmem, ⟨1, _⟩ => ⟨S1x1x128, .f32⟩
  | .local _ .vmem, ⟨2, _⟩ => ⟨S512x128, .f32⟩
  | .local _ .vmem, ⟨3, _⟩ => ⟨S512x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S512x128, .f32⟩
  | .local _ .vmem, ⟨9, _⟩ => ⟨S512x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v5 : BitVec 32 := Scalar.addi arg1 c1_i32
  let v7 : BitVec 32 := Scalar.subi v5 c0_i32
  let c1_i32_4 : BitVec 32 := 1#32
  let v9 : BitVec 32 := Scalar.divsi v7 c1_i32_4
  let v10 : BitVec 32 := Scalar.muli v9 c1_i32_4
  let v11 : BitVec 32 := Scalar.addi c0_i32 v10
  let c1_i32_5 : BitVec 32 := 1#32
  ⟨c0_i32, v11, c1_i32_5⟩
def k0_mult1 (i : grid0.Coords) (k0_t1 : Fin (k0_t1_loop i).trips) : BitVec 32 :=
  let c0_i32 : BitVec 32 := 0#32
  let c1_i32_5 : BitVec 32 := 1#32
  let arg7 : BitVec 32 := Scf.iv c0_i32 c1_i32_5 k0_t1
  let c512_i32 : BitVec 32 := 512#32
  let v15 : BitVec 32 := Scalar.muli arg7 c512_i32
  v15
def k0_off1 (i : grid0.Coords) (k0_t1 : Fin (k0_t1_loop i).trips) : Fin 2 → Nat :=
  let c0_i32 : BitVec 32 := 0#32
  let c1_i32_5 : BitVec 32 := 1#32
  let arg7 : BitVec 32 := Scf.iv c0_i32 c1_i32_5 k0_t1
  let c512_i32 : BitVec 32 := 512#32
  let v15 : BitVec 32 := Scalar.muli arg7 c512_i32
  let v16 : BitVec 32 := v15
  let v17 : Index := Scalar.indexCast v16
  let c0_9 : Index := 0#32
  ![v17.toNat, 0]
@[reducible] def k0_t2_loop (i : grid0.Coords) : Scf.Loop 32 :=
  let c0_i32 : BitVec 32 := 0#32
  let arg1 : BitVec 32 := BitVec.ofNat 32 (i 1).val
  let c1_i32 : BitVec 32 := 1#32
  let v5 : BitVec 32 := Scalar.addi arg1 c1_i32
  let v7 : BitVec 32 := Scalar.subi v5 c0_i32
  let c1_i32_4 : BitVec 32 := 1#32
  let v9 : BitVec 32 := Scalar.divsi v7 c1_i32_4
  let v10 : BitVec 32 := Scalar.muli v9 c1_i32_4
  let v11 : BitVec 32 := Scalar.addi c0_i32 v10
  let v8 : BitVec 32 := Scalar.addi c0_i32 v7
  let c1_i32_6 : BitVec 32 := 1#32
  ⟨v11, v8, c1_i32_6⟩
def k0_mult2 (i : grid0.Coords) (k0_t2 : Fin (k0_t2_loop i).trips) : BitVec 32 :=
  let c0_i32 : BitVec 32 := 0#32
  let arg1 : BitVec 32 := BitVec.ofNat 32 (i 1).val
  let c1_i32 : BitVec 32 := 1#32
  let v5 : BitVec 32 := Scalar.addi arg1 c1_i32
  let v7 : BitVec 32 := Scalar.subi v5 c0_i32
  let c1_i32_4 : BitVec 32 := 1#32
  let v9 : BitVec 32 := Scalar.divsi v7 c1_i32_4
  let v10 : BitVec 32 := Scalar.muli v9 c1_i32_4
  let v11 : BitVec 32 := Scalar.addi c0_i32 v10
  let c1_i32_6 : BitVec 32 := 1#32
  let arg7 : BitVec 32 := Scf.iv v11 c1_i32_6 k0_t2
  let c512_i32 : BitVec 32 := 512#32
  let v15 : BitVec 32 := Scalar.muli arg7 c512_i32
  v15
def k0_off2 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v5 : BitVec 32 := Scalar.addi arg1 c1_i32
  let v7 : BitVec 32 := Scalar.subi v5 c0_i32
  let c1_i32_4 : BitVec 32 := 1#32
  let v9 : BitVec 32 := Scalar.divsi v7 c1_i32_4
  let v10 : BitVec 32 := Scalar.muli v9 c1_i32_4
  let v11 : BitVec 32 := Scalar.addi c0_i32 v10
  let c1_i32_6 : BitVec 32 := 1#32
  let arg7 : BitVec 32 := Scf.iv v11 c1_i32_6 k0_t2
  let c512_i32 : BitVec 32 := 512#32
  let v15 : BitVec 32 := Scalar.muli arg7 c512_i32
  let v16 : BitVec 32 := v15
  let v17 : Index := Scalar.indexCast v16
  let c0_9 : Index := 0#32
  ![v17.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RetRefIdeal.lean ====
abbrev S2048x512 : Shape := ⟨2, ![2048, 512]⟩
abbrev S2048x3584 : Shape := ⟨2, ![2048, 3584]⟩
abbrev S4 : Shape := ⟨1, ![4]⟩
abbrev S_ : Shape := ⟨0, ![]⟩
abbrev S1x16x128x4x128 : Shape := ⟨5, ![1, 16, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x16x4x128x128 : Shape := ⟨5, ![1, 16, 4, 128, 128]⟩
abbrev S1x1x4x128x128 : Shape := ⟨5, ![1, 1, 4, 128, 128]⟩
abbrev S4x1 : Shape := ⟨2, ![4, 1]⟩
abbrev S4x128 : Shape := ⟨2, ![4, 128]⟩
abbrev S128x4 : Shape := ⟨2, ![128, 4]⟩
abbrev S1x1x128x4x1 : Shape := ⟨5, ![1, 1, 128, 4, 1]⟩
abbrev S1x4x1x1 : Shape := ⟨4, ![1, 4, 1, 1]⟩
abbrev S1x4x128x128 : Shape := ⟨4, ![1, 4, 128, 128]⟩
abbrev S16x1x4x128x128 : Shape := ⟨5, ![16, 1, 4, 128, 128]⟩
abbrev S0x1x4x128x128 : Shape := ⟨5, ![0, 1, 4, 128, 128]⟩

abbrev nBuf : Space → Nat
  | .hbm => 196
  | .vmem => 0
  | .smem => 0
  | _ => 0

abbrev hbmTy0_0 (i : Nat) : BufTy := match i % 128 with
  | 0 => ⟨S2048x512, .f32⟩
  | 1 => ⟨S2048x512, .f32⟩
  | 2 => ⟨S2048x3584, .f32⟩
  | 3 => ⟨S2048x512, .f32⟩
  | 4 => ⟨S2048x512, .f32⟩
  | 5 => ⟨S2048x512, .f32⟩
  | 6 => ⟨S2048x512, .f32⟩
  | 7 => ⟨S2048x512, .f32⟩
  | 8 => ⟨S2048x512, .f32⟩
  | 9 => ⟨S2048x512, .f32⟩
  | 10 => ⟨S4, .f32⟩
  | 11 => ⟨S_, .f32⟩
  | 12 => ⟨S4, .f32⟩
  | 13 => ⟨S4, .f32⟩
  | 14 => ⟨S_, .f32⟩
  | 15 => ⟨S4, .f32⟩
  | 16 => ⟨S4, .f32⟩
  | 17 => ⟨S_, .f32⟩
  | 18 => ⟨S4, .f32⟩
  | 19 => ⟨S4, .f32⟩
  | 20 => ⟨S4, .f32⟩
  | 21 => ⟨S1x16x128x4x128, .f32⟩
  | 22 => ⟨S1x16x128x4x128, .f32⟩
  | 23 => ⟨S1x16x128x4x128, .f32⟩
  | 24 => ⟨S128, .f32⟩
  | 25 => ⟨S128x1, .f32⟩
  | 26 => ⟨S1x128, .f32⟩
  | 27 => ⟨S128x128, .f32⟩
  | 28 => ⟨S128x128, .f32⟩
  | 29 => ⟨S128x128, .f32⟩
  | 30 => ⟨S1x128x128, .f32⟩
  | 31 => ⟨S_, .f32⟩
  | 32 => ⟨S1x128x128, .f32⟩
  | 33 => ⟨S1x128x128, .i1⟩
  | 34 => ⟨S_, .f32⟩
  | 35 => ⟨S128x128, .f32⟩
  | 36 => ⟨S128x128, .f32⟩
  | 37 => ⟨S1x128x128, .f32⟩
  | 38 => ⟨S4x1x1, .f32⟩
  | 39 => ⟨S4x128x128, .f32⟩
  | 40 => ⟨S4x128x128, .f32⟩
  | 41 => ⟨S4x128x128, .f32⟩
  | 42 => ⟨S4x128x128, .f32⟩
  | 43 => ⟨S_, .f32⟩
  | 44 => ⟨S_, .f32⟩
  | 45 => ⟨S4x128x128, .i1⟩
  | 46 => ⟨S4x128x128, .f32⟩
  | 47 => ⟨S4x128x128, .f32⟩
  | 48 => ⟨S1x16x4x128x128, .f32⟩
  | 49 => ⟨S1x1x4x128x128, .f32⟩
  | 50 => ⟨S1x16x4x128x128, .f32⟩
  | 51 => ⟨S1x16x4x128x128, .f32⟩
  | 52 => ⟨S1x16x4x128x128, .f32⟩
  | 53 => ⟨S1x16x128x4x128, .f32⟩
  | 54 => ⟨S_, .f32⟩
  | 55 => ⟨S128, .f32⟩
  | 56 => ⟨S128, .f32⟩
  | 57 => ⟨S1x128, .f32⟩
  | 58 => ⟨S4x1, .f32⟩
  | 59 => ⟨S4x128, .f32⟩
  | 60 => ⟨S4x128, .f32⟩
  | 61 => ⟨S4x128, .f32⟩
  | 62 => ⟨S4x128, .f32⟩
  | 63 => ⟨S128x4, .f32⟩
  | 64 => ⟨S1x1x128x4x1, .f32⟩
  | 65 => ⟨S1x16x128x4x128, .f32⟩
  | 66 => ⟨S1x16x128x4x128, .f32⟩
  | 67 => ⟨S1x16x4x128x128, .f32⟩
  | 68 => ⟨S_, .f32⟩
  | 69 => ⟨S4, .f32⟩
  | 70 => ⟨S4, .f32⟩
  | 71 => ⟨S4, .f32⟩
  | 72 => ⟨S1x4x1x1, .f32⟩
  | 73 => ⟨S_, .f32⟩
  | 74 => ⟨S1x4x128x128, .f32⟩
  | 75 => ⟨S16x1x4x128x128, .f32⟩
  | 76 => ⟨S0x1x4x128x128, .f32⟩
  | 77 => ⟨S16x1x4x128x128, .f32⟩
  | 78 => ⟨S_, .f32⟩
  | 79 => ⟨S0x1x4x128x128, .f32⟩
  | 80 => ⟨S1x1x4x128x128, .f32⟩
  | 81 => ⟨S1x4x128x128, .f32⟩
  | 82 => ⟨S1x4x128x128, .f32⟩
  | 83 => ⟨S1x4x128x128, .f32⟩
  | 84 => ⟨S1x4x128x128, .f32⟩
  | 85 => ⟨S1x1x4x128x128, .f32⟩
  | 86 => ⟨S1x4x128x128, .f32⟩
  | 87 => ⟨S1x4x128x128, .f32⟩
  | 88 => ⟨S1x4x128x128, .f32⟩
  | 89 => ⟨S1x4x128x128, .f32⟩
  | 90 => ⟨S1x1x4x128x128, .f32⟩
  | 91 => ⟨S1x4x128x128, .f32⟩
  | 92 => ⟨S1x4x128x128, .f32⟩
  | 93 => ⟨S1x4x128x128, .f32⟩
  | 94 => ⟨S1x4x128x128, .f32⟩
  | 95 => ⟨S1x1x4x128x128, .f32⟩
  | 96 => ⟨S1x4x128x128, .f32⟩
  | 97 => ⟨S1x4x128x128, .f32⟩
  | 98 => ⟨S1x4x128x128, .f32⟩
  | 99 => ⟨S1x4x128x128, .f32⟩
  | 100 => ⟨S1x1x4x128x128, .f32⟩
  | 101 => ⟨S1x4x128x128, .f32⟩
  | 102 => ⟨S1x4x128x128, .f32⟩
  | 103 => ⟨S1x4x128x128, .f32⟩
  | 104 => ⟨S1x4x128x128, .f32⟩
  | 105 => ⟨S1x1x4x128x128, .f32⟩
  | 106 => ⟨S1x4x128x128, .f32⟩
  | 107 => ⟨S1x4x128x128, .f32⟩
  | 108 => ⟨S1x4x128x128, .f32⟩
  | 109 => ⟨S1x4x128x128, .f32⟩
  | 110 => ⟨S1x1x4x128x128, .f32⟩
  | 111 => ⟨S1x4x128x128, .f32⟩
  | 112 => ⟨S1x4x128x128, .f32⟩
  | 113 => ⟨S1x4x128x128, .f32⟩
  | 114 => ⟨S1x4x128x128, .f32⟩
  | 115 => ⟨S1x1x4x128x128, .f32⟩
  | 116 => ⟨S1x4x128x128, .f32⟩
  | 117 => ⟨S1x4x128x128, .f32⟩
  | 118 => ⟨S1x4x128x128, .f32⟩
  | 119 => ⟨S1x4x128x128, .f32⟩
  | 120 => ⟨S1x1x4x128x128, .f32⟩
  | 121 => ⟨S1x4x128x128, .f32⟩
  | 122 => ⟨S1x4x128x128, .f32⟩
  | 123 => ⟨S1x4x128x128, .f32⟩
  | 124 => ⟨S1x4x128x128, .f32⟩
  | 125 => ⟨S1x1x4x128x128, .f32⟩
  | 126 => ⟨S1x4x128x128, .f32⟩
  | 127 => ⟨S1x4x128x128, .f32⟩
  | _ => ⟨S2048x512, .f32⟩

abbrev hbmTy0_1 (i : Nat) : BufTy := match i % 128 with
  | 0 => ⟨S1x4x128x128, .f32⟩
  | 1 => ⟨S1x4x128x128, .f32⟩
  | 2 => ⟨S1x1x4x128x128, .f32⟩
  | 3 => ⟨S1x4x128x128, .f32⟩
  | 4 => ⟨S1x4x128x128, .f32⟩
  | 5 => ⟨S1x4x128x128, .f32⟩
  | 6 => ⟨S1x4x128x128, .f32⟩
  | 7 => ⟨S1x1x4x128x128, .f32⟩
  | 8 => ⟨S1x4x128x128, .f32⟩
  | 9 => ⟨S1x4x128x128, .f32⟩
  | 10 => ⟨S1x4x128x128, .f32⟩
  | 11 => ⟨S1x4x128x128, .f32⟩
  | 12 => ⟨S1x1x4x128x128, .f32⟩
  | 13 => ⟨S1x4x128x128, .f32⟩
  | 14 => ⟨S1x4x128x128, .f32⟩
  | 15 => ⟨S1x4x128x128, .f32⟩
  | 16 => ⟨S1x4x128x128, .f32⟩
  | 17 => ⟨S1x1x4x128x128, .f32⟩
  | 18 => ⟨S1x4x128x128, .f32⟩
  | 19 => ⟨S1x4x128x128, .f32⟩
  | 20 => ⟨S1x4x128x128, .f32⟩
  | 21 => ⟨S1x4x128x128, .f32⟩
  | 22 => ⟨S1x1x4x128x128, .f32⟩
  | 23 => ⟨S1x4x128x128, .f32⟩
  | 24 => ⟨S1x4x128x128, .f32⟩
  | 25 => ⟨S1x4x128x128, .f32⟩
  | 26 => ⟨S1x4x128x128, .f32⟩
  | 27 => ⟨S1x1x4x128x128, .f32⟩
  | 28 => ⟨S1x4x128x128, .f32⟩
  | 29 => ⟨S1x4x128x128, .f32⟩
  | 30 => ⟨S1x4x128x128, .f32⟩
  | 31 => ⟨S1x4x128x128, .f32⟩
  | 32 => ⟨S1x1x4x128x128, .f32⟩
  | 33 => ⟨S1x1x4x128x128, .f32⟩
  | 34 => ⟨S1x1x4x128x128, .f32⟩
  | 35 => ⟨S1x1x4x128x128, .f32⟩
  | 36 => ⟨S1x1x4x128x128, .f32⟩
  | 37 => ⟨S1x1x4x128x128, .f32⟩
  | 38 => ⟨S1x1x4x128x128, .f32⟩
  | 39 => ⟨S1x1x4x128x128, .f32⟩
  | 40 => ⟨S1x1x4x128x128, .f32⟩
  | 41 => ⟨S1x1x4x128x128, .f32⟩
  | 42 => ⟨S1x1x4x128x128, .f32⟩
  | 43 => ⟨S1x1x4x128x128, .f32⟩
  | 44 => ⟨S1x1x4x128x128, .f32⟩
  | 45 => ⟨S1x1x4x128x128, .f32⟩
  | 46 => ⟨S1x1x4x128x128, .f32⟩
  | 47 => ⟨S1x1x4x128x128, .f32⟩
  | 48 => ⟨S16x1x4x128x128, .f32⟩
  | 49 => ⟨S16x1x4x128x128, .f32⟩
  | 50 => ⟨S1x16x4x128x128, .f32⟩
  | 51 => ⟨S_, .f32⟩
  | 52 => ⟨S128, .f32⟩
  | 53 => ⟨S128, .f32⟩
  | 54 => ⟨S1x128, .f32⟩
  | 55 => ⟨S4x1, .f32⟩
  | 56 => ⟨S4x128, .f32⟩
  | 57 => ⟨S4x128, .f32⟩
  | 58 => ⟨S4x128, .f32⟩
  | 59 => ⟨S4x128, .f32⟩
  | 60 => ⟨S1x16x4x128x128, .f32⟩
  | 61 => ⟨S1x16x128x4x128, .f32⟩
  | 62 => ⟨S128x4, .f32⟩
  | 63 => ⟨S1x1x128x4x1, .f32⟩
  | 64 => ⟨S1x16x128x4x128, .f32⟩
  | 65 => ⟨S1x16x128x4x128, .f32⟩
  | 66 => ⟨S1x16x128x4x128, .f32⟩
  | 67 => ⟨S2048x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_cst_9 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩

abbrev nD : Nat := 1
abbrev τ : Topo := Topo.v7x

variable {F : FTy → Type} [FloatOps F]
-- ==== NormBwd.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Norm.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RotBwd.lean ====
abbrev S2048x3584 : Shape := ⟨2, ![2048, 3584]⟩
abbrev S2048x512 : Shape := ⟨2, ![2048, 512]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S512x128 : Shape := ⟨2, ![512, 128]⟩
abbrev S512x512 : Shape := ⟨2, ![512, 512]⟩
abbrev S512x384 : Shape := ⟨2, ![512, 384]⟩
abbrev S512x256 : Shape := ⟨2, ![512, 256]⟩

abbrev nBuf : Space → Nat
  | .hbm => 26
  | .vmem => 16
  | .smem => 0
  | _ => 0

abbrev bufTy : (tb : Table) → Fin (tcTables nBuf tb) → BufTy
  | .hbm, ⟨0, _⟩ => ⟨S2048x3584, .f32⟩
  | .hbm, ⟨1, _⟩ => ⟨S2048x512, .f32⟩
  | .hbm, ⟨2, _⟩ => ⟨S2048x512, .f32⟩
  | .hbm, ⟨3, _⟩ => ⟨S2048, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S2048x1, .f32⟩
  | .hbm, ⟨13, _⟩ => ⟨S1x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x128, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x128, .f32⟩
  | .hbm, ⟨24, _⟩ => ⟨S2048x512, .bf16⟩
  | .hbm, ⟨25, _⟩ => ⟨S2048x512, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RotBwdRefIdeal.lean ====
abbrev S2048x3584 : Shape := ⟨2, ![2048, 3584]⟩
abbrev S2048x512 : Shape := ⟨2, ![2048, 512]⟩
abbrev S2048 : Shape := ⟨1, ![2048]⟩
abbrev S1x2048x4x128 : Shape := ⟨4, ![1, 2048, 4, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S1x2048x4x64 : Shape := ⟨4, ![1, 2048, 4, 64]⟩

abbrev nBuf : Space → Nat
  | .hbm => 125
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048, .i32⟩
  | .hbm, ⟨11, _⟩ => ⟨S1x2048x4x128, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S2048, .f32⟩
  | .hbm, ⟨21, _⟩ => ⟨S2048x1, .f32⟩
  | .hbm, ⟨22, _⟩ => ⟨S1x64, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S1x2048x1x64, .f32⟩
  | .hbm, ⟨28, _⟩ => ⟨S2048x64, .f32⟩
  | .hbm, ⟨29, _⟩ => ⟨S1x2048x1x64, .f32⟩
  | .hbm, ⟨30, _⟩ => ⟨S1x2048x4x64, .f32⟩
  | .hbm, ⟨31, _⟩ => ⟨S1x2048x4x64, .f32⟩
  | .hbm, ⟨32, _⟩ => ⟨S1x2048x4x64, .f32⟩
  | .hbm, ⟨33, _⟩ => ⟨S1x2048x4x64, .f32⟩
  | .hbm, ⟨34, _⟩ => ⟨S1x2048x4x64, .f32⟩
  | .hbm, ⟨35, _⟩ => ⟨S1x2048x4x64, .f32⟩
  | .hbm, ⟨36, _⟩ => ⟨S1x2048x4x64, .f32⟩
  | .hbm, ⟨37, _⟩ => ⟨S1x2048x4x64, .f32⟩
  | .hbm, ⟨38, _⟩ => ⟨S1x2048x4x64, .f32⟩
  | .hbm, ⟨39, _⟩ => ⟨S1x2048x4x64, .f32⟩
  | .hbm, ⟨40, _⟩ => ⟨S1x2048x4x64, .f32⟩
  | .hbm, ⟨41, _⟩ => ⟨S1x2048x4x64, .f32⟩
  | .hbm, ⟨42, _⟩ => ⟨S1x2048x4x128, .f32⟩
  | .hbm, ⟨43, _⟩ => ⟨S1x2048x4x128, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S2048, .f32⟩
  | .hbm, ⟨53, _⟩ => ⟨S2048x1, .f32⟩
  | .hbm, ⟨54, _⟩ => ⟨S1x64, .f32⟩
  | .hbm, ⟨55, _⟩ => ⟨S2048x64, .f32⟩
  | .hbm, ⟨56, _⟩ => ⟨S2048x64, .f32⟩
  | .hbm, ⟨57, _⟩ => ⟨S2048x64, .f32⟩
  | .hbm, ⟨58, _⟩ => ⟨S2048x64, .f32⟩
  | .hbm, ⟨59, _⟩ => ⟨S1x2048x1x64, .f32⟩
  | .hbm, ⟨60, _⟩ => ⟨S2048x64, .f32⟩
  | .hbm, ⟨61, _⟩ => ⟨S1x2048x1x64, .f32⟩
  | .hbm, ⟨62, _⟩ => ⟨S1x2048x4x64, .f32⟩
  | .hbm, ⟨63, _⟩ => ⟨S1x2048x4x64, .f32⟩
  | .hbm, ⟨64, _⟩ => ⟨S1x2048x4x64, .f32⟩
  | .hbm, ⟨65, _⟩ => ⟨S1x2048x4x64, .f32⟩
  | .hbm, ⟨66, _⟩ => ⟨S1x2048x4x64, .f32⟩
  | .hbm, ⟨67, _⟩ => ⟨S1x2048x4x64, .f32⟩
  | .hbm, ⟨68, _⟩ => ⟨S1x2048x4x64, .f32⟩
  | .hbm, ⟨69, _⟩ => ⟨S1x2048x4x64, .f32⟩
  | .hbm, ⟨70, _⟩ => ⟨S1x2048x4x64, .f32⟩
  | .hbm, ⟨71, _⟩ => ⟨S1x2048x4x64, .f32⟩
  | .hbm, ⟨72, _⟩ => ⟨S1x2048x4x64, .f32⟩
  | .hbm, ⟨73, _⟩ => ⟨S1x2048x4x64, .f32⟩
  | .hbm, ⟨74, _⟩ => ⟨S1x2048x4x128, .f32⟩
  | .hbm, ⟨75, _⟩ => ⟨S_, .f32⟩
  | .hbm, ⟨76, _⟩ => ⟨S1x2048x4x128, .f32⟩
  | .hbm, ⟨77, _⟩ => ⟨S1x2048x4x128, .f32⟩
  | .hbm, ⟨78, _⟩ => ⟨S2048x512, .f32⟩
  | .hbm, ⟨79, _⟩ => ⟨S2048x512, .f32⟩
  | .hbm, ⟨80, _⟩ => ⟨S1x2048x4x128, .f32⟩
  | .hbm, ⟨81, _⟩ => ⟨S1x2048x4x128, .f32⟩
  | .hbm, ⟨82, _⟩ => ⟨S_, .f32⟩
  | .hbm, ⟨83, _⟩ => ⟨S1x2048x4x128, .f32⟩
  | .hbm, ⟨84, _⟩ => ⟨S1x2048x4x128, .f32⟩
  | .hbm, ⟨85, _⟩ => ⟨S1x2048x4x64, .f32⟩
  | .hbm, ⟨86, _⟩ => ⟨S1x2048x4x64, .f32⟩
  | .hbm, ⟨87, _⟩ => ⟨S1x2048x4x64, .f32⟩
  | .hbm, ⟨88, _⟩ => ⟨S1x2048x4x64, .f32⟩
  | .hbm, ⟨89, _⟩ => ⟨S1x2048x4x64, .f32⟩
  | .hbm, ⟨90, _⟩ => ⟨S1x2048x4x64, .f32⟩
  | .hbm, ⟨91, _⟩ => ⟨S1x2048x4x64, .f32⟩
  | .hbm, ⟨92, _⟩ => ⟨S1x2048x4x64, .f32⟩
  | .hbm, ⟨93, _⟩ => ⟨S1x2048x4x64, .f32⟩
  | .hbm, ⟨94, _⟩ => ⟨S1x2048x4x64, .f32⟩
  | .hbm, ⟨95, _⟩ => ⟨S1x2048x4x64, .f32⟩
  | .hbm, ⟨96, _⟩ => ⟨S1x2048x4x64, .f32⟩
  | .hbm, ⟨97, _⟩ => ⟨S1x2048x4x64, .f32⟩
  | .hbm, ⟨98, _⟩ => ⟨S_, .f32⟩
  | .hbm, ⟨99, _⟩ => ⟨S1x2048x4x128, .f32⟩
  | .hbm, ⟨100, _⟩ => ⟨S_, .f32⟩
  | .hbm, ⟨101, _⟩ => ⟨S1x2048x4x128, .f32⟩
  | .hbm, ⟨102, _⟩ => ⟨S1x2048x4x128, .f32⟩
  | .hbm, ⟨103, _⟩ => ⟨S2048x512, .f32⟩
  | .hbm, ⟨104, _⟩ => ⟨S1x2048x4x64, .f32⟩
  | .hbm, ⟨105, _⟩ => ⟨S1x2048x4x64, .f32⟩
  | .hbm, ⟨106, _⟩ => ⟨S1x2048x4x64, .f32⟩
  | .hbm, ⟨107, _⟩ => ⟨S1x2048x4x64, .f32⟩
  | .hbm, ⟨108, _⟩ => ⟨S1x2048x4x64, .f32⟩
  | .hbm, ⟨109, _⟩ => ⟨S1x2048x4x64, .f32⟩
  | .hbm, ⟨110, _⟩ => ⟨S1x2048x4x64, .f32⟩
  | .hbm, ⟨111, _⟩ => ⟨S1x2048x4x64, .f32⟩
  | .hbm, ⟨112, _⟩ => ⟨S1x2048x4x64, .f32⟩
  | .hbm, ⟨113, _⟩ => ⟨S1x2048x4x64, .f32⟩
  | .hbm, ⟨114, _⟩ => ⟨S1x2048x4x64, .f32⟩
  | .hbm, ⟨115, _⟩ => ⟨S1x2048x4x64, .f32⟩
  | .hbm, ⟨116, _⟩ => ⟨S1x2048x4x64, .f32⟩
  | .hbm, ⟨117, _⟩ => ⟨S_, .f32⟩
  | .hbm, ⟨118, _⟩ => ⟨S1x2048x4x128, .f32⟩
  | .hbm, ⟨119, _⟩ => ⟨S_, .f32⟩
  | .hbm, ⟨120, _⟩ => ⟨S1x2048x4x128, .f32⟩
  | .hbm, ⟨121, _⟩ => ⟨S1x2048x4x128, .f32⟩
  | .hbm, ⟨122, _⟩ => ⟨S2048x512, .f32⟩
  | .hbm, ⟨123, _⟩ => ⟨S2048x512, .bf16⟩
  | .hbm, ⟨124, _⟩ => ⟨S2048x512, .bf16⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_1 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_cst_3 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_cst_4 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_cst_5 : Ref sig .tc := ⟨.hbm, 98, rfl⟩
abbrev main_v89 : Ref sig .tc := ⟨.hbm, 99, rfl⟩
abbrev main_cst_6 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_cst_7 : Ref sig .tc := ⟨.hbm, 117, rfl⟩
abbrev main_v106 : Ref sig .tc := ⟨.hbm, 118, rfl⟩
abbrev main_cst_8 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩

abbrev nD : Nat := 1
abbrev τ : Topo := Topo.v7x

variable {F : FTy → Type} [FloatOps F]
-- ==== Rot.lean ====
abbrev S2048x3584 : Shape := ⟨2, ![2048, 3584]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S2048x512 : Shape := ⟨2, ![2048, 512]⟩
abbrev S512x128 : Shape := ⟨2, ![512, 128]⟩
abbrev S512x512 : Shape := ⟨2, ![512, 512]⟩

abbrev nBuf : Space → Nat
  | .hbm => 24
  | .vmem => 12
  | .smem => 0
  | _ => 0

abbrev bufTy : (tb : Table) → Fin (tcTables nBuf tb) → BufTy
  | .hbm, ⟨0, _⟩ => ⟨S2048x3584, .f32⟩
  | .hbm, ⟨1, _⟩ => ⟨S2048, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S2048x1, .f32⟩
  | .hbm, ⟨11, _⟩ => ⟨S1x64, .f32⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x128, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x128, .f32⟩
  | .hbm, ⟨22, _⟩ => ⟨S2048x512, .f32⟩
  | .hbm, ⟨23, _⟩ => ⟨S2048x512, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19_0 : Ref sig .tc := ⟨.hbm, 22, rfl⟩
abbrev main_v19_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RotRefIdeal.lean ====
abbrev S2048x3584 : Shape := ⟨2, ![2048, 3584]⟩
abbrev S2048x512 : Shape := ⟨2, ![2048, 512]⟩
abbrev S2048 : Shape := ⟨1, ![2048]⟩
abbrev S1x2048x4x128 : Shape := ⟨4, ![1, 2048, 4, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S1x2048x4x64 : Shape := ⟨4, ![1, 2048, 4, 64]⟩

abbrev nBuf : Space → Nat
  | .hbm => 78
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048, .i32⟩
  | .hbm, ⟨9, _⟩ => ⟨S1x2048x4x128, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S2048, .f32⟩
  | .hbm, ⟨19, _⟩ => ⟨S2048x1, .f32⟩
  | .hbm, ⟨20, _⟩ => ⟨S1x64, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S2048x64, .f32⟩
  | .hbm, ⟨25, _⟩ => ⟨S1x2048x1x64, .f32⟩
  | .hbm, ⟨26, _⟩ => ⟨S2048x64, .f32⟩
  | .hbm, ⟨27, _⟩ => ⟨S1x2048x1x64, .f32⟩
  | .hbm, ⟨28, _⟩ => ⟨S1x2048x4x64, .f32⟩
  | .hbm, ⟨29, _⟩ => ⟨S1x2048x4x64, .f32⟩
  | .hbm, ⟨30, _⟩ => ⟨S1x2048x4x64, .f32⟩
  | .hbm, ⟨31, _⟩ => ⟨S1x2048x4x64, .f32⟩
  | .hbm, ⟨32, _⟩ => ⟨S1x2048x4x64, .f32⟩
  | .hbm, ⟨33, _⟩ => ⟨S1x2048x4x64, .f32⟩
  | .hbm, ⟨34, _⟩ => ⟨S1x2048x4x64, .f32⟩
  | .hbm, ⟨35, _⟩ => ⟨S1x2048x4x64, .f32⟩
  | .hbm, ⟨36, _⟩ => ⟨S1x2048x4x64, .f32⟩
  | .hbm, ⟨37, _⟩ => ⟨S1x2048x4x64, .f32⟩
  | .hbm, ⟨38, _⟩ => ⟨S1x2048x4x64, .f32⟩
  | .hbm, ⟨39, _⟩ => ⟨S1x2048x4x64, .f32⟩
  | .hbm, ⟨40, _⟩ => ⟨S1x2048x4x128, .f32⟩
  | .hbm, ⟨41, _⟩ => ⟨S1x2048x4x128, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S2048, .f32⟩
  | .hbm, ⟨51, _⟩ => ⟨S2048x1, .f32⟩
  | .hbm, ⟨52, _⟩ => ⟨S1x64, .f32⟩
  | .hbm, ⟨53, _⟩ => ⟨S2048x64, .f32⟩
  | .hbm, ⟨54, _⟩ => ⟨S2048x64, .f32⟩
  | .hbm, ⟨55, _⟩ => ⟨S2048x64, .f32⟩
  | .hbm, ⟨56, _⟩ => ⟨S2048x64, .f32⟩
  | .hbm, ⟨57, _⟩ => ⟨S1x2048x1x64, .f32⟩
  | .hbm, ⟨58, _⟩ => ⟨S2048x64, .f32⟩
  | .hbm, ⟨59, _⟩ => ⟨S1x2048x1x64, .f32⟩
  | .hbm, ⟨60, _⟩ => ⟨S1x2048x4x64, .f32⟩
  | .hbm, ⟨61, _⟩ => ⟨S1x2048x4x64, .f32⟩
  | .hbm, ⟨62, _⟩ => ⟨S1x2048x4x64, .f32⟩
  | .hbm, ⟨63, _⟩ => ⟨S1x2048x4x64, .f32⟩
  | .hbm, ⟨64, _⟩ => ⟨S1x2048x4x64, .f32⟩
  | .hbm, ⟨65, _⟩ => ⟨S1x2048x4x64, .f32⟩
  | .hbm, ⟨66, _⟩ => ⟨S1x2048x4x64, .f32⟩
  | .hbm, ⟨67, _⟩ => ⟨S1x2048x4x64, .f32⟩
  | .hbm, ⟨68, _⟩ => ⟨S1x2048x4x64, .f32⟩
  | .hbm, ⟨69, _⟩ => ⟨S1x2048x4x64, .f32⟩
  | .hbm, ⟨70, _⟩ => ⟨S1x2048x4x64, .f32⟩
  | .hbm, ⟨71, _⟩ => ⟨S1x2048x4x64, .f32⟩
  | .hbm, ⟨72, _⟩ => ⟨S1x2048x4x128, .f32⟩
  | .hbm, ⟨73, _⟩ => ⟨S_, .f32⟩
  | .hbm, ⟨74, _⟩ => ⟨S1x2048x4x128, .f32⟩
  | .hbm, ⟨75, _⟩ => ⟨S1x2048x4x128, .f32⟩
  | .hbm, ⟨76, _⟩ => ⟨S2048x512, .f32⟩
  | .hbm, ⟨77, _⟩ => ⟨S2048x512, .f32⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_cst_1 : Ref sig .tc := ⟨.hbm, 44, rfl⟩
abbrev main_v41 : Ref sig .tc := ⟨.hbm, 45, rfl⟩
abbrev main_v42 : Ref sig .tc := ⟨.hbm, 46, rfl⟩
abbrev main_cst_2 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_cst_3 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩

abbrev nD : Nat := 1
abbrev τ : Topo := Topo.v7x

variable {F : FTy → Type} [FloatOps F]
-- ==== Proof.Step.lean ====
/-
  What the backward kernel of the retention mixer does to its blocks, as functions on vectors, over any float values.
  One grid point (one head) holds the head's columns of `q`, `k`, `v` and the incoming gradient `do`, and the three
  gradients it builds. Row block `i` of `q` meets the row blocks `j ≤ i` of `k` and `v`: trip `j` adds to the gradient
  of `v` and of `k` at block `j` and to a carried sum, which after the last trip is the gradient of `q` at block `i`.
-/
module

public import proofs.«01_k».proof.Proof.Gen.KernelIdeal.Skeleton
public import Idealize.ShloMosaic.Lib.VecWindow

@[expose] public section

noncomputable section

namespace Cert.Retention

open Cert.KernelIdeal Cert.KernelIdeal.Gen
open Idealize.ShloMosaic

variable {F : FTy → Type} [FloatOps F]

/-- The row block of `X` that the outer trip `i` reads. -/
abbrev winOut (X : Vec F S2048x128 .f32) (i : Fin k0_t1_loop.trips) : Vec F S512x128 .f32 :=
  VecWindow.window X (k0_off1 i) S512x128.size (k0_off1_inb i)

/-- The row block of `X` that the inner trip `j` reads. -/
abbrev winIn (X : Vec F S2048x128 .f32) (i : Fin k0_t1_loop.trips) (j : Fin (k0_t2_loop i).trips) : Vec F S512x128 .f32 :=
  VecWindow.window X (k0_off2 i j) S512x128.size (k0_off2_inb i j)

/-- The inner loop's state: the carried sum, the gradient of `k`, the gradient of `v`. -/
structure Inner (F : FTy → Type) [FloatOps F] where
  dq : FVec F S512x128 .f32
  dk : Vec F S2048x128 .f32
  dv : Vec F S2048x128 .f32

/-- One inner trip. `lg` is the logarithm of the head's decay, `qb` and `dob` the row block `i` of `q` and `do`,
`w` the outer trip as a word. -/
@[reducible] def innerStep (lg : FVec F S1x1 .f32) (i : Fin k0_t1_loop.trips) (w : BitVec 32) (qb dob : Vec F S512x128 .f32) (K V : Vec F S2048x128 .f32)
    (j : Fin (k0_t2_loop i).trips) (s : Inner F) : Inner F where
  dq := k0_pay7 s.dq (k0_pay9 (winIn K i j)) (k0_pay11 lg i w (k0_pay5 dob) 0#32 1#32 j (winIn V i j))
  dk := VecWindow.put s.dk (k0_off2 i j) S512x128.size
    (k0_pay13 lg i w (k0_pay4 qb) (k0_pay5 dob) 0#32 1#32 j (winIn V i j) (winIn s.dk i j))
  dv := VecWindow.put s.dv (k0_off2 i j) S512x128.size
    (k0_pay12 lg i w (k0_pay4 qb) (k0_pay5 dob) 0#32 1#32 j (winIn K i j) (winIn s.dv i j))

/-- The state before inner trip `n`. -/
@[reducible] def innerSt (lg : FVec F S1x1 .f32) (i : Fin k0_t1_loop.trips) (w : BitVec 32) (qb dob : Vec F S512x128 .f32) (K V : Vec F S2048x128 .f32) (s : Inner F) : ℕ → Inner F
  | 0 => s
  | n + 1 => if h : n < (k0_t2_loop i).trips then innerStep lg i w qb dob K V ⟨n, h⟩ (innerSt lg i w qb dob K V s n) else innerSt lg i w qb dob K V s n

theorem innerSt_succ (lg : FVec F S1x1 .f32) (i : Fin k0_t1_loop.trips) (w : BitVec 32) (qb dob : Vec F S512x128 .f32) (K V : Vec F S2048x128 .f32) (s : Inner F)
    (j : Fin (k0_t2_loop i).trips) :
    innerSt lg i w qb dob K V s (j.val + 1) = innerStep lg i w qb dob K V j (innerSt lg i w qb dob K V s j.val) := by
  rw [innerSt.eq_2]; exact dif_pos j.isLt

/-- The outer loop's state: the three gradients. -/
structure Outer (F : FTy → Type) [FloatOps F] where
  dq : Vec F S2048x128 .f32
  dk : Vec F S2048x128 .f32
  dv : Vec F S2048x128 .f32

/-- The inner loop's result at outer trip `i`, started on the outer state `s`. -/
def innerOut (lg : FVec F S1x1 .f32) (Q K V D : Vec F S2048x128 .f32) (i : Fin k0_t1_loop.trips) (s : Outer F) : Inner F :=
  innerSt lg i (Scf.iv 0#32 1#32 i) (winOut Q i) (winOut D i) K V ⟨k0_pay6, s.dk, s.dv⟩ (k0_t2_loop i).trips

/-- One outer trip. -/
@[reducible] def outerStep (lg : FVec F S1x1 .f32) (Q K V D : Vec F S2048x128 .f32) (i : Fin k0_t1_loop.trips) (s : Outer F) : Outer F where
  dq := VecWindow.put s.dq (k0_off1 i) S512x128.size (innerOut lg Q K V D i s).dq
  dk := (innerOut lg Q K V D i s).dk
  dv := (innerOut lg Q K V D i s).dv

/-- The state before outer trip `n`. -/
@[reducible] def outerSt (lg : FVec F S1x1 .f32) (Q K V D : Vec F S2048x128 .f32) (s : Outer F) : ℕ → Outer F
  | 0 => s
  | n + 1 => if h : n < k0_t1_loop.trips then outerStep lg Q K V D ⟨n, h⟩ (outerSt lg Q K V D s n) else outerSt lg Q K V D s n

theorem outerSt_succ (lg : FVec F S1x1 .f32) (Q K V D : Vec F S2048x128 .f32) (s : Outer F) (i : Fin k0_t1_loop.trips) :
    outerSt lg Q K V D s (i.val + 1) = outerStep lg Q K V D i (outerSt lg Q K V D s i.val) := by
  rw [outerSt.eq_2]; exact dif_pos i.isLt

/-- The gradients of `k` and `v` do not depend on what the block of the gradient of `q` held. -/
theorem outerSt_indep (lg : FVec F S1x1 .f32) (Q K V D A B x y : Vec F S2048x128 .f32) (n : ℕ) :
    (outerSt lg Q K V D ⟨A, x, y⟩ n).dk = (outerSt lg Q K V D ⟨B, x, y⟩ n).dk
      ∧ (outerSt lg Q K V D ⟨A, x, y⟩ n).dv = (outerSt lg Q K V D ⟨B, x, y⟩ n).dv := by
  induction n with
  | zero => exact ⟨rfl, rfl⟩
  | succ n ih =>
    rw [outerSt.eq_2, outerSt.eq_2]
    split
    · unfold outerStep innerOut
      rw [ih.1, ih.2]
      exact ⟨rfl, rfl⟩
    · exact ih

/-- The inner loop's result depends on the outer state by the gradients of `k` and `v` alone. -/
theorem innerOut_congr (lg : FVec F S1x1 .f32) (Q K V D : Vec F S2048x128 .f32) (i : Fin k0_t1_loop.trips) {s t : Outer F}
    (hk : s.dk = t.dk) (hv : s.dv = t.dv) : innerOut lg Q K V D i s = innerOut lg Q K V D i t := by
  unfold innerOut; rw [hk, hv]

theorem off1_eq : ∀ i : Fin k0_t1_loop.trips, k0_off1 i = ![512 * i.val, 0] := by decide

theorem trips1 : k0_t1_loop.trips = 4 := by decide

/-- After `n` trips the rows below `512 n` of the gradient of `q` do not depend on what the block held. -/
theorem outerSt_dq_indep (lg : FVec F S1x1 .f32) (Q K V D A B x y : Vec F S2048x128 .f32) (n : ℕ) (hn : n ≤ 4) (z : S2048x128.Idx)
    (hz : (z 0).val < 512 * n) : (outerSt lg Q K V D ⟨A, x, y⟩ n).dq z = (outerSt lg Q K V D ⟨B, x, y⟩ n).dq z := by
  induction n with
  | zero => omega
  | succ n ih =>
    have h : n < k0_t1_loop.trips := by rw [trips1]; omega
    have e := fun s => outerSt_succ lg Q K V D s ⟨n, h⟩
    simp only at e
    rw [e, e]
    unfold outerStep
    simp only
    rw [innerOut_congr lg Q K V D ⟨n, h⟩ (outerSt_indep lg Q K V D A B x y n).1 (outerSt_indep lg Q K V D A B x y n).2]
    unfold VecWindow.put
    split
    · rfl
    · next hno =>
      refine ih (by omega) (by_contra fun hge => hno ?_)
      rw [off1_eq]
      intro a
      fin_cases a
      · show 512 * n ≤ (z 0).val ∧ (z 0).val < 512 * n + 512
        omega
      · show 0 ≤ (z 1).val ∧ (z 1).val < 0 + 128
        have : (z 1).val < 128 := (z 1).isLt
        omega

/-- The three gradients of a head. What the block of the gradient of `q` held before (`junk`) is written over. -/
def outerOut (lg : FVec F S1x1 .f32) (Q K V D junk : Vec F S2048x128 .f32) : Outer F :=
  outerSt lg Q K V D ⟨junk, k0_pay2, k0_pay3⟩ k0_t1_loop.trips
/-- The three gradients are the same whatever the block of the gradient of `q` held before. -/
theorem outerOut_indep (lg : FVec F S1x1 .f32) (Q K V D A B : Vec F S2048x128 .f32) : outerOut lg Q K V D A = outerOut lg Q K V D B := by
  have h := outerSt_indep lg Q K V D A B k0_pay2 k0_pay3 k0_t1_loop.trips
  have hq : (outerOut lg Q K V D A).dq = (outerOut lg Q K V D B).dq := funext fun z =>
    outerSt_dq_indep lg Q K V D A B _ _ k0_t1_loop.trips (by rw [trips1]) z (by rw [trips1]; exact (z 0).isLt)
  unfold outerOut at hq ⊢
  rcases hA : outerSt lg Q K V D ⟨A, k0_pay2, k0_pay3⟩ k0_t1_loop.trips with ⟨a, b, c⟩
  rcases hB : outerSt lg Q K V D ⟨B, k0_pay2, k0_pay3⟩ k0_t1_loop.trips with ⟨a', b', c'⟩
  rw [hA, hB] at h hq
  obtain ⟨rfl, rfl⟩ := h
  obtain rfl := hq
  rfl

/-- The gradients of a head, from the block of decays and the head's columns. -/
def headOut (x1 : Vec F S1x1x128 .f32) (Q K V D : Vec F S2048x128 .f32) : Outer F := outerOut (k0_pay1 x1) Q K V D k0_pay2

end Cert.Retention

end
-- ==== Proof.Body.lean ====
/-
  One grid point of the backward kernel, run over any float values: the two counted loops by their invariants, which
  hold every buffer by its values (Step.lean), then the whole body.
-/
module

public import proofs.«01_k».proof.Proof.Step
public import proofs.«01_k».proof.Proof.Gen.KernelIdeal.Loops
public import proofs.«01_k».proof.Proof.Gen.KernelIdeal.Points
public import proofs.«01_k».proof.Proof.Gen.KernelIdeal.Frame
public import Idealize.ShloMosaic.Lib.Tactic

@[expose] public section

set_option warn.classDefReducibility false
set_option maxRecDepth 16384

noncomputable section

namespace Cert.Retention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

abbrev UU (nD : Nat) (τ : Topo) : Type := UR sig nD τ
abbrev 𝒱₀ : Variants := Variants.none
local notation "𝕄" => MT nD τ sig Unit (Elt F) ℕ (UR sig nD τ) ℕ

variable (c : Dev nD) (i : grid0.Coords) (arg1 : Memref sig .tc .vmem S1x1x128 .f32) (harg1 : arg1.IsWhole)
  (arg2 : Memref sig .tc .vmem S2048x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x128 .f32) (harg7 : arg7.IsWhole)
  (arg8 : Memref sig .tc .vmem S2048x128 .f32) (harg8 : arg8.IsWhole) (v0 : Vec F S1x1x128 .f32)

/-- A load of the block of inner trip `j` from a buffer holding `X`. -/
theorem read_in (m : Memref sig .tc .vmem S2048x128 .f32) (X : Vec F S2048x128 .f32) (k : Fin k0_t1_loop.trips) (j : Fin (k0_t2_loop k).trips)
    (inb : ∀ a : Fin S2048x128.rank, k0_off2 k j a + (![512, 128] : Fin 2 → ℕ) a ≤ S2048x128.size a) :
    m.view.readAt (Elt F) (Rect.unit (k0_off2 k j) ![512, 128] inb : Rect S2048x128).toLoadRect (m.view.rep X) = winIn X k j :=
  View.readAt_rep_unit m.view X inb rfl _

/-- A load of the block of outer trip `k` from a buffer holding `X`. -/
theorem read_out (m : Memref sig .tc .vmem S2048x128 .f32) (X : Vec F S2048x128 .f32) (k : Fin k0_t1_loop.trips)
    (inb : ∀ a : Fin S2048x128.rank, k0_off1 k a + (![512, 128] : Fin 2 → ℕ) a ≤ S2048x128.size a) :
    m.view.readAt (Elt F) (Rect.unit (k0_off1 k) ![512, 128] inb : Rect S2048x128).toLoadRect (m.view.rep X) = winOut X k :=
  View.readAt_rep_unit m.view X inb rfl _

/-- The inner loop: before trip `k` the gradients of `k` and `v` and the carried sum are the state `innerSt` of `k` trips. -/
@[sl_loop] def innerInv (k0_t1 : Fin k0_t1_loop.trips) (w : BitVec 32) (v11 v14 : Vec F S512x128 .f32) (K V : Vec F S2048x128 .f32)
    (A7 A8 : Vec F S2048x128 .f32) (init : FVec F S512x128 .f32) :
    LoopInvTy_k0_t2 (F := F) Unit ℕ (UU nD τ) ℕ 𝒱₀ c none Set.univ i arg1 harg1 arg2 harg2 arg3 harg3 arg4 harg4 arg5 harg5 arg6 harg6 arg7 harg7 arg8 harg8 v0
      k0_t1 w v11 v14 init where
  inv k acc := iprop((arg3.view.loc (c : Thread nD τ) ↦[arg3.view.set]{fullShare} arg3.view.rep K) ∗ (arg4.view.loc (c : Thread nD τ) ↦[arg4.view.set]{fullShare} arg4.view.rep V)
    ∗ (∃ f, (arg7.view.loc (c : Thread nD τ) ↦[arg7.view.set]{fullShare} f) ∗ ⌜f = arg7.view.rep (innerSt (k0_pay1 v0) k0_t1 w v11 v14 K V ⟨init, A7, A8⟩ k).dk⌝)
    ∗ (∃ f, (arg8.view.loc (c : Thread nD τ) ↦[arg8.view.set]{fullShare} f) ∗ ⌜f = arg8.view.rep (innerSt (k0_pay1 v0) k0_t1 w v11 v14 K V ⟨init, A7, A8⟩ k).dv⌝)
    ∗ ⌜acc = (innerSt (k0_pay1 v0) k0_t1 w v11 v14 K V ⟨init, A7, A8⟩ k).dq⌝)
  step k acc := by
    unfold k0_t2_body
    iintro ⟨H3, H4, ⟨%f7, H7, %h7⟩, ⟨%f8, H8, %h8⟩, %hacc⟩
    subst h7 h8 hacc
    sl_exec
    sl_step
    sl_unfold_run_names
    rw [innerSt_succ]
    simp only [read_in]
    isplitl [H3]; · iexact H3
    isplitl [H4]; · iexact H4
    isplitl [H7]
    · iexists _; isplitl [H7]
      · iapply (pointsTo_rep_of_read (c : Thread nD τ) arg7 _ fullShare _ (View.read_writes_rep_unit _ _ _ _ rfl)) $$ H7
      · ipureintro; rfl
    isplitl [H8]
    · iexists _; isplitl [H8]
      · iapply (pointsTo_rep_of_read (c : Thread nD τ) arg8 _ fullShare _ (View.read_writes_rep_unit _ _ _ _ rfl)) $$ H8
      · ipureintro; rfl
    ipureintro; trivial

/-- The remainder loop makes no trip: its bounds are equal. -/
theorem trips3 : ∀ k : Fin k0_t1_loop.trips, (k0_t3_loop k).trips = 0 := by decide

/-- The outer loop: before trip `k` the three gradients are the state `outerSt` of `k` trips. -/
def outerInv (Q K V D A6 : Vec F S2048x128 .f32) :
    LoopInvTy_k0_t1 (F := F) Unit ℕ (UU nD τ) ℕ 𝒱₀ c none Set.univ i arg1 harg1 arg2 harg2 arg3 harg3 arg4 harg4 arg5 harg5 arg6 harg6 arg7 harg7 arg8 harg8 v0 where
  inv k acc := iprop((arg2.view.loc (c : Thread nD τ) ↦[arg2.view.set]{fullShare} arg2.view.rep Q) ∗ (arg3.view.loc (c : Thread nD τ) ↦[arg3.view.set]{fullShare} arg3.view.rep K) ∗ (arg4.view.loc (c : Thread nD τ) ↦[arg4.view.set]{fullShare} arg4.view.rep V) ∗ (arg5.view.loc (c : Thread nD τ) ↦[arg5.view.set]{fullShare} arg5.view.rep D)
    ∗ (∃ f, (arg6.view.loc (c : Thread nD τ) ↦[arg6.view.set]{fullShare} f) ∗ ⌜f = arg6.view.rep (outerSt (k0_pay1 v0) Q K V D ⟨A6, k0_pay2, k0_pay3⟩ k).dq⌝)
    ∗ (∃ f, (arg7.view.loc (c : Thread nD τ) ↦[arg7.view.set]{fullShare} f) ∗ ⌜f = arg7.view.rep (outerSt (k0_pay1 v0) Q K V D ⟨A6, k0_pay2, k0_pay3⟩ k).dk⌝)
    ∗ (∃ f, (arg8.view.loc (c : Thread nD τ) ↦[arg8.view.set]{fullShare} f) ∗ ⌜f = arg8.view.rep (outerSt (k0_pay1 v0) Q K V D ⟨A6, k0_pay2, k0_pay3⟩ k).dv⌝))
  step k acc := by
    unfold k0_t1_body
    iintro ⟨H2, H3, H4, H5, ⟨%f6, H6, %h6⟩, ⟨%f7, H7, %h7⟩, ⟨%f8, H8, %h8⟩⟩
    subst h6 h7 h8
    sl_exec
    sl_step
    have ht : Scf.trips (k0_t3_loop k).lb (k0_t3_loop k).ub (k0_t3_loop k).st = 0 := trips3 k
    sl_unfold_run_names
    simp only [ht, st_k0_t3.eq_1, View.writes_nil]
    rw [outerSt_succ]
    simp only [read_out]
    isplitl [H2]; · iexact H2
    isplitl [H3]; · iexact H3
    isplitl [H4]; · iexact H4
    isplitl [H5]; · iexact H5
    isplitl [H6]
    · iexists _; isplitl [H6]
      · iapply (pointsTo_rep_of_read (c : Thread nD τ) arg6 _ fullShare _ (View.read_writes_rep_unit _ _ _ _ rfl)) $$ H6
      · ipureintro; trivial
    isplitl [H7]
    · iexists _; isplitl [H7]
      · iexact H7
      · ipureintro; rfl
    · iexists _; isplitl [H8]
      · iexact H8
      · ipureintro; rfl

end Cert.Retention

end
-- ==== Proof.Run.lean ====
/-
  The backward kernel's run, over any float values: one grid point, the proof data of the launch, and the whole
  program's run with what its three result arrays hold.
-/
module

public import proofs.«01_k».proof.Proof.Body
public import proofs.«01_k».proof.Proof.Gen.KernelIdeal.Launch

@[expose] public section

set_option maxRecDepth 16384

noncomputable section

namespace Cert.Retention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- One grid point: from the five input blocks at their values and the three output blocks at anything, the body
    leaves the inputs as they were and the outputs at `outerOut`. -/
theorem body_run (c : Dev nD) (i : grid0.Coords) (arg1 : Memref sig .tc .vmem S1x1x128 .f32) (harg1 : arg1.IsWhole)
    (arg2 : Memref sig .tc .vmem S2048x128 .f32) (harg2 : arg2.IsWhole) (arg3 : Memref sig .tc .vmem S2048x128 .f32) (harg3 : arg3.IsWhole)
    (arg4 : Memref sig .tc .vmem S2048x128 .f32) (harg4 : arg4.IsWhole) (arg5 : Memref sig .tc .vmem S2048x128 .f32) (harg5 : arg5.IsWhole)
    (arg6 : Memref sig .tc .vmem S2048x128 .f32) (harg6 : arg6.IsWhole) (arg7 : Memref sig .tc .vmem S2048x128 .f32) (harg7 : arg7.IsWhole)
    (arg8 : Memref sig .tc .vmem S2048x128 .f32) (harg8 : arg8.IsWhole) (v0 : Vec F S1x1x128 .f32) (Q K V D A6 A7 A8 : Vec F S2048x128 .f32)
    (Post : PUnit → sProp 𝕄) :
    iprop((arg1.view.loc (c : Thread nD τ) ↦[arg1.view.set]{fullShare} arg1.view.rep v0)
      ∗ (arg2.view.loc (c : Thread nD τ) ↦[arg2.view.set]{fullShare} arg2.view.rep Q)
      ∗ (arg3.view.loc (c : Thread nD τ) ↦[arg3.view.set]{fullShare} arg3.view.rep K)
      ∗ (arg4.view.loc (c : Thread nD τ) ↦[arg4.view.set]{fullShare} arg4.view.rep V)
      ∗ (arg5.view.loc (c : Thread nD τ) ↦[arg5.view.set]{fullShare} arg5.view.rep D)
      ∗ (arg6.view.loc (c : Thread nD τ) ↦[arg6.view.set]{fullShare} arg6.view.rep A6)
      ∗ (arg7.view.loc (c : Thread nD τ) ↦[arg7.view.set]{fullShare} arg7.view.rep A7)
      ∗ (arg8.view.loc (c : Thread nD τ) ↦[arg8.view.set]{fullShare} arg8.view.rep A8)
      ∗ (iprop((arg1.view.loc (c : Thread nD τ) ↦[arg1.view.set]{fullShare} arg1.view.rep v0)
        ∗ (arg2.view.loc (c : Thread nD τ) ↦[arg2.view.set]{fullShare} arg2.view.rep Q)
        ∗ (arg3.view.loc (c : Thread nD τ) ↦[arg3.view.set]{fullShare} arg3.view.rep K)
        ∗ (arg4.view.loc (c : Thread nD τ) ↦[arg4.view.set]{fullShare} arg4.view.rep V)
        ∗ (arg5.view.loc (c : Thread nD τ) ↦[arg5.view.set]{fullShare} arg5.view.rep D)
        ∗ (arg6.view.loc (c : Thread nD τ) ↦[arg6.view.set]{fullShare} arg6.view.rep (outerOut (k0_pay1 v0) Q K V D A6).dq)
        ∗ (arg7.view.loc (c : Thread nD τ) ↦[arg7.view.set]{fullShare} arg7.view.rep (outerOut (k0_pay1 v0) Q K V D A6).dk)
        ∗ (arg8.view.loc (c : Thread nD τ) ↦[arg8.view.set]{fullShare} arg8.view.rep (outerOut (k0_pay1 v0) Q K V D A6).dv)) -∗ Post ⟨⟩))
    ⊢ wp frame (wpE (defs₀ (F := F)) 𝒱₀ c none) Set.univ
        (cc0_ret_attn_bwd i arg1 harg1 arg2 harg2 arg3 harg3 arg4 harg4 arg5 harg5 arg6 harg6 arg7 harg7 arg8 harg8) Post := by
  rw [cc0_ret_attn_bwd_eq_skeleton]
  unfold cc0_ret_attn_bwd_skel
  iintro ⟨H1, H2, H3, H4, H5, H6, H7, H8, HP⟩
  sl_exec
  unfold body_run.sl.H7_1 body_run.sl.H8_1
  rw [View.readAt_rep_full arg1.view v0 inb_S1x1x128_S1x1x128_0_0_0]
  ihave H7 := (pointsTo_rep_of_read (c : Thread nD τ) arg7 _ fullShare (k0_pay2 (F := F))
    (View.read_writes_full arg7.view _ inb_S2048x128_S2048x128_0_0 _ [])) $$ H7
  ihave H8 := (pointsTo_rep_of_read (c : Thread nD τ) arg8 _ fullShare (k0_pay3 (F := F))
    (View.read_writes_full arg8.view _ inb_S2048x128_S2048x128_0_0 _ [])) $$ H8
  let L := outerInv c i arg1 harg1 arg2 harg2 arg3 harg3 arg4 harg4 arg5 harg5 arg6 harg6 arg7 harg7 arg8 harg8 v0 Q K V D A6
  sl_exec
  sl_step
  iapply HP
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

variable (m : (ℓ : Loc nD τ sig) → Buf (Elt F) ℓ) (ρ : Dev nD → PrngReg)

/-- What the body leaves in each window's buffer at point `t`: the inputs' blocks, and the head's three gradients. -/
def after (c : Dev nD) : (w : Fin cfg0.W) → (t : Fin cfg0.N) → (cfg0.win w).block.Idx → Elt F (cfg0.win w).elt
  | ⟨0, _⟩, t => iblk m c 0 t
  | ⟨1, _⟩, t => iblk m c 1 t
  | ⟨2, _⟩, t => iblk m c 2 t
  | ⟨3, _⟩, t => iblk m c 3 t
  | ⟨4, _⟩, t => iblk m c 4 t
  | ⟨5, _⟩, t => (headOut (iblk m c 0 t) (iblk m c 1 t) (iblk m c 2 t) (iblk m c 3 t) (iblk m c 4 t)).dq
  | ⟨6, _⟩, t => (headOut (iblk m c 0 t) (iblk m c 1 t) (iblk m c 2 t) (iblk m c 3 t) (iblk m c 4 t)).dk
  | ⟨7, _⟩, t => (headOut (iblk m c 0 t) (iblk m c 1 t) (iblk m c 2 t) (iblk m c 3 t) (iblk m c 4 t)).dv

/-- The launch's proof data. -/
def dat0 (c : Dev nD) : Dat τ (Elt F) Unit ℕ (UR sig nD τ) ℕ cfg0 c where
  A w := V m c (Pipeline.arrRef spec0 w)
  after := after m c
  Φ _ := Pipeline.ΦA spec0 c
  q _ := fullShare
  owed _ := 0

def dats : (p : Fin 1) → (c : Dev nD) → Dat τ (Elt F) Unit ℕ (UR sig nD τ) ℕ (cfgs p) c
  | ⟨0, _⟩ => dat0 m

theorem defs₀_row (t : Fin cfg0.N) : defs₀ (F := F) .tc cfg0.body (cfg0.bodyArgs t (cfg0.slots t)) = bodyAt0 t := by
  unfold defs₀; rw [Defs.onTc_tc]

/-- A buffer owned at values is held at their representative. -/
theorem owns_rep (c : Dev nD) {sh : Shape} {e : EltTy} (M : Memref sig .tc .vmem sh e) (X : sh.Idx → Elt F e) :
    (owns (c : Thread nD τ) M fullShare X : sProp 𝕄) ⊢ (M.view.loc (c : Thread nD τ) ↦[M.view.set]{fullShare} M.view.rep X) := by
  unfold owns
  iintro ⟨%f, %hf, H⟩
  iapply (pointsTo_rep_of_read (c : Thread nD τ) M _ fullShare X hf) $$ H

theorem rep_owns (c : Dev nD) {sh : Shape} {e : EltTy} (M : Memref sig .tc .vmem sh e) (X : sh.Idx → Elt F e) :
    (M.view.loc (c : Thread nD τ) ↦[M.view.set]{fullShare} M.view.rep X : sProp 𝕄) ⊢ owns (c : Thread nD τ) M fullShare X := by
  unfold owns
  iintro H
  iexists _
  isplitr; swap; (· iexact H); ipureintro; exact View.read_rep _ _

/-- The body's triple at point `t`, over what the windows' buffers hold there. -/
theorem sound_body (c : Dev nD) (t : Fin cfg0.N) :
    iprop(Pipeline.ΦA spec0 c ∗ (dat0 m c).owesAt () t.castSucc
      ∗ (∃ d, owns (c : Thread nD τ) (win0_0.stage (cfg0.slots t 0)) fullShare ((dat0 m c).before 0 t d))
      ∗ (∃ d, owns (c : Thread nD τ) (win0_1.stage (cfg0.slots t 1)) fullShare ((dat0 m c).before 1 t d))
      ∗ (∃ d, owns (c : Thread nD τ) (win0_2.stage (cfg0.slots t 2)) fullShare ((dat0 m c).before 2 t d))
      ∗ (∃ d, owns (c : Thread nD τ) (win0_3.stage (cfg0.slots t 3)) fullShare ((dat0 m c).before 3 t d))
      ∗ (∃ d, owns (c : Thread nD τ) (win0_4.stage (cfg0.slots t 4)) fullShare ((dat0 m c).before 4 t d))
      ∗ (∃ d, owns (c : Thread nD τ) (win0_5.stage (cfg0.slots t 5)) fullShare ((dat0 m c).before 5 t d))
      ∗ (∃ d, owns (c : Thread nD τ) (win0_6.stage (cfg0.slots t 6)) fullShare ((dat0 m c).before 6 t d))
      ∗ (∃ d, owns (c : Thread nD τ) (win0_7.stage (cfg0.slots t 7)) fullShare ((dat0 m c).before 7 t d)))
    ⊢ wp frame (wpE (defs₀ (F := F)) Variants.none c none) Set.univ (bodyAt0 t) fun _ =>
        iprop(Pipeline.ΦA spec0 c ∗ (dat0 m c).owesAt () t.castSucc
          ∗ owns (c : Thread nD τ) (win0_0.stage (cfg0.slots t 0)) fullShare (after m c 0 t)
          ∗ owns (c : Thread nD τ) (win0_1.stage (cfg0.slots t 1)) fullShare (after m c 1 t)
          ∗ owns (c : Thread nD τ) (win0_2.stage (cfg0.slots t 2)) fullShare (after m c 2 t)
          ∗ owns (c : Thread nD τ) (win0_3.stage (cfg0.slots t 3)) fullShare (after m c 3 t)
          ∗ owns (c : Thread nD τ) (win0_4.stage (cfg0.slots t 4)) fullShare (after m c 4 t)
          ∗ owns (c : Thread nD τ) (win0_5.stage (cfg0.slots t 5)) fullShare (after m c 5 t)
          ∗ owns (c : Thread nD τ) (win0_6.stage (cfg0.slots t 6)) fullShare (after m c 6 t)
          ∗ owns (c : Thread nD τ) (win0_7.stage (cfg0.slots t 7)) fullShare (after m c 7 t)) := by
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  rw [before0_0_of m (dat0 m c) rfl (fun _ => rfl), before0_1_of m (dat0 m c) rfl (fun _ => rfl), before0_2_of m (dat0 m c) rfl (fun _ => rfl),
    before0_3_of m (dat0 m c) rfl (fun _ => rfl), before0_4_of m (dat0 m c) rfl (fun _ => rfl)]
  ihave H0 := (owns_rep c _ _) $$ H0
  ihave H1 := (owns_rep c _ _) $$ H1
  ihave H2 := (owns_rep c _ _) $$ H2
  ihave H3 := (owns_rep c _ _) $$ H3
  ihave H4 := (owns_rep c _ _) $$ H4
  ihave H5 := (owns_rep c _ _) $$ H5
  ihave H6 := (owns_rep c _ _) $$ H6
  ihave H7 := (owns_rep c _ _) $$ H7
  iapply (body_run c (grid0.coords t) _ _ _ _ _ _ _ _ _ _ _ _ _ _ _ _ (iblk m c 0 t) (iblk m c 1 t) (iblk m c 2 t) (iblk m c 3 t) (iblk m c 4 t) _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  rw [outerOut_indep _ _ _ _ _ _ k0_pay2]
  isplitl [HΦ]; · iexact HΦ
  isplitl [HO]; · iexact HO
  isplitl [H0]; · iapply (rep_owns c _ _) $$ H0
  isplitl [H1]; · iapply (rep_owns c _ _) $$ H1
  isplitl [H2]; · iapply (rep_owns c _ _) $$ H2
  isplitl [H3]; · iapply (rep_owns c _ _) $$ H3
  isplitl [H4]; · iapply (rep_owns c _ _) $$ H4
  isplitl [H5]; · iapply (rep_owns c _ _) $$ H5
  isplitl [H6]; · iapply (rep_owns c _ _) $$ H6
  iapply (rep_owns c _ _) $$ H7

/-- The library's body obligation. -/
theorem body_obligation (c : Dev nD) : BodyObligation (dat0 m c) (defs₀ (F := F)) Variants.none () Set.univ := fun t => by
  rw [bigSep_W0, bigSep_W0, defs₀_row]
  exact triple_restated (sound_body m c t) rfl .rfl fun _ => .rfl

/-- The whole program's run, its semaphores at zero at the end. -/
theorem run_main_quiescent : θ_run defs (onTc (τ := τ) (main (F := F))) (s₀ m ρ)
    (fun r => (Pipeline.FramePost cfgs (dats m) 0 (V m)) r ∧ r.2.sem = fun _ => 0) :=
  Pipeline.θ_run_frame cfgs (dats m) 0 launch0 defs₀ 𝒱₀ m ρ main (fun c => (body_obligation m c).loose) (fun c => (dats m 0 c).share_full fun _ => rfl)
    (howed := fun _ _ => rfl) (V := V m) (hmain := hmain m 𝒱₀) (hA := fun _ _ => rfl) (hΦ := fun _ _ => rfl) (Q' := _)

theorem run_main : θ_run defs (onTc (τ := τ) (main (F := F))) (s₀ m ρ) (Pipeline.FramePost cfgs (dats m) 0 (V m)) :=
  (θ_run defs _ _).mono (fun _ h => h.1) (run_main_quiescent m ρ)

end Cert.Retention

end
-- ==== Proof.Frames.lean ====
/-
  The frames: the kernel over bits and over the extended reals from ONE run (the two programs have the same text),
  the reference's from its generated run.
-/
module

public import proofs.«01_k».proof.Defs
public import proofs.«01_k».proof.Proof.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import Idealize.ShloMosaic.Lib.Claim

@[expose] public section

set_option maxRecDepth 16384

noncomputable section

namespace Cert.Retention

open Idealize.ShloMosaic Idealize.ShloMosaic.TcCoe Idealize.SL.Sem

/-- The run leaves the arguments as they were and every semaphore at zero, over any float values. -/
theorem quiescent_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread _ _).loc Cert.KernelIdeal.main_arg0) = m ((c.tc : Thread _ _).loc Cert.KernelIdeal.main_arg0)
        ∧ r.2.mem ((c.tc : Thread _ _).loc Cert.KernelIdeal.main_arg1) = m ((c.tc : Thread _ _).loc Cert.KernelIdeal.main_arg1)
        ∧ r.2.mem ((c.tc : Thread _ _).loc Cert.KernelIdeal.main_arg2) = m ((c.tc : Thread _ _).loc Cert.KernelIdeal.main_arg2)
        ∧ r.2.mem ((c.tc : Thread _ _).loc Cert.KernelIdeal.main_arg3) = m ((c.tc : Thread _ _).loc Cert.KernelIdeal.main_arg3))
      ∧ r.2.sem = fun _ => 0 :=
  θ_run_and (Cert.KernelIdeal.Gen.frame_of m ρ (dats m) (fun _ _ => rfl) (run_main m ρ))
    ((θ_run Cert.KernelIdeal.defs _ _).mono (fun _ h => h.2) (run_main_quiescent m ρ))

theorem frame_kernelIdeal : Cert.quiescent_KernelIdeal := fun m ρ _ => quiescent_run (F := Ideal) m ρ

/-- The two programs' bodies are the same text: so are their tables of bodies. -/
theorem defs₀_eq : Cert.Kernel.defs₀ (F := Bits) = Cert.KernelIdeal.defs₀ (F := Bits) := by
  unfold Cert.Kernel.defs₀ Cert.KernelIdeal.defs₀
  refine congrArg Idealize.ShloMosaic.Defs.onTc ?_
  funext ℓ a
  match ℓ, a with
  | 0, (t, s) => rfl
  | ⟨_ + 1, h⟩, _ => exact absurd h (by omega)

theorem defs_eq : Cert.Kernel.defs (F := Bits) = Cert.KernelIdeal.defs (F := Bits) := congrArg (Pipeline.defs _) defs₀_eq

theorem frame_kernel : Cert.quiescent_Kernel := fun m ρ _ => by
  rw [defs_eq]
  exact (θ_run Cert.KernelIdeal.defs _ _).mono (fun _ h => h) (quiescent_run (F := Bits) m ρ)

theorem frame_reference : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

end Cert.Retention

end
-- ==== Proof.Math.lean ====
/-
  The arithmetic of retention in chunks, over the reals. Rows come in `N` chunks of `C`; row `(n, a)` is row `n C + a`.
  A decayed running sum over the chunks before (or after) chunk `n`, weighed by the decays inside a chunk, is the
  decayed sum over all rows before (or after) the row, since the exponents add up.
-/
module

public import Idealize.ShloMosaic.PureOps.Ideal
public import Mathlib.Tactic.Ring
public import Mathlib.Tactic.FieldSimp

@[expose] public section

noncomputable section

namespace Cert.Retention

open Finset

/-- The decay from row `j` to row `i`: `exp (L (i - j))` where `j ≤ i`, zero otherwise. -/
def decay (L : ℝ) (i j : ℕ) : ℝ := if j ≤ i then Real.exp (L * ((i : ℝ) - j)) else 0

/-- The running sum carried forward over the chunks: before chunk `n`. -/
def carry (g : ℝ) (G : ℕ → ℝ) : ℕ → ℝ
  | 0 => 0
  | n + 1 => carry g G n * g + G n

variable {N C : ℕ}

/-- A function on `Fin N` continued by zero. -/
def ext (G : Fin N → ℝ) (n : ℕ) : ℝ := if h : n < N then G ⟨n, h⟩ else 0

theorem ext_val (G : Fin N → ℝ) (n : Fin N) : ext G n.val = G n := dif_pos n.isLt

/-- The carried sum is the sum of the chunks before, each decayed by the chunks between. -/
theorem carry_eq (L : ℝ) (G : Fin N → ℝ) (n : ℕ) (hn : n ≤ N) :
    carry (Real.exp (C * L)) (ext G) n = ∑ m : Fin N, if m.val < n then Real.exp (C * ((n : ℝ) - 1 - m.val) * L) * G m else 0 := by
  induction n with
  | zero => simp [carry]
  | succ n ih =>
    have h1 : ∀ m : Fin N, (if m.val < n + 1 then Real.exp (C * (((n + 1 : ℕ) : ℝ) - 1 - m.val) * L) * G m else 0)
        = (if m.val < n then Real.exp (C * ((n : ℝ) - 1 - m.val) * L) * G m else 0) * Real.exp (C * L) + (if m = ⟨n, hn⟩ then G m else 0) := by
      intro m
      rcases lt_trichotomy m.val n with h | h | h
      · have h' : m ≠ ⟨n, hn⟩ := fun e => by rw [e] at h; exact lt_irrefl _ h
        have e : Real.exp (C * (((n + 1 : ℕ) : ℝ) - 1 - m.val) * L) = Real.exp (C * ((n : ℝ) - 1 - m.val) * L) * Real.exp (C * L) := by
          rw [← Real.exp_add]; congr 1; push_cast; ring
        rw [if_pos (by omega), if_pos h, if_neg h', add_zero, e]
        ring
      · have h' : m = ⟨n, hn⟩ := Fin.ext h
        rw [if_pos (by omega), if_neg (by omega), if_pos h', h, zero_mul, zero_add]
        have : (C : ℝ) * (((n + 1 : ℕ) : ℝ) - 1 - (n : ℝ)) * L = 0 := by push_cast; ring
        rw [this, Real.exp_zero, one_mul]
      · have h' : m ≠ ⟨n, hn⟩ := fun e => by rw [e] at h; exact lt_irrefl _ h
        rw [if_neg (by omega), if_neg (by omega), if_neg h', zero_mul, zero_add]
    rw [carry, ih (by omega), Finset.sum_congr rfl fun m _ => h1 m, Finset.sum_add_distrib, Finset.sum_mul, Finset.sum_ite_eq' univ,
      if_pos (mem_univ _), ext, dif_pos (show n < N from hn)]

/-- The sum carried backward: the carried sum of the chunks in reverse order. -/
theorem carry_rev_eq (L : ℝ) (G : Fin N → ℝ) (n : Fin N) :
    carry (Real.exp (C * L)) (ext fun m => G m.rev) (N - 1 - n.val)
      = ∑ m : Fin N, if n < m then Real.exp (C * ((m.val : ℝ) - 1 - n.val) * L) * G m else 0 := by
  rw [carry_eq L (fun m : Fin N => G m.rev) _ (by omega)]
  refine Fintype.sum_equiv Fin.revPerm _ _ fun m => ?_
  have hm := m.isLt
  have hn := n.isLt
  have e : (m.rev.val) = N - 1 - m.val := by rw [Fin.val_rev]; omega
  show _ = if n < m.rev then Real.exp (C * ((m.rev.val : ℝ) - 1 - n.val) * L) * G m.rev else 0
  by_cases h : m.val < N - 1 - n.val
  · rw [if_pos h, if_pos (Fin.lt_def.2 (by omega)), e]
    congr 4
    rw [Nat.sub_sub, Nat.sub_sub, Nat.cast_sub (by omega), Nat.cast_sub (by omega)]
    push_cast; ring
  · rw [if_neg h, if_neg (fun h' => h (by have := Fin.lt_def.1 h'; omega))]

/-- The decay from a row of an earlier chunk: to the chunk's end, over the chunks between, and into the row. -/
theorem decay_before (L : ℝ) {n m a b : ℕ} (ha : a < C) (hb : b < C) (h : m < n) :
    decay L (n * C + a) (m * C + b)
      = Real.exp ((a + 1) * L) * Real.exp (C * ((n : ℝ) - 1 - m) * L) * Real.exp (((C : ℝ) - 1 - b) * L) := by
  have hle : m * C + b ≤ n * C + a := by
    have : (m + 1) * C ≤ n * C := Nat.mul_le_mul_right C h
    rw [Nat.succ_mul] at this; omega
  rw [decay, if_pos hle, ← Real.exp_add, ← Real.exp_add]
  congr 1; push_cast; ring

theorem decay_same (L : ℝ) (n a b : ℕ) : decay L (n * C + a) (n * C + b) = decay L a b := by
  unfold decay
  by_cases h : b ≤ a
  · rw [if_pos h, if_pos (by omega)]; congr 1; push_cast; ring
  · rw [if_neg h, if_neg (by omega)]

theorem decay_after (L : ℝ) {n m a b : ℕ} (ha : a < C) (hb : b < C) (h : n < m) : decay L (n * C + a) (m * C + b) = 0 := by
  refine if_neg fun hle => ?_
  have : (n + 1) * C ≤ m * C := Nat.mul_le_mul_right C h
  rw [Nat.succ_mul] at this; omega

variable {E : ℕ}

/-- A row against the rows at or before it, chunk by chunk: the carried sum and the row's own chunk. -/
theorem forward_sum (L : ℝ) (n : Fin N) (a : Fin C) (x : Fin E → ℝ) (y : Fin N → Fin C → Fin E → ℝ) (z : Fin N → Fin C → ℝ) :
    (∑ e, (x e * Real.exp ((a.val + 1) * L)) * carry (Real.exp (C * L)) (ext fun m => ∑ b, z m b * Real.exp (((C : ℝ) - 1 - b.val) * L) * y m b e) n.val)
        + ∑ b, (∑ e, x e * y n b e) * decay L a.val b.val * z n b
      = ∑ m, ∑ b, (∑ e, x e * y m b e) * decay L (n.val * C + a.val) (m.val * C + b.val) * z m b := by
  have hm : ∀ m : Fin N, (∑ b, (∑ e, x e * y m b e) * decay L (n.val * C + a.val) (m.val * C + b.val) * z m b)
      = (∑ e, (x e * Real.exp ((a.val + 1) * L)) * (if m.val < n.val then Real.exp (C * ((n.val : ℝ) - 1 - m.val) * L) *
          ∑ b, z m b * Real.exp (((C : ℝ) - 1 - b.val) * L) * y m b e else 0))
        + (if m = n then ∑ b, (∑ e, x e * y m b e) * decay L a.val b.val * z m b else 0) := by
    intro m
    rcases lt_trichotomy m.val n.val with h | h | h
    · have h' : m ≠ n := fun e => by rw [e] at h; exact lt_irrefl _ h
      simp only [if_pos h, if_neg h', add_zero, Finset.mul_sum, Finset.sum_mul]
      rw [Finset.sum_comm]
      refine Finset.sum_congr rfl fun e _ => Finset.sum_congr rfl fun b _ => ?_
      rw [decay_before L a.isLt b.isLt h]; ring
    · have h' : m = n := Fin.ext h
      subst h'
      simp only [lt_irrefl, if_false, mul_zero, Finset.sum_const_zero, zero_add, if_true, decay_same]
    · have h' : m ≠ n := fun e => by rw [e] at h; exact lt_irrefl _ h
      simp only [if_neg (Nat.lt_asymm h), if_neg h', mul_zero, Finset.sum_const_zero, add_zero]
      refine Finset.sum_eq_zero fun b _ => ?_
      rw [decay_after L a.isLt b.isLt h]; ring
  rw [Finset.sum_congr rfl fun m _ => hm m, Finset.sum_add_distrib, Finset.sum_ite_eq' univ, if_pos (mem_univ _), Finset.sum_comm]
  congr 1
  refine Finset.sum_congr rfl fun e _ => ?_
  rw [carry_eq L _ _ n.isLt.le, Finset.mul_sum]

/-- A row against the rows at or after it, chunk by chunk: the sum carried backward and the row's own chunk. -/
theorem backward_sum (L : ℝ) (n : Fin N) (b : Fin C) (x : Fin E → ℝ) (y : Fin N → Fin C → Fin E → ℝ) (z : Fin N → Fin C → ℝ) :
    (∑ e, (x e * Real.exp (((C : ℝ) - 1 - b.val) * L)) *
        carry (Real.exp (C * L)) (ext fun m : Fin N => ∑ a, z m.rev a * Real.exp ((a.val + 1) * L) * y m.rev a e) (N - 1 - n.val))
        + ∑ a, (∑ e, x e * y n a e) * decay L a.val b.val * z n a
      = ∑ m, ∑ a, (∑ e, x e * y m a e) * decay L (m.val * C + a.val) (n.val * C + b.val) * z m a := by
  have hm : ∀ m : Fin N, (∑ a, (∑ e, x e * y m a e) * decay L (m.val * C + a.val) (n.val * C + b.val) * z m a)
      = (∑ e, (x e * Real.exp (((C : ℝ) - 1 - b.val) * L)) * (if n < m then Real.exp (C * ((m.val : ℝ) - 1 - n.val) * L) *
          ∑ a, z m a * Real.exp ((a.val + 1) * L) * y m a e else 0))
        + (if m = n then ∑ a, (∑ e, x e * y m a e) * decay L a.val b.val * z m a else 0) := by
    intro m
    rcases lt_trichotomy m.val n.val with h | h | h
    · have h' : m ≠ n := fun e => by rw [e] at h; exact lt_irrefl _ h
      have h'' : ¬ n < m := fun e => Nat.lt_asymm h (Fin.lt_def.1 e)
      simp only [if_neg h'', if_neg h', mul_zero, Finset.sum_const_zero, add_zero]
      refine Finset.sum_eq_zero fun a _ => ?_
      rw [decay_after L a.isLt b.isLt h]; ring
    · have h' : m = n := Fin.ext h
      subst h'
      simp only [lt_irrefl, if_false, mul_zero, Finset.sum_const_zero, zero_add, if_true, decay_same]
    · have h' : m ≠ n := fun e => by rw [e] at h; exact lt_irrefl _ h
      simp only [if_pos (Fin.lt_def.2 h), if_neg h', add_zero, Finset.mul_sum, Finset.sum_mul]
      rw [Finset.sum_comm]
      refine Finset.sum_congr rfl fun e _ => Finset.sum_congr rfl fun a _ => ?_
      rw [decay_before L a.isLt b.isLt h]; ring
  rw [Finset.sum_congr rfl fun m _ => hm m, Finset.sum_add_distrib, Finset.sum_ite_eq' univ, if_pos (mem_univ _), Finset.sum_comm]
  congr 1
  refine Finset.sum_congr rfl fun e _ => ?_
  rw [carry_rev_eq L (fun m => ∑ a, z m a * Real.exp ((a.val + 1) * L) * y m a e), Finset.mul_sum]

/-- A sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

end Cert.Retention

end
-- ==== Proof.RefValue.lean ====
/-
  What the reference's arrays hold, entry by entry, where the arguments are numbers: each is a real number, given by
  the arithmetic of Math.lean. Entry `(n, a, h, d)` is row `128 n + a` and column `d` of head `h`.
-/
module

public import proofs.«01_k».proof.Proof.Math
public import proofs.«01_k».proof.Proof.Gen.ReferenceIdeal.Run
public import Idealize.ShloMosaic.Lib.Pointwise

@[expose] public section

set_option maxRecDepth 16384

noncomputable section

namespace Cert.Retention.Ref

open Cert.ReferenceIdeal Cert.ReferenceIdeal.Gen Cert.ReferenceIdeal.Value Idealize.ShloMosaic Idealize.ShloMosaic.StableHlo

variable (V0 : Valuation τ sig (Elt Ideal))

/-- The logarithms of the heads' decays, and the four arrays by chunk, row in the chunk, head and column. -/
structure Args where
  L : Fin 4 → ℝ
  q : Fin 16 → Fin 128 → Fin 4 → Fin 128 → ℝ
  k : Fin 16 → Fin 128 → Fin 4 → Fin 128 → ℝ
  v : Fin 16 → Fin 128 → Fin 4 → Fin 128 → ℝ
  o : Fin 16 → Fin 128 → Fin 4 → Fin 128 → ℝ

/-- The reference's arrays hold these numbers. -/
structure Holds (A : Args) : Prop where
  L : ∀ h, (res_main_v14 V0 : FVec Ideal S4 .f32) (ix1 h) = ((A.L h : ℝ) : EReal)
  q : ∀ n a h d, (res_main_v15 V0 : FVec Ideal S1x16x128x4x128 .f32) (ix5 0 n a h d) = ((A.q n a h d : ℝ) : EReal)
  k : ∀ n a h d, (res_main_v16 V0 : FVec Ideal S1x16x128x4x128 .f32) (ix5 0 n a h d) = ((A.k n a h d : ℝ) : EReal)
  v : ∀ n a h d, (res_main_v17 V0 : FVec Ideal S1x16x128x4x128 .f32) (ix5 0 n a h d) = ((A.v n a h d : ℝ) : EReal)
  o : ∀ n a h d, (res_main_v180 V0 : FVec Ideal S1x16x128x4x128 .f32) (ix5 0 n a h d) = ((A.o n a h d : ℝ) : EReal)

theorem sitofp_small (n : ℕ) (hn : n < 128) : (FloatOps.sitofp .f32 (BitVec.ofNat 32 n) : Ideal .f32) = ((n : ℝ) : EReal) := by
  show (((BitVec.ofNat 32 n).toInt : ℝ) : EReal) = _
  rw [show (BitVec.ofNat 32 n).toInt = (n : ℤ) by
    rw [BitVec.toInt_eq_toNat_of_lt (by simp; omega)]; simp; omega]
  simp

theorem word_127 : Ideal.ofBits .f32 0x42FE0000#32 = ((127 : ℝ) : EReal) := by
  simp [Ideal.ofBits, Ideal.ieee]; norm_cast; norm_num
theorem word_128 : Ideal.ofBits .f32 0x43000000#32 = ((128 : ℝ) : EReal) := by
  simp [Ideal.ofBits, Ideal.ieee]; norm_cast; norm_num

/-- The gradient of `q` before its last reshape. -/
def preQ (V0 : Valuation τ sig (Elt Ideal)) : FVec Ideal S1x16x128x4x128 .f32 :=
    addf (transpose S1x16x128x4x128 [0, 1, 3, 2, 4] (Host.dotGeneral (φ₁ := .f32) (φ₂ := .f32) dot_S1x16x4x128x128_S1x16x4x128x128_S1x16x4x128x128_3_4_4_3_012_012 none (res_main_v183 V0) (res_main_v162 V0)) transposes_S1x16x4x128x128_S1x16x128x4x128_0_1_3_2_4)
      (transpose S1x16x128x4x128 [0, 1, 3, 2, 4] (Host.dotGeneral (φ₁ := .f32) (φ₂ := .f32) dot_S1x16x4x128x128_S1x16x128x4x128_S1x16x4x128x128_4_2_3_4_012_013 none (res_main_v304 V0) (res_main_v16 V0)) transposes_S1x16x4x128x128_S1x16x128x4x128_0_1_3_2_4)

/-- The gradient of `k` before its last reshape. -/
def preK (V0 : Valuation τ sig (Elt Ideal)) : FVec Ideal S1x16x128x4x128 .f32 :=
    addf (mulf (transpose S1x16x128x4x128 [0, 1, 4, 2, 3] (Host.dotGeneral (φ₁ := .f32) (φ₂ := .f32) dot_S1x16x4x128x128_S1x16x128x4x128_S1x16x4x128x128_4_4_3_2_012_013 none (res_main_v291 V0) (res_main_v17 V0)) transposes_S1x16x4x128x128_S1x16x128x4x128_0_1_4_2_3)
        (broadcastInDim S1x16x128x4x128 ![0, 1, 2, 3, 4] bcast_S1x1x128x4x1_S1x16x128x4x128_0_1_2_3_4 (res_main_v51 V0)))
      (transpose S1x16x128x4x128 [0, 1, 3, 2, 4] (Host.dotGeneral (φ₁ := .f32) (φ₂ := .f32) dot_S1x16x4x128x128_S1x16x128x4x128_S1x16x4x128x128_3_2_4_4_012_013 none (res_main_v304 V0) (res_main_v15 V0)) transposes_S1x16x4x128x128_S1x16x128x4x128_0_1_3_2_4)

/-- The gradient of `v` before its last reshape. -/
def preV (V0 : Valuation τ sig (Elt Ideal)) : FVec Ideal S1x16x128x4x128 .f32 :=
    addf (transpose S1x16x128x4x128 [0, 1, 4, 2, 3] (Host.dotGeneral (φ₁ := .f32) (φ₂ := .f32) dot_S1x16x4x128x128_S1x16x128x4x128_S1x16x4x128x128_3_4_4_2_012_013 none (res_main_v291 V0) (res_main_v53 V0)) transposes_S1x16x4x128x128_S1x16x128x4x128_0_1_4_2_3)
      (transpose S1x16x128x4x128 [0, 1, 4, 2, 3] (Host.dotGeneral (φ₁ := .f32) (φ₂ := .f32) dot_S1x16x4x128x128_S1x16x4x128x128_S1x16x4x128x128_4_3_3_4_012_012 none (res_main_v298 V0) (res_main_v39 V0)) transposes_S1x16x4x128x128_S1x16x128x4x128_0_1_4_2_3)

variable {V0} {A : Args} (H : Holds V0 A)
include H

theorem mask_apply (h : Fin 4) (a b : Fin 128) :
    (res_main_v37 V0 : FVec Ideal S1x1x4x128x128 .f32) (ix5 0 0 h a b) = ((decay (A.L h) a.val b.val : ℝ) : EReal) := by
  unfold res_main_v37 res_main_v23 res_main_v18
  pointwise
  rw [sitofp_small _ a.isLt, sitofp_small _ b.isLt, H.L, ← EReal.coe_sub]
  unfold decay
  by_cases hab : b.val ≤ a.val
  · have h0 : (0 : ℝ) ≤ (a.val : ℝ) - b.val := by
      have : (b.val : ℝ) ≤ a.val := by exact_mod_cast hab
      linarith
    rw [if_pos hab, if_pos (EReal.coe_nonneg.2 h0), max_eq_left (EReal.coe_nonneg.2 h0), ← EReal.coe_mul, Ideal.exp_coe, mul_comm]
  · have h0 : ¬ (0 : ℝ) ≤ (a.val : ℝ) - b.val := by
      have : (a.val : ℝ) < b.val := by exact_mod_cast not_le.1 hab
      linarith
    rw [if_neg hab, if_neg (fun h => h0 (EReal.coe_nonneg.1 h))]
    exact (Ideal.ofBits_zero .f32).trans EReal.coe_zero.symm

theorem scores_apply (n : Fin 16) (h : Fin 4) (a b : Fin 128) :
    (res_main_v39 V0 : FVec Ideal S1x16x4x128x128 .f32) (ix5 0 n h a b)
      = (((∑ d, A.q n a h d * A.k n b h d) * decay (A.L h) a.val b.val : ℝ) : EReal) := by
  unfold res_main_v39
  pointwise
  rw [mask_apply H, EReal.coe_mul, coe_sum]
  simp only [H.q, H.k, EReal.coe_mul]

theorem dscores_apply (n : Fin 16) (h : Fin 4) (a b : Fin 128) :
    (res_main_v304 V0 : FVec Ideal S1x16x4x128x128 .f32) (ix5 0 n h a b)
      = (((∑ e, A.o n a h e * A.v n b h e) * decay (A.L h) a.val b.val : ℝ) : EReal) := by
  unfold res_main_v304 res_main_v298
  pointwise
  rw [mask_apply H, EReal.coe_mul, coe_sum]
  simp only [H.o, H.v, EReal.coe_mul]

theorem zeta_apply (h : Fin 4) (a : Fin 128) :
    (res_main_v51 V0 : FVec Ideal S1x1x128x4x1 .f32) (ix5 0 0 a h 0) = ((Real.exp ((((128 : ℕ) : ℝ) - 1 - a.val) * A.L h) : ℝ) : EReal) := by
  unfold res_main_v51 res_main_v18
  pointwise
  rw [sitofp_small _ a.isLt, H.L, word_127, ← EReal.coe_sub, ← EReal.coe_mul, Ideal.exp_coe]
  congr 3; norm_num

theorem xi_apply (h : Fin 4) (a : Fin 128) :
    (res_main_v174 V0 : FVec Ideal S1x1x128x4x1 .f32) (ix5 0 0 a h 0) = ((Real.exp ((a.val + 1) * A.L h) : ℝ) : EReal) := by
  unfold res_main_v174 res_main_v18
  pointwise
  rw [sitofp_small _ a.isLt, H.L, ← EReal.coe_one, ← EReal.coe_add, ← EReal.coe_mul, Ideal.exp_coe]

theorem gamma_apply (h : Fin 4) :
    (res_main_v58 V0 : FVec Ideal S1x4x1x1 .f32) (ix4 0 h 0 0) = ((Real.exp (((128 : ℕ) : ℝ) * A.L h) : ℝ) : EReal) := by
  unfold res_main_v58
  pointwise
  rw [H.L, word_128, ← EReal.coe_mul, Ideal.exp_coe]
  congr 3

theorem kz_apply (n : Fin 16) (a : Fin 128) (h : Fin 4) (d : Fin 128) :
    (res_main_v53 V0 : FVec Ideal S1x16x128x4x128 .f32) (ix5 0 n a h d)
      = ((A.k n a h d * Real.exp ((((128 : ℕ) : ℝ) - 1 - a.val) * A.L h) : ℝ) : EReal) := by
  unfold res_main_v53
  pointwise
  rw [H.k, zeta_apply H, EReal.coe_mul]

theorem ox_apply (n : Fin 16) (h : Fin 4) (e a : Fin 128) :
    (res_main_v183 V0 : FVec Ideal S1x16x4x128x128 .f32) (ix5 0 n h e a)
      = ((A.o n a h e * Real.exp ((a.val + 1) * A.L h) : ℝ) : EReal) := by
  unfold res_main_v183
  pointwise
  rw [H.o, xi_apply H, EReal.coe_mul]

/-- What a chunk adds to the sum carried forward. -/
theorem fwd_apply (n : Fin 16) (h : Fin 4) (d e : Fin 128) :
    (res_main_v62 V0 : FVec Ideal S16x1x4x128x128 .f32) (ix5 n 0 h d e)
      = ((∑ b, A.k n b h d * Real.exp ((((128 : ℕ) : ℝ) - 1 - b.val) * A.L h) * A.v n b h e : ℝ) : EReal) := by
  unfold res_main_v62 res_main_v60
  pointwise
  rw [coe_sum]
  simp only [kz_apply H, H.v, EReal.coe_mul]

/-- What a chunk adds to the sum carried backward. -/
theorem bwd_apply (n : Fin 16) (h : Fin 4) (d e : Fin 128) :
    (res_main_v190 V0 : FVec Ideal S16x1x4x128x128 .f32) (ix5 n 0 h d e)
      = ((∑ a, A.o n a h e * Real.exp ((a.val + 1) * A.L h) * A.q n a h d : ℝ) : EReal) := by
  unfold res_main_v190 res_main_v188
  pointwise
  rw [coe_sum]
  simp only [ox_apply H, H.q, EReal.coe_mul]

/-- The sums carried forward and backward, by head and entry. -/
def fwd (A : Args) (h : Fin 4) (d e : Fin 128) (n : ℕ) : ℝ :=
  carry (Real.exp (((128 : ℕ) : ℝ) * A.L h)) (ext fun n : Fin 16 => ∑ b, A.k n b h d * Real.exp ((((128 : ℕ) : ℝ) - 1 - b.val) * A.L h) * A.v n b h e) n
def bwd (A : Args) (h : Fin 4) (d e : Fin 128) (n : ℕ) : ℝ :=
  carry (Real.exp (((128 : ℕ) : ℝ) * A.L h)) (ext fun n : Fin 16 => ∑ a, A.o n.rev a h e * Real.exp ((a.val + 1) * A.L h) * A.q n.rev a h d) n

/-- One step of the sum carried forward. -/
theorem fwd_step (n : Fin 16) (hs : S16x1x4x128x128.Slices ![n.val, 0, 0, 0, 0] S1x1x4x128x128) (x : FVec Ideal S1x4x128x128 .f32)
    (hx : ∀ h d e, x (ix4 0 h d e) = ((fwd A h d e n.val : ℝ) : EReal)) (h : Fin 4) (d e : Fin 128) :
    addf (mulf x (broadcastInDim S1x4x128x128 ![0, 1, 2, 3] bcast_S1x4x1x1_S1x4x128x128_0_1_2_3 (res_main_v58 V0)))
        (shapeCast S1x4x128x128 (extractStridedSlice S1x1x4x128x128 ![n.val, 0, 0, 0, 0] (res_main_v62 V0) hs) shapeCasts_S1x1x4x128x128_S1x4x128x128) (ix4 0 h d e)
      = ((fwd A h d e (n.val + 1) : ℝ) : EReal) := by
  pointwise
  rw [hx, gamma_apply H, fwd_apply H, ← EReal.coe_mul, ← EReal.coe_add]
  simp only [fwd, carry, ext_val]

/-- One step of the sum carried backward. -/
theorem bwd_step (n : Fin 16) (hs : S16x1x4x128x128.Slices ![n.rev.val, 0, 0, 0, 0] S1x1x4x128x128) (x : FVec Ideal S1x4x128x128 .f32)
    (hx : ∀ h d e, x (ix4 0 h d e) = ((bwd A h d e n.val : ℝ) : EReal)) (h : Fin 4) (d e : Fin 128) :
    addf (shapeCast S1x4x128x128 (extractStridedSlice S1x1x4x128x128 ![n.rev.val, 0, 0, 0, 0] (res_main_v190 V0) hs) shapeCasts_S1x1x4x128x128_S1x4x128x128)
        (mulf x (broadcastInDim S1x4x128x128 ![0, 1, 2, 3] bcast_S1x4x1x1_S1x4x128x128_0_1_2_3 (res_main_v58 V0))) (ix4 0 h d e)
      = ((bwd A h d e (n.val + 1) : ℝ) : EReal) := by
  pointwise
  rw [hx, gamma_apply H, bwd_apply H, ← EReal.coe_mul, ← EReal.coe_add]
  simp only [bwd, carry, ext_val]
  rw [add_comm]

theorem zero_apply (h : Fin 4) (d e : Fin 128) : (res_main_v59 V0 : FVec Ideal S1x4x128x128 .f32) (ix4 0 h d e) = ((fwd A h d e 0 : ℝ) : EReal) := by
  unfold res_main_v59
  pointwise
  exact EReal.coe_zero.symm

theorem zero_apply' (h : Fin 4) (d e : Fin 128) : (res_main_v189 V0 : FVec Ideal S1x4x128x128 .f32) (ix4 0 h d e) = ((bwd A h d e 0 : ℝ) : EReal) := by
  unfold res_main_v189
  pointwise
  exact EReal.coe_zero.symm

/-- The sums carried forward, stacked. -/
theorem fwd_stack (n : Fin 16) (h : Fin 4) (d e : Fin 128) :
    (res_main_v162 V0 : FVec Ideal S1x16x4x128x128 .f32) (ix5 0 n h d e) = ((fwd A h d e n.val : ℝ) : EReal) := by
  have h0 := zero_apply H
  have h1 := fwd_step H 0 (by decide) _ h0
  have h2 := fwd_step H 1 (by decide) _ h1
  have h3 := fwd_step H 2 (by decide) _ h2
  have h4 := fwd_step H 3 (by decide) _ h3
  have h5 := fwd_step H 4 (by decide) _ h4
  have h6 := fwd_step H 5 (by decide) _ h5
  have h7 := fwd_step H 6 (by decide) _ h6
  have h8 := fwd_step H 7 (by decide) _ h7
  have h9 := fwd_step H 8 (by decide) _ h8
  have h10 := fwd_step H 9 (by decide) _ h9
  have h11 := fwd_step H 10 (by decide) _ h10
  have h12 := fwd_step H 11 (by decide) _ h11
  have h13 := fwd_step H 12 (by decide) _ h12
  have h14 := fwd_step H 13 (by decide) _ h13
  have h15 := fwd_step H 14 (by decide) _ h14
  unfold res_main_v162
  pointwise
  fin_vals n with hk
  all_goals simp only [hk, Nat.reduceSub, Nat.reduceLT, ↓reduceDIte]
  · exact h0 h d e
  · exact h1 h d e
  · exact h2 h d e
  · exact h3 h d e
  · exact h4 h d e
  · exact h5 h d e
  · exact h6 h d e
  · exact h7 h d e
  · exact h8 h d e
  · exact h9 h d e
  · exact h10 h d e
  · exact h11 h d e
  · exact h12 h d e
  · exact h13 h d e
  · exact h14 h d e
  · exact h15 h d e

/-- The sums carried backward, stacked: chunk `n` holds what the chunks after it add. -/
theorem bwd_stack (n : Fin 16) (h : Fin 4) (d e : Fin 128) :
    (res_main_v291 V0 : FVec Ideal S1x16x4x128x128 .f32) (ix5 0 n h d e) = ((bwd A h d e (16 - 1 - n.val) : ℝ) : EReal) := by
  have h0 := zero_apply' H
  have h1 := bwd_step H 0 (by decide) _ h0
  have h2 := bwd_step H 1 (by decide) _ h1
  have h3 := bwd_step H 2 (by decide) _ h2
  have h4 := bwd_step H 3 (by decide) _ h3
  have h5 := bwd_step H 4 (by decide) _ h4
  have h6 := bwd_step H 5 (by decide) _ h5
  have h7 := bwd_step H 6 (by decide) _ h6
  have h8 := bwd_step H 7 (by decide) _ h7
  have h9 := bwd_step H 8 (by decide) _ h8
  have h10 := bwd_step H 9 (by decide) _ h9
  have h11 := bwd_step H 10 (by decide) _ h10
  have h12 := bwd_step H 11 (by decide) _ h11
  have h13 := bwd_step H 12 (by decide) _ h12
  have h14 := bwd_step H 13 (by decide) _ h13
  have h15 := bwd_step H 14 (by decide) _ h14
  unfold res_main_v291
  pointwise
  fin_vals n with hk
  all_goals simp only [hk, Nat.reduceSub, Nat.reduceLT, ↓reduceDIte]
  · exact h15 h d e
  · exact h14 h d e
  · exact h13 h d e
  · exact h12 h d e
  · exact h11 h d e
  · exact h10 h d e
  · exact h9 h d e
  · exact h8 h d e
  · exact h7 h d e
  · exact h6 h d e
  · exact h5 h d e
  · exact h4 h d e
  · exact h3 h d e
  · exact h2 h d e
  · exact h1 h d e
  · exact h0 h d e

/-! ## The results -/

/-- The gradient of `q`, entry by entry. -/
def gradQ (A : Args) (n : Fin 16) (a : Fin 128) (h : Fin 4) (d : Fin 128) : ℝ :=
  ∑ m, ∑ b, (∑ e, A.o n a h e * A.v m b h e) * decay (A.L h) (n.val * 128 + a.val) (m.val * 128 + b.val) * A.k m b h d
/-- The gradient of `k`. -/
def gradK (A : Args) (n : Fin 16) (b : Fin 128) (h : Fin 4) (d : Fin 128) : ℝ :=
  ∑ m, ∑ a, (∑ e, A.v n b h e * A.o m a h e) * decay (A.L h) (m.val * 128 + a.val) (n.val * 128 + b.val) * A.q m a h d
/-- The gradient of `v`. -/
def gradV (A : Args) (n : Fin 16) (b : Fin 128) (h : Fin 4) (e : Fin 128) : ℝ :=
  ∑ m, ∑ a, (∑ d, A.k n b h d * A.q m a h d) * decay (A.L h) (m.val * 128 + a.val) (n.val * 128 + b.val) * A.o m a h e

theorem gradQ_apply (n : Fin 16) (a : Fin 128) (h : Fin 4) (d : Fin 128) :
    preQ V0 (ix5 0 n a h d) = ((gradQ A n a h d : ℝ) : EReal) := by
  unfold preQ
  pointwise
  simp only [ox_apply H, fwd_stack H, dscores_apply H, H.k, ← EReal.coe_mul, ← coe_sum, ← EReal.coe_add]
  rw [gradQ, ← forward_sum (A.L h) n a (fun e => A.o n a h e) (fun m b e => A.v m b h e) (fun m b => A.k m b h d)]
  rfl

theorem gradK_apply (n : Fin 16) (b : Fin 128) (h : Fin 4) (d : Fin 128) :
    preK V0 (ix5 0 n b h d) = ((gradK A n b h d : ℝ) : EReal) := by
  unfold preK
  pointwise
  simp only [zeta_apply H, bwd_stack H, dscores_apply H, H.v, H.q, ← EReal.coe_mul, ← coe_sum, ← EReal.coe_add]
  rw [gradK, ← backward_sum (A.L h) n b (fun e => A.v n b h e) (fun m a e => A.o m a h e) (fun m a => A.q m a h d)]
  have hb : ∀ e, bwd A h d e (16 - 1 - n.val) = carry (Real.exp (((128 : ℕ) : ℝ) * A.L h))
      (ext fun m : Fin 16 => ∑ a, A.q m.rev a h d * Real.exp ((a.val + 1) * A.L h) * A.o m.rev a h e) (16 - 1 - n.val) := by
    intro e
    unfold bwd
    congr 2
    funext m
    exact Finset.sum_congr rfl fun a _ => by ring
  simp only [hb, Finset.sum_mul]
  congr 2
  · exact Finset.sum_congr rfl fun e _ => by ring
  · refine Finset.sum_congr rfl fun a _ => Finset.sum_congr rfl fun e _ => by ring

theorem gradV_apply (n : Fin 16) (b : Fin 128) (h : Fin 4) (e : Fin 128) :
    preV V0 (ix5 0 n b h e) = ((gradV A n b h e : ℝ) : EReal) := by
  unfold preV
  pointwise [res_main_v298]
  simp only [kz_apply H, bwd_stack H, scores_apply H, H.o, ← EReal.coe_mul, ← coe_sum, ← EReal.coe_add]
  rw [gradV, ← backward_sum (A.L h) n b (fun d => A.k n b h d) (fun m a d => A.q m a h d) (fun m a => A.o m a h e)]
  simp only [bwd, Finset.sum_mul, Finset.mul_sum]
  congr 2
  · exact Finset.sum_congr rfl fun d _ => by ring
  · refine Finset.sum_congr rfl fun a _ => Finset.sum_congr rfl fun d _ => by ring

end Cert.Retention.Ref

end
-- ==== Proof.LogDecay.lean ====
/-
  The logarithm of a head's decay, `log (1 - 2^(-5-h))`, is a number.
-/
module

public import Idealize.ShloMosaic.Lib.Pointwise
public import Idealize.ShloMosaic.PureOps.Ideal
public import Mathlib.Analysis.SpecialFunctions.Pow.Real

@[expose] public section

noncomputable section

namespace Cert.Retention

open Idealize.ShloMosaic

/-- The logarithm of head `h`'s decay. -/
def logDecay (h : Fin 4) : ℝ := Real.log (1 - (2 : ℝ) ^ (-5 - (h.val : ℝ)))

theorem word_2 : Ideal.ofBits .f32 0x40000000#32 = ((2 : ℝ) : EReal) := by
  simp [Ideal.ofBits, Ideal.ieee]; norm_cast; norm_num
theorem word_neg5 : Ideal.ofBits .f32 0xC0A00000#32 = ((-5 : ℝ) : EReal) := by
  simp [Ideal.ofBits, Ideal.ieee]; norm_cast; norm_num

theorem log_tower (h : Fin 4) :
    Ideal.log ((1 : EReal) - Ideal.pow (Ideal.ofBits .f32 0x40000000#32) (Ideal.ofBits .f32 0xC0A00000#32 - (FloatOps.sitofp .f32 (BitVec.ofNat 32 h.val) : Ideal .f32)))
      = ((logDecay h : ℝ) : EReal) := by
  have hs : (FloatOps.sitofp .f32 (BitVec.ofNat 32 h.val) : Ideal .f32) = ((h.val : ℝ) : EReal) := by
    show (((BitVec.ofNat 32 h.val).toInt : ℝ) : EReal) = _
    fin_cases h <;> simp
  have hp : (2 : ℝ) ^ (-5 - (h.val : ℝ)) < 1 := Real.rpow_lt_one_of_one_lt_of_neg (by norm_num) (by
    have : (0 : ℝ) ≤ h.val := Nat.cast_nonneg _
    linarith)
  rw [hs, word_2, word_neg5, ← EReal.coe_sub, Ideal.pow_coe_coe, ← EReal.coe_one, ← EReal.coe_sub, Ideal.log_coe]
  exact if_neg (not_le.2 (sub_pos.2 hp))

end Cert.Retention

end
-- ==== Proof.RefArgs.lean ====
/-
  The reference's arrays hold real numbers when its arguments do.
-/
module

public import proofs.«01_k».proof.Proof.RefValue
public import proofs.«01_k».proof.Proof.LogDecay

@[expose] public section

set_option maxRecDepth 16384

noncomputable section

namespace Cert.Retention.Ref

open Cert.ReferenceIdeal Cert.ReferenceIdeal.Gen Cert.ReferenceIdeal.Value Idealize.ShloMosaic Idealize.ShloMosaic.StableHlo

/-- Row `a` of chunk `n`, and column `d` of head `h`. -/
def rowR (n : Fin 16) (a : Fin 128) : Fin 2048 := ⟨n.val * 128 + a.val, by omega⟩
def colR (h : Fin 4) (d : Fin 128) : Fin 512 := ⟨h.val * 128 + d.val, by omega⟩

/-- Four arrays of numbers, by chunk, row, head and column. -/
def argsOf (q k v o : Fin 2048 → Fin 512 → ℝ) : Args where
  L := logDecay
  q n a h d := q (rowR n a) (colR h d)
  k n a h d := k (rowR n a) (colR h d)
  v n a h d := v (rowR n a) (colR h d)
  o n a h d := o (rowR n a) (colR h d)

variable (V0 : Valuation τ sig (Elt Ideal)) (q k v o : Fin 2048 → Fin 512 → ℝ)

theorem holds (hq : ∀ r x, (V0 (Proc.devRef .tc main_arg0) : FVec Ideal S2048x512 .f32) (ix2 r x) = ((q r x : ℝ) : EReal))
    (hk : ∀ r x, (V0 (Proc.devRef .tc main_arg1) : FVec Ideal S2048x512 .f32) (ix2 r x) = ((k r x : ℝ) : EReal))
    (hv : ∀ r x, (V0 (Proc.devRef .tc main_arg2) : FVec Ideal S2048x3584 .f32) (ix2 r (⟨2560 + x.val, by omega⟩ : Fin 3584)) = ((v r x : ℝ) : EReal))
    (ho : ∀ r x, (V0 (Proc.devRef .tc main_arg3) : FVec Ideal S2048x512 .f32) (ix2 r x) = ((o r x : ℝ) : EReal)) :
    Holds V0 (argsOf q k v o) where
  L h := by
    unfold res_main_v14
    pointwise
    exact log_tower h
  q n a h d := by
    unfold res_main_v15
    pointwise
    exact hq _ _
  k n a h d := by
    unfold res_main_v16
    pointwise
    exact hk _ _
  v n a h d := by
    unfold res_main_v17
    pointwise
    exact hv (rowR n a) (colR h d)
  o n a h d := by
    unfold res_main_v180
    pointwise
    exact ho _ _

/-- The last reshape read at a row and a column. -/
theorem cast_apply (X : FVec Ideal S1x16x128x4x128 .f32) (hs : S1x16x128x4x128.ShapeCasts S2048x512) (n : Fin 16) (a : Fin 128) (h : Fin 4) (d : Fin 128) :
   shapeCast S2048x512 X hs (ix2 (rowR n a) (colR h d)) = X (ix5 0 n a h d) := by
  have ha := a.isLt
  have hd := d.isLt
  have e1 : (n.val * 128 + a.val) / 128 = n.val := by omega
  have e2 : (n.val * 128 + a.val) % 128 = a.val := by omega
  have e3 : (h.val * 128 + d.val) / 128 = h.val := by omega
  have e4 : (h.val * 128 + d.val) % 128 = d.val := by omega
  pointwise
  simp only [rowR, colR, e1, e2, e3, e4]

end Cert.Retention.Ref

end
-- ==== Proof.HeadValue.lean ====
/-
  The gradients of one head over the extended reals. Row `r = 512 i + a` of the head is row `a` of block `i`.
-/
module

public import proofs.«01_k».proof.Proof.Math
public import proofs.«01_k».proof.Proof.Step
public import Idealize.ShloMosaic.Lib.Pointwise
public import Idealize.ShloMosaic.Lib.Pipeline.ValueKit.Geometry

@[expose] public section

set_option maxRecDepth 16384

noncomputable section

namespace Cert.Retention.Head

open Cert.KernelIdeal Cert.KernelIdeal.Gen
open Idealize.ShloMosaic

/-- The words the kernel compares positions by. -/
theorem word_eq (a b : Fin 512) (i j : ℕ) (hi : i < 4) (hj : j < 4) :
    (IntOp.addi (IntOp.subi (BitVec.ofNat 32 a.val) (BitVec.ofNat 32 b.val))
      (Scalar.muli (Scalar.subi (Scf.iv 0#32 1#32 i) (Scf.iv 0#32 1#32 j)) 512#32)).toInt
      = (512 * i + a.val : ℤ) - (512 * j + b.val) := by
  have ha := a.isLt
  have hb := b.isLt
  have e : (IntOp.addi (IntOp.subi (BitVec.ofNat 32 a.val) (BitVec.ofNat 32 b.val))
      (Scalar.muli (Scalar.subi (Scf.iv 0#32 1#32 i) (Scf.iv 0#32 1#32 j)) 512#32))
      = BitVec.ofInt 32 ((512 * i + a.val : ℤ) - (512 * j + b.val)) := by
    show BitVec.ofNat 32 a.val - BitVec.ofNat 32 b.val + (Scf.iv 0#32 1#32 i - Scf.iv 0#32 1#32 j) * 512#32 = _
    apply BitVec.eq_of_toNat_eq
    unfold Scf.iv
    simp only [BitVec.toNat_add, BitVec.toNat_sub, BitVec.toNat_mul, BitVec.toNat_ofNat, BitVec.toNat_ofInt, Nat.reducePow]
    omega
  rw [e, BitVec.toInt_ofInt, Int.bmod_eq_of_le] <;> omega

theorem mask_apply (lg : FVec Ideal S1x1 .f32) (L : ℝ) (hL : lg (ix2 0 0) = ((L : ℝ) : EReal)) (i : Fin k0_t1_loop.trips)
    (j : Fin (k0_t2_loop i).trips) (hj : j.val < 4) (a b : Fin 512) :
    (k0_pay10 lg i (Scf.iv 0#32 1#32 i) 0#32 1#32 j : FVec Ideal S512x512 .f32) (ix2 a b)
      = ((decay L (512 * i.val + a.val) (512 * j.val + b.val) : ℝ) : EReal) := by
  have hi : i.val < 4 := lt_of_lt_of_eq i.isLt trips1
  have hw : (FloatOps.sitofp .f32 (IntOp.addi (IntOp.subi (BitVec.ofNat 32 a.val) (BitVec.ofNat 32 b.val))
      (Scalar.muli (Scalar.subi (Scf.iv 0#32 1#32 i) (Scf.iv 0#32 1#32 j)) 512#32)) : Ideal .f32)
      = ((((512 * i.val + a.val : ℕ) : ℝ) - ((512 * j.val + b.val : ℕ) : ℝ) : ℝ) : EReal) := by
    refine (congrArg (fun z : ℤ => ((z : ℝ) : EReal)) (word_eq a b i j hi hj)).trans ?_
    push_cast
    rfl
  unfold k0_pay10
  pointwise
  rw [hw, hL]
  unfold decay
  by_cases hab : 512 * j.val + b.val ≤ 512 * i.val + a.val
  · have h0 : (0 : ℝ) ≤ ((512 * i.val + a.val : ℕ) : ℝ) - ((512 * j.val + b.val : ℕ) : ℝ) := sub_nonneg.2 (Nat.cast_le.2 hab)
    rw [if_pos hab, if_pos (EReal.coe_nonneg.2 h0), max_eq_left (EReal.coe_nonneg.2 h0), ← EReal.coe_mul, Ideal.exp_coe]
  · have h0 : ¬ (0 : ℝ) ≤ ((512 * i.val + a.val : ℕ) : ℝ) - ((512 * j.val + b.val : ℕ) : ℝ) :=
      fun h => hab (Nat.cast_le.1 (sub_nonneg.1 h))
    rw [if_neg hab, if_neg (fun h => h0 (EReal.coe_nonneg.1 h))]
    exact EReal.coe_zero.symm

theorem pay11_apply (lg : FVec Ideal S1x1 .f32) (L : ℝ) (hL : lg (ix2 0 0) = ((L : ℝ) : EReal)) (i : Fin k0_t1_loop.trips)
    (j : Fin (k0_t2_loop i).trips) (hj : j.val < 4) (D V : Vec Ideal S512x128 .f32) (a b : Fin 512) :
    (k0_pay11 lg i (Scf.iv 0#32 1#32 i) (k0_pay5 D) 0#32 1#32 j V : FVec Ideal S512x512 .bf16) (ix2 a b)
      = (∑ e : Fin 128, (D (ix2 a e) : Ideal .f32) * V (ix2 b e)) * ((decay L (512 * i.val + a.val) (512 * j.val + b.val) : ℝ) : EReal) := by
  unfold k0_pay11 k0_pay5
  pointwise
  rw [mask_apply lg L hL i j hj]

theorem pay12_apply (lg : FVec Ideal S1x1 .f32) (L : ℝ) (hL : lg (ix2 0 0) = ((L : ℝ) : EReal)) (i : Fin k0_t1_loop.trips)
    (j : Fin (k0_t2_loop i).trips) (hj : j.val < 4) (Q D K A : Vec Ideal S512x128 .f32) (b : Fin 512) (e : Fin 128) :
    (k0_pay12 lg i (Scf.iv 0#32 1#32 i) (k0_pay4 Q) (k0_pay5 D) 0#32 1#32 j K A : FVec Ideal S512x128 .f32) (ix2 b e)
      = (A (ix2 b e) : Ideal .f32) + ∑ a : Fin 512, (∑ d : Fin 128, (Q (ix2 a d) : Ideal .f32) * K (ix2 b d))
          * ((decay L (512 * i.val + a.val) (512 * j.val + b.val) : ℝ) : EReal) * D (ix2 a e) := by
  unfold k0_pay12 k0_pay5 k0_pay4 k0_pay9
  pointwise
  simp only [mask_apply lg L hL i j hj]

theorem pay13_apply (lg : FVec Ideal S1x1 .f32) (L : ℝ) (hL : lg (ix2 0 0) = ((L : ℝ) : EReal)) (i : Fin k0_t1_loop.trips)
    (j : Fin (k0_t2_loop i).trips) (hj : j.val < 4) (Q D V A : Vec Ideal S512x128 .f32) (b : Fin 512) (d : Fin 128) :
    (k0_pay13 lg i (Scf.iv 0#32 1#32 i) (k0_pay4 Q) (k0_pay5 D) 0#32 1#32 j V A : FVec Ideal S512x128 .f32) (ix2 b d)
      = (A (ix2 b d) : Ideal .f32) + ∑ a : Fin 512, (∑ e : Fin 128, (D (ix2 a e) : Ideal .f32) * V (ix2 b e))
          * ((decay L (512 * i.val + a.val) (512 * j.val + b.val) : ℝ) : EReal) * Q (ix2 a d) := by
  unfold k0_pay13 k0_pay4
  pointwise
  simp only [pay11_apply lg L hL i j hj]

theorem pay7_apply (A K : Vec Ideal S512x128 .f32) (P : FVec Ideal S512x512 .bf16) (a : Fin 512) (d : Fin 128) :
    (k0_pay7 A (k0_pay9 K) P : FVec Ideal S512x128 .f32) (ix2 a d)
      = (A (ix2 a d) : Ideal .f32) + ∑ b : Fin 512, (P (ix2 a b) : Ideal .bf16) * K (ix2 b d) := by
  unfold k0_pay7 k0_pay9
  pointwise

/-! ## Blocks of rows -/

/-- Row `a` of block `i`. -/
def row (i : Fin 4) (a : Fin 512) : Fin 2048 := ⟨512 * i.val + a.val, by have := i.isLt; have := a.isLt; omega⟩

/-- The block an outer trip works on, and the block an inner trip works on. -/
def blkOut (i : Fin k0_t1_loop.trips) : Fin 4 := ⟨i.val, lt_of_lt_of_eq i.isLt trips1⟩

theorem trips2 : ∀ i : Fin k0_t1_loop.trips, (k0_t2_loop i).trips = i.val + 1 := by decide

theorem in_lt (i : Fin k0_t1_loop.trips) (j : Fin (k0_t2_loop i).trips) : j.val < 4 := by
  have h1 := lt_of_lt_of_eq i.isLt trips1
  have h2 := lt_of_lt_of_eq j.isLt (trips2 i)
  omega

def blkIn (i : Fin k0_t1_loop.trips) (j : Fin (k0_t2_loop i).trips) : Fin 4 := ⟨j.val, in_lt i j⟩

theorem off2_eq : ∀ (i : Fin k0_t1_loop.trips) (j : Fin (k0_t2_loop i).trips), k0_off2 i j = ![512 * j.val, 0] := by decide

theorem window_row {off : Fin 2 → ℕ} (X : Vec Ideal S2048x128 .f32) (j : Fin 4) (hoff : off = ![512 * j.val, 0])
    (inb : ∀ a : Fin S2048x128.rank, off a + S512x128.size a ≤ S2048x128.size a) (b : Fin 512) (d : Fin 128) :
    VecWindow.window X off S512x128.size inb (ix2 b d) = X (ix2 (row j b) d) := by
  subst hoff
  refine congrArg X (funext fun a => Fin.ext ?_)
  refine (ValueKit.rect_emb_unit_val _ _ inb _ a).trans ?_
  fin_cases a
  · rfl
  · exact Nat.zero_add _

theorem put_row {off : Fin 2 → ℕ} (X : Vec Ideal S2048x128 .f32) (j : Fin 4) (hoff : off = ![512 * j.val, 0])
    (W : Vec Ideal S512x128 .f32) (j' : Fin 4) (b : Fin 512) (d : Fin 128) :
    VecWindow.put X off S512x128.size W (ix2 (row j' b) d) = if j' = j then W (ix2 b d) else X (ix2 (row j' b) d) := by
  subst hoff
  have hb := b.isLt
  unfold VecWindow.put
  by_cases h : j' = j
  · subst h
    rw [if_pos rfl, dif_pos]
    · refine congrArg W (funext fun a => Fin.ext ?_)
      fin_cases a
      · show 512 * j'.val + b.val - 512 * j'.val = b.val
        omega
      · show d.val - 0 = d.val
        omega
    · intro a
      fin_cases a
      · show 512 * j'.val ≤ 512 * j'.val + b.val ∧ 512 * j'.val + b.val < 512 * j'.val + 512
        omega
      · exact ⟨Nat.zero_le _, lt_of_lt_of_eq d.isLt (Nat.zero_add 128).symm⟩
  · rw [if_neg h, dif_neg]
    intro hall
    have h0 : 512 * j.val ≤ 512 * j'.val + b.val ∧ 512 * j'.val + b.val < 512 * j.val + 512 := hall 0
    exact h (Fin.ext (by omega))

/-! ## What a pair of blocks adds -/

section Values

variable (L : ℝ) (Q K V D : Vec Ideal S2048x128 .f32)

/-- The decay between row `a` of block `i` and row `b` of block `j`. -/
def M (i : Fin 4) (a : Fin 512) (j : Fin 4) (b : Fin 512) : EReal := ((decay L (512 * i.val + a.val) (512 * j.val + b.val) : ℝ) : EReal)

/-- The products of `do` with `v` and of `q` with `k`, each times the decay. -/
def P (i : Fin 4) (a : Fin 512) (j : Fin 4) (b : Fin 512) : EReal :=
  (∑ e : Fin 128, (D (ix2 (row i a) e) : EReal) * V (ix2 (row j b) e)) * M L i a j b
def S (i : Fin 4) (a : Fin 512) (j : Fin 4) (b : Fin 512) : EReal :=
  (∑ d : Fin 128, (Q (ix2 (row i a) d) : EReal) * K (ix2 (row j b) d)) * M L i a j b

def addQ (i j : Fin 4) (a : Fin 512) (d : Fin 128) : EReal := ∑ b : Fin 512, P L V D i a j b * K (ix2 (row j b) d)
def addK (i j : Fin 4) (b : Fin 512) (d : Fin 128) : EReal := ∑ a : Fin 512, P L V D i a j b * Q (ix2 (row i a) d)
def addV (i j : Fin 4) (b : Fin 512) (e : Fin 128) : EReal := ∑ a : Fin 512, S L Q K i a j b * D (ix2 (row i a) e)

/-- A row decays to nothing at the rows after it. -/
theorem M_zero (i : Fin 4) (a : Fin 512) (j : Fin 4) (b : Fin 512) (h : i < j) : M L i a j b = 0 := by
  have h' : i.val < j.val := h
  have ha := a.isLt
  unfold M decay
  rw [if_neg (by omega)]
  rfl

theorem addQ_zero (i j : Fin 4) (a : Fin 512) (d : Fin 128) (h : i < j) : addQ L K V D i j a d = 0 := by
  unfold addQ P; simp only [M_zero L _ _ _ _ h, mul_zero, zero_mul, Finset.sum_const_zero]
theorem addK_zero (i j : Fin 4) (b : Fin 512) (d : Fin 128) (h : i < j) : addK L Q V D i j b d = 0 := by
  unfold addK P; simp only [M_zero L _ _ _ _ h, mul_zero, zero_mul, Finset.sum_const_zero]
theorem addV_zero (i j : Fin 4) (b : Fin 512) (e : Fin 128) (h : i < j) : addV L Q K D i j b e = 0 := by
  unfold addV S; simp only [M_zero L _ _ _ _ h, mul_zero, zero_mul, Finset.sum_const_zero]

theorem sum_lt_succ (f : Fin 4 → EReal) (n : ℕ) (hn : n < 4) :
    (∑ j : Fin 4, if j.val < n + 1 then f j else 0) = (∑ j : Fin 4, if j.val < n then f j else 0) + f ⟨n, hn⟩ := by
  rw [Fin.sum_univ_four, Fin.sum_univ_four]
  interval_cases n <;> simp

variable (lg : FVec Ideal S1x1 .f32) (hL : lg (ix2 0 0) = ((L : ℝ) : EReal)) (i : Fin k0_t1_loop.trips)
include hL

/-- The inner loop after `n` trips. -/
theorem inner_value (s : Inner Ideal) (hs : s.dq = k0_pay6) (n : ℕ) (hn : n ≤ (k0_t2_loop i).trips) :
    let r := innerSt lg i (Scf.iv 0#32 1#32 i) (winOut Q i) (winOut D i) K V s n
    (∀ a d, (r.dq (ix2 a d) : EReal) = ∑ j : Fin 4, if j.val < n then addQ L K V D (blkOut i) j a d else 0)
    ∧ (∀ j b d, (r.dk (ix2 (row j b) d) : EReal) = s.dk (ix2 (row j b) d) + if j.val < n then addK L Q V D (blkOut i) j b d else 0)
    ∧ (∀ j b d, (r.dv (ix2 (row j b) d) : EReal) = s.dv (ix2 (row j b) d) + if j.val < n then addV L Q K D (blkOut i) j b d else 0) := by
  induction n with
  | zero =>
    refine ⟨fun a d => ?_, fun j b d => ?_, fun j b d => ?_⟩
    · rw [innerSt.eq_1, hs]
      unfold k0_pay6
      pointwise
      simp
    · simp [innerSt.eq_1]
    · simp [innerSt.eq_1]
  | succ n ih =>
    obtain ⟨ihq, ihk, ihv⟩ := ih (by omega)
    have hj : n < (k0_t2_loop i).trips := by omega
    have hj4 := in_lt i ⟨n, hj⟩
    have e := innerSt_succ lg i (Scf.iv 0#32 1#32 i) (winOut Q i) (winOut D i) K V s ⟨n, hj⟩
    simp only at e hj4
    have hin : ∀ (X : Vec Ideal S2048x128 .f32) (b : Fin 512) (d : Fin 128), winIn X i ⟨n, hj⟩ (ix2 b d) = X (ix2 (row ⟨n, hj4⟩ b) d) :=
      fun X b d => window_row X ⟨n, hj4⟩ (off2_eq i ⟨n, hj⟩) _ b d
    have hout : ∀ (X : Vec Ideal S2048x128 .f32) (b : Fin 512) (d : Fin 128), winOut X i (ix2 b d) = X (ix2 (row (blkOut i) b) d) :=
      fun X b d => window_row X (blkOut i) (off1_eq i) _ b d
    refine ⟨fun a d => ?_, fun j b d => ?_, fun j b d => ?_⟩
    · rw [e, sum_lt_succ _ n hj4, ← ihq a d]
      unfold innerStep
      simp only
      rw [pay7_apply]
      refine congrArg (_ + ·) (Finset.sum_congr rfl fun b _ => ?_)
      rw [pay11_apply lg L hL i ⟨n, hj⟩ hj4, hin]
      simp only [hin, hout]
      rfl
    · rw [e]
      unfold innerStep
      simp only
      rw [put_row _ ⟨n, hj4⟩ (off2_eq i ⟨n, hj⟩)]
      by_cases h : j = ⟨n, hj4⟩
      · subst h
        rw [if_pos rfl, pay13_apply lg L hL i ⟨n, hj⟩ hj4, hin, ihk, if_neg (lt_irrefl n), if_pos (Nat.lt_succ_self n), add_zero]
        simp only [hin, hout]
        rfl
      · have hne : j.val ≠ n := fun hh => h (Fin.ext hh)
        rw [if_neg h, ihk]
        by_cases hlt : j.val < n
        · rw [if_pos hlt, if_pos (by omega)]
        · rw [if_neg hlt, if_neg (by omega)]
    · rw [e]
      unfold innerStep
      simp only
      rw [put_row _ ⟨n, hj4⟩ (off2_eq i ⟨n, hj⟩)]
      by_cases h : j = ⟨n, hj4⟩
      · subst h
        rw [if_pos rfl, pay12_apply lg L hL i ⟨n, hj⟩ hj4, hin, ihv, if_neg (lt_irrefl n), if_pos (Nat.lt_succ_self n), add_zero]
        simp only [hin, hout]
        rfl
      · have hne : j.val ≠ n := fun hh => h (Fin.ext hh)
        rw [if_neg h, ihv]
        by_cases hlt : j.val < n
        · rw [if_pos hlt, if_pos (by omega)]
        · rw [if_neg hlt, if_neg (by omega)]

/-- The inner loop's result: block `i` against every block. -/
theorem innerOut_value (s : Outer Ideal) :
    let r := innerOut lg Q K V D i s
    (∀ a d, (r.dq (ix2 a d) : EReal) = ∑ j : Fin 4, addQ L K V D (blkOut i) j a d)
    ∧ (∀ j b d, (r.dk (ix2 (row j b) d) : EReal) = s.dk (ix2 (row j b) d) + addK L Q V D (blkOut i) j b d)
    ∧ (∀ j b d, (r.dv (ix2 (row j b) d) : EReal) = s.dv (ix2 (row j b) d) + addV L Q K D (blkOut i) j b d) := by
  obtain ⟨hq, hk, hv⟩ := inner_value L Q K V D lg hL i ⟨k0_pay6, s.dk, s.dv⟩ rfl _ le_rfl
  have hlt : ∀ j : Fin 4, ¬ j.val < (k0_t2_loop i).trips → blkOut i < j := fun j h => by
    rw [trips2] at h
    show i.val < j.val
    omega
  refine ⟨fun a d => (hq a d).trans (Finset.sum_congr rfl fun j _ => ?_), fun j b d => (hk j b d).trans ?_, fun j b d => (hv j b d).trans ?_⟩
  · split
    · rfl
    · next h => exact (addQ_zero L K V D _ _ a d (hlt j h)).symm
  · split
    · rfl
    · next h => rw [addK_zero L Q V D _ _ b d (hlt j h)]
  · split
    · rfl
    · next h => rw [addV_zero L Q K D _ _ b d (hlt j h)]

omit i
/-- The outer loop after `n` trips. -/
theorem outer_value (s : Outer Ideal) (n : ℕ) (hn : n ≤ 4) :
    let r := outerSt lg Q K V D s n
    (∀ i a d, i.val < n → (r.dq (ix2 (row i a) d) : EReal) = ∑ j : Fin 4, addQ L K V D i j a d)
    ∧ (∀ j b d, (r.dk (ix2 (row j b) d) : EReal) = s.dk (ix2 (row j b) d) + ∑ i : Fin 4, if i.val < n then addK L Q V D i j b d else 0)
    ∧ (∀ j b d, (r.dv (ix2 (row j b) d) : EReal) = s.dv (ix2 (row j b) d) + ∑ i : Fin 4, if i.val < n then addV L Q K D i j b d else 0) := by
  induction n with
  | zero =>
    refine ⟨fun i a d h => absurd h (Nat.not_lt_zero _), fun j b d => ?_, fun j b d => ?_⟩
    · simp [outerSt.eq_1]
    · simp [outerSt.eq_1]
  | succ n ih =>
    obtain ⟨ihq, ihk, ihv⟩ := ih (by omega)
    have hi : n < k0_t1_loop.trips := lt_of_lt_of_eq (by omega) trips1.symm
    have e := outerSt_succ lg Q K V D s ⟨n, hi⟩
    simp only at e
    obtain ⟨hq, hk, hv⟩ := innerOut_value L Q K V D lg hL ⟨n, hi⟩ (outerSt lg Q K V D s n)
    refine ⟨fun i a d h => ?_, fun j b d => ?_, fun j b d => ?_⟩
    · rw [e]
      unfold outerStep
      simp only
      rw [put_row _ (blkOut ⟨n, hi⟩) (off1_eq ⟨n, hi⟩)]
      by_cases hin : i = blkOut ⟨n, hi⟩
      · subst hin
        rw [if_pos rfl]
        exact hq a d
      · have hne : i.val ≠ n := fun hh => hin (Fin.ext hh)
        rw [if_neg hin]
        exact ihq i a d (by omega)
    · rw [e]
      refine (hk j b d).trans ?_
      rw [ihk, sum_lt_succ (fun i => addK L Q V D i j b d) n (by omega), add_assoc]
      rfl
    · rw [e]
      refine (hv j b d).trans ?_
      rw [ihv, sum_lt_succ (fun i => addV L Q K D i j b d) n (by omega), add_assoc]
      rfl

end Values

/-- The three gradients of a head. -/
theorem headOut_value (x : Vec Ideal S1x1x128 .f32) (L : ℝ) (hL : (x (ix3 0 0 0) : EReal) = ((L : ℝ) : EReal)) (Q K V D : Vec Ideal S2048x128 .f32) :
    (∀ i a d, ((headOut x Q K V D).dq (ix2 (row i a) d) : EReal) = ∑ j : Fin 4, addQ L K V D i j a d)
    ∧ (∀ j b d, ((headOut x Q K V D).dk (ix2 (row j b) d) : EReal) = ∑ i : Fin 4, addK L Q V D i j b d)
    ∧ (∀ j b d, ((headOut x Q K V D).dv (ix2 (row j b) d) : EReal) = ∑ i : Fin 4, addV L Q K D i j b d) := by
  have hlg : (k0_pay1 x : FVec Ideal S1x1 .f32) (ix2 0 0) = ((L : ℝ) : EReal) := by
    unfold k0_pay1
    pointwise
    exact hL
  have z2 : ∀ r d, (k0_pay2 : FVec Ideal S2048x128 .f32) (ix2 r d) = (0 : EReal) := fun r d => by
    unfold k0_pay2
    pointwise
  have z3 : ∀ r d, (k0_pay3 : FVec Ideal S2048x128 .f32) (ix2 r d) = (0 : EReal) := fun r d => by
    unfold k0_pay3
    pointwise
  obtain ⟨hq, hk, hv⟩ := outer_value L Q K V D (k0_pay1 x) hlg ⟨k0_pay2 (F := Ideal), k0_pay2 (F := Ideal), k0_pay3 (F := Ideal)⟩ 4 le_rfl
  unfold headOut outerOut
  rw [trips1]
  refine ⟨fun i a d => hq i a d i.isLt, fun j b d => (hk j b d).trans ?_, fun j b d => (hv j b d).trans ?_⟩
  · simp only [z2, zero_add]
    exact Finset.sum_congr rfl fun i _ => if_pos i.isLt
  · simp only [z3, zero_add]
    exact Finset.sum_congr rfl fun i _ => if_pos i.isLt

end Cert.Retention.Head

end
-- ==== Proof.KernelValue.lean ====
/-
  The kernel's blocks and its result arrays, entry by entry, over any float values: grid point `t` holds the columns
  `128 t + d` of `q`, `k`, `do` and of the sixth part of `proj`, and its three gradients are the same columns of the results.
-/
module

public import proofs.«01_k».proof.Proof.Run
public import proofs.«01_k».proof.Proof.HeadValue
public import proofs.«01_k».proof.Proof.LogDecay
public import Idealize.ShloMosaic.Lib.Claim
public import Idealize.ShloMosaic.Lib.Pipeline.ValueKit

@[expose] public section

set_option maxRecDepth 16384

noncomputable section

namespace Cert.Retention.Kern

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (c : Dev nD)

/-- The column `d` of head `h`. -/
def col (h : Fin 4) (d : Fin 128) : Fin 512 := ⟨128 * h.val + d.val, by omega⟩

/-- The same column of the sixth part of `proj`. -/
def colV (h : Fin 4) (d : Fin 128) : Fin 3584 := ⟨2560 + (128 * h.val + d.val), by omega⟩

def pt (h : Fin 4) : Fin cfg0.N := ⟨h.val, lt_of_lt_of_eq h.isLt N_0.symm⟩

/-- Row `r` and column `d` of the block at column block `x` are row `r` and column `128 x + d` of the array. -/
theorem place {idx : Fin 2 → ℕ} {h : Fin 4} (hidx : idx = ![0, h.val]) (r : Fin 2048) (d : Fin 128) (a : Fin 2) :
    idx a * S2048x128.size a + (ix2 r d a : ℕ) = (ix2 r (col h d) a : ℕ) := by
  subst hidx
  fin_cases a
  · show 0 * 2048 + r.val = r.val
    omega
  · show h.val * 128 + d.val = 128 * h.val + d.val
    omega

theorem placeV {idx : Fin 2 → ℕ} {h : Fin 4} (hidx : idx = ![0, 20 + h.val]) (r : Fin 2048) (d : Fin 128) (a : Fin 2) :
    idx a * S2048x128.size a + (ix2 r d a : ℕ) = (ix2 r (colV h d) a : ℕ) := by
  subst hidx
  fin_cases a
  · show 0 * 2048 + r.val = r.val
    omega
  · show (20 + h.val) * 128 + d.val = 2560 + (128 * h.val + d.val)
    omega

theorem index0 : ∀ h : Fin 4, (cfg0.win 0).index (pt h) = ![h.val, 0, 0] := by decide
theorem index1 : ∀ h : Fin 4, (cfg0.win 1).index (pt h) = ![0, h.val] := by decide
theorem index2 : ∀ h : Fin 4, (cfg0.win 2).index (pt h) = ![0, h.val] := by decide
theorem index3 : ∀ h : Fin 4, (cfg0.win 3).index (pt h) = ![0, 20 + h.val] := by decide
theorem index4 : ∀ h : Fin 4, (cfg0.win 4).index (pt h) = ![0, h.val] := by decide
theorem index5 : ∀ h : Fin 4, (cfg0.win 5).index (pt h) = ![0, h.val] := by decide
theorem index6 : ∀ h : Fin 4, (cfg0.win 6).index (pt h) = ![0, h.val] := by decide
theorem index7 : ∀ h : Fin 4, (cfg0.win 7).index (pt h) = ![0, h.val] := by decide

theorem blk_q (h : Fin 4) (r : Fin 2048) (d : Fin 128) :
    iblk m c 1 (pt h) (ix2 r d) = m ((c : Thread nD τ).loc main_arg0) (ix2 r (col h d)) := by
  unfold iblk
  show ((cfg0.win 1).blk (pt h)).view.read (Elt F) (V m c main_arg0) (ix2 r d) = _
  rw [V_main_arg0, View.read_apply]
  refine congrArg (m ((c : Thread nD τ).loc main_arg0)) (funext fun a => Fin.ext ?_)
  exact (Window.rect_emb_val (cfg0.win 1) (pt h) (ix2 r d) a).trans (place (index1 h) r d a)

theorem blk_k (h : Fin 4) (r : Fin 2048) (d : Fin 128) :
    iblk m c 2 (pt h) (ix2 r d) = m ((c : Thread nD τ).loc main_arg1) (ix2 r (col h d)) := by
  unfold iblk
  show ((cfg0.win 2).blk (pt h)).view.read (Elt F) (V m c main_arg1) (ix2 r d) = _
  rw [V_main_arg1, View.read_apply]
  refine congrArg (m ((c : Thread nD τ).loc main_arg1)) (funext fun a => Fin.ext ?_)
  exact (Window.rect_emb_val (cfg0.win 2) (pt h) (ix2 r d) a).trans (place (index2 h) r d a)

theorem blk_v (h : Fin 4) (r : Fin 2048) (d : Fin 128) :
    iblk m c 3 (pt h) (ix2 r d) = m ((c : Thread nD τ).loc main_arg2) (ix2 r (colV h d)) := by
  unfold iblk
  show ((cfg0.win 3).blk (pt h)).view.read (Elt F) (V m c main_arg2) (ix2 r d) = _
  rw [V_main_arg2, View.read_apply]
  refine congrArg (m ((c : Thread nD τ).loc main_arg2)) (funext fun a => Fin.ext ?_)
  exact (Window.rect_emb_val (cfg0.win 3) (pt h) (ix2 r d) a).trans (placeV (index3 h) r d a)

theorem blk_o (h : Fin 4) (r : Fin 2048) (d : Fin 128) :
    iblk m c 4 (pt h) (ix2 r d) = m ((c : Thread nD τ).loc main_arg3) (ix2 r (col h d)) := by
  unfold iblk
  show ((cfg0.win 4).blk (pt h)).view.read (Elt F) (V m c main_arg3) (ix2 r d) = _
  rw [V_main_arg3, View.read_apply]
  refine congrArg (m ((c : Thread nD τ).loc main_arg3)) (funext fun a => Fin.ext ?_)
  exact (Window.rect_emb_val (cfg0.win 4) (pt h) (ix2 r d) a).trans (place (index4 h) r d a)

theorem pt_surj (t : Fin cfg0.N) : ∃ h : Fin 4, t = pt h := ⟨⟨t.val, lt_of_lt_of_eq t.isLt N_0⟩, rfl⟩

/-- A head's three gradients. -/
def head (h : Fin 4) : Outer F := headOut (iblk m c 0 (pt h)) (iblk m c 1 (pt h)) (iblk m c 2 (pt h)) (iblk m c 3 (pt h)) (iblk m c 4 (pt h))

/-- The array whose head `h` is `X h`. -/
def whole (X : Fin 4 → Vec F S2048x128 .f32) : Vec F S2048x512 .f32 := fun y =>
  X ⟨(y 1).val / 128, by have : (y 1).val < 512 := (y 1).isLt; omega⟩ (ix2 (y 0) ⟨(y 1).val % 128, Nat.mod_lt _ (by decide)⟩)

theorem whole_apply (X : Fin 4 → Vec F S2048x128 .f32) (h : Fin 4) (r : Fin 2048) (d : Fin 128) : whole X (ix2 r (col h d)) = X h (ix2 r d) := by
  have hd := d.isLt
  have e1 : (⟨(128 * h.val + d.val) / 128, by omega⟩ : Fin 4) = h := Fin.ext (by show (128 * h.val + d.val) / 128 = h.val; omega)
  have e2 : (⟨(128 * h.val + d.val) % 128, Nat.mod_lt _ (by decide)⟩ : Fin 128) = d := Fin.ext (by show (128 * h.val + d.val) % 128 = d.val; omega)
  show X (⟨(128 * h.val + d.val) / 128, _⟩ : Fin 4) (ix2 r (⟨(128 * h.val + d.val) % 128, _⟩ : Fin 128)) = _
  rw [e1, e2]

/-- The array of window 5 after the run. -/
theorem out_dq (h : Fin 4) (r : Fin 2048) (d : Fin 128) :
    ((dat0 m c).arrAt 5 cfg0.N : Vec F S2048x512 .f32) (ix2 r (col h d)) = (head m c h).dq (ix2 r d) := by
  have hemb : ∀ (h : Fin 4) (r : Fin 2048) (d : Fin 128), ((cfg0.win 5).blk (pt h)).view.emb (ix2 r d) = ix2 r (col h d) := fun h r d =>
    funext fun a => Fin.ext ((Window.rect_emb_val (cfg0.win 5) (pt h) (ix2 r d) a).trans (place (index5 h) r d a))
  have hG : ∀ t, (cfg0.win 5).flush t = true → (dat0 m c).flushed 5 t = ((cfg0.win 5).blk t).view.read (Elt F) (whole fun h => (head m c h).dq) := by
    intro t _
    obtain ⟨h, rfl⟩ := pt_surj t
    funext y
    rw [View.read_apply]
    obtain ⟨r, d, rfl⟩ : ∃ (r : Fin 2048) (d : Fin 128), y = ix2 r d := ⟨y 0, y 1, (ix2_eta y).symm⟩
    rw [hemb, whole_apply]
    rfl
  have e := (dat0 m c).arrAt_apply_of_mem 5 _ hG cfg0.N (pt h) (ix2 r (col h d)) (pt h).isLt (flush0_5 (pt h))
    (by rw [← hemb h r d]; exact ((cfg0.win 5).blk (pt h)).view.emb_mem_set _)
  exact e.trans (whole_apply _ h r d)

/-- The array of window 6 after the run. -/
theorem out_dk (h : Fin 4) (r : Fin 2048) (d : Fin 128) :
    ((dat0 m c).arrAt 6 cfg0.N : Vec F S2048x512 .f32) (ix2 r (col h d)) = (head m c h).dk (ix2 r d) := by
  have hemb : ∀ (h : Fin 4) (r : Fin 2048) (d : Fin 128), ((cfg0.win 6).blk (pt h)).view.emb (ix2 r d) = ix2 r (col h d) := fun h r d =>
    funext fun a => Fin.ext ((Window.rect_emb_val (cfg0.win 6) (pt h) (ix2 r d) a).trans (place (index6 h) r d a))
  have hG : ∀ t, (cfg0.win 6).flush t = true → (dat0 m c).flushed 6 t = ((cfg0.win 6).blk t).view.read (Elt F) (whole fun h => (head m c h).dk) := by
    intro t _
    obtain ⟨h, rfl⟩ := pt_surj t
    funext y
    rw [View.read_apply]
    obtain ⟨r, d, rfl⟩ : ∃ (r : Fin 2048) (d : Fin 128), y = ix2 r d := ⟨y 0, y 1, (ix2_eta y).symm⟩
    rw [hemb, whole_apply]
    rfl
  have e := (dat0 m c).arrAt_apply_of_mem 6 _ hG cfg0.N (pt h) (ix2 r (col h d)) (pt h).isLt (flush0_6 (pt h))
    (by rw [← hemb h r d]; exact ((cfg0.win 6).blk (pt h)).view.emb_mem_set _)
  exact e.trans (whole_apply _ h r d)

/-- The array of window 7 after the run. -/
theorem out_dv (h : Fin 4) (r : Fin 2048) (d : Fin 128) :
    ((dat0 m c).arrAt 7 cfg0.N : Vec F S2048x512 .f32) (ix2 r (col h d)) = (head m c h).dv (ix2 r d) := by
  have hemb : ∀ (h : Fin 4) (r : Fin 2048) (d : Fin 128), ((cfg0.win 7).blk (pt h)).view.emb (ix2 r d) = ix2 r (col h d) := fun h r d =>
    funext fun a => Fin.ext ((Window.rect_emb_val (cfg0.win 7) (pt h) (ix2 r d) a).trans (place (index7 h) r d a))
  have hG : ∀ t, (cfg0.win 7).flush t = true → (dat0 m c).flushed 7 t = ((cfg0.win 7).blk t).view.read (Elt F) (whole fun h => (head m c h).dv) := by
    intro t _
    obtain ⟨h, rfl⟩ := pt_surj t
    funext y
    rw [View.read_apply]
    obtain ⟨r, d, rfl⟩ : ∃ (r : Fin 2048) (d : Fin 128), y = ix2 r d := ⟨y 0, y 1, (ix2_eta y).symm⟩
    rw [hemb, whole_apply]
    rfl
  have e := (dat0 m c).arrAt_apply_of_mem 7 _ hG cfg0.N (pt h) (ix2 r (col h d)) (pt h).isLt (flush0_7 (pt h))
    (by rw [← hemb h r d]; exact ((cfg0.win 7).blk (pt h)).view.emb_mem_set _)
  exact e.trans (whole_apply _ h r d)

/-- The block of decays of head `h`: the logarithm of `1 - 2^(-5-h)`. -/
theorem blk_lg (m : (ℓ : Loc nD τ sig) → Buf (Elt Ideal) ℓ) (h : Fin 4) :
    (iblk m c 0 (pt h) : Vec Ideal S1x1x128 .f32) (ix3 0 0 0) = ((logDecay h : ℝ) : EReal) := by
  have e : ((cfg0.win 0).blk (pt h)).view.emb (ix3 0 0 0) = ix3 h 0 0 := by
    refine funext fun a => Fin.ext ((Window.rect_emb_val (cfg0.win 0) (pt h) (ix3 0 0 0) a).trans ?_)
    rw [index0]
    fin_cases h <;> fin_cases a <;> rfl
  refine (congrArg (V m c main_v9) e).trans ?_
  entry_read
  pointwise
  exact log_tower h

end Cert.Retention.Kern

end
-- ==== Proof.Meet.lean ====
/-
  The two sides meet: the kernel's sum over blocks of 512 rows and the reference's over chunks of 128 rows are one sum
  over the 2048 rows of the sequence.
-/
module

public import proofs.«01_k».proof.Proof.RefArgs
public import proofs.«01_k».proof.Proof.KernelValue

@[expose] public section

set_option maxRecDepth 16384

noncomputable section

namespace Cert.Retention

open Idealize.ShloMosaic
open Cert.Retention.Ref (rowR colR argsOf gradQ gradK gradV)
open Cert.Retention.Kern (col)
open Cert.Retention.Head (row addQ addK addV)

variable (q k v o : Fin 2048 → Fin 512 → ℝ)

/-- The gradients over the whole sequence: row `r` sees row `s` through their distance's decay, for `s ≤ r`. -/
def fullQ (r : Fin 2048) (h : Fin 4) (d : Fin 128) : ℝ :=
  ∑ s : Fin 2048, (∑ e, o r (col h e) * v s (col h e)) * decay (logDecay h) r.val s.val * k s (col h d)
def fullK (s : Fin 2048) (h : Fin 4) (d : Fin 128) : ℝ :=
  ∑ r : Fin 2048, (∑ e, v s (col h e) * o r (col h e)) * decay (logDecay h) r.val s.val * q r (col h d)
def fullV (s : Fin 2048) (h : Fin 4) (e : Fin 128) : ℝ :=
  ∑ r : Fin 2048, (∑ d, k s (col h d) * q r (col h d)) * decay (logDecay h) r.val s.val * o r (col h e)

theorem colR_eq (h : Fin 4) (d : Fin 128) : colR h d = col h d := Fin.ext (by show h.val * 128 + d.val = 128 * h.val + d.val; omega)

theorem sum_chunks (f : Fin 2048 → ℝ) : ∑ n : Fin 16, ∑ a : Fin 128, f (rowR n a) = ∑ r, f r := Fin.sum_mul_add_fin 16 128 f

theorem sum_blocks (f : Fin 2048 → ℝ) : ∑ i : Fin 4, ∑ a : Fin 512, f (row i a) = ∑ r, f r := by
  rw [← Fin.sum_mul_add_fin 4 512 f]
  refine Finset.sum_congr rfl fun i _ => Finset.sum_congr rfl fun a _ => congrArg f (Fin.ext ?_)
  show 512 * i.val + a.val = i.val * 512 + a.val
  omega

theorem gradQ_full (n : Fin 16) (a : Fin 128) (h : Fin 4) (d : Fin 128) : gradQ (argsOf q k v o) n a h d = fullQ k v o (rowR n a) h d := by
  unfold gradQ fullQ
  rw [← sum_chunks]
  simp only [← colR_eq]
  rfl
theorem gradK_full (n : Fin 16) (a : Fin 128) (h : Fin 4) (d : Fin 128) : gradK (argsOf q k v o) n a h d = fullK q v o (rowR n a) h d := by
  unfold gradK fullK
  rw [← sum_chunks]
  simp only [← colR_eq]
  rfl
theorem gradV_full (n : Fin 16) (a : Fin 128) (h : Fin 4) (d : Fin 128) : gradV (argsOf q k v o) n a h d = fullV q k o (rowR n a) h d := by
  unfold gradV fullV
  rw [← sum_chunks]
  simp only [← colR_eq]
  rfl

section Kernel

open Cert.KernelIdeal

variable {q k v o} {Q K V D : Vec Ideal S2048x128 .f32} {h : Fin 4}
  (hQ : ∀ r d, Q (ix2 r d) = ((q r (col h d) : ℝ) : EReal)) (hK : ∀ r d, K (ix2 r d) = ((k r (col h d) : ℝ) : EReal))
  (hV : ∀ r d, V (ix2 r d) = ((v r (col h d) : ℝ) : EReal)) (hD : ∀ r d, D (ix2 r d) = ((o r (col h d) : ℝ) : EReal))

include hK hV hD in
theorem addQ_full (i : Fin 4) (a : Fin 512) (d : Fin 128) :
    ∑ j : Fin 4, addQ (logDecay h) K V D i j a d = ((fullQ k v o (row i a) h d : ℝ) : EReal) := by
  unfold addQ Head.P Head.M fullQ
  simp only [hK, hV, hD, ← EReal.coe_mul, ← coe_sum]
  rw [← sum_blocks]
  rfl

include hQ hV hD in
theorem addK_full (j : Fin 4) (b : Fin 512) (d : Fin 128) :
    ∑ i : Fin 4, addK (logDecay h) Q V D i j b d = ((fullK q v o (row j b) h d : ℝ) : EReal) := by
  unfold addK Head.P Head.M fullK
  simp only [hQ, hV, hD, ← EReal.coe_mul, ← coe_sum]
  rw [← sum_blocks]
  simp only [mul_comm (v _ _) (o _ _)]
  rfl

include hQ hK hD in
theorem addV_full (j : Fin 4) (b : Fin 512) (d : Fin 128) :
    ∑ i : Fin 4, addV (logDecay h) Q K D i j b d = ((fullV q k o (row j b) h d : ℝ) : EReal) := by
  unfold addV Head.S Head.M fullV
  simp only [hQ, hK, hD, ← EReal.coe_mul, ← coe_sum]
  rw [← sum_blocks]
  simp only [mul_comm (k _ _) (q _ _)]
  rfl

end Kernel

/-- Every row lies in a block and in a chunk, every column in a head. -/
theorem row_surj (r : Fin 2048) : ∃ i a, r = row i a :=
  ⟨⟨r.val / 512, by omega⟩, ⟨r.val % 512, Nat.mod_lt _ (by decide)⟩, Fin.ext (by show r.val = 512 * (r.val / 512) + r.val % 512; omega)⟩
theorem rowR_surj (r : Fin 2048) : ∃ n a, r = rowR n a :=
  ⟨⟨r.val / 128, by omega⟩, ⟨r.val % 128, Nat.mod_lt _ (by decide)⟩, Fin.ext (by show r.val = r.val / 128 * 128 + r.val % 128; omega)⟩
theorem col_surj (x : Fin 512) : ∃ h d, x = col h d :=
  ⟨⟨x.val / 128, by omega⟩, ⟨x.val % 128, Nat.mod_lt _ (by decide)⟩, Fin.ext (by show x.val = 128 * (x.val / 128) + x.val % 128; omega)⟩

end Cert.Retention

end
-- ==== Proof.Algebraic.lean ====
/-
  The value claim: where `q`, `k`, `v` and the incoming gradient are numbers, the kernel and the reference compute the
  same three gradients over the extended reals.
-/
module

public import proofs.«01_k».proof.Proof.Meet
public import proofs.«01_k».proof.Proof.Frames
public import proofs.«01_k».proof.Pre_finite

@[expose] public section

set_option maxRecDepth 16384

noncomputable section

namespace Cert.Retention

open Idealize.ShloMosaic Idealize.ShloMosaic.TcCoe Idealize.SL.Sem
open Cert.Retention.Ref (rowR colR argsOf)
open Cert.Retention.Kern (col pt colV)
open Cert.Retention.Head (row)

theorem pre_facts : Cert.Pre_finite.Facts where
  bcast_S_S2048x512 := by decide
  slices_S2048x3584_S2048x512_0_2560 := by decide

theorem word_top : Ideal.ofBits .f32 0x7F800000#32 = (⊤ : EReal) := by
  simp [Ideal.ofBits, Ideal.ieee]

/-- An extended real below infinity in absolute value is a number. -/
theorem real_of_abs_lt (x : EReal) (h : max x (-x) < ⊤) : x = ((x.toReal : ℝ) : EReal) := by
  refine (EReal.coe_toReal ?_ ?_).symm
  · rintro rfl; simp at h
  · rintro rfl; simp at h

/-- One bit of a conjunction, and of a decided proposition. -/
theorem andi_one (a b : BitVec 1) : IntOp.andi a b = 1#1 ↔ a = 1#1 ∧ b = 1#1 := by
  revert a b; decide

theorem bit_one (p : Prop) [Decidable p] : BitVec.ofBool (decide p) = 1#1 ↔ p := by
  by_cases h : p <;> simp [h]

section Pre

open Cert.Pre_finite
attribute [local instance] pre_facts

/-- What the precondition says of each entry. -/
theorem pre_apply (q k : FVec Ideal S2048x512 .f32) (p : FVec Ideal S2048x3584 .f32) (o : FVec Ideal S2048x512 .f32)
    (h : Cert.Pre_finite.fn q k p o = fun _ => 1#1) (r : Fin 2048) (x : Fin 512) :
    (q (ix2 r x) : EReal) = (((q (ix2 r x) : EReal).toReal : ℝ) : EReal)
    ∧ (k (ix2 r x) : EReal) = (((k (ix2 r x) : EReal).toReal : ℝ) : EReal)
    ∧ (p (ix2 r (⟨2560 + x.val, by omega⟩ : Fin 3584)) : EReal) = (((p (ix2 r (⟨2560 + x.val, by omega⟩ : Fin 3584)) : EReal).toReal : ℝ) : EReal)
    ∧ (o (ix2 r x) : EReal) = (((o (ix2 r x) : EReal).toReal : ℝ) : EReal) := by
  have e := congrFun h (ix2 r x)
  unfold Cert.Pre_finite.fn at e
  pointwise at e
  rw [word_top, andi_one, andi_one, andi_one, bit_one, bit_one, bit_one, bit_one] at e
  exact ⟨real_of_abs_lt _ e.1.1.1, real_of_abs_lt _ e.1.1.2, real_of_abs_lt _ e.1.2, real_of_abs_lt _ e.2⟩

end Pre

/-- The reference's arguments are the launch's contents. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite (hPre_finite := pre_facts) m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (hs : Cert.ReferenceIdeal.S1x16x128x4x128.ShapeCasts Cert.ReferenceIdeal.S2048x512) :
    (shapeCast Cert.ReferenceIdeal.S2048x512 (Ref.preQ (StableHlo.launchContents m' c)) hs : FVec Ideal Cert.ReferenceIdeal.S2048x512 .f32) = (dat0 m c).arrAt 5 Cert.KernelIdeal.cfg0.N
    ∧ (shapeCast Cert.ReferenceIdeal.S2048x512 (Ref.preK (StableHlo.launchContents m' c)) hs : FVec Ideal Cert.ReferenceIdeal.S2048x512 .f32) = (dat0 m c).arrAt 6 Cert.KernelIdeal.cfg0.N
    ∧ (shapeCast Cert.ReferenceIdeal.S2048x512 (Ref.preV (StableHlo.launchContents m' c)) hs : FVec Ideal Cert.ReferenceIdeal.S2048x512 .f32) = (dat0 m c).arrAt 7 Cert.KernelIdeal.cfg0.N := by
  have hp := pre_apply _ _ _ _ (hpre c)
  let q : Fin 2048 → Fin 512 → ℝ := fun r x => EReal.toReal (m ((c : Thread Cert.KernelIdeal.nD Cert.KernelIdeal.τ).loc Cert.KernelIdeal.main_arg0) (ix2 r x))
  let k : Fin 2048 → Fin 512 → ℝ := fun r x => EReal.toReal (m ((c : Thread Cert.KernelIdeal.nD Cert.KernelIdeal.τ).loc Cert.KernelIdeal.main_arg1) (ix2 r x))
  let v : Fin 2048 → Fin 512 → ℝ := fun r x => EReal.toReal (m ((c : Thread Cert.KernelIdeal.nD Cert.KernelIdeal.τ).loc Cert.KernelIdeal.main_arg2) (ix2 r (⟨2560 + x.val, by omega⟩ : Fin 3584)))
  let o : Fin 2048 → Fin 512 → ℝ := fun r x => EReal.toReal (m ((c : Thread Cert.KernelIdeal.nD Cert.KernelIdeal.τ).loc Cert.KernelIdeal.main_arg3) (ix2 r x))
  have H : Ref.Holds (StableHlo.launchContents m' c) (argsOf q k v o) :=
    Ref.holds _ q k v o (fun r x => (congrFun h0 (ix2 r x)).trans (hp r x).1) (fun r x => (congrFun h1 (ix2 r x)).trans (hp r x).2.1)
      (fun r x => (congrFun h2 (ix2 r _)).trans (hp r x).2.2.1) (fun r x => (congrFun h3 (ix2 r x)).trans (hp r x).2.2.2)
  have hQ : ∀ h r d, (Cert.KernelIdeal.Gen.iblk m c 1 (pt h) : Vec Ideal Cert.KernelIdeal.S2048x128 .f32) (ix2 r d) = ((q r (col h d) : ℝ) : EReal) :=
    fun h r d => (Kern.blk_q m c h r d).trans (hp r (col h d)).1
  have hK : ∀ h r d, (Cert.KernelIdeal.Gen.iblk m c 2 (pt h) : Vec Ideal Cert.KernelIdeal.S2048x128 .f32) (ix2 r d) = ((k r (col h d) : ℝ) : EReal) :=
    fun h r d => (Kern.blk_k m c h r d).trans (hp r (col h d)).2.1
  have hV : ∀ h r d, (Cert.KernelIdeal.Gen.iblk m c 3 (pt h) : Vec Ideal Cert.KernelIdeal.S2048x128 .f32) (ix2 r d) = ((v r (col h d) : ℝ) : EReal) :=
    fun h r d => (Kern.blk_v m c h r d).trans (hp r (col h d)).2.2.1
  have hD : ∀ h r d, (Cert.KernelIdeal.Gen.iblk m c 4 (pt h) : Vec Ideal Cert.KernelIdeal.S2048x128 .f32) (ix2 r d) = ((o r (col h d) : ℝ) : EReal) :=
    fun h r d => (Kern.blk_o m c h r d).trans (hp r (col h d)).2.2.2
  have hv := fun h => Head.headOut_value _ (logDecay h) (Kern.blk_lg c m h) (Cert.KernelIdeal.Gen.iblk m c 1 (pt h)) (Cert.KernelIdeal.Gen.iblk m c 2 (pt h))
    (Cert.KernelIdeal.Gen.iblk m c 3 (pt h)) (Cert.KernelIdeal.Gen.iblk m c 4 (pt h))
  refine ⟨funext fun y => ?_, funext fun y => ?_, funext fun y => ?_⟩
  all_goals
    obtain ⟨r, x, rfl⟩ : ∃ (r : Fin 2048) (x : Fin 512), y = ix2 r x := ⟨y 0, y 1, (ix2_eta y).symm⟩
    obtain ⟨h, d, rfl⟩ := col_surj x
    obtain ⟨n, a', e⟩ := rowR_surj r
    obtain ⟨i, a, rfl⟩ := row_surj r
  · refine Eq.trans ?_ ((Kern.out_dq m c h (row i a) d).trans (((hv h).1 i a d).trans (addQ_full (hK h) (hV h) (hD h) i a d))).symm
    rw [e, ← colR_eq, Ref.cast_apply, Ref.gradQ_apply H, gradQ_full]
  · refine Eq.trans ?_ ((Kern.out_dk m c h (row i a) d).trans (((hv h).2.1 i a d).trans (addK_full (hQ h) (hV h) (hD h) i a d))).symm
    rw [e, ← colR_eq, Ref.cast_apply, Ref.gradK_apply H, gradK_full]
  · refine Eq.trans ?_ ((Kern.out_dv m c h (row i a) d).trans (((hv h).2.2 i a d).trans (addV_full (hQ h) (hK h) (hD h) i a d))).symm
    rw [e, ← colR_eq, Ref.cast_apply, Ref.gradV_apply H, gradV_full]

/-- The kernel and the reference compute the same gradients. -/
theorem algebraic : Cert.algebraic_KernelIdeal_ReferenceIdeal_pre_finite (hPre_finite := pre_facts) := by
  intro m g m' g' hpre hargs
  refine ⟨fun c => (dat0 m c).arrAt 5 Cert.KernelIdeal.cfg0.N, fun c => (dat0 m c).arrAt 6 Cert.KernelIdeal.cfg0.N,
    fun c => (dat0 m c).arrAt 7 Cert.KernelIdeal.cfg0.N, ?_, ?_⟩
  · refine (θ_run Cert.KernelIdeal.defs _ _).mono (fun r h c => ?_) (θ_run_and (run_main m g) (quiescent_run m g))
    exact ⟨(h.1 c).1 5, (h.1 c).1 6, (h.1 c).1 7, h.2.1 c⟩
  · refine (θ_run Cert.ReferenceIdeal.defs _ _).mono (fun r h c => ?_) (Cert.ReferenceIdeal.Value.run (F := Ideal) m' g')
    obtain ⟨e0, e1, e2, hrest⟩ := h c
    obtain ⟨h0, h1, h2, h3⟩ := hargs c
    obtain ⟨r0, r1, r2⟩ := results m m' hpre c h0 h1 h2 h3 Cert.ReferenceIdeal.Gen.shapeCasts_S1x16x128x4x128_S2048x512
    exact ⟨e0.trans r0, e1.trans r1, e2.trans r2, hrest⟩

end Cert.Retention

end
-- ==== Proof.Mul.lean ====
/-
  The three forms of a matrix product over the extended reals, entry by entry.
-/
module

public import Idealize.ShloMosaic.Lib.Pointwise
public import Idealize.ShloMosaic.Lib.Pipeline.ValueKit

@[expose] public section

noncomputable section

namespace Cert.Mul

open Idealize.ShloMosaic

/-- A matrix of extended reals. -/
abbrev Mat (p q : ℕ) : Type := (⟨2, ![p, q]⟩ : Shape).Idx → EReal

variable {p q s : ℕ}

/-- `x wᵀ`. -/
def nt (x : Mat p s) (w : Mat q s) : Mat p q := fun y => ∑ k : Fin s, x (ix2 (y 0 : Fin p) k) * w (ix2 (y 1 : Fin q) k)

/-- `x w`. -/
def nn (x : Mat p s) (w : Mat s q) : Mat p q := fun y => ∑ k : Fin s, x (ix2 (y 0 : Fin p) k) * w (ix2 k (y 1 : Fin q))

/-- `xᵀ w`. -/
def tn (x : Mat s p) (w : Mat s q) : Mat p q := fun y => ∑ k : Fin s, x (ix2 k (y 0 : Fin p)) * w (ix2 k (y 1 : Fin q))

/-- `z + u`, entry by entry. -/
def add (z u : Mat p q) : Mat p q := fun y => z y + u y

/-- An index into an array from the index into its block: `i` counts blocks along each axis, `b` is the block's extent. -/
theorem ix2_of_val {P Q : ℕ} {y : (⟨2, ![P, Q]⟩ : Shape).Idx} {i b : Fin 2 → ℕ} {r : Fin p} {n : Fin q} {R : Fin P} {N : Fin Q}
    (h : ∀ a, (y a).val = i a * b a + ((ix2 r n : (⟨2, ![p, q]⟩ : Shape).Idx) a).val) (hR : i 0 * b 0 + r.val = R.val)
    (hN : i 1 * b 1 + n.val = N.val) : y = ix2 R N :=
  funext fun a => Fin.ext <| (h a).trans <| match a with
    | 0 => hR
    | 1 => hN

/-- Entry `r` of block `t`, along an axis of `a` blocks of `b` entries. -/
def blocked {n a : ℕ} (b : ℕ) (h : n = a * b) (t : Fin a) (r : Fin b) : Fin n :=
  ⟨t.val * b + r.val, by
    have h1 : t.val * b + b ≤ a * b := by rw [← Nat.succ_mul]; exact Nat.mul_le_mul_right _ t.isLt
    have h2 := r.isLt
    omega⟩

/-- Every entry of the axis is in a block. -/
theorem blocked_surj {n a : ℕ} (b : ℕ) (h : n = a * b) (hb : 0 < b) (r : Fin n) : ∃ t i, r = blocked b h t i :=
  ⟨⟨r.val / b, Nat.div_lt_of_lt_mul (by rw [Nat.mul_comm, ← h]; exact r.isLt)⟩, ⟨r.val % b, Nat.mod_lt _ hb⟩,
    Fin.ext ((Nat.mul_comm _ _).symm ▸ (Nat.div_add_mod r.val b).symm)⟩

theorem hz : (![0, 0] : Fin 2 → Nat) = fun _ => 0 := funext fun a => by fin_cases a <;> rfl

end Cert.Mul

end
-- ==== Proof.DownDx.lean ====
/-
  The feed-forward's last product, backward: the gradient of its left factor.
-/
module

public import proofs.«01_k».proof.Defs
public import proofs.«01_k».proof.Proof.Gen.DownDxIdeal.Value
public import proofs.«01_k».proof.Proof.Gen.DownDxRefIdeal.Run
public import proofs.«01_k».proof.Proof.Gen.DownDx
public import proofs.«01_k».proof.Proof.Mul
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.DownDxIdeal.Mm

open Cert.DownDxIdeal Cert.DownDxIdeal.Gen Cert.DownDxIdeal.Value
open Idealize.ShloMosaic Idealize.ShloMosaic.TcCoe Idealize.SL.Sem
open Idealize.ShloMosaic.Pipeline (Dat Window)

variable (m : (ℓ : Loc nD τ sig) → Buf (Elt Ideal) ℓ) (c : Dev nD)

/-- What a point copies out: zero plus the product of its two blocks. -/
theorem flushed_eq (t : Fin cfg0.N) : (dats m 0 c).flushed 2 t = (k0_pay2 (F := Ideal) (k0_pay1 (F := Ideal)) (iblk m c 0 t) (iblk m c 1 t)) := by
  rw [flushed2_A]
  unfold out0_A_2
  rw [View.read_writes_eq_canon _ _ _ (cover0_A_2 _ _ _ _ _ _ _ _ _ _ _ _ _ _)]
  unfold kernelRun0_A
  dsimp only
  sl_unfold_words
  simp only [View.canon_cons_unit_zero (S := S256x2816) Mul.hz, View.canon_unit_zero (S := S256x2816) Mul.hz,
    View.readCov_unit_zero (S := S256x2816) _ Mul.hz, View.readCov_cons_toLoadRect, View.readAt_eq_ld, (hs0_0 t).read_unread, (hs0_1 t).read_unread,
    View.ld_unit_zero (S := S256x1024) Mul.hz, View.ld_unit_zero (S := S2816x1024) Mul.hz]
  rfl

/-- Row `r` of the block of point `t`. -/
def row (t : Fin 8) (r : Fin 256) : Fin 2048 := Mul.blocked 256 rfl t r

def pt (t : Fin 8) : Fin cfg0.N := ⟨t.val, lt_of_lt_of_eq t.isLt N_0.symm⟩

theorem index0 : ∀ t : Fin 8, (cfg0.win 0).index (pt t) = ![t.val, 0] := by decide
theorem index1 : ∀ t : Fin 8, (cfg0.win 1).index (pt t) = ![0, 0] := by decide
theorem index2 : ∀ t : Fin 8, (cfg0.win 2).index (pt t) = ![t.val, 0] := by decide

theorem emb0 (t : Fin 8) (r : Fin 256) (k : Fin 1024) : ((cfg0.win 0).blk (pt t)).view.emb (ix2 r k) = ix2 (row t r) k :=
  Mul.ix2_of_val (Window.rect_emb_val (cfg0.win 0) (pt t) (ix2 r k)) (by rw [index0]; rfl) (by rw [index0]; exact Nat.zero_add _)
theorem emb1 (t : Fin 8) (n : Fin 2816) (k : Fin 1024) : ((cfg0.win 1).blk (pt t)).view.emb (ix2 n k) = ix2 n k :=
  Mul.ix2_of_val (Window.rect_emb_val (cfg0.win 1) (pt t) (ix2 n k)) (by rw [index1]; exact Nat.zero_add _) (by rw [index1]; exact Nat.zero_add _)
theorem emb2 (t : Fin 8) (r : Fin 256) (n : Fin 2816) : ((cfg0.win 2).blk (pt t)).view.emb (ix2 r n) = ix2 (row t r) n :=
  Mul.ix2_of_val (Window.rect_emb_val (cfg0.win 2) (pt t) (ix2 r n)) (by rw [index2]; rfl) (by rw [index2]; exact Nat.zero_add _)

theorem blk0 (t : Fin 8) (r : Fin 256) (k : Fin 1024) :
    (iblk m c 0 (pt t) : Vec Ideal S256x1024 .f32) (ix2 r k) = m ((c : Thread nD τ).loc main_arg2) (ix2 (row t r) k) := by
  refine (congrArg (V m c main_arg2) (emb0 t r k)).trans ?_
  rw [V_main_arg2]

theorem blk1 (t : Fin 8) (n : Fin 2816) (k : Fin 1024) :
    (iblk m c 1 (pt t) : Vec Ideal S2816x1024 .bf16) (ix2 n k) = m ((c : Thread nD τ).loc main_arg1) (ix2 n k) := by
  refine (congrArg (V m c main_v0) (emb1 t n k)).trans ?_
  entry_read
  pointwise

/-- The product, entry by entry. -/
def result : Vec Ideal S2048x2816 .f32 := Mul.nt (m ((c : Thread nD τ).loc main_arg2)) (m ((c : Thread nD τ).loc main_arg1))

theorem final : (dats m 0 c).arrAt 2 cfg0.N = result m c := by
  refine (dats m 0 c).arrAt_eq_of_cover 2 (result m c) (fun t hf => ?_) fun i => ?_
  · obtain ⟨t, rfl⟩ : ∃ s : Fin 8, t = pt s := ⟨⟨t.val, lt_of_lt_of_eq t.isLt N_0⟩, rfl⟩
    funext y
    obtain ⟨r, n, rfl⟩ : ∃ (r : Fin 256) (n : Fin 2816), y = ix2 r n := ⟨y 0, y 1, (ix2_eta y).symm⟩
    rw [flushed_eq, View.read_apply, emb2]
    show (k0_pay2 (F := Ideal) (k0_pay1 (F := Ideal)) (iblk m c 0 (pt t)) (iblk m c 1 (pt t)) : Vec Ideal S256x2816 .f32) (ix2 r n) = _
    unfold k0_pay2 k0_pay1 result Mul.nt
    pointwise
    exact Finset.sum_congr rfl fun k _ => congrArg₂ (· * ·) (blk0 m c t r k) (blk1 m c t n k)
  · obtain ⟨r, n, rfl⟩ : ∃ (r : Fin 2048) (n : Fin 2816), i = ix2 r n := ⟨i 0, i 1, (ix2_eta i).symm⟩
    obtain ⟨t, r, rfl⟩ := Mul.blocked_surj (n := 2048) (a := 8) 256 rfl (by decide) r
    exact ⟨pt t, flush0_2 _, by rw [show Mul.blocked 256 rfl t r = row t r from rfl, ← emb2]; exact View.emb_mem_set _ _⟩

theorem frame_ideal : Cert.quiescent_DownDxIdeal := fun m ρ _ => Cert.DownDxIdeal.Gen.frame m ρ

theorem defs₀_eq : Cert.DownDx.defs₀ (F := Bits) = Cert.DownDxIdeal.defs₀ (F := Bits) := by
  unfold Cert.DownDx.defs₀ Cert.DownDxIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_DownDx := fun m ρ _ => by
  rw [show Cert.DownDx.defs (F := Bits) = Cert.DownDxIdeal.defs (F := Bits) from congrArg (Pipeline.defs _) defs₀_eq]
  exact (θ_run Cert.DownDxIdeal.defs _ _).mono (fun _ h => h) (Cert.DownDxIdeal.Gen.frame (F := Bits) m ρ)

theorem frame_ref : Cert.quiescent_DownDxRefIdeal := fun m ρ _ =>
  (θ_run Cert.DownDxRefIdeal.defs _ _).mono (fun r h => ⟨fun c => (h c).2, Idealize.ShloMosaic.sem_eq_zero_of_no_sems (by decide) r.2⟩)
    (Cert.DownDxRefIdeal.Value.run (F := Ideal) m ρ)

/-- The call computes the gradient of the product's left factor. -/
theorem algebraic : Cert.algebraic_DownDxIdeal_DownDxRefIdeal := by
  intro m g m' g' _ hargs
  refine ⟨fun c => result m c, ?_, ?_⟩
  · exact (θ_run Cert.DownDxIdeal.defs _ _).mono (fun r h c => ⟨(h c).1.trans (final m c), (h c).2⟩) (run_blocks m g)
  · refine (θ_run Cert.DownDxRefIdeal.defs _ _).mono (fun r h c => ⟨(h c).1.trans ?_, (h c).2⟩) (Cert.DownDxRefIdeal.Value.run (F := Ideal) m' g')
    obtain ⟨-, h1, h2⟩ := hargs c
    rw [h1, h2]
    funext y
    obtain ⟨r, n, rfl⟩ : ∃ (r : Fin 2048) (n : Fin 2816), y = ix2 r n := ⟨y 0, y 1, (ix2_eta y).symm⟩
    unfold result Mul.nt
    pointwise

end Cert.DownDxIdeal.Mm

end
-- ==== Proof.DownDw.lean ====
/-
  The feed-forward's last product, backward: the gradient of its weight.
-/
module

public import proofs.«01_k».proof.Defs
public import proofs.«01_k».proof.Proof.Gen.DownDwIdeal.Value
public import proofs.«01_k».proof.Proof.Gen.DownDwRefIdeal.Run
public import proofs.«01_k».proof.Proof.Gen.DownDw
public import proofs.«01_k».proof.Proof.Mul
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.DownDwIdeal.Mm

open Cert.DownDwIdeal Cert.DownDwIdeal.Gen Cert.DownDwIdeal.Value
open Idealize.ShloMosaic Idealize.ShloMosaic.TcCoe Idealize.SL.Sem
open Idealize.ShloMosaic.Pipeline (Dat Window)

section Cases

variable {F : FTy → Type} [FloatOps F] (c : Dev nD) (i : grid0.Coords) (a3 : Memref sig .tc .vmem S256x2816 .bf16) (h3 : a3.IsWhole)
  (a4 : Memref sig .tc .vmem S256x1024 .f32) (h4 : a4.IsWhole) (a5 : Memref sig .tc .vmem S2816x1024 .bf16) (h5 : a5.IsWhole)
  (a6 : Memref sig .tc .vmem S2816x1024 .f32) (h6 : a6.IsWhole) (x : Vec F S256x2816 .bf16) (y : Vec F S256x1024 .f32)
  (acc : Vec F S2816x1024 .f32)

/-- The first point leaves zero plus the product of its blocks in the accumulator. -/
theorem sout_A (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  simp only [View.canon_cons_unit_zero (S := S2816x1024) Mul.hz, View.canon_unit_zero (S := S2816x1024) Mul.hz,
    View.readCov_unit_zero (S := S2816x1024) _ Mul.hz, View.readCov_cons_toLoadRect, View.readAt_eq_ld, h3.read_unread, h4.read_unread, h6.read_unread,
    View.ld_unit_zero (S := S256x2816) Mul.hz, View.ld_unit_zero (S := S256x1024) Mul.hz, View.ld_unit_zero (S := S2816x1024) Mul.hz]

/-- A later point adds the product of its blocks. -/
theorem sout_B (hc0 : ¬cond0_0 i) (hc1 : ¬cond0_1 i) : sout0_B_0 c i a3 h3 a4 h4 a5 h5 a6 h6 hc0 hc1 x y acc = k0_pay2 acc x y := by
  unfold sout0_B_0
  rw [View.read_writes_eq_canon _ _ _ (scover0_B_0 c i a3 h3 a4 h4 a5 h5 a6 h6 hc0 hc1 x y acc)]
  unfold kernelRun0_B
  dsimp only
  sl_unfold_words
  simp only [View.canon_cons_unit_zero (S := S2816x1024) Mul.hz, View.canon_unit_zero (S := S2816x1024) Mul.hz,
    View.readCov_unit_zero (S := S2816x1024) _ Mul.hz, View.readCov_cons_toLoadRect, View.readAt_eq_ld, h3.read_unread, h4.read_unread, h6.read_unread,
    View.ld_unit_zero (S := S256x2816) Mul.hz, View.ld_unit_zero (S := S256x1024) Mul.hz, View.ld_unit_zero (S := S2816x1024) Mul.hz]

/-- The last point leaves the accumulator, rounded, in the output block. -/
theorem out_C (hc0 : ¬cond0_0 i) (hc1 : cond0_1 i) : out0_C_2 c i a3 h3 a4 h4 a5 h5 a6 h6 hc0 hc1 x y acc = k0_pay3 (k0_pay2 acc x y) := by
  unfold out0_C_2
  rw [View.read_writes_eq_canon _ _ _ (cover0_C_2 c i a3 h3 a4 h4 a5 h5 a6 h6 hc0 hc1 x y acc)]
  unfold kernelRun0_C
  dsimp only
  sl_unfold_words
  simp only [View.canon_cons_unit_zero (S := S2816x1024) Mul.hz, View.canon_unit_zero (S := S2816x1024) Mul.hz,
    View.readCov_unit_zero (S := S2816x1024) _ Mul.hz, View.readCov_cons_toLoadRect, View.readAt_eq_ld, h3.read_unread, h4.read_unread, h6.read_unread,
    View.ld_unit_zero (S := S256x2816) Mul.hz, View.ld_unit_zero (S := S256x1024) Mul.hz, View.ld_unit_zero (S := S2816x1024) Mul.hz]

end Cases

variable (m : (ℓ : Loc nD τ sig) → Buf (Elt Ideal) ℓ) (c : Dev nD)

/-- Row `k` of the block of point `t`. -/
def at_ (t : Fin 8) (k : Fin 256) : Fin 2048 := Mul.blocked 256 rfl t k

def pt (t : Fin 8) : Fin cfg0.N := ⟨t.val, lt_of_lt_of_eq t.isLt N_0.symm⟩

theorem index0 : ∀ t : Fin 8, (cfg0.win 0).index (pt t) = ![t.val, 0] := by decide
theorem index1 : ∀ t : Fin 8, (cfg0.win 1).index (pt t) = ![t.val, 0] := by decide
theorem index2 : ∀ t : Fin 8, (cfg0.win 2).index (pt t) = ![0, 0] := by decide

theorem emb0 (t : Fin 8) (k : Fin 256) (i : Fin 2816) : ((cfg0.win 0).blk (pt t)).view.emb (ix2 k i) = ix2 (at_ t k) i :=
  Mul.ix2_of_val (Window.rect_emb_val (cfg0.win 0) (pt t) (ix2 k i)) (by rw [index0]; rfl) (by rw [index0]; exact Nat.zero_add _)
theorem emb1 (t : Fin 8) (k : Fin 256) (j : Fin 1024) : ((cfg0.win 1).blk (pt t)).view.emb (ix2 k j) = ix2 (at_ t k) j :=
  Mul.ix2_of_val (Window.rect_emb_val (cfg0.win 1) (pt t) (ix2 k j)) (by rw [index1]; rfl) (by rw [index1]; exact Nat.zero_add _)
theorem emb2 (t : Fin 8) (i : Fin 2816) (j : Fin 1024) : ((cfg0.win 2).blk (pt t)).view.emb (ix2 i j) = ix2 i j :=
  Mul.ix2_of_val (Window.rect_emb_val (cfg0.win 2) (pt t) (ix2 i j)) (by rw [index2]; exact Nat.zero_add _) (by rw [index2]; exact Nat.zero_add _)

theorem blk0 (t : Fin 8) (k : Fin 256) (i : Fin 2816) :
    (iblk m c 0 (pt t) : Vec Ideal S256x2816 .bf16) (ix2 k i) = m ((c : Thread nD τ).loc main_arg0) (ix2 (at_ t k) i) := by
  refine (congrArg (V m c main_v0) (emb0 t k i)).trans ?_
  entry_read
  pointwise

theorem blk1 (t : Fin 8) (k : Fin 256) (j : Fin 1024) :
    (iblk m c 1 (pt t) : Vec Ideal S256x1024 .f32) (ix2 k j) = m ((c : Thread nD τ).loc main_arg2) (ix2 (at_ t k) j) := by
  refine (congrArg (V m c main_arg2) (emb1 t k j)).trans ?_
  rw [V_main_arg2]

/-- The accumulator after point `n`. -/
def chain : (n : ℕ) → n < 8 → Vec Ideal S2816x1024 .f32
  | 0, h => k0_pay2 (F := Ideal) (k0_pay1 (F := Ideal)) (iblk m c 0 (pt ⟨0, h⟩)) (iblk m c 1 (pt ⟨0, h⟩))
  | n + 1, h => k0_pay2 (F := Ideal) (chain n (Nat.lt_of_succ_lt h)) (iblk m c 0 (pt ⟨n + 1, h⟩)) (iblk m c 1 (pt ⟨n + 1, h⟩))

theorem scratch_eq : ∀ (n : ℕ) (h : n < 8), n < 7 → (outsAt0 m c n (lt_of_lt_of_eq h N_0.symm)).2 = chain m c n h
  | 0, h, _ => by
    show (outsAt0 m c (pt ⟨0, h⟩).val (pt ⟨0, h⟩).isLt).2 = _
    rw [outsAt0_A m c (pt ⟨0, h⟩) rfl (by show ¬0 % 8 = 7; decide), chain]
    dsimp only
    rw [sout_A]
  | n + 1, h, h7 => by
    show (outsAt0 m c (pt ⟨n + 1, h⟩).val (pt ⟨n + 1, h⟩).isLt).2 = _
    rw [outsAt0_B m c (pt ⟨n + 1, h⟩) (by show ¬(n + 1) % 8 = 0; omega) (by show ¬(n + 1) % 8 = 7; omega), chain, ← scratch_eq n (by omega) (by omega)]
    dsimp only
    rw [sout_B]
    rfl

/-- The two factors: the result is `lhsᵀ rhs`. -/
def lhs : Mul.Mat 2048 2816 := m ((c : Thread nD τ).loc main_arg0)
def rhs : Mul.Mat 2048 1024 := m ((c : Thread nD τ).loc main_arg2)

/-- The rows of point `t` in the sum of entry `(i, j)`. -/
def part (t : Fin 8) (i : Fin 2816) (j : Fin 1024) : EReal :=
  ∑ k : Fin 256, lhs m c (ix2 (at_ t k) i) * rhs m c (ix2 (at_ t k) j)

theorem pay_apply (acc : Vec Ideal S2816x1024 .f32) (t : Fin 8) (i : Fin 2816) (j : Fin 1024) :
    (k0_pay2 (F := Ideal) acc (iblk m c 0 (pt t)) (iblk m c 1 (pt t)) : Mul.Mat 2816 1024) (ix2 i j)
      = (acc : Mul.Mat 2816 1024) (ix2 i j) + part m c t i j := by
  unfold k0_pay2 part
  pointwise
  exact congrArg _ (Finset.sum_congr rfl fun k _ => congrArg₂ (· * ·) (blk0 m c t k i) (blk1 m c t k j))

theorem chain_apply (i : Fin 2816) (j : Fin 1024) : ∀ (n : ℕ) (h : n < 8),
    (chain m c n h : Mul.Mat 2816 1024) (ix2 i j) = ∑ s : Fin (n + 1), part m c ⟨s.val, by omega⟩ i j
  | 0, h => by
    rw [Fin.sum_univ_one]
    refine (pay_apply m c _ ⟨0, h⟩ i j).trans ?_
    unfold k0_pay1
    pointwise
  | n + 1, h => by
    rw [Fin.sum_univ_castSucc]
    refine (pay_apply m c _ ⟨n + 1, h⟩ i j).trans ?_
    rw [chain_apply i j n (by omega)]
    rfl

/-- The result, entry by entry. -/
def result : Vec Ideal S2816x1024 .bf16 := Mul.tn (lhs m c) (rhs m c)

theorem sum_part (i : Fin 2816) (j : Fin 1024) : ∑ s : Fin 8, part m c s i j = (result m c : Mul.Mat 2816 1024) (ix2 i j) :=
  Fin.sum_mul_add_fin 8 256 fun l : Fin 2048 =>
    lhs m c (ix2 l i) * rhs m c (ix2 l j)

theorem final : (dats m 0 c).arrAt 2 cfg0.N = result m c := by
  refine (dats m 0 c).arrAt_eq_of_cover 2 (result m c) (fun t hf => ?_) fun i => ?_
  · obtain ⟨t, rfl⟩ : ∃ s : Fin 8, t = pt s := ⟨⟨t.val, lt_of_lt_of_eq t.isLt N_0⟩, rfl⟩
    obtain rfl : t = 7 := by
      have h7 : t.val % 8 = 7 := (flush0_2 (pt t)).mp hf
      exact Fin.ext (by show t.val = 7; omega)
    funext y
    obtain ⟨i, j, rfl⟩ : ∃ (i : Fin 2816) (j : Fin 1024), y = ix2 i j := ⟨y 0, y 1, (ix2_eta y).symm⟩
    rw [flushed2_C m c (pt 7) (by decide) (by decide), out_C, View.read_apply, emb2, ← sum_part]
    refine Eq.trans ?_ (chain_apply m c i j 7 (by decide))
    show k0_pay3 (F := Ideal) (k0_pay2 (F := Ideal) (outsAt0 m c 6 _).2 _ _) (ix2 i j) = _
    rw [scratch_eq m c 6 (by decide) (by decide)]
    unfold k0_pay3
    pointwise
    rfl
  · obtain ⟨r, n, rfl⟩ : ∃ (r : Fin 2816) (n : Fin 1024), i = ix2 r n := ⟨i 0, i 1, (ix2_eta i).symm⟩
    exact ⟨pt 7, (flush0_2 _).mpr rfl, by rw [← emb2 7]; exact View.emb_mem_set _ _⟩

theorem frame_ideal : Cert.quiescent_DownDwIdeal := fun m ρ _ => Cert.DownDwIdeal.Gen.frame m ρ

theorem defs₀_eq : Cert.DownDw.defs₀ (F := Bits) = Cert.DownDwIdeal.defs₀ (F := Bits) := by
  unfold Cert.DownDw.defs₀ Cert.DownDwIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_DownDw := fun m ρ _ => by
  rw [show Cert.DownDw.defs (F := Bits) = Cert.DownDwIdeal.defs (F := Bits) from congrArg (Pipeline.defs _) defs₀_eq]
  exact (θ_run Cert.DownDwIdeal.defs _ _).mono (fun _ h => h) (Cert.DownDwIdeal.Gen.frame (F := Bits) m ρ)

theorem frame_ref : Cert.quiescent_DownDwRefIdeal := fun m ρ _ =>
  (θ_run Cert.DownDwRefIdeal.defs _ _).mono (fun r h => ⟨fun c => (h c).2, Idealize.ShloMosaic.sem_eq_zero_of_no_sems (by decide) r.2⟩)
    (Cert.DownDwRefIdeal.Value.run (F := Ideal) m ρ)

/-- The call computes the gradient of the product's right factor. -/
theorem algebraic : Cert.algebraic_DownDwIdeal_DownDwRefIdeal := by
  intro m g m' g' _ hargs
  refine ⟨fun c => result m c, ?_, ?_⟩
  · exact (θ_run Cert.DownDwIdeal.defs _ _).mono (fun r h c => ⟨(h c).1.trans (final m c), (h c).2⟩) (run_blocks m g)
  · refine (θ_run Cert.DownDwRefIdeal.defs _ _).mono (fun r h c => ⟨(h c).1.trans ?_, (h c).2⟩) (Cert.DownDwRefIdeal.Value.run (F := Ideal) m' g')
    obtain ⟨h0, -, h2⟩ := hargs c
    rw [h0, h2]
    funext y
    obtain ⟨r, n, rfl⟩ : ∃ (r : Fin 2816) (n : Fin 1024), y = ix2 r n := ⟨y 0, y 1, (ix2_eta y).symm⟩
    unfold result Mul.tn lhs rhs
    pointwise
    exact Finset.sum_congr rfl fun k _ => mul_comm _ _

end Cert.DownDwIdeal.Mm

end
-- ==== Proof.GateDx.lean ====
/-
  The feed-forward's gate product, backward: the gradient of its left factor.
-/
module

public import proofs.«01_k».proof.Defs
public import proofs.«01_k».proof.Proof.Gen.GateDxIdeal.Value
public import proofs.«01_k».proof.Proof.Gen.GateDxRefIdeal.Run
public import proofs.«01_k».proof.Proof.Gen.GateDx
public import proofs.«01_k».proof.Proof.Mul
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.GateDxIdeal.Mm

open Cert.GateDxIdeal Cert.GateDxIdeal.Gen Cert.GateDxIdeal.Value
open Idealize.ShloMosaic Idealize.ShloMosaic.TcCoe Idealize.SL.Sem
open Idealize.ShloMosaic.Pipeline (Dat Window)

variable (m : (ℓ : Loc nD τ sig) → Buf (Elt Ideal) ℓ) (c : Dev nD)

/-- What a point copies out: zero plus the product of its two blocks. -/
theorem flushed_eq (t : Fin cfg0.N) : (dats m 0 c).flushed 2 t =
    (k0_pay2 (F := Ideal) (k0_pay1 (F := Ideal)) (iblk m c 0 t) (iblk m c 1 t)) := by
  rw [flushed2_A]
  unfold out0_A_2
  rw [View.read_writes_eq_canon _ _ _ (cover0_A_2 _ _ _ _ _ _ _ _ _ _ _ _ _ _)]
  unfold kernelRun0_A
  dsimp only
  sl_unfold_words
  simp only [View.canon_cons_unit_zero (S := S512x1024) Mul.hz, View.canon_unit_zero (S := S512x1024) Mul.hz,
    View.readCov_unit_zero (S := S512x1024) _ Mul.hz, View.readCov_cons_toLoadRect, View.readAt_eq_ld, (hs0_0 t).read_unread, (hs0_1 t).read_unread,
    View.ld_unit_zero (S := S512x2816) Mul.hz, View.ld_unit_zero (S := S2816x1024) Mul.hz]
  rfl

/-- Row `r` of the block of point `t`. -/
def at_ (t : Fin 4) (r : Fin 512) : Fin 2048 := Mul.blocked 512 rfl t r

def pt (t : Fin 4) : Fin cfg0.N := ⟨t.val, lt_of_lt_of_eq t.isLt N_0.symm⟩

theorem index0 : ∀ t : Fin 4, (cfg0.win 0).index (pt t) = ![t.val, 0] := by decide
theorem index1 : ∀ t : Fin 4, (cfg0.win 1).index (pt t) = ![0, 0] := by decide
theorem index2 : ∀ t : Fin 4, (cfg0.win 2).index (pt t) = ![t.val, 0] := by decide

theorem emb0 (t : Fin 4) (i : Fin 512) (j : Fin 2816) : ((cfg0.win 0).blk (pt t)).view.emb (ix2 i j) = ix2 (at_ t i) j :=
  Mul.ix2_of_val (Window.rect_emb_val (cfg0.win 0) (pt t) (ix2 i j)) (by rw [index0]; rfl) (by rw [index0]; exact Nat.zero_add _)
theorem emb1 (t : Fin 4) (i : Fin 2816) (j : Fin 1024) : ((cfg0.win 1).blk (pt t)).view.emb (ix2 i j) = ix2 i j :=
  Mul.ix2_of_val (Window.rect_emb_val (cfg0.win 1) (pt t) (ix2 i j)) (by rw [index1]; exact Nat.zero_add _) (by rw [index1]; exact Nat.zero_add _)
theorem emb2 (t : Fin 4) (i : Fin 512) (j : Fin 1024) : ((cfg0.win 2).blk (pt t)).view.emb (ix2 i j) = ix2 (at_ t i) j :=
  Mul.ix2_of_val (Window.rect_emb_val (cfg0.win 2) (pt t) (ix2 i j)) (by rw [index2]; rfl) (by rw [index2]; exact Nat.zero_add _)

theorem blk0 (t : Fin 4) (i : Fin 512) (j : Fin 2816) :
    (iblk m c 0 (pt t) : Vec Ideal S512x2816 .bf16) (ix2 i j) = m ((c : Thread nD τ).loc main_arg2) (ix2 (at_ t i) j) := by
  refine (congrArg (V m c main_v0) (emb0 t i j)).trans ?_
  entry_read
  pointwise

theorem blk1 (t : Fin 4) (i : Fin 2816) (j : Fin 1024) :
    (iblk m c 1 (pt t) : Vec Ideal S2816x1024 .bf16) (ix2 i j) = m ((c : Thread nD τ).loc main_arg1) (ix2 j i) := by
  refine (congrArg (V m c main_v2) (emb1 t i j)).trans ?_
  entry_read
  pointwise

/-- The result, entry by entry. -/
def result : Vec Ideal S2048x1024 .f32 := Mul.nt (m ((c : Thread nD τ).loc main_arg2)) (m ((c : Thread nD τ).loc main_arg1))

theorem final : (dats m 0 c).arrAt 2 cfg0.N = result m c := by
  refine (dats m 0 c).arrAt_eq_of_cover 2 (result m c) (fun t hf => ?_) fun i => ?_
  · obtain ⟨t, rfl⟩ : ∃ s : Fin 4, t = pt s := ⟨⟨t.val, lt_of_lt_of_eq t.isLt N_0⟩, rfl⟩
    funext y
    obtain ⟨r, n, rfl⟩ : ∃ (r : Fin 512) (n : Fin 1024), y = ix2 r n := ⟨y 0, y 1, (ix2_eta y).symm⟩
    rw [flushed_eq, View.read_apply, emb2]
    show (k0_pay2 (F := Ideal) (k0_pay1 (F := Ideal)) (iblk m c 0 (pt t)) (iblk m c 1 (pt t)) : Vec Ideal S512x1024 .f32) (ix2 r n) = _
    unfold k0_pay2 k0_pay1 result Mul.nt
    pointwise
    exact Finset.sum_congr rfl fun k _ => congrArg₂ (· * ·) (blk0 m c t r k) (blk1 m c t k n)
  · obtain ⟨r, n, rfl⟩ : ∃ (r : Fin 2048) (n : Fin 1024), i = ix2 r n := ⟨i 0, i 1, (ix2_eta i).symm⟩
    obtain ⟨t, r, rfl⟩ := Mul.blocked_surj (n := 2048) (a := 4) 512 rfl (by decide) r
    exact ⟨pt t, flush0_2 _, by rw [show Mul.blocked 512 rfl t r = at_ t r from rfl, ← emb2]; exact View.emb_mem_set _ _⟩

theorem frame_ideal : Cert.quiescent_GateDxIdeal := fun m ρ _ => Cert.GateDxIdeal.Gen.frame m ρ

theorem defs₀_eq : Cert.GateDx.defs₀ (F := Bits) = Cert.GateDxIdeal.defs₀ (F := Bits) := by
  unfold Cert.GateDx.defs₀ Cert.GateDxIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_GateDx := fun m ρ _ => by
  rw [show Cert.GateDx.defs (F := Bits) = Cert.GateDxIdeal.defs (F := Bits) from congrArg (Pipeline.defs _) defs₀_eq]
  exact (θ_run Cert.GateDxIdeal.defs _ _).mono (fun _ h => h) (Cert.GateDxIdeal.Gen.frame (F := Bits) m ρ)

theorem frame_ref : Cert.quiescent_GateDxRefIdeal := fun m ρ _ =>
  (θ_run Cert.GateDxRefIdeal.defs _ _).mono (fun r h => ⟨fun c => (h c).2, Idealize.ShloMosaic.sem_eq_zero_of_no_sems (by decide) r.2⟩)
    (Cert.GateDxRefIdeal.Value.run (F := Ideal) m ρ)

/-- The call computes the gradient of the product's left factor. -/
theorem algebraic : Cert.algebraic_GateDxIdeal_GateDxRefIdeal := by
  intro m g m' g' _ hargs
  refine ⟨fun c => result m c, ?_, ?_⟩
  · exact (θ_run Cert.GateDxIdeal.defs _ _).mono (fun r h c => ⟨(h c).1.trans (final m c), (h c).2⟩) (run_blocks m g)
  · refine (θ_run Cert.GateDxRefIdeal.defs _ _).mono (fun r h c => ⟨(h c).1.trans ?_, (h c).2⟩) (Cert.GateDxRefIdeal.Value.run (F := Ideal) m' g')
    obtain ⟨-, h1, h2⟩ := hargs c
    rw [h1, h2]
    funext y
    obtain ⟨r, n, rfl⟩ : ∃ (r : Fin 2048) (n : Fin 1024), y = ix2 r n := ⟨y 0, y 1, (ix2_eta y).symm⟩
    unfold result Mul.nt
    pointwise

end Cert.GateDxIdeal.Mm

end
-- ==== Proof.UpDx.lean ====
/-
  The feed-forward's up product, backward: the gradient of its left factor, on top of the gate product's.
-/
module

public import proofs.«01_k».proof.Defs
public import proofs.«01_k».proof.Proof.Gen.UpDxIdeal.Value
public import proofs.«01_k».proof.Proof.Gen.UpDxRefIdeal.Run
public import proofs.«01_k».proof.Proof.Gen.UpDx
public import proofs.«01_k».proof.Proof.Mul
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.UpDxIdeal.Mm

open Cert.UpDxIdeal Cert.UpDxIdeal.Gen Cert.UpDxIdeal.Value
open Idealize.ShloMosaic Idealize.ShloMosaic.TcCoe Idealize.SL.Sem
open Idealize.ShloMosaic.Pipeline (Dat Window)

variable (m : (ℓ : Loc nD τ sig) → Buf (Elt Ideal) ℓ) (c : Dev nD)

/-- What a point copies out: the block to add to plus the product of its two blocks. -/
theorem flushed_eq (t : Fin cfg0.N) : (dats m 0 c).flushed 3 t =
    (k0_pay2 (F := Ideal) (k0_pay1 (F := Ideal) (iblk m c 2 t)) (iblk m c 0 t) (iblk m c 1 t)) := by
  rw [flushed3_A]
  unfold out0_A_3
  rw [View.read_writes_eq_canon _ _ _ (cover0_A_3 _ _ _ _ _ _ _ _ _ _ _ _ _ _ _ _ _)]
  unfold kernelRun0_A
  dsimp only
  sl_unfold_words
  simp only [View.canon_cons_unit_zero (S := S512x1024) Mul.hz, View.canon_unit_zero (S := S512x1024) Mul.hz,
    View.readCov_unit_zero (S := S512x1024) _ Mul.hz, View.readCov_cons_toLoadRect, View.readAt_eq_ld, (hs0_0 t).read_unread, (hs0_1 t).read_unread, (hs0_2 t).read_unread,
    View.ld_unit_zero (S := S512x2816) Mul.hz, View.ld_unit_zero (S := S2816x1024) Mul.hz, View.ld_unit_zero (S := S512x1024) Mul.hz]
  rfl

/-- Row `r` of the block of point `t`. -/
def at_ (t : Fin 4) (r : Fin 512) : Fin 2048 := Mul.blocked 512 rfl t r

def pt (t : Fin 4) : Fin cfg0.N := ⟨t.val, lt_of_lt_of_eq t.isLt N_0.symm⟩

theorem index0 : ∀ t : Fin 4, (cfg0.win 0).index (pt t) = ![t.val, 0] := by decide
theorem index1 : ∀ t : Fin 4, (cfg0.win 1).index (pt t) = ![0, 0] := by decide
theorem index2 : ∀ t : Fin 4, (cfg0.win 2).index (pt t) = ![t.val, 0] := by decide
theorem index3 : ∀ t : Fin 4, (cfg0.win 3).index (pt t) = ![t.val, 0] := by decide

theorem emb0 (t : Fin 4) (i : Fin 512) (j : Fin 2816) : ((cfg0.win 0).blk (pt t)).view.emb (ix2 i j) = ix2 (at_ t i) j :=
  Mul.ix2_of_val (Window.rect_emb_val (cfg0.win 0) (pt t) (ix2 i j)) (by rw [index0]; rfl) (by rw [index0]; exact Nat.zero_add _)
theorem emb1 (t : Fin 4) (i : Fin 2816) (j : Fin 1024) : ((cfg0.win 1).blk (pt t)).view.emb (ix2 i j) = ix2 i j :=
  Mul.ix2_of_val (Window.rect_emb_val (cfg0.win 1) (pt t) (ix2 i j)) (by rw [index1]; exact Nat.zero_add _) (by rw [index1]; exact Nat.zero_add _)
theorem emb2 (t : Fin 4) (i : Fin 512) (j : Fin 1024) : ((cfg0.win 2).blk (pt t)).view.emb (ix2 i j) = ix2 (at_ t i) j :=
  Mul.ix2_of_val (Window.rect_emb_val (cfg0.win 2) (pt t) (ix2 i j)) (by rw [index2]; rfl) (by rw [index2]; exact Nat.zero_add _)
theorem emb3 (t : Fin 4) (i : Fin 512) (j : Fin 1024) : ((cfg0.win 3).blk (pt t)).view.emb (ix2 i j) = ix2 (at_ t i) j :=
  Mul.ix2_of_val (Window.rect_emb_val (cfg0.win 3) (pt t) (ix2 i j)) (by rw [index3]; rfl) (by rw [index3]; exact Nat.zero_add _)

theorem blk0 (t : Fin 4) (i : Fin 512) (j : Fin 2816) :
    (iblk m c 0 (pt t) : Vec Ideal S512x2816 .bf16) (ix2 i j) = m ((c : Thread nD τ).loc main_arg2) (ix2 (at_ t i) j) := by
  refine (congrArg (V m c main_v0) (emb0 t i j)).trans ?_
  entry_read
  pointwise

theorem blk1 (t : Fin 4) (i : Fin 2816) (j : Fin 1024) :
    (iblk m c 1 (pt t) : Vec Ideal S2816x1024 .bf16) (ix2 i j) = m ((c : Thread nD τ).loc main_arg1) (ix2 j i) := by
  refine (congrArg (V m c main_v2) (emb1 t i j)).trans ?_
  entry_read
  pointwise

theorem blk2 (t : Fin 4) (i : Fin 512) (j : Fin 1024) :
    (iblk m c 2 (pt t) : Vec Ideal S512x1024 .f32) (ix2 i j) = m ((c : Thread nD τ).loc main_arg3) (ix2 (at_ t i) j) := by
  refine (congrArg (V m c main_arg3) (emb2 t i j)).trans ?_
  rw [V_main_arg3]

/-- The result, entry by entry. -/
def result : Vec Ideal S2048x1024 .f32 := Mul.add (m ((c : Thread nD τ).loc main_arg3)) (Mul.nt (m ((c : Thread nD τ).loc main_arg2)) (m ((c : Thread nD τ).loc main_arg1)))

theorem final : (dats m 0 c).arrAt 3 cfg0.N = result m c := by
  refine (dats m 0 c).arrAt_eq_of_cover 3 (result m c) (fun t hf => ?_) fun i => ?_
  · obtain ⟨t, rfl⟩ : ∃ s : Fin 4, t = pt s := ⟨⟨t.val, lt_of_lt_of_eq t.isLt N_0⟩, rfl⟩
    funext y
    obtain ⟨r, n, rfl⟩ : ∃ (r : Fin 512) (n : Fin 1024), y = ix2 r n := ⟨y 0, y 1, (ix2_eta y).symm⟩
    rw [flushed_eq, View.read_apply, emb3]
    show (k0_pay2 (F := Ideal) (k0_pay1 (F := Ideal) (iblk m c 2 (pt t))) (iblk m c 0 (pt t)) (iblk m c 1 (pt t)) : Vec Ideal S512x1024 .f32) (ix2 r n) = _
    unfold k0_pay2 k0_pay1 result Mul.nt Mul.add
    pointwise
    exact congrArg₂ (· + ·) (blk2 m c t r n) (Finset.sum_congr rfl fun k _ => congrArg₂ (· * ·) (blk0 m c t r k) (blk1 m c t k n))
  · obtain ⟨r, n, rfl⟩ : ∃ (r : Fin 2048) (n : Fin 1024), i = ix2 r n := ⟨i 0, i 1, (ix2_eta i).symm⟩
    obtain ⟨t, r, rfl⟩ := Mul.blocked_surj (n := 2048) (a := 4) 512 rfl (by decide) r
    exact ⟨pt t, flush0_3 _, by rw [show Mul.blocked 512 rfl t r = at_ t r from rfl, ← emb3]; exact View.emb_mem_set _ _⟩

theorem frame_ideal : Cert.quiescent_UpDxIdeal := fun m ρ _ => Cert.UpDxIdeal.Gen.frame m ρ

theorem defs₀_eq : Cert.UpDx.defs₀ (F := Bits) = Cert.UpDxIdeal.defs₀ (F := Bits) := by
  unfold Cert.UpDx.defs₀ Cert.UpDxIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_UpDx := fun m ρ _ => by
  rw [show Cert.UpDx.defs (F := Bits) = Cert.UpDxIdeal.defs (F := Bits) from congrArg (Pipeline.defs _) defs₀_eq]
  exact (θ_run Cert.UpDxIdeal.defs _ _).mono (fun _ h => h) (Cert.UpDxIdeal.Gen.frame (F := Bits) m ρ)

theorem frame_ref : Cert.quiescent_UpDxRefIdeal := fun m ρ _ =>
  (θ_run Cert.UpDxRefIdeal.defs _ _).mono (fun r h => ⟨fun c => (h c).2, Idealize.ShloMosaic.sem_eq_zero_of_no_sems (by decide) r.2⟩)
    (Cert.UpDxRefIdeal.Value.run (F := Ideal) m ρ)

/-- The call computes the gradient of the product's left factor, added to what was there. -/
theorem algebraic : Cert.algebraic_UpDxIdeal_UpDxRefIdeal := by
  intro m g m' g' _ hargs
  refine ⟨fun c => result m c, ?_, ?_⟩
  · exact (θ_run Cert.UpDxIdeal.defs _ _).mono (fun r h c => ⟨(h c).1.trans (final m c), (h c).2⟩) (run_blocks m g)
  · refine (θ_run Cert.UpDxRefIdeal.defs _ _).mono (fun r h c => ⟨(h c).1.trans ?_, (h c).2⟩) (Cert.UpDxRefIdeal.Value.run (F := Ideal) m' g')
    obtain ⟨-, h1, h2, h3⟩ := hargs c
    rw [h1, h2, h3]
    funext y
    obtain ⟨r, n, rfl⟩ : ∃ (r : Fin 2048) (n : Fin 1024), y = ix2 r n := ⟨y 0, y 1, (ix2_eta y).symm⟩
    unfold result Mul.nt Mul.add
    pointwise

end Cert.UpDxIdeal.Mm

end
-- ==== Proof.GateDw.lean ====
/-
  The feed-forward's gate product, backward: the gradient of its weight, transposed.
-/
module

public import proofs.«01_k».proof.Defs
public import proofs.«01_k».proof.Proof.Gen.GateDwIdeal.Value
public import proofs.«01_k».proof.Proof.Gen.GateDwRefIdeal.Run
public import proofs.«01_k».proof.Proof.Gen.GateDw
public import proofs.«01_k».proof.Proof.Mul
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.GateDwIdeal.Mm

open Cert.GateDwIdeal Cert.GateDwIdeal.Gen Cert.GateDwIdeal.Value
open Idealize.ShloMosaic Idealize.ShloMosaic.TcCoe Idealize.SL.Sem
open Idealize.ShloMosaic.Pipeline (Dat Window)

section Cases

variable {F : FTy → Type} [FloatOps F] (c : Dev nD) (i : grid0.Coords) (a3 : Memref sig .tc .vmem S256x2816 .bf16) (h3 : a3.IsWhole)
  (a4 : Memref sig .tc .vmem S256x1024 .bf16) (h4 : a4.IsWhole) (a5 : Memref sig .tc .vmem S2816x1024 .bf16) (h5 : a5.IsWhole)
  (a6 : Memref sig .tc .vmem S2816x1024 .f32) (h6 : a6.IsWhole) (x : Vec F S256x2816 .bf16) (y : Vec F S256x1024 .bf16)
  (acc : Vec F S2816x1024 .f32)

/-- The first point leaves zero plus the product of its blocks in the accumulator. -/
theorem sout_A (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  simp only [View.canon_cons_unit_zero (S := S2816x1024) Mul.hz, View.canon_unit_zero (S := S2816x1024) Mul.hz,
    View.readCov_unit_zero (S := S2816x1024) _ Mul.hz, View.readCov_cons_toLoadRect, View.readAt_eq_ld, h3.read_unread, h4.read_unread, h6.read_unread,
    View.ld_unit_zero (S := S256x2816) Mul.hz, View.ld_unit_zero (S := S256x1024) Mul.hz, View.ld_unit_zero (S := S2816x1024) Mul.hz]

/-- A later point adds the product of its blocks. -/
theorem sout_B (hc0 : ¬cond0_0 i) (hc1 : ¬cond0_1 i) : sout0_B_0 c i a3 h3 a4 h4 a5 h5 a6 h6 hc0 hc1 x y acc = k0_pay2 acc x y := by
  unfold sout0_B_0
  rw [View.read_writes_eq_canon _ _ _ (scover0_B_0 c i a3 h3 a4 h4 a5 h5 a6 h6 hc0 hc1 x y acc)]
  unfold kernelRun0_B
  dsimp only
  sl_unfold_words
  simp only [View.canon_cons_unit_zero (S := S2816x1024) Mul.hz, View.canon_unit_zero (S := S2816x1024) Mul.hz,
    View.readCov_unit_zero (S := S2816x1024) _ Mul.hz, View.readCov_cons_toLoadRect, View.readAt_eq_ld, h3.read_unread, h4.read_unread, h6.read_unread,
    View.ld_unit_zero (S := S256x2816) Mul.hz, View.ld_unit_zero (S := S256x1024) Mul.hz, View.ld_unit_zero (S := S2816x1024) Mul.hz]

/-- The last point leaves the accumulator, rounded, in the output block. -/
theorem out_C (hc0 : ¬cond0_0 i) (hc1 : cond0_1 i) : out0_C_2 c i a3 h3 a4 h4 a5 h5 a6 h6 hc0 hc1 x y acc = k0_pay3 (k0_pay2 acc x y) := by
  unfold out0_C_2
  rw [View.read_writes_eq_canon _ _ _ (cover0_C_2 c i a3 h3 a4 h4 a5 h5 a6 h6 hc0 hc1 x y acc)]
  unfold kernelRun0_C
  dsimp only
  sl_unfold_words
  simp only [View.canon_cons_unit_zero (S := S2816x1024) Mul.hz, View.canon_unit_zero (S := S2816x1024) Mul.hz,
    View.readCov_unit_zero (S := S2816x1024) _ Mul.hz, View.readCov_cons_toLoadRect, View.readAt_eq_ld, h3.read_unread, h4.read_unread, h6.read_unread,
    View.ld_unit_zero (S := S256x2816) Mul.hz, View.ld_unit_zero (S := S256x1024) Mul.hz, View.ld_unit_zero (S := S2816x1024) Mul.hz]

end Cases

variable (m : (ℓ : Loc nD τ sig) → Buf (Elt Ideal) ℓ) (c : Dev nD)

/-- Row `k` of the block of point `t`. -/
def at_ (t : Fin 8) (k : Fin 256) : Fin 2048 := Mul.blocked 256 rfl t k

def pt (t : Fin 8) : Fin cfg0.N := ⟨t.val, lt_of_lt_of_eq t.isLt N_0.symm⟩

theorem index0 : ∀ t : Fin 8, (cfg0.win 0).index (pt t) = ![t.val, 0] := by decide
theorem index1 : ∀ t : Fin 8, (cfg0.win 1).index (pt t) = ![t.val, 0] := by decide
theorem index2 : ∀ t : Fin 8, (cfg0.win 2).index (pt t) = ![0, 0] := by decide

theorem emb0 (t : Fin 8) (k : Fin 256) (i : Fin 2816) : ((cfg0.win 0).blk (pt t)).view.emb (ix2 k i) = ix2 (at_ t k) i :=
  Mul.ix2_of_val (Window.rect_emb_val (cfg0.win 0) (pt t) (ix2 k i)) (by rw [index0]; rfl) (by rw [index0]; exact Nat.zero_add _)
theorem emb1 (t : Fin 8) (k : Fin 256) (j : Fin 1024) : ((cfg0.win 1).blk (pt t)).view.emb (ix2 k j) = ix2 (at_ t k) j :=
  Mul.ix2_of_val (Window.rect_emb_val (cfg0.win 1) (pt t) (ix2 k j)) (by rw [index1]; rfl) (by rw [index1]; exact Nat.zero_add _)
theorem emb2 (t : Fin 8) (i : Fin 2816) (j : Fin 1024) : ((cfg0.win 2).blk (pt t)).view.emb (ix2 i j) = ix2 i j :=
  Mul.ix2_of_val (Window.rect_emb_val (cfg0.win 2) (pt t) (ix2 i j)) (by rw [index2]; exact Nat.zero_add _) (by rw [index2]; exact Nat.zero_add _)

theorem blk0 (t : Fin 8) (k : Fin 256) (i : Fin 2816) :
    (iblk m c 0 (pt t) : Vec Ideal S256x2816 .bf16) (ix2 k i) = m ((c : Thread nD τ).loc main_arg2) (ix2 (at_ t k) i) := by
  refine (congrArg (V m c main_v0) (emb0 t k i)).trans ?_
  entry_read
  pointwise

theorem blk1 (t : Fin 8) (k : Fin 256) (j : Fin 1024) :
    (iblk m c 1 (pt t) : Vec Ideal S256x1024 .bf16) (ix2 k j) = m ((c : Thread nD τ).loc main_arg0) (ix2 (at_ t k) j) := by
  refine (congrArg (V m c main_v1) (emb1 t k j)).trans ?_
  entry_read
  pointwise

/-- The accumulator after point `n`. -/
def chain : (n : ℕ) → n < 8 → Vec Ideal S2816x1024 .f32
  | 0, h => k0_pay2 (F := Ideal) (k0_pay1 (F := Ideal)) (iblk m c 0 (pt ⟨0, h⟩)) (iblk m c 1 (pt ⟨0, h⟩))
  | n + 1, h => k0_pay2 (F := Ideal) (chain n (Nat.lt_of_succ_lt h)) (iblk m c 0 (pt ⟨n + 1, h⟩)) (iblk m c 1 (pt ⟨n + 1, h⟩))

theorem scratch_eq : ∀ (n : ℕ) (h : n < 8), n < 7 → (outsAt0 m c n (lt_of_lt_of_eq h N_0.symm)).2 = chain m c n h
  | 0, h, _ => by
    show (outsAt0 m c (pt ⟨0, h⟩).val (pt ⟨0, h⟩).isLt).2 = _
    rw [outsAt0_A m c (pt ⟨0, h⟩) rfl (by show ¬0 % 8 = 7; decide), chain]
    dsimp only
    rw [sout_A]
  | n + 1, h, h7 => by
    show (outsAt0 m c (pt ⟨n + 1, h⟩).val (pt ⟨n + 1, h⟩).isLt).2 = _
    rw [outsAt0_B m c (pt ⟨n + 1, h⟩) (by show ¬(n + 1) % 8 = 0; omega) (by show ¬(n + 1) % 8 = 7; omega), chain, ← scratch_eq n (by omega) (by omega)]
    dsimp only
    rw [sout_B]
    rfl

/-- The two factors: the result is `lhsᵀ rhs`. -/
def lhs : Mul.Mat 2048 2816 := m ((c : Thread nD τ).loc main_arg2)
def rhs : Mul.Mat 2048 1024 := m ((c : Thread nD τ).loc main_arg0)

/-- The rows of point `t` in the sum of entry `(i, j)`. -/
def part (t : Fin 8) (i : Fin 2816) (j : Fin 1024) : EReal :=
  ∑ k : Fin 256, lhs m c (ix2 (at_ t k) i) * rhs m c (ix2 (at_ t k) j)

theorem pay_apply (acc : Vec Ideal S2816x1024 .f32) (t : Fin 8) (i : Fin 2816) (j : Fin 1024) :
    (k0_pay2 (F := Ideal) acc (iblk m c 0 (pt t)) (iblk m c 1 (pt t)) : Mul.Mat 2816 1024) (ix2 i j)
      = (acc : Mul.Mat 2816 1024) (ix2 i j) + part m c t i j := by
  unfold k0_pay2 part
  pointwise
  exact congrArg _ (Finset.sum_congr rfl fun k _ => congrArg₂ (· * ·) (blk0 m c t k i) (blk1 m c t k j))

theorem chain_apply (i : Fin 2816) (j : Fin 1024) : ∀ (n : ℕ) (h : n < 8),
    (chain m c n h : Mul.Mat 2816 1024) (ix2 i j) = ∑ s : Fin (n + 1), part m c ⟨s.val, by omega⟩ i j
  | 0, h => by
    rw [Fin.sum_univ_one]
    refine (pay_apply m c _ ⟨0, h⟩ i j).trans ?_
    unfold k0_pay1
    pointwise
  | n + 1, h => by
    rw [Fin.sum_univ_castSucc]
    refine (pay_apply m c _ ⟨n + 1, h⟩ i j).trans ?_
    rw [chain_apply i j n (by omega)]
    rfl

/-- The result, entry by entry. -/
def result : Vec Ideal S2816x1024 .bf16 := Mul.tn (lhs m c) (rhs m c)

theorem sum_part (i : Fin 2816) (j : Fin 1024) : ∑ s : Fin 8, part m c s i j = (result m c : Mul.Mat 2816 1024) (ix2 i j) :=
  Fin.sum_mul_add_fin 8 256 fun l : Fin 2048 =>
    lhs m c (ix2 l i) * rhs m c (ix2 l j)

theorem final : (dats m 0 c).arrAt 2 cfg0.N = result m c := by
  refine (dats m 0 c).arrAt_eq_of_cover 2 (result m c) (fun t hf => ?_) fun i => ?_
  · obtain ⟨t, rfl⟩ : ∃ s : Fin 8, t = pt s := ⟨⟨t.val, lt_of_lt_of_eq t.isLt N_0⟩, rfl⟩
    obtain rfl : t = 7 := by
      have h7 : t.val % 8 = 7 := (flush0_2 (pt t)).mp hf
      exact Fin.ext (by show t.val = 7; omega)
    funext y
    obtain ⟨i, j, rfl⟩ : ∃ (i : Fin 2816) (j : Fin 1024), y = ix2 i j := ⟨y 0, y 1, (ix2_eta y).symm⟩
    rw [flushed2_C m c (pt 7) (by decide) (by decide), out_C, View.read_apply, emb2, ← sum_part]
    refine Eq.trans ?_ (chain_apply m c i j 7 (by decide))
    show k0_pay3 (F := Ideal) (k0_pay2 (F := Ideal) (outsAt0 m c 6 _).2 _ _) (ix2 i j) = _
    rw [scratch_eq m c 6 (by decide) (by decide)]
    unfold k0_pay3
    pointwise
    rfl
  · obtain ⟨r, n, rfl⟩ : ∃ (r : Fin 2816) (n : Fin 1024), i = ix2 r n := ⟨i 0, i 1, (ix2_eta i).symm⟩
    exact ⟨pt 7, (flush0_2 _).mpr rfl, by rw [← emb2 7]; exact View.emb_mem_set _ _⟩

theorem frame_ideal : Cert.quiescent_GateDwIdeal := fun m ρ _ => Cert.GateDwIdeal.Gen.frame m ρ

theorem defs₀_eq : Cert.GateDw.defs₀ (F := Bits) = Cert.GateDwIdeal.defs₀ (F := Bits) := by
  unfold Cert.GateDw.defs₀ Cert.GateDwIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_GateDw := fun m ρ _ => by
  rw [show Cert.GateDw.defs (F := Bits) = Cert.GateDwIdeal.defs (F := Bits) from congrArg (Pipeline.defs _) defs₀_eq]
  exact (θ_run Cert.GateDwIdeal.defs _ _).mono (fun _ h => h) (Cert.GateDwIdeal.Gen.frame (F := Bits) m ρ)

theorem frame_ref : Cert.quiescent_GateDwRefIdeal := fun m ρ _ =>
  (θ_run Cert.GateDwRefIdeal.defs _ _).mono (fun r h => ⟨fun c => (h c).2, Idealize.ShloMosaic.sem_eq_zero_of_no_sems (by decide) r.2⟩)
    (Cert.GateDwRefIdeal.Value.run (F := Ideal) m ρ)

/-- The call computes the gradient of the product's right factor, transposed. -/
theorem algebraic : Cert.algebraic_GateDwIdeal_GateDwRefIdeal := by
  intro m g m' g' _ hargs
  refine ⟨fun c => result m c, ?_, ?_⟩
  · exact (θ_run Cert.GateDwIdeal.defs _ _).mono (fun r h c => ⟨(h c).1.trans (final m c), (h c).2⟩) (run_blocks m g)
  · refine (θ_run Cert.GateDwRefIdeal.defs _ _).mono (fun r h c => ⟨(h c).1.trans ?_, (h c).2⟩) (Cert.GateDwRefIdeal.Value.run (F := Ideal) m' g')
    obtain ⟨h0, -, h2⟩ := hargs c
    rw [h0, h2]
    funext y
    obtain ⟨r, n, rfl⟩ : ∃ (r : Fin 2816) (n : Fin 1024), y = ix2 r n := ⟨y 0, y 1, (ix2_eta y).symm⟩
    unfold result Mul.tn lhs rhs
    pointwise

end Cert.GateDwIdeal.Mm

end
-- ==== Proof.OutDx.lean ====
/-
  The output projection, backward: the gradient of its left factor.
-/
module

public import proofs.«01_k».proof.Defs
public import proofs.«01_k».proof.Proof.Gen.OutDxIdeal.Value
public import proofs.«01_k».proof.Proof.Gen.OutDxRefIdeal.Run
public import proofs.«01_k».proof.Proof.Gen.OutDx
public import proofs.«01_k».proof.Proof.Mul
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.OutDxIdeal.Mm

open Cert.OutDxIdeal Cert.OutDxIdeal.Gen Cert.OutDxIdeal.Value
open Idealize.ShloMosaic Idealize.ShloMosaic.TcCoe Idealize.SL.Sem
open Idealize.ShloMosaic.Pipeline (Dat Window)

variable (m : (ℓ : Loc nD τ sig) → Buf (Elt Ideal) ℓ) (c : Dev nD)

/-- What a point copies out: zero plus the product of its two blocks. -/
theorem flushed_eq (t : Fin cfg0.N) : (dats m 0 c).flushed 2 t =
    (k0_pay2 (F := Ideal) (k0_pay1 (F := Ideal)) (iblk m c 0 t) (iblk m c 1 t)) := by
  rw [flushed2_A]
  unfold out0_A_2
  rw [View.read_writes_eq_canon _ _ _ (cover0_A_2 _ _ _ _ _ _ _ _ _ _ _ _ _ _)]
  unfold kernelRun0_A
  dsimp only
  sl_unfold_words
  simp only [View.canon_cons_unit_zero (S := S1024x1024) Mul.hz, View.canon_unit_zero (S := S1024x1024) Mul.hz,
    View.readCov_unit_zero (S := S1024x1024) _ Mul.hz, View.readCov_cons_toLoadRect, View.readAt_eq_ld, (hs0_0 t).read_unread, (hs0_1 t).read_unread,
    View.ld_unit_zero (S := S1024x1024) Mul.hz]
  rfl

/-- Row `r` of the block of point `t`. -/
def at_ (t : Fin 2) (r : Fin 1024) : Fin 2048 := Mul.blocked 1024 rfl t r

def pt (t : Fin 2) : Fin cfg0.N := ⟨t.val, lt_of_lt_of_eq t.isLt N_0.symm⟩

theorem index0 : ∀ t : Fin 2, (cfg0.win 0).index (pt t) = ![t.val, 0] := by decide
theorem index1 : ∀ t : Fin 2, (cfg0.win 1).index (pt t) = ![0, 0] := by decide
theorem index2 : ∀ t : Fin 2, (cfg0.win 2).index (pt t) = ![t.val, 0] := by decide

theorem emb0 (t : Fin 2) (i : Fin 1024) (j : Fin 1024) : ((cfg0.win 0).blk (pt t)).view.emb (ix2 i j) = ix2 (at_ t i) j :=
  Mul.ix2_of_val (Window.rect_emb_val (cfg0.win 0) (pt t) (ix2 i j)) (by rw [index0]; rfl) (by rw [index0]; exact Nat.zero_add _)
theorem emb1 (t : Fin 2) (i : Fin 1024) (j : Fin 1024) : ((cfg0.win 1).blk (pt t)).view.emb (ix2 i j) = ix2 i j :=
  Mul.ix2_of_val (Window.rect_emb_val (cfg0.win 1) (pt t) (ix2 i j)) (by rw [index1]; exact Nat.zero_add _) (by rw [index1]; exact Nat.zero_add _)
theorem emb2 (t : Fin 2) (i : Fin 1024) (j : Fin 1024) : ((cfg0.win 2).blk (pt t)).view.emb (ix2 i j) = ix2 (at_ t i) j :=
  Mul.ix2_of_val (Window.rect_emb_val (cfg0.win 2) (pt t) (ix2 i j)) (by rw [index2]; rfl) (by rw [index2]; exact Nat.zero_add _)

theorem blk0 (t : Fin 2) (i : Fin 1024) (j : Fin 1024) :
    (iblk m c 0 (pt t) : Vec Ideal S1024x1024 .f32) (ix2 i j) = m ((c : Thread nD τ).loc main_arg2) (ix2 (at_ t i) j) := by
  refine (congrArg (V m c main_arg2) (emb0 t i j)).trans ?_
  rw [V_main_arg2]

theorem blk1 (t : Fin 2) (i : Fin 1024) (j : Fin 1024) :
    (iblk m c 1 (pt t) : Vec Ideal S1024x1024 .bf16) (ix2 i j) = m ((c : Thread nD τ).loc main_arg1) (ix2 i j) := by
  refine (congrArg (V m c main_v0) (emb1 t i j)).trans ?_
  entry_read
  pointwise

/-- The result, entry by entry. -/
def result : Vec Ideal S2048x1024 .f32 := Mul.nt (m ((c : Thread nD τ).loc main_arg2)) (m ((c : Thread nD τ).loc main_arg1))

theorem final : (dats m 0 c).arrAt 2 cfg0.N = result m c := by
  refine (dats m 0 c).arrAt_eq_of_cover 2 (result m c) (fun t hf => ?_) fun i => ?_
  · obtain ⟨t, rfl⟩ : ∃ s : Fin 2, t = pt s := ⟨⟨t.val, lt_of_lt_of_eq t.isLt N_0⟩, rfl⟩
    funext y
    obtain ⟨r, n, rfl⟩ : ∃ (r : Fin 1024) (n : Fin 1024), y = ix2 r n := ⟨y 0, y 1, (ix2_eta y).symm⟩
    rw [flushed_eq, View.read_apply, emb2]
    show (k0_pay2 (F := Ideal) (k0_pay1 (F := Ideal)) (iblk m c 0 (pt t)) (iblk m c 1 (pt t)) : Vec Ideal S1024x1024 .f32) (ix2 r n) = _
    unfold k0_pay2 k0_pay1 result Mul.nt
    pointwise
    exact Finset.sum_congr rfl fun k _ => congrArg₂ (· * ·) (blk0 m c t r k) (blk1 m c t n k)
  · obtain ⟨r, n, rfl⟩ : ∃ (r : Fin 2048) (n : Fin 1024), i = ix2 r n := ⟨i 0, i 1, (ix2_eta i).symm⟩
    obtain ⟨t, r, rfl⟩ := Mul.blocked_surj (n := 2048) (a := 2) 1024 rfl (by decide) r
    exact ⟨pt t, flush0_2 _, by rw [show Mul.blocked 1024 rfl t r = at_ t r from rfl, ← emb2]; exact View.emb_mem_set _ _⟩

theorem frame_ideal : Cert.quiescent_OutDxIdeal := fun m ρ _ => Cert.OutDxIdeal.Gen.frame m ρ

theorem defs₀_eq : Cert.OutDx.defs₀ (F := Bits) = Cert.OutDxIdeal.defs₀ (F := Bits) := by
  unfold Cert.OutDx.defs₀ Cert.OutDxIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_OutDx := fun m ρ _ => by
  rw [show Cert.OutDx.defs (F := Bits) = Cert.OutDxIdeal.defs (F := Bits) from congrArg (Pipeline.defs _) defs₀_eq]
  exact (θ_run Cert.OutDxIdeal.defs _ _).mono (fun _ h => h) (Cert.OutDxIdeal.Gen.frame (F := Bits) m ρ)

theorem frame_ref : Cert.quiescent_OutDxRefIdeal := fun m ρ _ =>
  (θ_run Cert.OutDxRefIdeal.defs _ _).mono (fun r h => ⟨fun c => (h c).2, Idealize.ShloMosaic.sem_eq_zero_of_no_sems (by decide) r.2⟩)
    (Cert.OutDxRefIdeal.Value.run (F := Ideal) m ρ)

/-- The call computes the gradient of the product's left factor. -/
theorem algebraic : Cert.algebraic_OutDxIdeal_OutDxRefIdeal := by
  intro m g m' g' _ hargs
  refine ⟨fun c => result m c, ?_, ?_⟩
  · exact (θ_run Cert.OutDxIdeal.defs _ _).mono (fun r h c => ⟨(h c).1.trans (final m c), (h c).2⟩) (run_blocks m g)
  · refine (θ_run Cert.OutDxRefIdeal.defs _ _).mono (fun r h c => ⟨(h c).1.trans ?_, (h c).2⟩) (Cert.OutDxRefIdeal.Value.run (F := Ideal) m' g')
    obtain ⟨-, h1, h2⟩ := hargs c
    rw [h1, h2]
    funext y
    obtain ⟨r, n, rfl⟩ : ∃ (r : Fin 2048) (n : Fin 1024), y = ix2 r n := ⟨y 0, y 1, (ix2_eta y).symm⟩
    unfold result Mul.nt
    pointwise

end Cert.OutDxIdeal.Mm

end
-- ==== Proof.OutDw.lean ====
/-
  The output projection, backward: the gradient of its weight.
-/
module

public import proofs.«01_k».proof.Defs
public import proofs.«01_k».proof.Proof.Gen.OutDwIdeal.Value
public import proofs.«01_k».proof.Proof.Gen.OutDwRefIdeal.Run
public import proofs.«01_k».proof.Proof.Gen.OutDw
public import proofs.«01_k».proof.Proof.Mul
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.OutDwIdeal.Mm

open Cert.OutDwIdeal Cert.OutDwIdeal.Gen Cert.OutDwIdeal.Value
open Idealize.ShloMosaic Idealize.ShloMosaic.TcCoe Idealize.SL.Sem
open Idealize.ShloMosaic.Pipeline (Dat Window)

variable (m : (ℓ : Loc nD τ sig) → Buf (Elt Ideal) ℓ) (c : Dev nD)

/-- What a point copies out: zero plus the product of its two blocks. -/
theorem flushed_eq (t : Fin cfg0.N) : (dats m 0 c).flushed 2 t =
    (k0_pay3 (F := Ideal) (k0_pay2 (F := Ideal) (k0_pay1 (F := Ideal)) (iblk m c 0 t) (iblk m c 1 t))) := by
  rw [flushed2_A]
  unfold out0_A_2
  rw [View.read_writes_eq_canon _ _ _ (cover0_A_2 _ _ _ _ _ _ _ _ _ _ _ _ _ _)]
  unfold kernelRun0_A
  dsimp only
  sl_unfold_words
  simp only [View.canon_cons_unit_zero (S := S512x1024) Mul.hz, View.canon_unit_zero (S := S512x1024) Mul.hz,
    View.readCov_unit_zero (S := S512x1024) _ Mul.hz, View.readCov_cons_toLoadRect, View.readAt_eq_ld, (hs0_0 t).read_unread, (hs0_1 t).read_unread,
    View.ld_unit_zero (S := S2048x512) Mul.hz, View.ld_unit_zero (S := S2048x1024) Mul.hz]
  rfl

/-- Row `r` of the block of point `t`. -/
def at_ (t : Fin 2) (r : Fin 512) : Fin 1024 := Mul.blocked 512 rfl t r

def pt (t : Fin 2) : Fin cfg0.N := ⟨t.val, lt_of_lt_of_eq t.isLt N_0.symm⟩

theorem index0 : ∀ t : Fin 2, (cfg0.win 0).index (pt t) = ![0, t.val] := by decide
theorem index1 : ∀ t : Fin 2, (cfg0.win 1).index (pt t) = ![0, 0] := by decide
theorem index2 : ∀ t : Fin 2, (cfg0.win 2).index (pt t) = ![t.val, 0] := by decide

theorem emb0 (t : Fin 2) (i : Fin 2048) (j : Fin 512) : ((cfg0.win 0).blk (pt t)).view.emb (ix2 i j) = ix2 i (at_ t j) :=
  Mul.ix2_of_val (Window.rect_emb_val (cfg0.win 0) (pt t) (ix2 i j)) (by rw [index0]; exact Nat.zero_add _) (by rw [index0]; rfl)
theorem emb1 (t : Fin 2) (i : Fin 2048) (j : Fin 1024) : ((cfg0.win 1).blk (pt t)).view.emb (ix2 i j) = ix2 i j :=
  Mul.ix2_of_val (Window.rect_emb_val (cfg0.win 1) (pt t) (ix2 i j)) (by rw [index1]; exact Nat.zero_add _) (by rw [index1]; exact Nat.zero_add _)
theorem emb2 (t : Fin 2) (i : Fin 512) (j : Fin 1024) : ((cfg0.win 2).blk (pt t)).view.emb (ix2 i j) = ix2 (at_ t i) j :=
  Mul.ix2_of_val (Window.rect_emb_val (cfg0.win 2) (pt t) (ix2 i j)) (by rw [index2]; rfl) (by rw [index2]; exact Nat.zero_add _)

theorem blk0 (t : Fin 2) (i : Fin 2048) (j : Fin 512) :
    (iblk m c 0 (pt t) : Vec Ideal S2048x512 .bf16) (ix2 i j) = m ((c : Thread nD τ).loc main_arg0) (ix2 i (at_ t j)) := by
  refine (congrArg (V m c main_v0) (emb0 t i j)).trans ?_
  entry_read
  pointwise

theorem blk1 (t : Fin 2) (i : Fin 2048) (j : Fin 1024) :
    (iblk m c 1 (pt t) : Vec Ideal S2048x1024 .f32) (ix2 i j) = m ((c : Thread nD τ).loc main_arg2) (ix2 i j) := by
  refine (congrArg (V m c main_arg2) (emb1 t i j)).trans ?_
  rw [V_main_arg2]

/-- The result, entry by entry. -/
def result : Vec Ideal S1024x1024 .bf16 := Mul.tn (m ((c : Thread nD τ).loc main_arg0)) (m ((c : Thread nD τ).loc main_arg2))

theorem final : (dats m 0 c).arrAt 2 cfg0.N = result m c := by
  refine (dats m 0 c).arrAt_eq_of_cover 2 (result m c) (fun t hf => ?_) fun i => ?_
  · obtain ⟨t, rfl⟩ : ∃ s : Fin 2, t = pt s := ⟨⟨t.val, lt_of_lt_of_eq t.isLt N_0⟩, rfl⟩
    funext y
    obtain ⟨r, n, rfl⟩ : ∃ (r : Fin 512) (n : Fin 1024), y = ix2 r n := ⟨y 0, y 1, (ix2_eta y).symm⟩
    rw [flushed_eq, View.read_apply, emb2]
    show (k0_pay3 (F := Ideal) (k0_pay2 (F := Ideal) (k0_pay1 (F := Ideal)) (iblk m c 0 (pt t)) (iblk m c 1 (pt t))) : Vec Ideal S512x1024 .bf16) (ix2 r n) = _
    unfold k0_pay3 k0_pay2 k0_pay1 result Mul.tn
    pointwise
    exact Finset.sum_congr rfl fun k _ => congrArg₂ (· * ·) (blk0 m c t k r) (blk1 m c t k n)
  · obtain ⟨r, n, rfl⟩ : ∃ (r : Fin 1024) (n : Fin 1024), i = ix2 r n := ⟨i 0, i 1, (ix2_eta i).symm⟩
    obtain ⟨t, r, rfl⟩ := Mul.blocked_surj (n := 1024) (a := 2) 512 rfl (by decide) r
    exact ⟨pt t, flush0_2 _, by rw [show Mul.blocked 512 rfl t r = at_ t r from rfl, ← emb2]; exact View.emb_mem_set _ _⟩

theorem frame_ideal : Cert.quiescent_OutDwIdeal := fun m ρ _ => Cert.OutDwIdeal.Gen.frame m ρ

theorem defs₀_eq : Cert.OutDw.defs₀ (F := Bits) = Cert.OutDwIdeal.defs₀ (F := Bits) := by
  unfold Cert.OutDw.defs₀ Cert.OutDwIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_OutDw := fun m ρ _ => by
  rw [show Cert.OutDw.defs (F := Bits) = Cert.OutDwIdeal.defs (F := Bits) from congrArg (Pipeline.defs _) defs₀_eq]
  exact (θ_run Cert.OutDwIdeal.defs _ _).mono (fun _ h => h) (Cert.OutDwIdeal.Gen.frame (F := Bits) m ρ)

theorem frame_ref : Cert.quiescent_OutDwRefIdeal := fun m ρ _ =>
  (θ_run Cert.OutDwRefIdeal.defs _ _).mono (fun r h => ⟨fun c => (h c).2, Idealize.ShloMosaic.sem_eq_zero_of_no_sems (by decide) r.2⟩)
    (Cert.OutDwRefIdeal.Value.run (F := Ideal) m ρ)

/-- The call computes the gradient of the product's right factor. -/
theorem algebraic : Cert.algebraic_OutDwIdeal_OutDwRefIdeal := by
  intro m g m' g' _ hargs
  refine ⟨fun c => result m c, ?_, ?_⟩
  · exact (θ_run Cert.OutDwIdeal.defs _ _).mono (fun r h c => ⟨(h c).1.trans (final m c), (h c).2⟩) (run_blocks m g)
  · refine (θ_run Cert.OutDwRefIdeal.defs _ _).mono (fun r h c => ⟨(h c).1.trans ?_, (h c).2⟩) (Cert.OutDwRefIdeal.Value.run (F := Ideal) m' g')
    obtain ⟨h0, -, h2⟩ := hargs c
    rw [h0, h2]
    funext y
    obtain ⟨r, n, rfl⟩ : ∃ (r : Fin 1024) (n : Fin 1024), y = ix2 r n := ⟨y 0, y 1, (ix2_eta y).symm⟩
    unfold result Mul.tn
    pointwise
    exact Finset.sum_congr rfl fun k _ => mul_comm _ _

end Cert.OutDwIdeal.Mm

end
-- ==== Proof.InDw.lean ====
/-
  The input projection, backward: the gradient of its weight, transposed.
-/
module

public import proofs.«01_k».proof.Defs
public import proofs.«01_k».proof.Proof.Gen.InDwIdeal.Value
public import proofs.«01_k».proof.Proof.Gen.InDwRefIdeal.Run
public import proofs.«01_k».proof.Proof.Gen.InDw
public import proofs.«01_k».proof.Proof.Mul
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.InDwIdeal.Mm

open Cert.InDwIdeal Cert.InDwIdeal.Gen Cert.InDwIdeal.Value
open Idealize.ShloMosaic Idealize.ShloMosaic.TcCoe Idealize.SL.Sem
open Idealize.ShloMosaic.Pipeline (Dat Window)

variable (m : (ℓ : Loc nD τ sig) → Buf (Elt Ideal) ℓ) (c : Dev nD)

/-- What a point copies out: zero plus the product of its two blocks. -/
theorem flushed_eq (t : Fin cfg0.N) : (dats m 0 c).flushed 2 t =
    (k0_pay3 (F := Ideal) (k0_pay2 (F := Ideal) (k0_pay1 (F := Ideal)) (iblk m c 0 t) (iblk m c 1 t))) := by
  rw [flushed2_A]
  unfold out0_A_2
  rw [View.read_writes_eq_canon _ _ _ (cover0_A_2 _ _ _ _ _ _ _ _ _ _ _ _ _ _)]
  unfold kernelRun0_A
  dsimp only
  sl_unfold_words
  simp only [View.canon_cons_unit_zero (S := S512x1024) Mul.hz, View.canon_unit_zero (S := S512x1024) Mul.hz,
    View.readCov_unit_zero (S := S512x1024) _ Mul.hz, View.readCov_cons_toLoadRect, View.readAt_eq_ld, (hs0_0 t).read_unread, (hs0_1 t).read_unread,
    View.ld_unit_zero (S := S2048x512) Mul.hz, View.ld_unit_zero (S := S2048x1024) Mul.hz]
  rfl

/-- Row `r` of the block of point `t`. -/
def at_ (t : Fin 7) (r : Fin 512) : Fin 3584 := Mul.blocked 512 rfl t r

def pt (t : Fin 7) : Fin cfg0.N := ⟨t.val, lt_of_lt_of_eq t.isLt N_0.symm⟩

theorem index0 : ∀ t : Fin 7, (cfg0.win 0).index (pt t) = ![0, t.val] := by decide
theorem index1 : ∀ t : Fin 7, (cfg0.win 1).index (pt t) = ![0, 0] := by decide
theorem index2 : ∀ t : Fin 7, (cfg0.win 2).index (pt t) = ![t.val, 0] := by decide

theorem emb0 (t : Fin 7) (i : Fin 2048) (j : Fin 512) : ((cfg0.win 0).blk (pt t)).view.emb (ix2 i j) = ix2 i (at_ t j) :=
  Mul.ix2_of_val (Window.rect_emb_val (cfg0.win 0) (pt t) (ix2 i j)) (by rw [index0]; exact Nat.zero_add _) (by rw [index0]; rfl)
theorem emb1 (t : Fin 7) (i : Fin 2048) (j : Fin 1024) : ((cfg0.win 1).blk (pt t)).view.emb (ix2 i j) = ix2 i j :=
  Mul.ix2_of_val (Window.rect_emb_val (cfg0.win 1) (pt t) (ix2 i j)) (by rw [index1]; exact Nat.zero_add _) (by rw [index1]; exact Nat.zero_add _)
theorem emb2 (t : Fin 7) (i : Fin 512) (j : Fin 1024) : ((cfg0.win 2).blk (pt t)).view.emb (ix2 i j) = ix2 (at_ t i) j :=
  Mul.ix2_of_val (Window.rect_emb_val (cfg0.win 2) (pt t) (ix2 i j)) (by rw [index2]; rfl) (by rw [index2]; exact Nat.zero_add _)

theorem blk0 (t : Fin 7) (i : Fin 2048) (j : Fin 512) :
    (iblk m c 0 (pt t) : Vec Ideal S2048x512 .bf16) (ix2 i j) = m ((c : Thread nD τ).loc main_arg2) (ix2 i (at_ t j)) := by
  refine (congrArg (V m c main_v0) (emb0 t i j)).trans ?_
  entry_read
  pointwise

theorem blk1 (t : Fin 7) (i : Fin 2048) (j : Fin 1024) :
    (iblk m c 1 (pt t) : Vec Ideal S2048x1024 .f32) (ix2 i j) = m ((c : Thread nD τ).loc main_arg0) (ix2 i j) := by
  refine (congrArg (V m c main_arg0) (emb1 t i j)).trans ?_
  rw [V_main_arg0]

/-- The result, entry by entry. -/
def result : Vec Ideal S3584x1024 .bf16 := Mul.tn (m ((c : Thread nD τ).loc main_arg2)) (m ((c : Thread nD τ).loc main_arg0))

theorem final : (dats m 0 c).arrAt 2 cfg0.N = result m c := by
  refine (dats m 0 c).arrAt_eq_of_cover 2 (result m c) (fun t hf => ?_) fun i => ?_
  · obtain ⟨t, rfl⟩ : ∃ s : Fin 7, t = pt s := ⟨⟨t.val, lt_of_lt_of_eq t.isLt N_0⟩, rfl⟩
    funext y
    obtain ⟨r, n, rfl⟩ : ∃ (r : Fin 512) (n : Fin 1024), y = ix2 r n := ⟨y 0, y 1, (ix2_eta y).symm⟩
    rw [flushed_eq, View.read_apply, emb2]
    show (k0_pay3 (F := Ideal) (k0_pay2 (F := Ideal) (k0_pay1 (F := Ideal)) (iblk m c 0 (pt t)) (iblk m c 1 (pt t))) : Vec Ideal S512x1024 .bf16) (ix2 r n) = _
    unfold k0_pay3 k0_pay2 k0_pay1 result Mul.tn
    pointwise
    exact Finset.sum_congr rfl fun k _ => congrArg₂ (· * ·) (blk0 m c t k r) (blk1 m c t k n)
  · obtain ⟨r, n, rfl⟩ : ∃ (r : Fin 3584) (n : Fin 1024), i = ix2 r n := ⟨i 0, i 1, (ix2_eta i).symm⟩
    obtain ⟨t, r, rfl⟩ := Mul.blocked_surj (n := 3584) (a := 7) 512 rfl (by decide) r
    exact ⟨pt t, flush0_2 _, by rw [show Mul.blocked 512 rfl t r = at_ t r from rfl, ← emb2]; exact View.emb_mem_set _ _⟩

theorem frame_ideal : Cert.quiescent_InDwIdeal := fun m ρ _ => Cert.InDwIdeal.Gen.frame m ρ

theorem defs₀_eq : Cert.InDw.defs₀ (F := Bits) = Cert.InDwIdeal.defs₀ (F := Bits) := by
  unfold Cert.InDw.defs₀ Cert.InDwIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_InDw := fun m ρ _ => by
  rw [show Cert.InDw.defs (F := Bits) = Cert.InDwIdeal.defs (F := Bits) from congrArg (Pipeline.defs _) defs₀_eq]
  exact (θ_run Cert.InDwIdeal.defs _ _).mono (fun _ h => h) (Cert.InDwIdeal.Gen.frame (F := Bits) m ρ)

theorem frame_ref : Cert.quiescent_InDwRefIdeal := fun m ρ _ =>
  (θ_run Cert.InDwRefIdeal.defs _ _).mono (fun r h => ⟨fun c => (h c).2, Idealize.ShloMosaic.sem_eq_zero_of_no_sems (by decide) r.2⟩)
    (Cert.InDwRefIdeal.Value.run (F := Ideal) m ρ)

/-- The call computes the gradient of the product's right factor, transposed. -/
theorem algebraic : Cert.algebraic_InDwIdeal_InDwRefIdeal := by
  intro m g m' g' _ hargs
  refine ⟨fun c => result m c, ?_, ?_⟩
  · exact (θ_run Cert.InDwIdeal.defs _ _).mono (fun r h c => ⟨(h c).1.trans (final m c), (h c).2⟩) (run_blocks m g)
  · refine (θ_run Cert.InDwRefIdeal.defs _ _).mono (fun r h c => ⟨(h c).1.trans ?_, (h c).2⟩) (Cert.InDwRefIdeal.Value.run (F := Ideal) m' g')
    obtain ⟨h0, -, h2⟩ := hargs c
    rw [h0, h2]
    funext y
    obtain ⟨r, n, rfl⟩ : ∃ (r : Fin 3584) (n : Fin 1024), y = ix2 r n := ⟨y 0, y 1, (ix2_eta y).symm⟩
    unfold result Mul.tn
    pointwise

end Cert.InDwIdeal.Mm

end
-- ==== Proof.Down.lean ====
/-
  The feed-forward's last product, with the residual it is added to.
-/
module

public import proofs.«01_k».proof.Defs
public import proofs.«01_k».proof.Proof.Gen.DownIdeal.Value
public import proofs.«01_k».proof.Proof.Gen.DownRefIdeal.Run
public import proofs.«01_k».proof.Proof.Gen.Down
public import proofs.«01_k».proof.Proof.Mul
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.DownIdeal.Mm

open Cert.DownIdeal Cert.DownIdeal.Gen Cert.DownIdeal.Value
open Idealize.ShloMosaic Idealize.ShloMosaic.TcCoe Idealize.SL.Sem
open Idealize.ShloMosaic.Pipeline (Dat Window)

variable (m : (ℓ : Loc nD τ sig) → Buf (Elt Ideal) ℓ) (c : Dev nD)

/-- What a point copies out: the block to add to plus the product of its two blocks. -/
theorem flushed_eq (t : Fin cfg0.N) : (dats m 0 c).flushed 3 t =
    (k0_pay2 (F := Ideal) (k0_pay1 (F := Ideal) (iblk m c 2 t)) (iblk m c 0 t) (iblk m c 1 t)) := by
  rw [flushed3_A]
  unfold out0_A_3
  rw [View.read_writes_eq_canon _ _ _ (cover0_A_3 _ _ _ _ _ _ _ _ _ _ _ _ _ _ _ _ _)]
  unfold kernelRun0_A
  dsimp only
  sl_unfold_words
  simp only [View.canon_cons_unit_zero (S := S512x1024) Mul.hz, View.canon_unit_zero (S := S512x1024) Mul.hz,
    View.readCov_unit_zero (S := S512x1024) _ Mul.hz, View.readCov_cons_toLoadRect, View.readAt_eq_ld, (hs0_0 t).read_unread, (hs0_1 t).read_unread, (hs0_2 t).read_unread,
    View.ld_unit_zero (S := S512x2816) Mul.hz, View.ld_unit_zero (S := S2816x1024) Mul.hz, View.ld_unit_zero (S := S512x1024) Mul.hz]
  rfl

/-- Row `r` of the block of point `t`. -/
def at_ (t : Fin 4) (r : Fin 512) : Fin 2048 := Mul.blocked 512 rfl t r

def pt (t : Fin 4) : Fin cfg0.N := ⟨t.val, lt_of_lt_of_eq t.isLt N_0.symm⟩

theorem index0 : ∀ t : Fin 4, (cfg0.win 0).index (pt t) = ![t.val, 0] := by decide
theorem index1 : ∀ t : Fin 4, (cfg0.win 1).index (pt t) = ![0, 0] := by decide
theorem index2 : ∀ t : Fin 4, (cfg0.win 2).index (pt t) = ![t.val, 0] := by decide
theorem index3 : ∀ t : Fin 4, (cfg0.win 3).index (pt t) = ![t.val, 0] := by decide

theorem emb0 (t : Fin 4) (i : Fin 512) (j : Fin 2816) : ((cfg0.win 0).blk (pt t)).view.emb (ix2 i j) = ix2 (at_ t i) j :=
  Mul.ix2_of_val (Window.rect_emb_val (cfg0.win 0) (pt t) (ix2 i j)) (by rw [index0]; rfl) (by rw [index0]; exact Nat.zero_add _)
theorem emb1 (t : Fin 4) (i : Fin 2816) (j : Fin 1024) : ((cfg0.win 1).blk (pt t)).view.emb (ix2 i j) = ix2 i j :=
  Mul.ix2_of_val (Window.rect_emb_val (cfg0.win 1) (pt t) (ix2 i j)) (by rw [index1]; exact Nat.zero_add _) (by rw [index1]; exact Nat.zero_add _)
theorem emb2 (t : Fin 4) (i : Fin 512) (j : Fin 1024) : ((cfg0.win 2).blk (pt t)).view.emb (ix2 i j) = ix2 (at_ t i) j :=
  Mul.ix2_of_val (Window.rect_emb_val (cfg0.win 2) (pt t) (ix2 i j)) (by rw [index2]; rfl) (by rw [index2]; exact Nat.zero_add _)
theorem emb3 (t : Fin 4) (i : Fin 512) (j : Fin 1024) : ((cfg0.win 3).blk (pt t)).view.emb (ix2 i j) = ix2 (at_ t i) j :=
  Mul.ix2_of_val (Window.rect_emb_val (cfg0.win 3) (pt t) (ix2 i j)) (by rw [index3]; rfl) (by rw [index3]; exact Nat.zero_add _)

theorem blk0 (t : Fin 4) (i : Fin 512) (j : Fin 2816) :
    (iblk m c 0 (pt t) : Vec Ideal S512x2816 .bf16) (ix2 i j) = m ((c : Thread nD τ).loc main_arg0) (ix2 (at_ t i) j) := by
  refine (congrArg (V m c main_v0) (emb0 t i j)).trans ?_
  entry_read
  pointwise

theorem blk1 (t : Fin 4) (i : Fin 2816) (j : Fin 1024) :
    (iblk m c 1 (pt t) : Vec Ideal S2816x1024 .bf16) (ix2 i j) = m ((c : Thread nD τ).loc main_arg1) (ix2 i j) := by
  refine (congrArg (V m c main_v1) (emb1 t i j)).trans ?_
  entry_read
  pointwise

theorem blk2 (t : Fin 4) (i : Fin 512) (j : Fin 1024) :
    (iblk m c 2 (pt t) : Vec Ideal S512x1024 .f32) (ix2 i j) = m ((c : Thread nD τ).loc main_arg2) (ix2 (at_ t i) j) := by
  refine (congrArg (V m c main_arg2) (emb2 t i j)).trans ?_
  rw [V_main_arg2]

/-- The result, entry by entry. -/
def result : Vec Ideal S2048x1024 .f32 := Mul.add (m ((c : Thread nD τ).loc main_arg2)) (Mul.nn (m ((c : Thread nD τ).loc main_arg0)) (m ((c : Thread nD τ).loc main_arg1)))

theorem final : (dats m 0 c).arrAt 3 cfg0.N = result m c := by
  refine (dats m 0 c).arrAt_eq_of_cover 3 (result m c) (fun t hf => ?_) fun i => ?_
  · obtain ⟨t, rfl⟩ : ∃ s : Fin 4, t = pt s := ⟨⟨t.val, lt_of_lt_of_eq t.isLt N_0⟩, rfl⟩
    funext y
    obtain ⟨r, n, rfl⟩ : ∃ (r : Fin 512) (n : Fin 1024), y = ix2 r n := ⟨y 0, y 1, (ix2_eta y).symm⟩
    rw [flushed_eq, View.read_apply, emb3]
    show (k0_pay2 (F := Ideal) (k0_pay1 (F := Ideal) (iblk m c 2 (pt t))) (iblk m c 0 (pt t)) (iblk m c 1 (pt t)) : Vec Ideal S512x1024 .f32) (ix2 r n) = _
    unfold k0_pay2 k0_pay1 result Mul.nn Mul.add
    pointwise
    exact congrArg₂ (· + ·) (blk2 m c t r n) (Finset.sum_congr rfl fun k _ => congrArg₂ (· * ·) (blk0 m c t r k) (blk1 m c t k n))
  · obtain ⟨r, n, rfl⟩ : ∃ (r : Fin 2048) (n : Fin 1024), i = ix2 r n := ⟨i 0, i 1, (ix2_eta i).symm⟩
    obtain ⟨t, r, rfl⟩ := Mul.blocked_surj (n := 2048) (a := 4) 512 rfl (by decide) r
    exact ⟨pt t, flush0_3 _, by rw [show Mul.blocked 512 rfl t r = at_ t r from rfl, ← emb3]; exact View.emb_mem_set _ _⟩

theorem frame_ideal : Cert.quiescent_DownIdeal := fun m ρ _ => Cert.DownIdeal.Gen.frame m ρ

theorem defs₀_eq : Cert.Down.defs₀ (F := Bits) = Cert.DownIdeal.defs₀ (F := Bits) := by
  unfold Cert.Down.defs₀ Cert.DownIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_Down := fun m ρ _ => by
  rw [show Cert.Down.defs (F := Bits) = Cert.DownIdeal.defs (F := Bits) from congrArg (Pipeline.defs _) defs₀_eq]
  exact (θ_run Cert.DownIdeal.defs _ _).mono (fun _ h => h) (Cert.DownIdeal.Gen.frame (F := Bits) m ρ)

theorem frame_ref : Cert.quiescent_DownRefIdeal := fun m ρ _ =>
  (θ_run Cert.DownRefIdeal.defs _ _).mono (fun r h => ⟨fun c => (h c).2, Idealize.ShloMosaic.sem_eq_zero_of_no_sems (by decide) r.2⟩)
    (Cert.DownRefIdeal.Value.run (F := Ideal) m ρ)

/-- The call computes the residual plus the product. -/
theorem algebraic : Cert.algebraic_DownIdeal_DownRefIdeal := by
  intro m g m' g' _ hargs
  refine ⟨fun c => result m c, ?_, ?_⟩
  · exact (θ_run Cert.DownIdeal.defs _ _).mono (fun r h c => ⟨(h c).1.trans (final m c), (h c).2⟩) (run_blocks m g)
  · refine (θ_run Cert.DownRefIdeal.defs _ _).mono (fun r h c => ⟨(h c).1.trans ?_, (h c).2⟩) (Cert.DownRefIdeal.Value.run (F := Ideal) m' g')
    obtain ⟨h0, h1, h2⟩ := hargs c
    rw [h0, h1, h2]
    funext y
    obtain ⟨r, n, rfl⟩ : ∃ (r : Fin 2048) (n : Fin 1024), y = ix2 r n := ⟨y 0, y 1, (ix2_eta y).symm⟩
    unfold result Mul.nn Mul.add
    pointwise

end Cert.DownIdeal.Mm

end
-- ==== Proof.Gate.lean ====
/-
  The feed-forward's gate product.
-/
module

public import proofs.«01_k».proof.Defs
public import proofs.«01_k».proof.Proof.Gen.GateIdeal.Value
public import proofs.«01_k».proof.Proof.Gen.GateRefIdeal.Run
public import proofs.«01_k».proof.Proof.Gen.Gate
public import proofs.«01_k».proof.Proof.Mul
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.GateIdeal.Mm

open Cert.GateIdeal Cert.GateIdeal.Gen Cert.GateIdeal.Value
open Idealize.ShloMosaic Idealize.ShloMosaic.TcCoe Idealize.SL.Sem
open Idealize.ShloMosaic.Pipeline (Dat Window)

variable (m : (ℓ : Loc nD τ sig) → Buf (Elt Ideal) ℓ) (c : Dev nD)

/-- What a point copies out: zero plus the product of its two blocks. -/
theorem flushed_eq (t : Fin cfg0.N) : (dats m 0 c).flushed 2 t =
    (k0_pay2 (F := Ideal) (k0_pay1 (F := Ideal)) (iblk m c 0 t) (iblk m c 1 t)) := by
  rw [flushed2_A]
  unfold out0_A_2
  rw [View.read_writes_eq_canon _ _ _ (cover0_A_2 _ _ _ _ _ _ _ _ _ _ _ _ _ _)]
  unfold kernelRun0_A
  dsimp only
  sl_unfold_words
  simp only [View.canon_cons_unit_zero (S := S256x2816) Mul.hz, View.canon_unit_zero (S := S256x2816) Mul.hz,
    View.readCov_unit_zero (S := S256x2816) _ Mul.hz, View.readCov_cons_toLoadRect, View.readAt_eq_ld, (hs0_0 t).read_unread, (hs0_1 t).read_unread,
    View.ld_unit_zero (S := S256x1024) Mul.hz, View.ld_unit_zero (S := S2816x1024) Mul.hz]
  rfl

/-- Row `r` of the block of point `t`. -/
def at_ (t : Fin 8) (r : Fin 256) : Fin 2048 := Mul.blocked 256 rfl t r

def pt (t : Fin 8) : Fin cfg0.N := ⟨t.val, lt_of_lt_of_eq t.isLt N_0.symm⟩

theorem index0 : ∀ t : Fin 8, (cfg0.win 0).index (pt t) = ![t.val, 0] := by decide
theorem index1 : ∀ t : Fin 8, (cfg0.win 1).index (pt t) = ![0, 0] := by decide
theorem index2 : ∀ t : Fin 8, (cfg0.win 2).index (pt t) = ![t.val, 0] := by decide

theorem emb0 (t : Fin 8) (i : Fin 256) (j : Fin 1024) : ((cfg0.win 0).blk (pt t)).view.emb (ix2 i j) = ix2 (at_ t i) j :=
  Mul.ix2_of_val (Window.rect_emb_val (cfg0.win 0) (pt t) (ix2 i j)) (by rw [index0]; rfl) (by rw [index0]; exact Nat.zero_add _)
theorem emb1 (t : Fin 8) (i : Fin 2816) (j : Fin 1024) : ((cfg0.win 1).blk (pt t)).view.emb (ix2 i j) = ix2 i j :=
  Mul.ix2_of_val (Window.rect_emb_val (cfg0.win 1) (pt t) (ix2 i j)) (by rw [index1]; exact Nat.zero_add _) (by rw [index1]; exact Nat.zero_add _)
theorem emb2 (t : Fin 8) (i : Fin 256) (j : Fin 2816) : ((cfg0.win 2).blk (pt t)).view.emb (ix2 i j) = ix2 (at_ t i) j :=
  Mul.ix2_of_val (Window.rect_emb_val (cfg0.win 2) (pt t) (ix2 i j)) (by rw [index2]; rfl) (by rw [index2]; exact Nat.zero_add _)

theorem blk0 (t : Fin 8) (i : Fin 256) (j : Fin 1024) :
    (iblk m c 0 (pt t) : Vec Ideal S256x1024 .bf16) (ix2 i j) = m ((c : Thread nD τ).loc main_arg0) (ix2 (at_ t i) j) := by
  refine (congrArg (V m c main_v0) (emb0 t i j)).trans ?_
  entry_read
  pointwise

theorem blk1 (t : Fin 8) (i : Fin 2816) (j : Fin 1024) :
    (iblk m c 1 (pt t) : Vec Ideal S2816x1024 .bf16) (ix2 i j) = m ((c : Thread nD τ).loc main_arg1) (ix2 j i) := by
  refine (congrArg (V m c main_v2) (emb1 t i j)).trans ?_
  entry_read
  pointwise

/-- The result, entry by entry. -/
def result : Vec Ideal S2048x2816 .f32 := Mul.nn (m ((c : Thread nD τ).loc main_arg0)) (m ((c : Thread nD τ).loc main_arg1))

theorem final : (dats m 0 c).arrAt 2 cfg0.N = result m c := by
  refine (dats m 0 c).arrAt_eq_of_cover 2 (result m c) (fun t hf => ?_) fun i => ?_
  · obtain ⟨t, rfl⟩ : ∃ s : Fin 8, t = pt s := ⟨⟨t.val, lt_of_lt_of_eq t.isLt N_0⟩, rfl⟩
    funext y
    obtain ⟨r, n, rfl⟩ : ∃ (r : Fin 256) (n : Fin 2816), y = ix2 r n := ⟨y 0, y 1, (ix2_eta y).symm⟩
    rw [flushed_eq, View.read_apply, emb2]
    show (k0_pay2 (F := Ideal) (k0_pay1 (F := Ideal)) (iblk m c 0 (pt t)) (iblk m c 1 (pt t)) : Vec Ideal S256x2816 .f32) (ix2 r n) = _
    unfold k0_pay2 k0_pay1 result Mul.nn
    pointwise
    exact Finset.sum_congr rfl fun k _ => congrArg₂ (· * ·) (blk0 m c t r k) (blk1 m c t n k)
  · obtain ⟨r, n, rfl⟩ : ∃ (r : Fin 2048) (n : Fin 2816), i = ix2 r n := ⟨i 0, i 1, (ix2_eta i).symm⟩
    obtain ⟨t, r, rfl⟩ := Mul.blocked_surj (n := 2048) (a := 8) 256 rfl (by decide) r
    exact ⟨pt t, flush0_2 _, by rw [show Mul.blocked 256 rfl t r = at_ t r from rfl, ← emb2]; exact View.emb_mem_set _ _⟩

theorem frame_ideal : Cert.quiescent_GateIdeal := fun m ρ _ => Cert.GateIdeal.Gen.frame m ρ

theorem defs₀_eq : Cert.Gate.defs₀ (F := Bits) = Cert.GateIdeal.defs₀ (F := Bits) := by
  unfold Cert.Gate.defs₀ Cert.GateIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_Gate := fun m ρ _ => by
  rw [show Cert.Gate.defs (F := Bits) = Cert.GateIdeal.defs (F := Bits) from congrArg (Pipeline.defs _) defs₀_eq]
  exact (θ_run Cert.GateIdeal.defs _ _).mono (fun _ h => h) (Cert.GateIdeal.Gen.frame (F := Bits) m ρ)

theorem frame_ref : Cert.quiescent_GateRefIdeal := fun m ρ _ =>
  (θ_run Cert.GateRefIdeal.defs _ _).mono (fun r h => ⟨fun c => (h c).2, Idealize.ShloMosaic.sem_eq_zero_of_no_sems (by decide) r.2⟩)
    (Cert.GateRefIdeal.Value.run (F := Ideal) m ρ)

/-- The call computes the product. -/
theorem algebraic : Cert.algebraic_GateIdeal_GateRefIdeal := by
  intro m g m' g' _ hargs
  refine ⟨fun c => result m c, ?_, ?_⟩
  · exact (θ_run Cert.GateIdeal.defs _ _).mono (fun r h c => ⟨(h c).1.trans (final m c), (h c).2⟩) (run_blocks m g)
  · refine (θ_run Cert.GateRefIdeal.defs _ _).mono (fun r h c => ⟨(h c).1.trans ?_, (h c).2⟩) (Cert.GateRefIdeal.Value.run (F := Ideal) m' g')
    obtain ⟨h0, h1⟩ := hargs c
    rw [h0, h1]
    funext y
    obtain ⟨r, n, rfl⟩ : ∃ (r : Fin 2048) (n : Fin 2816), y = ix2 r n := ⟨y 0, y 1, (ix2_eta y).symm⟩
    unfold result Mul.nn
    pointwise

end Cert.GateIdeal.Mm

end
-- ==== Proof.Out.lean ====
/-
  The output projection, with the residual it is added to.
-/
module

public import proofs.«01_k».proof.Defs
public import proofs.«01_k».proof.Proof.Gen.OutIdeal.Value
public import proofs.«01_k».proof.Proof.Gen.OutRefIdeal.Run
public import proofs.«01_k».proof.Proof.Gen.Out
public import proofs.«01_k».proof.Proof.Mul
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.OutIdeal.Mm

open Cert.OutIdeal Cert.OutIdeal.Gen Cert.OutIdeal.Value
open Idealize.ShloMosaic Idealize.ShloMosaic.TcCoe Idealize.SL.Sem
open Idealize.ShloMosaic.Pipeline (Dat Window)

variable (m : (ℓ : Loc nD τ sig) → Buf (Elt Ideal) ℓ) (c : Dev nD)

/-- What a point copies out: the block to add to plus the product of its two blocks. -/
theorem flushed_eq (t : Fin cfg0.N) : (dats m 0 c).flushed 3 t =
    (k0_pay2 (F := Ideal) (k0_pay1 (F := Ideal) (iblk m c 2 t)) (iblk m c 0 t) (iblk m c 1 t)) := by
  rw [flushed3_A]
  unfold out0_A_3
  rw [View.read_writes_eq_canon _ _ _ (cover0_A_3 _ _ _ _ _ _ _ _ _ _ _ _ _ _ _ _ _)]
  unfold kernelRun0_A
  dsimp only
  sl_unfold_words
  simp only [View.canon_cons_unit_zero (S := S1024x1024) Mul.hz, View.canon_unit_zero (S := S1024x1024) Mul.hz,
    View.readCov_unit_zero (S := S1024x1024) _ Mul.hz, View.readCov_cons_toLoadRect, View.readAt_eq_ld, (hs0_0 t).read_unread, (hs0_1 t).read_unread, (hs0_2 t).read_unread,
    View.ld_unit_zero (S := S1024x1024) Mul.hz]
  rfl

/-- Row `r` of the block of point `t`. -/
def at_ (t : Fin 2) (r : Fin 1024) : Fin 2048 := Mul.blocked 1024 rfl t r

def pt (t : Fin 2) : Fin cfg0.N := ⟨t.val, lt_of_lt_of_eq t.isLt N_0.symm⟩

theorem index0 : ∀ t : Fin 2, (cfg0.win 0).index (pt t) = ![t.val, 0] := by decide
theorem index1 : ∀ t : Fin 2, (cfg0.win 1).index (pt t) = ![0, 0] := by decide
theorem index2 : ∀ t : Fin 2, (cfg0.win 2).index (pt t) = ![t.val, 0] := by decide
theorem index3 : ∀ t : Fin 2, (cfg0.win 3).index (pt t) = ![t.val, 0] := by decide

theorem emb0 (t : Fin 2) (i : Fin 1024) (j : Fin 1024) : ((cfg0.win 0).blk (pt t)).view.emb (ix2 i j) = ix2 (at_ t i) j :=
  Mul.ix2_of_val (Window.rect_emb_val (cfg0.win 0) (pt t) (ix2 i j)) (by rw [index0]; rfl) (by rw [index0]; exact Nat.zero_add _)
theorem emb1 (t : Fin 2) (i : Fin 1024) (j : Fin 1024) : ((cfg0.win 1).blk (pt t)).view.emb (ix2 i j) = ix2 i j :=
  Mul.ix2_of_val (Window.rect_emb_val (cfg0.win 1) (pt t) (ix2 i j)) (by rw [index1]; exact Nat.zero_add _) (by rw [index1]; exact Nat.zero_add _)
theorem emb2 (t : Fin 2) (i : Fin 1024) (j : Fin 1024) : ((cfg0.win 2).blk (pt t)).view.emb (ix2 i j) = ix2 (at_ t i) j :=
  Mul.ix2_of_val (Window.rect_emb_val (cfg0.win 2) (pt t) (ix2 i j)) (by rw [index2]; rfl) (by rw [index2]; exact Nat.zero_add _)
theorem emb3 (t : Fin 2) (i : Fin 1024) (j : Fin 1024) : ((cfg0.win 3).blk (pt t)).view.emb (ix2 i j) = ix2 (at_ t i) j :=
  Mul.ix2_of_val (Window.rect_emb_val (cfg0.win 3) (pt t) (ix2 i j)) (by rw [index3]; rfl) (by rw [index3]; exact Nat.zero_add _)

theorem blk0 (t : Fin 2) (i : Fin 1024) (j : Fin 1024) :
    (iblk m c 0 (pt t) : Vec Ideal S1024x1024 .bf16) (ix2 i j) = m ((c : Thread nD τ).loc main_arg0) (ix2 (at_ t i) j) := by
  refine (congrArg (V m c main_v0) (emb0 t i j)).trans ?_
  entry_read
  pointwise

theorem blk1 (t : Fin 2) (i : Fin 1024) (j : Fin 1024) :
    (iblk m c 1 (pt t) : Vec Ideal S1024x1024 .bf16) (ix2 i j) = m ((c : Thread nD τ).loc main_arg1) (ix2 i j) := by
  refine (congrArg (V m c main_v1) (emb1 t i j)).trans ?_
  entry_read
  pointwise

theorem blk2 (t : Fin 2) (i : Fin 1024) (j : Fin 1024) :
    (iblk m c 2 (pt t) : Vec Ideal S1024x1024 .f32) (ix2 i j) = m ((c : Thread nD τ).loc main_arg2) (ix2 (at_ t i) j) := by
  refine (congrArg (V m c main_arg2) (emb2 t i j)).trans ?_
  rw [V_main_arg2]

/-- The result, entry by entry. -/
def result : Vec Ideal S2048x1024 .f32 := Mul.add (m ((c : Thread nD τ).loc main_arg2)) (Mul.nn (m ((c : Thread nD τ).loc main_arg0)) (m ((c : Thread nD τ).loc main_arg1)))

theorem final : (dats m 0 c).arrAt 3 cfg0.N = result m c := by
  refine (dats m 0 c).arrAt_eq_of_cover 3 (result m c) (fun t hf => ?_) fun i => ?_
  · obtain ⟨t, rfl⟩ : ∃ s : Fin 2, t = pt s := ⟨⟨t.val, lt_of_lt_of_eq t.isLt N_0⟩, rfl⟩
    funext y
    obtain ⟨r, n, rfl⟩ : ∃ (r : Fin 1024) (n : Fin 1024), y = ix2 r n := ⟨y 0, y 1, (ix2_eta y).symm⟩
    rw [flushed_eq, View.read_apply, emb3]
    show (k0_pay2 (F := Ideal) (k0_pay1 (F := Ideal) (iblk m c 2 (pt t))) (iblk m c 0 (pt t)) (iblk m c 1 (pt t)) : Vec Ideal S1024x1024 .f32) (ix2 r n) = _
    unfold k0_pay2 k0_pay1 result Mul.nn Mul.add
    pointwise
    exact congrArg₂ (· + ·) (blk2 m c t r n) (Finset.sum_congr rfl fun k _ => congrArg₂ (· * ·) (blk0 m c t r k) (blk1 m c t k n))
  · obtain ⟨r, n, rfl⟩ : ∃ (r : Fin 2048) (n : Fin 1024), i = ix2 r n := ⟨i 0, i 1, (ix2_eta i).symm⟩
    obtain ⟨t, r, rfl⟩ := Mul.blocked_surj (n := 2048) (a := 2) 1024 rfl (by decide) r
    exact ⟨pt t, flush0_3 _, by rw [show Mul.blocked 1024 rfl t r = at_ t r from rfl, ← emb3]; exact View.emb_mem_set _ _⟩

theorem frame_ideal : Cert.quiescent_OutIdeal := fun m ρ _ => Cert.OutIdeal.Gen.frame m ρ

theorem defs₀_eq : Cert.Out.defs₀ (F := Bits) = Cert.OutIdeal.defs₀ (F := Bits) := by
  unfold Cert.Out.defs₀ Cert.OutIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_Out := fun m ρ _ => by
  rw [show Cert.Out.defs (F := Bits) = Cert.OutIdeal.defs (F := Bits) from congrArg (Pipeline.defs _) defs₀_eq]
  exact (θ_run Cert.OutIdeal.defs _ _).mono (fun _ h => h) (Cert.OutIdeal.Gen.frame (F := Bits) m ρ)

theorem frame_ref : Cert.quiescent_OutRefIdeal := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)

/-- The call computes the residual plus the product. -/
theorem algebraic : Cert.algebraic_OutIdeal_OutRefIdeal := by
  intro m g m' g' _ hargs
  refine ⟨fun c => result m c, ?_, ?_⟩
  · exact (θ_run Cert.OutIdeal.defs _ _).mono (fun r h c => ⟨(h c).1.trans (final m c), (h c).2⟩) (run_blocks m g)
  · refine (θ_run Cert.OutRefIdeal.defs _ _).mono (fun r h c => ⟨(h c).1.trans ?_, (h c).2⟩) (Cert.OutRefIdeal.Value.run (F := Ideal) m' g')
    obtain ⟨h0, h1, h2⟩ := hargs c
    rw [h0, h1, h2]
    funext y
    obtain ⟨r, n, rfl⟩ : ∃ (r : Fin 2048) (n : Fin 1024), y = ix2 r n := ⟨y 0, y 1, (ix2_eta y).symm⟩
    unfold result Mul.nn Mul.add
    pointwise

end Cert.OutIdeal.Mm

end
-- ==== Proof.In.lean ====
/-
  The input projection.
-/
module

public import proofs.«01_k».proof.Defs
public import proofs.«01_k».proof.Proof.Gen.InIdeal.Value
public import proofs.«01_k».proof.Proof.Gen.InRefIdeal.Run
public import proofs.«01_k».proof.Proof.Gen.In
public import proofs.«01_k».proof.Proof.Mul
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.InIdeal.Mm

open Cert.InIdeal Cert.InIdeal.Gen Cert.InIdeal.Value
open Idealize.ShloMosaic Idealize.ShloMosaic.TcCoe Idealize.SL.Sem
open Idealize.ShloMosaic.Pipeline (Dat Window)

variable (m : (ℓ : Loc nD τ sig) → Buf (Elt Ideal) ℓ) (c : Dev nD)

/-- What a point copies out: zero plus the product of its two blocks. -/
theorem flushed_eq (t : Fin cfg0.N) : (dats m 0 c).flushed 2 t =
    (k0_pay2 (F := Ideal) (k0_pay1 (F := Ideal)) (iblk m c 0 t) (iblk m c 1 t)) := by
  rw [flushed2_A]
  unfold out0_A_2
  rw [View.read_writes_eq_canon _ _ _ (cover0_A_2 _ _ _ _ _ _ _ _ _ _ _ _ _ _)]
  unfold kernelRun0_A
  dsimp only
  sl_unfold_words
  simp only [View.canon_cons_unit_zero (S := S2048x512) Mul.hz, View.canon_unit_zero (S := S2048x512) Mul.hz,
    View.readCov_unit_zero (S := S2048x512) _ Mul.hz, View.readCov_cons_toLoadRect, View.readAt_eq_ld, (hs0_0 t).read_unread, (hs0_1 t).read_unread,
    View.ld_unit_zero (S := S2048x1024) Mul.hz, View.ld_unit_zero (S := S512x1024) Mul.hz]
  rfl

/-- Column `r` of the block of point `t`. -/
def at_ (t : Fin 7) (r : Fin 512) : Fin 3584 := Mul.blocked 512 rfl t r

def pt (t : Fin 7) : Fin cfg0.N := ⟨t.val, lt_of_lt_of_eq t.isLt N_0.symm⟩

theorem index0 : ∀ t : Fin 7, (cfg0.win 0).index (pt t) = ![0, 0] := by decide
theorem index1 : ∀ t : Fin 7, (cfg0.win 1).index (pt t) = ![t.val, 0] := by decide
theorem index2 : ∀ t : Fin 7, (cfg0.win 2).index (pt t) = ![0, t.val] := by decide

theorem emb0 (t : Fin 7) (i : Fin 2048) (j : Fin 1024) : ((cfg0.win 0).blk (pt t)).view.emb (ix2 i j) = ix2 i j :=
  Mul.ix2_of_val (Window.rect_emb_val (cfg0.win 0) (pt t) (ix2 i j)) (by rw [index0]; exact Nat.zero_add _) (by rw [index0]; exact Nat.zero_add _)
theorem emb1 (t : Fin 7) (i : Fin 512) (j : Fin 1024) : ((cfg0.win 1).blk (pt t)).view.emb (ix2 i j) = ix2 (at_ t i) j :=
  Mul.ix2_of_val (Window.rect_emb_val (cfg0.win 1) (pt t) (ix2 i j)) (by rw [index1]; rfl) (by rw [index1]; exact Nat.zero_add _)
theorem emb2 (t : Fin 7) (i : Fin 2048) (j : Fin 512) : ((cfg0.win 2).blk (pt t)).view.emb (ix2 i j) = ix2 i (at_ t j) :=
  Mul.ix2_of_val (Window.rect_emb_val (cfg0.win 2) (pt t) (ix2 i j)) (by rw [index2]; exact Nat.zero_add _) (by rw [index2]; rfl)

theorem blk0 (t : Fin 7) (i : Fin 2048) (j : Fin 1024) :
    (iblk m c 0 (pt t) : Vec Ideal S2048x1024 .f32) (ix2 i j) = m ((c : Thread nD τ).loc main_arg0) (ix2 i j) := by
  refine (congrArg (V m c main_arg0) (emb0 t i j)).trans ?_
  rw [V_main_arg0]

theorem blk1 (t : Fin 7) (i : Fin 512) (j : Fin 1024) :
    (iblk m c 1 (pt t) : Vec Ideal S512x1024 .bf16) (ix2 i j) = m ((c : Thread nD τ).loc main_arg1) (ix2 j (at_ t i)) := by
  refine (congrArg (V m c main_v1) (emb1 t i j)).trans ?_
  entry_read
  pointwise

/-- The result, entry by entry. -/
def result : Vec Ideal S2048x3584 .f32 := Mul.nn (m ((c : Thread nD τ).loc main_arg0)) (m ((c : Thread nD τ).loc main_arg1))

theorem final : (dats m 0 c).arrAt 2 cfg0.N = result m c := by
  refine (dats m 0 c).arrAt_eq_of_cover 2 (result m c) (fun t hf => ?_) fun i => ?_
  · obtain ⟨t, rfl⟩ : ∃ s : Fin 7, t = pt s := ⟨⟨t.val, lt_of_lt_of_eq t.isLt N_0⟩, rfl⟩
    funext y
    obtain ⟨r, n, rfl⟩ : ∃ (r : Fin 2048) (n : Fin 512), y = ix2 r n := ⟨y 0, y 1, (ix2_eta y).symm⟩
    rw [flushed_eq, View.read_apply, emb2]
    show (k0_pay2 (F := Ideal) (k0_pay1 (F := Ideal)) (iblk m c 0 (pt t)) (iblk m c 1 (pt t)) : Vec Ideal S2048x512 .f32) (ix2 r n) = _
    unfold k0_pay2 k0_pay1 result Mul.nn
    pointwise
    exact Finset.sum_congr rfl fun k _ => congrArg₂ (· * ·) (blk0 m c t r k) (blk1 m c t n k)
  · obtain ⟨r, n, rfl⟩ : ∃ (r : Fin 2048) (n : Fin 3584), i = ix2 r n := ⟨i 0, i 1, (ix2_eta i).symm⟩
    obtain ⟨t, n, rfl⟩ := Mul.blocked_surj (n := 3584) (a := 7) 512 rfl (by decide) n
    exact ⟨pt t, flush0_2 _, by rw [show Mul.blocked 512 rfl t n = at_ t n from rfl, ← emb2]; exact View.emb_mem_set _ _⟩

theorem frame_ideal : Cert.quiescent_InIdeal := fun m ρ _ => Cert.InIdeal.Gen.frame m ρ

theorem defs₀_eq : Cert.In.defs₀ (F := Bits) = Cert.InIdeal.defs₀ (F := Bits) := by
  unfold Cert.In.defs₀ Cert.InIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_In := fun m ρ _ => by
  rw [show Cert.In.defs (F := Bits) = Cert.InIdeal.defs (F := Bits) from congrArg (Pipeline.defs _) defs₀_eq]
  exact (θ_run Cert.InIdeal.defs _ _).mono (fun _ h => h) (Cert.InIdeal.Gen.frame (F := Bits) m ρ)

theorem frame_ref : Cert.quiescent_InRefIdeal := fun m ρ _ =>
  (θ_run Cert.InRefIdeal.defs _ _).mono (fun r h => ⟨fun c => (h c).2, Idealize.ShloMosaic.sem_eq_zero_of_no_sems (by decide) r.2⟩)
    (Cert.InRefIdeal.Value.run (F := Ideal) m ρ)

/-- The call computes the product. -/
theorem algebraic : Cert.algebraic_InIdeal_InRefIdeal := by
  intro m g m' g' _ hargs
  refine ⟨fun c => result m c, ?_, ?_⟩
  · exact (θ_run Cert.InIdeal.defs _ _).mono (fun r h c => ⟨(h c).1.trans (final m c), (h c).2⟩) (run_blocks m g)
  · refine (θ_run Cert.InRefIdeal.defs _ _).mono (fun r h c => ⟨(h c).1.trans ?_, (h c).2⟩) (Cert.InRefIdeal.Value.run (F := Ideal) m' g')
    obtain ⟨h0, h1⟩ := hargs c
    rw [h0, h1]
    funext y
    obtain ⟨r, n, rfl⟩ : ∃ (r : Fin 2048) (n : Fin 3584), y = ix2 r n := ⟨y 0, y 1, (ix2_eta y).symm⟩
    unfold result Mul.nn
    pointwise

end Cert.InIdeal.Mm

end
-- ==== Proof.GluBwdPoint.lean ====
/-
  The feed-forward's gate, backward: what a point of the grid writes, as terms of its blocks, and what the two carried
  outputs (the gradients of the taps and of the bias) hold after each point.
-/
module

public import proofs.«01_k».proof.Defs
public import proofs.«01_k».proof.Proof.Gen.GluBwdIdeal.Value
public import proofs.«01_k».proof.Proof.Mul
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

namespace Cert.GluBwdIdeal.Mm

open Cert.GluBwdIdeal Cert.GluBwdIdeal.Gen Cert.GluBwdIdeal.Value
open Idealize.ShloMosaic Idealize.ShloMosaic.TcCoe Idealize.SL.Sem
open Idealize.ShloMosaic.Pipeline (Dat Window)

variable (m : (ℓ : Loc nD τ sig) → Buf (Elt Ideal) ℓ) (c : Dev nD)

/-- The three rows of the taps' array. -/
abbrev R0 : Rect S3x2816 := Rect.unit (s := S3x2816) ![0, 0] S1x2816.size inb_S3x2816_S1x2816_0_0
abbrev R1 : Rect S3x2816 := Rect.unit (s := S3x2816) ![1, 0] S1x2816.size inb_S3x2816_S1x2816_1_0
abbrev R2 : Rect S3x2816 := Rect.unit (s := S3x2816) ![2, 0] S1x2816.size inb_S3x2816_S1x2816_2_0

/-- The gate's branch from eight rows before the block to eight rows after it. -/
def gE (t : Fin cfg0.N) : FVec Ideal S272x2816 .f32 := k0_pay3 (grid0.coords t) (iblk m c 1 t) (iblk m c 0 t) (iblk m c 2 t)

/-- The convolution on the block and the eight rows after it. -/
def xE (t : Fin cfg0.N) : FVec Ideal S264x2816 .f32 :=
  k0_pay4 (grid0.coords t) (iblk m c 1 t) (iblk m c 0 t) (iblk m c 2 t)
    (View.ld (iblk m c 7 t) R2) (View.ld (iblk m c 7 t) R1) (View.ld (iblk m c 7 t) R0) (iblk m c 8 t)

/-- The convolution's cotangent on the same rows. -/
def qE (t : Fin cfg0.N) : FVec Ideal S264x2816 .f32 :=
  k0_pay7 (k0_pay2 (grid0.coords t) (iblk m c 6 t)) (xE m c t) (k0_pay5 (iblk m c 3 t) (iblk m c 4 t)) (iblk m c 5 t)

/-- A point's block of the gradient of the gate's branch. -/
def gateBlk (t : Fin cfg0.N) : FVec Ideal S256x2816 .bf16 :=
  k0_pay9 (k0_pay2 (grid0.coords t) (iblk m c 6 t)) (xE m c t) (k0_pay5 (iblk m c 3 t) (iblk m c 4 t)) (iblk m c 5 t)
    (View.ld (iblk m c 7 t) R2) (View.ld (iblk m c 7 t) R1) (View.ld (iblk m c 7 t) R0)

/-- A point's block of the gradient of the other branch. -/
def upBlk (t : Fin cfg0.N) : FVec Ideal S256x2816 .bf16 := k0_pay8 (xE m c t) (iblk m c 5 t)

/-- The taps' gradient after a point, from what it was before. -/
def tapsStep (G : FVec Ideal S272x2816 .f32) (Q : FVec Ideal S264x2816 .f32) (acc : FVec Ideal S3x2816 .f32) : FVec Ideal S3x2816 .f32 := fun i =>
  (![k0_pay15 G Q (View.ld acc R0), k0_pay14 G Q (View.ld acc R1), k0_pay13 G Q (View.ld acc R2)] : Fin 3 → FVec Ideal S1x2816 .f32) (i 0) (ix2 0 (i 1))

/-- The bias's gradient after a point, from what it was before. -/
def biasStep (Q : FVec Ideal S264x2816 .f32) (acc : FVec Ideal S1x2816 .f32) : FVec Ideal S1x2816 .f32 := k0_pay1 (k0_pay16 acc) (k0_pay17 Q)

theorem row_emb (o : ℕ) (k : Fin 3) (h : k.val = o) (inb : ∀ a, (![o, 0] : Fin 2 → ℕ) a + S1x2816.size a ≤ S3x2816.size a) (n : Fin 2816) :
    (Rect.unit (s := S3x2816) ![o, 0] S1x2816.size inb).emb (ix2 0 n) = ix2 k n := by
  funext a
  refine Fin.ext ?_
  rw [Rect.emb_apply]
  match a with
  | 0 => show o + 1 * 0 = k.val; omega
  | 1 => show 0 + 1 * n.val = n.val; omega

theorem row_not_mem (o : ℕ) (k' : Fin 3) (n : Fin 2816) (inb : ∀ a, (![o, 0] : Fin 2 → ℕ) a + S1x2816.size a ≤ S3x2816.size a) (h : o ≠ k'.val) :
    (ix2 k' n : S3x2816.Idx) ∉ (Rect.unit (s := S3x2816) ![o, 0] S1x2816.size inb).set :=
  Rect.not_mem_set_of_axis _ _ 0 o 1 rfl rfl rfl (by
    show k'.val < o ∨ o + 1 ≤ k'.val
    omega)

section Rows

variable (P0 P1 P2 : FVec Ideal S1x2816 .f32) (L : List (View.Piece (Elt Ideal) S3x2816 .f32)) (n : Fin 2816)

theorem canon_row0 : View.canon ((⟨R0, P0⟩ : View.Piece (Elt Ideal) S3x2816 .f32) :: ⟨R1, P1⟩ :: ⟨R2, P2⟩ :: L) (ix2 0 n) = P0 (ix2 0 n) := by
  have h := View.canon_cons_emb R0 P0 (⟨R1, P1⟩ :: ⟨R2, P2⟩ :: L) (ix2 0 n)
  rw [show R0.emb (ix2 0 n) = ix2 0 n from row_emb 0 0 rfl inb_S3x2816_S1x2816_0_0 n] at h
  exact h

theorem canon_row1 : View.canon ((⟨R0, P0⟩ : View.Piece (Elt Ideal) S3x2816 .f32) :: ⟨R1, P1⟩ :: ⟨R2, P2⟩ :: L) (ix2 1 n) = P1 (ix2 0 n) := by
  have e : (ix2 1 n : S3x2816.Idx) ∉ R0.set := row_not_mem 0 1 n inb_S3x2816_S1x2816_0_0 Nat.zero_ne_one
  have h := View.canon_cons_emb R1 P1 (⟨R2, P2⟩ :: L) (ix2 0 n)
  rw [show R1.emb (ix2 0 n) = ix2 1 n from row_emb 1 1 rfl inb_S3x2816_S1x2816_1_0 n] at h
  rw [View.canon_cons_of_not_mem (⟨R0, P0⟩ : View.Piece (Elt Ideal) S3x2816 .f32) (⟨R1, P1⟩ :: ⟨R2, P2⟩ :: L) e]
  exact h

theorem canon_row2 : View.canon ((⟨R0, P0⟩ : View.Piece (Elt Ideal) S3x2816 .f32) :: ⟨R1, P1⟩ :: ⟨R2, P2⟩ :: L) (ix2 2 n) = P2 (ix2 0 n) := by
  have e : (ix2 2 n : S3x2816.Idx) ∉ R0.set := row_not_mem 0 2 n inb_S3x2816_S1x2816_0_0 (Nat.zero_ne_add_one 1)
  have e' : (ix2 2 n : S3x2816.Idx) ∉ R1.set := row_not_mem 1 2 n inb_S3x2816_S1x2816_1_0 (Nat.ne_of_lt Nat.one_lt_two)
  have h := View.canon_cons_emb R2 P2 L (ix2 0 n)
  rw [show R2.emb (ix2 0 n) = ix2 2 n from row_emb 2 2 rfl inb_S3x2816_S1x2816_2_0 n] at h
  rw [View.canon_cons_of_not_mem (⟨R0, P0⟩ : View.Piece (Elt Ideal) S3x2816 .f32) (⟨R1, P1⟩ :: ⟨R2, P2⟩ :: L) e,
    View.canon_cons_of_not_mem (⟨R1, P1⟩ : View.Piece (Elt Ideal) S3x2816 .f32) (⟨R2, P2⟩ :: L) e']
  exact h

/-- Three stores of a row each leave the three rows, whatever was stored before. -/
theorem canon_rows : View.canon ((⟨R0, P0⟩ : View.Piece (Elt Ideal) S3x2816 .f32) :: ⟨R1, P1⟩ :: ⟨R2, P2⟩ :: L)
      = fun i => (![P0, P1, P2] : Fin 3 → FVec Ideal S1x2816 .f32) (i 0) (ix2 0 (i 1)) := by
  funext i
  obtain ⟨k, n, rfl⟩ : ∃ (k : Fin 3) (n : Fin 2816), i = ix2 k n := ⟨i 0, i 1, (ix2_eta i).symm⟩
  rcases k with ⟨k, hk⟩
  rcases k with _ | _ | _ | k
  · exact canon_row0 P0 P1 P2 L n
  · exact canon_row1 P0 P1 P2 L n
  · exact canon_row2 P0 P1 P2 L n
  · omega

end Rows

abbrev R : Rect S3x2816 := Rect.unit (s := S3x2816) ![0, 0] S3x2816.size inb_S3x2816_S3x2816_0_0

/-- A row read after a store to the whole and stores to other rows is the whole's row. -/
theorem read_row2 (v : View sig .tc .vmem S3x2816 .f32) (Z : FVec Ideal S3x2816 .f32) :
    v.readCov [(⟨R, Z⟩ : View.Piece (Elt Ideal) S3x2816 .f32)] R2.toLoadRect = View.ld Z R2 := by
  rw [View.readCov_eq_canon', View.canon_unit_zero (S := S3x2816) Mul.hz]
theorem read_row1 (v : View sig .tc .vmem S3x2816 .f32) (P2 : FVec Ideal S1x2816 .f32) (Z : FVec Ideal S3x2816 .f32) :
    v.readCov [(⟨R2, P2⟩ : View.Piece (Elt Ideal) S3x2816 .f32), ⟨R, Z⟩] R1.toLoadRect = View.ld Z R1 := by
  rw [View.readCov_skip _ _ _ _ _ (by rfl), View.readCov_eq_canon', View.canon_unit_zero (S := S3x2816) Mul.hz]
theorem read_row0 (v : View sig .tc .vmem S3x2816 .f32) (P1 P2 : FVec Ideal S1x2816 .f32) (Z : FVec Ideal S3x2816 .f32) :
    v.readCov [(⟨R1, P1⟩ : View.Piece (Elt Ideal) S3x2816 .f32), ⟨R2, P2⟩, ⟨R, Z⟩] R0.toLoadRect = View.ld Z R0 := by
  rw [View.readCov_skip _ _ _ _ _ (by rfl), View.readCov_skip _ _ _ _ _ (by rfl), View.readCov_eq_canon', View.canon_unit_zero (S := S3x2816) Mul.hz]

/-- What the first point leaves in the four outputs, of its blocks. -/
theorem flushed9_first (t : Fin cfg0.N) (h : t.val % 8 = 0) : (dats m 0 c).flushed 9 t = (gateBlk m c t) := by
  rw [flushed9_A m c t h]
  unfold out0_A_9
  rw [View.read_writes_eq_canon _ _ _ (cover0_A_9 _ _ _ _ _ _ _ _ _ _ _ _ _ _ _ _ _ _ _ _ _ _ _ _ _ _ _ _ _ _ _ _ _ _ _ _ _ _)]
  unfold kernelRun0_A
  dsimp only
  sl_unfold_words
  simp only [View.canon_unit_zero (S := S256x2816) Mul.hz, View.readAt_eq_ld, (hs0_0 t).read_unread, (hs0_1 t).read_unread,
    (hs0_2 t).read_unread, (hs0_3 t).read_unread, (hs0_4 t).read_unread, (hs0_5 t).read_unread, (hs0_6 t).read_unread, (hs0_7 t).read_unread, (hs0_8 t).read_unread,
    View.ld_unit_zero (S := S256x2816) Mul.hz, View.ld_unit_zero (S := S8x2816) Mul.hz, View.ld_unit_zero (S := S1x2816) Mul.hz]
  rfl

theorem flushed10_first (t : Fin cfg0.N) (h : t.val % 8 = 0) : (dats m 0 c).flushed 10 t = (upBlk m c t) := by
  rw [flushed10_A m c t h]
  unfold out0_A_10
  rw [View.read_writes_eq_canon _ _ _ (cover0_A_10 _ _ _ _ _ _ _ _ _ _ _ _ _ _ _ _ _ _ _ _ _ _ _ _ _ _ _ _ _ _ _ _ _ _ _ _ _ _)]
  unfold kernelRun0_A
  dsimp only
  sl_unfold_words
  simp only [View.canon_unit_zero (S := S256x2816) Mul.hz, View.readAt_eq_ld, (hs0_0 t).read_unread, (hs0_1 t).read_unread,
    (hs0_2 t).read_unread, (hs0_3 t).read_unread, (hs0_4 t).read_unread, (hs0_5 t).read_unread, (hs0_6 t).read_unread, (hs0_7 t).read_unread, (hs0_8 t).read_unread,
    View.ld_unit_zero (S := S256x2816) Mul.hz, View.ld_unit_zero (S := S8x2816) Mul.hz, View.ld_unit_zero (S := S1x2816) Mul.hz]
  rfl

theorem taps_first (t : Fin cfg0.N) (h : t.val % 8 = 0) :
    (outsAt0 m c t.val t.isLt).2.2.1 = tapsStep (gE m c t) (qE m c t) (k0_pay10 (F := Ideal)) := by
  rw [outsAt0_A m c t h]
  dsimp only
  unfold out0_A_11
  rw [View.read_writes_eq_canon _ _ _ (cover0_A_11 _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread,
    (hs0_2 t).read_unread, (hs0_3 t).read_unread, (hs0_4 t).read_unread, (hs0_5 t).read_unread, (hs0_6 t).read_unread, (hs0_7 t).read_unread, (hs0_8 t).read_unread,
    View.ld_unit_zero (S := S256x2816) Mul.hz, View.ld_unit_zero (S := S8x2816) Mul.hz, View.ld_unit_zero (S := S1x2816) Mul.hz]
  refine (canon_rows _ _ _ _).trans ?_
  rw [read_row0, read_row1, read_row2]
  rfl

theorem bias_first (t : Fin cfg0.N) (h : t.val % 8 = 0) :
    (outsAt0 m c t.val t.isLt).2.2.2 = biasStep (qE m c t) (k0_pay11 (F := Ideal)) := by
  rw [outsAt0_A m c t h]
  dsimp only
  unfold out0_A_12
  rw [View.read_writes_eq_canon _ _ _ (cover0_A_12 _ _ _ _ _ _ _ _ _ _ _ _ _ _ _ _ _ _ _ _ _ _ _ _ _ _ _ _ _ _ _ _ _ _ _ _ _ _)]
  unfold kernelRun0_A
  dsimp only
  sl_unfold_words
  simp only [View.canon_cons_unit_zero (S := S1x2816) Mul.hz, View.readCov_cons_toLoadRect, View.readAt_eq_ld, (hs0_0 t).read_unread, (hs0_1 t).read_unread,
    (hs0_2 t).read_unread, (hs0_3 t).read_unread, (hs0_4 t).read_unread, (hs0_5 t).read_unread, (hs0_6 t).read_unread, (hs0_7 t).read_unread, (hs0_8 t).read_unread,
    View.ld_unit_zero (S := S256x2816) Mul.hz, View.ld_unit_zero (S := S8x2816) Mul.hz, View.ld_unit_zero (S := S1x2816) Mul.hz]
  rfl

/-- What a later point leaves in them, of its blocks and what the point before left. -/
theorem flushed9_later (t : Fin cfg0.N) (h : ¬t.val % 8 = 0) : (dats m 0 c).flushed 9 t = (gateBlk m c t) := by
  rw [flushed9_B m c t h]
  unfold out0_B_9
  rw [View.read_writes_eq_canon _ _ _ (cover0_B_9 _ _ _ _ _ _ _ _ _ _ _ _ _ _ _ _ _ _ _ _ _ _ _ _ _ _ _ _ _ _ _ _ _ _ _ _ _ _ _ _)]
  unfold kernelRun0_B
  dsimp only
  sl_unfold_words
  simp only [View.canon_unit_zero (S := S256x2816) Mul.hz, View.readAt_eq_ld, (hs0_0 t).read_unread, (hs0_1 t).read_unread,
    (hs0_2 t).read_unread, (hs0_3 t).read_unread, (hs0_4 t).read_unread, (hs0_5 t).read_unread, (hs0_6 t).read_unread, (hs0_7 t).read_unread, (hs0_8 t).read_unread,
    View.ld_unit_zero (S := S256x2816) Mul.hz, View.ld_unit_zero (S := S8x2816) Mul.hz, View.ld_unit_zero (S := S1x2816) Mul.hz]
  rfl

theorem flushed10_later (t : Fin cfg0.N) (h : ¬t.val % 8 = 0) : (dats m 0 c).flushed 10 t = (upBlk m c t) := by
  rw [flushed10_B m c t h]
  unfold out0_B_10
  rw [View.read_writes_eq_canon _ _ _ (cover0_B_10 _ _ _ _ _ _ _ _ _ _ _ _ _ _ _ _ _ _ _ _ _ _ _ _ _ _ _ _ _ _ _ _ _ _ _ _ _ _ _ _)]
  unfold kernelRun0_B
  dsimp only
  sl_unfold_words
  simp only [View.canon_unit_zero (S := S256x2816) Mul.hz, View.readAt_eq_ld, (hs0_0 t).read_unread, (hs0_1 t).read_unread,
    (hs0_2 t).read_unread, (hs0_3 t).read_unread, (hs0_4 t).read_unread, (hs0_5 t).read_unread, (hs0_6 t).read_unread, (hs0_7 t).read_unread, (hs0_8 t).read_unread,
    View.ld_unit_zero (S := S256x2816) Mul.hz, View.ld_unit_zero (S := S8x2816) Mul.hz, View.ld_unit_zero (S := S1x2816) Mul.hz]
  rfl

theorem taps_later (t : Fin cfg0.N) (h : ¬t.val % 8 = 0) :
    (outsAt0 m c t.val t.isLt).2.2.1 = tapsStep (gE m c t) (qE m c t) (outsAt0 m c (t.val - 1) (Nat.lt_of_le_of_lt (Nat.sub_le _ _) t.isLt)).2.2.1 := by
  rw [outsAt0_B m c t h]
  dsimp only
  generalize (outsAt0 m c (t.val - 1) _).2.2.1 = acc
  unfold out0_B_11
  rw [View.read_writes_eq_canon _ _ _ (cover0_B_11 _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_11 t).read_unread,
    (hs0_2 t).read_unread, (hs0_3 t).read_unread, (hs0_4 t).read_unread, (hs0_5 t).read_unread, (hs0_6 t).read_unread, (hs0_7 t).read_unread, (hs0_8 t).read_unread,
    View.ld_unit_zero (S := S256x2816) Mul.hz, View.ld_unit_zero (S := S8x2816) Mul.hz, View.ld_unit_zero (S := S1x2816) Mul.hz]
  exact canon_rows _ _ _ _

theorem bias_later (t : Fin cfg0.N) (h : ¬t.val % 8 = 0) :
    (outsAt0 m c t.val t.isLt).2.2.2 = biasStep (qE m c t) (outsAt0 m c (t.val - 1) (Nat.lt_of_le_of_lt (Nat.sub_le _ _) t.isLt)).2.2.2 := by
  rw [outsAt0_B m c t h]
  dsimp only
  generalize (outsAt0 m c (t.val - 1) _).2.2.2 = acc
  unfold out0_B_12
  rw [View.read_writes_eq_canon _ _ _ (cover0_B_12 _ _ _ _ _ _ _ _ _ _ _ _ _ _ _ _ _ _ _ _ _ _ _ _ _ _ _ _ _ _ _ _ _ _ _ _ _ _ _ _)]
  unfold kernelRun0_B
  dsimp only
  sl_unfold_words
  simp only [View.canon_unit_zero (S := S1x2816) Mul.hz, View.readAt_eq_ld, (hs0_0 t).read_unread, (hs0_1 t).read_unread, (hs0_12 t).read_unread,
    (hs0_2 t).read_unread, (hs0_3 t).read_unread, (hs0_4 t).read_unread, (hs0_5 t).read_unread, (hs0_6 t).read_unread, (hs0_7 t).read_unread, (hs0_8 t).read_unread,
    View.ld_unit_zero (S := S256x2816) Mul.hz, View.ld_unit_zero (S := S8x2816) Mul.hz, View.ld_unit_zero (S := S1x2816) Mul.hz]
  rfl

theorem flushed9_eq (t : Fin cfg0.N) : (dats m 0 c).flushed 9 t = (gateBlk m c t) := by
  by_cases h : t.val % 8 = 0
  · exact flushed9_first m c t h
  · exact flushed9_later m c t h

theorem flushed10_eq (t : Fin cfg0.N) : (dats m 0 c).flushed 10 t = (upBlk m c t) := by
  by_cases h : t.val % 8 = 0
  · exact flushed10_first m c t h
  · exact flushed10_later m c t h

end Cert.GluBwdIdeal.Mm

end
-- ==== Proof.Channel.lean ====
/-
  One channel of the feed-forward's gate: three taps of a causal convolution, the gate x ↦ x · σ(x) on it, and their
  derivatives. A channel is a function of the 2048 rows; the rows before the first and after the last are zero.
-/
module

public import Idealize.ShloMosaic.Lib.Claim
public import Idealize.ShloMosaic.Lib.Pointwise

@[expose] public section

noncomputable section

namespace Cert.Channel

open Idealize.ShloMosaic

/-- The entry `s` rows earlier, zero before the first row. -/
def before (g : Fin 2048 → EReal) (s : ℕ) (r : Fin 2048) : EReal :=
  if _ : r.val < s then 0 else g ⟨r.val - s, by omega⟩

/-- The entry `s` rows later, zero after the last row. -/
def after (f : Fin 2048 → EReal) (s : ℕ) (r : Fin 2048) : EReal :=
  if h : r.val + s < 2048 then f ⟨r.val + s, h⟩ else 0

/-- The convolution's three taps and its bias. -/
def conv (g : Fin 2048 → EReal) (w : Fin 3 → EReal) (b : EReal) (r : Fin 2048) : EReal :=
  ((w 2 * g r + w 1 * before g 1 r) + w 0 * before g 2 r) + b

/-- The same sum from the earliest tap on. -/
theorem conv_eq (g : Fin 2048 → EReal) (w : Fin 3 → EReal) (b : EReal) (r : Fin 2048) :
    conv g w b r = ((before g 2 r * w 0 + before g 1 r * w 1) + g r * w 2) + b := by
  unfold conv
  rw [mul_comm (w 2), mul_comm (w 1), mul_comm (w 0)]
  congr 1
  ac_rfl

/-- The logistic function. -/
def sig (x : EReal) : EReal := Ideal.div 1 (1 + Ideal.exp (-x))

/-- The derivative of `x · σ(x)` times the cotangent that reaches it. -/
def dgate (δ x : EReal) : EReal := δ * (sig x * (1 + x * (1 - sig x)))

theorem sig_bot : sig ⊥ = 0 := by
  have h : (1 : EReal) + ⊤ = ⊤ := EReal.add_top_of_ne_bot (by exact_mod_cast EReal.coe_ne_bot 1)
  have e : Ideal.exp ⊤ = ⊤ := rfl
  simp [sig, Ideal.div, e, h]

theorem sig_top : sig ⊤ = 1 := by
  have e : Ideal.exp ⊥ = 0 := rfl
  simp [sig, Ideal.div, e]

theorem sig_coe (x : ℝ) : sig (x : EReal) = (((1 + Real.exp (-x))⁻¹ : ℝ) : EReal) := by
  have h : (1 : EReal) + ((Real.exp (-x) : ℝ) : EReal) = ((1 + Real.exp (-x) : ℝ) : EReal) := by push_cast; rfl
  have h0 : (1 + Real.exp (-x)) ≠ 0 := by positivity
  unfold sig
  rw [show -(x : EReal) = ((-x : ℝ) : EReal) from rfl]
  show Ideal.div 1 (1 + ((Real.exp (-x) : ℝ) : EReal)) = _
  rw [h, Ideal.div, if_neg (by exact_mod_cast h0), one_mul, EReal.coe_inv]

/-- The derivative in its two forms agree where the cotangent is a number. -/
theorem dgate_eq (δ : ℝ) (x : EReal) :
    (δ : EReal) * sig x + x * (δ : EReal) * (sig x * (1 - sig x)) = dgate (δ : EReal) x := by
  unfold dgate
  induction x with
  | bot => simp [sig_bot]
  | top =>
    have h : (1 : EReal) - 1 = 0 := by
      rw [← EReal.coe_one, ← EReal.coe_sub]; simp
    simp [sig_top, h]
  | coe x =>
    rw [sig_coe]
    norm_cast
    push_cast
    generalize (1 + Real.exp (-x))⁻¹ = s
    norm_cast
    ring

end Cert.Channel

end
-- ==== Proof.GluBwdEntry.lean ====
/-
  The feed-forward's gate, backward: the entries of a point's tower, in terms of the two branches, the taps, the bias and the
  cotangent. A point takes 256 rows, the 8 before them and the 8 after them.
-/
module

public import proofs.«01_k».proof.Proof.GluBwdPoint
public import proofs.«01_k».proof.Proof.Channel
public import proofs.«01_k».proof.Proof.Mul
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.GluBwdIdeal.Mm

open Cert.GluBwdIdeal Cert.GluBwdIdeal.Gen Cert.GluBwdIdeal.Value
open Idealize.ShloMosaic Idealize.ShloMosaic.TcCoe Idealize.SL.Sem
open Idealize.ShloMosaic.Pipeline (Dat Window)

variable (m : (ℓ : Loc nD τ sig) → Buf (Elt Ideal) ℓ) (c : Dev nD)

/-- Row `r` of the block of point `t`. -/
def row (t : Fin 8) (r : Fin 256) : Fin 2048 := Mul.blocked 256 rfl t r

/-- Row `k` of the eight before the block of point `t`; of the first point, the first eight, which it does not use. -/
def prev (t : Fin 8) (k : Fin 8) : Fin 2048 := ⟨(t.val * 32 - 1) * 8 + k.val, by omega⟩

/-- Row `k` of the eight after the block of point `t`; of the last point, the last eight, whose cotangent it takes as zero. -/
def next (t : Fin 8) (k : Fin 8) : Fin 2048 := ⟨min ((t.val + 1) * 32) 255 * 8 + k.val, by omega⟩

def pt (t : Fin 8) : Fin cfg0.N := ⟨t.val, lt_of_lt_of_eq t.isLt N_0.symm⟩

theorem index0 : ∀ t : Fin 8, (cfg0.win 0).index (pt t) = ![t.val, 0] := by decide
theorem index1 : ∀ t : Fin 8, (cfg0.win 1).index (pt t) = ![t.val * 32 - 1, 0] := by decide
theorem index2 : ∀ t : Fin 8, (cfg0.win 2).index (pt t) = ![min ((t.val + 1) * 32) 255, 0] := by decide
theorem index3 : ∀ t : Fin 8, (cfg0.win 3).index (pt t) = ![t.val, 0] := by decide
theorem index4 : ∀ t : Fin 8, (cfg0.win 4).index (pt t) = ![min ((t.val + 1) * 32) 255, 0] := by decide
theorem index5 : ∀ t : Fin 8, (cfg0.win 5).index (pt t) = ![t.val, 0] := by decide
theorem index6 : ∀ t : Fin 8, (cfg0.win 6).index (pt t) = ![min ((t.val + 1) * 32) 255, 0] := by decide
theorem index7 : ∀ t : Fin 8, (cfg0.win 7).index (pt t) = ![0, 0] := by decide
theorem index8 : ∀ t : Fin 8, (cfg0.win 8).index (pt t) = ![0, 0] := by decide
theorem index9 : ∀ t : Fin 8, (cfg0.win 9).index (pt t) = ![t.val, 0] := by decide
theorem index10 : ∀ t : Fin 8, (cfg0.win 10).index (pt t) = ![t.val, 0] := by decide
theorem index11 : ∀ t : Fin 8, (cfg0.win 11).index (pt t) = ![0, 0] := by decide
theorem index12 : ∀ t : Fin 8, (cfg0.win 12).index (pt t) = ![0, 0] := by decide

theorem first_point : ∀ t : Fin 8, Scalar.cmpi .eq (BitVec.ofNat 32 (grid0.coords (pt t) 0).val) 0#32 = if t.val = 0 then 1#1 else 0#1 := by
  decide
theorem last_point : ∀ t : Fin 8, Scalar.cmpi .eq (BitVec.ofNat 32 (grid0.coords (pt t) 0).val) 7#32 = if t.val = 7 then 1#1 else 0#1 := by
  decide

theorem emb0 (t : Fin 8) (k : Fin 256) (n : Fin 2816) : ((cfg0.win 0).blk (pt t)).view.emb (ix2 k n) = ix2 (row t k) n :=
  Mul.ix2_of_val (Window.rect_emb_val (cfg0.win 0) (pt t) (ix2 k n)) (by rw [index0]; rfl) (by rw [index0]; exact Nat.zero_add _)
theorem emb1 (t : Fin 8) (k : Fin 8) (n : Fin 2816) : ((cfg0.win 1).blk (pt t)).view.emb (ix2 k n) = ix2 (prev t k) n :=
  Mul.ix2_of_val (Window.rect_emb_val (cfg0.win 1) (pt t) (ix2 k n)) (by rw [index1]; rfl) (by rw [index1]; exact Nat.zero_add _)
theorem emb2 (t : Fin 8) (k : Fin 8) (n : Fin 2816) : ((cfg0.win 2).blk (pt t)).view.emb (ix2 k n) = ix2 (next t k) n :=
  Mul.ix2_of_val (Window.rect_emb_val (cfg0.win 2) (pt t) (ix2 k n)) (by rw [index2]; rfl) (by rw [index2]; exact Nat.zero_add _)
theorem emb3 (t : Fin 8) (k : Fin 256) (n : Fin 2816) : ((cfg0.win 3).blk (pt t)).view.emb (ix2 k n) = ix2 (row t k) n :=
  Mul.ix2_of_val (Window.rect_emb_val (cfg0.win 3) (pt t) (ix2 k n)) (by rw [index3]; rfl) (by rw [index3]; exact Nat.zero_add _)
theorem emb4 (t : Fin 8) (k : Fin 8) (n : Fin 2816) : ((cfg0.win 4).blk (pt t)).view.emb (ix2 k n) = ix2 (next t k) n :=
  Mul.ix2_of_val (Window.rect_emb_val (cfg0.win 4) (pt t) (ix2 k n)) (by rw [index4]; rfl) (by rw [index4]; exact Nat.zero_add _)
theorem emb5 (t : Fin 8) (k : Fin 256) (n : Fin 2816) : ((cfg0.win 5).blk (pt t)).view.emb (ix2 k n) = ix2 (row t k) n :=
  Mul.ix2_of_val (Window.rect_emb_val (cfg0.win 5) (pt t) (ix2 k n)) (by rw [index5]; rfl) (by rw [index5]; exact Nat.zero_add _)
theorem emb6 (t : Fin 8) (k : Fin 8) (n : Fin 2816) : ((cfg0.win 6).blk (pt t)).view.emb (ix2 k n) = ix2 (next t k) n :=
  Mul.ix2_of_val (Window.rect_emb_val (cfg0.win 6) (pt t) (ix2 k n)) (by rw [index6]; rfl) (by rw [index6]; exact Nat.zero_add _)
theorem emb7 (t : Fin 8) (k : Fin 3) (n : Fin 2816) : ((cfg0.win 7).blk (pt t)).view.emb (ix2 k n) = ix2 k n :=
  Mul.ix2_of_val (Window.rect_emb_val (cfg0.win 7) (pt t) (ix2 k n)) (by rw [index7]; exact Nat.zero_add _) (by rw [index7]; exact Nat.zero_add _)
theorem emb8 (t : Fin 8) (k : Fin 1) (n : Fin 2816) : ((cfg0.win 8).blk (pt t)).view.emb (ix2 k n) = ix2 k n :=
  Mul.ix2_of_val (Window.rect_emb_val (cfg0.win 8) (pt t) (ix2 k n)) (by rw [index8]; exact Nat.zero_add _) (by rw [index8]; exact Nat.zero_add _)
theorem emb9 (t : Fin 8) (k : Fin 256) (n : Fin 2816) : ((cfg0.win 9).blk (pt t)).view.emb (ix2 k n) = ix2 (row t k) n :=
  Mul.ix2_of_val (Window.rect_emb_val (cfg0.win 9) (pt t) (ix2 k n)) (by rw [index9]; rfl) (by rw [index9]; exact Nat.zero_add _)
theorem emb10 (t : Fin 8) (k : Fin 256) (n : Fin 2816) : ((cfg0.win 10).blk (pt t)).view.emb (ix2 k n) = ix2 (row t k) n :=
  Mul.ix2_of_val (Window.rect_emb_val (cfg0.win 10) (pt t) (ix2 k n)) (by rw [index10]; rfl) (by rw [index10]; exact Nat.zero_add _)
theorem emb11 (t : Fin 8) (k : Fin 3) (n : Fin 2816) : ((cfg0.win 11).blk (pt t)).view.emb (ix2 k n) = ix2 k n :=
  Mul.ix2_of_val (Window.rect_emb_val (cfg0.win 11) (pt t) (ix2 k n)) (by rw [index11]; exact Nat.zero_add _) (by rw [index11]; exact Nat.zero_add _)
theorem emb12 (t : Fin 8) (k : Fin 1) (n : Fin 2816) : ((cfg0.win 12).blk (pt t)).view.emb (ix2 k n) = ix2 k n :=
  Mul.ix2_of_val (Window.rect_emb_val (cfg0.win 12) (pt t) (ix2 k n)) (by rw [index12]; exact Nat.zero_add _) (by rw [index12]; exact Nat.zero_add _)

/-- The two branches, the taps, the bias and the cotangent, as the launch holds them. -/
def gate (n : Fin 2816) (r : Fin 2048) : EReal := m ((c : Thread nD τ).loc main_arg0) (ix2 r n)
def up (n : Fin 2816) (r : Fin 2048) : EReal := m ((c : Thread nD τ).loc main_arg1) (ix2 r n)
def taps (n : Fin 2816) (k : Fin 3) : EReal := m ((c : Thread nD τ).loc main_arg2) (ix2 k n)
def bias (n : Fin 2816) : EReal := m ((c : Thread nD τ).loc main_arg3) (ix1 n)
def ct (n : Fin 2816) (r : Fin 2048) : EReal := m ((c : Thread nD τ).loc main_arg4) (ix2 r n)

theorem blk0 (t : Fin 8) (k : Fin 256) (n : Fin 2816) : (iblk m c 0 (pt t) : Vec Ideal S256x2816 .f32) (ix2 k n) = gate m c n (row t k) := by
  refine (congrArg (V m c main_arg0) (emb0 t k n)).trans ?_
  rw [V_main_arg0]; rfl
theorem blk1 (t : Fin 8) (k : Fin 8) (n : Fin 2816) : (iblk m c 1 (pt t) : Vec Ideal S8x2816 .f32) (ix2 k n) = gate m c n (prev t k) := by
  refine (congrArg (V m c main_arg0) (emb1 t k n)).trans ?_
  rw [V_main_arg0]; rfl
theorem blk2 (t : Fin 8) (k : Fin 8) (n : Fin 2816) : (iblk m c 2 (pt t) : Vec Ideal S8x2816 .f32) (ix2 k n) = gate m c n (next t k) := by
  refine (congrArg (V m c main_arg0) (emb2 t k n)).trans ?_
  rw [V_main_arg0]; rfl
theorem blk3 (t : Fin 8) (k : Fin 256) (n : Fin 2816) : (iblk m c 3 (pt t) : Vec Ideal S256x2816 .f32) (ix2 k n) = up m c n (row t k) := by
  refine (congrArg (V m c main_arg1) (emb3 t k n)).trans ?_
  rw [V_main_arg1]; rfl
theorem blk4 (t : Fin 8) (k : Fin 8) (n : Fin 2816) : (iblk m c 4 (pt t) : Vec Ideal S8x2816 .f32) (ix2 k n) = up m c n (next t k) := by
  refine (congrArg (V m c main_arg1) (emb4 t k n)).trans ?_
  rw [V_main_arg1]; rfl
theorem blk5 (t : Fin 8) (k : Fin 256) (n : Fin 2816) : (iblk m c 5 (pt t) : Vec Ideal S256x2816 .f32) (ix2 k n) = ct m c n (row t k) := by
  refine (congrArg (V m c main_arg4) (emb5 t k n)).trans ?_
  rw [V_main_arg4]; rfl
theorem blk6 (t : Fin 8) (k : Fin 8) (n : Fin 2816) : (iblk m c 6 (pt t) : Vec Ideal S8x2816 .f32) (ix2 k n) = ct m c n (next t k) := by
  refine (congrArg (V m c main_arg4) (emb6 t k n)).trans ?_
  rw [V_main_arg4]; rfl
theorem blk7 (t : Fin 8) (k : Fin 3) (n : Fin 2816) : (iblk m c 7 (pt t) : Vec Ideal S3x2816 .f32) (ix2 k n) = taps m c n k := by
  refine (congrArg (V m c main_arg2) (emb7 t k n)).trans ?_
  rw [V_main_arg2]; rfl
theorem blk8 (t : Fin 8) (n : Fin 2816) : (iblk m c 8 (pt t) : Vec Ideal S1x2816 .f32) (ix2 0 n) = bias m c n := by
  refine (congrArg (V m c main_v0) (emb8 t 0 n)).trans ?_
  entry_read
  unfold bias
  pointwise

/-- The convolution and its cotangent at a channel. -/
def conv (n : Fin 2816) (r : Fin 2048) : EReal := Channel.conv (gate m c n) (taps m c n) (bias m c n) r
def dconv (n : Fin 2816) (r : Fin 2048) : EReal := Channel.dgate (ct m c n r * up m c n r) (conv m c n r)

theorem before_zero (f : Fin 2048 → EReal) (ρ : Fin 2048) : Channel.before f 0 ρ = f ρ := dif_neg (Nat.not_lt_zero _)
theorem after_zero (f : Fin 2048 → EReal) (ρ : Fin 2048) : Channel.after f 0 ρ = f ρ := dif_pos ρ.isLt

/-- Where entry `k` of the extended block is row `ρ`, `s` rows earlier than it the block holds the row `s` before `ρ`, zero before the first. -/
theorem gE_apply (t : Fin 8) (k : Fin 272) (n : Fin 2816) (s : ℕ) (ρ : Fin 2048) (h : t.val * 256 + k.val + s = ρ.val + 8) (hs : s ≤ 8) :
    (gE m c (pt t) : Vec Ideal S272x2816 .f32) (ix2 k n) = Channel.before (gate m c n) s ρ := by
  have hρ := ρ.isLt
  unfold gE k0_pay3 Channel.before
  pointwise
  simp only [blk0, blk1, blk2, first_point]
  by_cases h8 : k.val < 8
  · rw [dif_pos h8]
    by_cases ht : t.val = 0
    · rw [dif_pos (by omega), if_pos ht]; rfl
    · rw [dif_neg (by omega), if_neg ht]
      refine (show Scalar.select (0#1) (0 : EReal) _ = _ from rfl).trans (congrArg (gate m c n) (Fin.ext ?_))
      show (t.val * 32 - 1) * 8 + k.val = ρ.val - s
      omega
  · rw [dif_neg h8, dif_neg (show ¬ρ.val < s by omega)]
    by_cases h264 : k.val - 8 < 256
    · rw [dif_pos h264]
      refine congrArg (gate m c n) (Fin.ext ?_)
      show t.val * 256 + (k.val - 8) = ρ.val - s
      omega
    · rw [dif_neg h264]
      refine congrArg (gate m c n) (Fin.ext ?_)
      show min ((t.val + 1) * 32) 255 * 8 + (k.val - 8 - 256) = ρ.val - s
      omega

/-- The point's convolution is the whole's. -/
theorem xE_apply (t : Fin 8) (e : Fin 264) (n : Fin 2816) (ρ : Fin 2048) (h : t.val * 256 + e.val = ρ.val) :
    (xE m c (pt t) : Vec Ideal S264x2816 .f32) (ix2 e n) = conv m c n ρ := by
  unfold xE k0_pay4
  rw [show (k0_pay3 (F := Ideal) (grid0.coords (pt t)) (iblk m c 1 (pt t)) (iblk m c 0 (pt t)) (iblk m c 2 (pt t))) = gE m c (pt t) from rfl]
  generalize hG : gE m c (pt t) = G
  pointwise
  subst hG
  rw [blk7, blk7, blk7, blk8, gE_apply m c t _ n 0 ρ (by show t.val * 256 + (8 + e.val) + 0 = _; omega) (by omega),
    gE_apply m c t _ n 1 ρ (by show t.val * 256 + (8 + e.val + 272 - 1) % 272 + 1 = _; omega) (by omega),
    gE_apply m c t _ n 2 ρ (by show t.val * 256 + (8 + e.val + 272 - 2) % 272 + 2 = _; omega) (by omega), before_zero]
  rfl

/-- The point's cotangent of the convolution is the whole's, zero past the last row. -/
theorem qE_apply (t : Fin 8) (e : Fin 264) (n : Fin 2816) (s : ℕ) (ρ : Fin 2048) (h : t.val * 256 + e.val = ρ.val + s) :
    (qE m c (pt t) : Vec Ideal S264x2816 .f32) (ix2 e n) = Channel.after (dconv m c n) s ρ := by
  unfold qE k0_pay7
  generalize hX : xE m c (pt t) = X
  unfold k0_pay6 k0_pay5 k0_pay2 Channel.after
  pointwise
  subst hX
  simp only [blk3, blk4, blk5, blk6, last_point]
  by_cases hlt : ρ.val + s < 2048
  · rw [dif_pos hlt, xE_apply m c t e n ⟨ρ.val + s, hlt⟩ h, zero_sub]
    unfold dconv
    by_cases h256 : e.val < 256
    · rw [dif_pos h256, dif_pos h256, show row t ⟨e.val, h256⟩ = ⟨ρ.val + s, hlt⟩ from Fin.ext h]
      rfl
    · rw [dif_neg h256, dif_neg h256, if_neg (by omega), show next t ⟨e.val - 256, by omega⟩ = ⟨ρ.val + s, hlt⟩ from
        Fin.ext (by show min ((t.val + 1) * 32) 255 * 8 + (e.val - 256) = ρ.val + s; omega)]
      rfl
  · rw [dif_neg hlt, dif_neg (by omega), if_pos (by omega)]
    rw [show Scalar.select (1#1) (0 : EReal) _ = 0 from rfl, zero_mul, zero_mul]

/-- The gradient of the gate's branch: the convolution's transpose. -/
def dgateAt (n : Fin 2816) (ρ : Fin 2048) : EReal :=
  taps m c n 2 * dconv m c n ρ + taps m c n 1 * Channel.after (dconv m c n) 1 ρ + taps m c n 0 * Channel.after (dconv m c n) 2 ρ

/-- The gradient of the other branch. -/
def dupAt (n : Fin 2816) (ρ : Fin 2048) : EReal := ct m c n ρ * (conv m c n ρ * Channel.sig (conv m c n ρ))

theorem gateBlk_apply (t : Fin 8) (r : Fin 256) (n : Fin 2816) :
    (gateBlk m c (pt t) : Vec Ideal S256x2816 .bf16) (ix2 r n) = dgateAt m c n (row t r) := by
  have hr : (row t r).val = t.val * 256 + r.val := rfl
  unfold gateBlk k0_pay9
  rw [show (k0_pay7 (F := Ideal) (k0_pay2 (grid0.coords (pt t)) (iblk m c 6 (pt t))) (xE m c (pt t)) (k0_pay5 (iblk m c 3 (pt t)) (iblk m c 4 (pt t)))
    (iblk m c 5 (pt t))) = qE m c (pt t) from rfl]
  generalize hQ : qE m c (pt t) = Q
  pointwise
  subst hQ
  rw [blk7, blk7, blk7, qE_apply m c t _ n 0 (row t r) rfl,
    qE_apply m c t _ n 1 (row t r) (by show t.val * 256 + (r.val + 264 - 263) % 264 = _; omega),
    qE_apply m c t _ n 2 (row t r) (by show t.val * 256 + (r.val + 264 - 262) % 264 = _; omega), after_zero]
  rfl

theorem upBlk_apply (t : Fin 8) (r : Fin 256) (n : Fin 2816) :
    (upBlk m c (pt t) : Vec Ideal S256x2816 .bf16) (ix2 r n) = dupAt m c n (row t r) := by
  unfold upBlk k0_pay8
  generalize hX : xE m c (pt t) = X
  unfold k0_pay6
  pointwise
  subst hX
  rw [blk5, xE_apply m c t _ n (row t r) rfl, zero_sub]
  rfl

/-- The point's part of the taps' gradient, and of the bias's. -/
def tapPart (n : Fin 2816) (k : Fin 3) (t : Fin 8) : EReal :=
  ∑ r : Fin 256, dconv m c n (row t r) * Channel.before (gate m c n) (2 - k.val) (row t r)
def biasPart (n : Fin 2816) (t : Fin 8) : EReal := ∑ r : Fin 256, dconv m c n (row t r)

theorem tap0 (G : FVec Ideal S272x2816 .f32) (Q : FVec Ideal S264x2816 .f32) (acc : FVec Ideal S3x2816 .f32) (n : Fin 2816) :
    (k0_pay15 G Q (View.ld acc R0) : FVec Ideal S1x2816 .f32) (ix2 0 n)
      = acc (ix2 0 n) + ∑ r : Fin 256, Q (ix2 ⟨r.val, by omega⟩ n) * G (ix2 ⟨(8 + r.val + 272 - 2) % 272, by omega⟩ n) := by
  unfold k0_pay15 k0_pay12
  pointwise
theorem tap1 (G : FVec Ideal S272x2816 .f32) (Q : FVec Ideal S264x2816 .f32) (acc : FVec Ideal S3x2816 .f32) (n : Fin 2816) :
    (k0_pay14 G Q (View.ld acc R1) : FVec Ideal S1x2816 .f32) (ix2 0 n)
      = acc (ix2 1 n) + ∑ r : Fin 256, Q (ix2 ⟨r.val, by omega⟩ n) * G (ix2 ⟨(8 + r.val + 272 - 1) % 272, by omega⟩ n) := by
  unfold k0_pay14 k0_pay12
  pointwise
theorem tap2 (G : FVec Ideal S272x2816 .f32) (Q : FVec Ideal S264x2816 .f32) (acc : FVec Ideal S3x2816 .f32) (n : Fin 2816) :
    (k0_pay13 G Q (View.ld acc R2) : FVec Ideal S1x2816 .f32) (ix2 0 n)
      = acc (ix2 2 n) + ∑ r : Fin 256, Q (ix2 ⟨r.val, by omega⟩ n) * G (ix2 ⟨8 + r.val, by omega⟩ n) := by
  unfold k0_pay13 k0_pay12
  pointwise

theorem bias_apply (Q : FVec Ideal S264x2816 .f32) (acc : FVec Ideal S1x2816 .f32) (n : Fin 2816) :
    biasStep Q acc (ix2 0 n) = acc (ix2 0 n) + ∑ r : Fin 256, Q (ix2 ⟨r.val, by omega⟩ n) := by
  unfold biasStep k0_pay1 k0_pay16 k0_pay17 k0_pay12
  pointwise

/-- A point adds its part to each tap's gradient. -/
theorem tapsStep_apply (t : Fin 8) (acc : FVec Ideal S3x2816 .f32) (k : Fin 3) (n : Fin 2816) :
    tapsStep (gE m c (pt t)) (qE m c (pt t)) acc (ix2 k n) = acc (ix2 k n) + tapPart m c n k t := by
  have hr (r : Fin 256) : (row t r).val = t.val * 256 + r.val := rfl
  unfold tapPart
  rcases k with ⟨k, hk⟩
  rcases k with _ | _ | _ | k
  · refine (tap0 _ _ acc n).trans (congrArg _ (Finset.sum_congr rfl fun r _ => ?_))
    rw [qE_apply m c t _ n 0 (row t r) rfl, after_zero,
      gE_apply m c t _ n 2 (row t r) (by show t.val * 256 + (8 + r.val + 272 - 2) % 272 + 2 = _; have := hr r; omega) (by omega)]
    rfl
  · refine (tap1 _ _ acc n).trans (congrArg _ (Finset.sum_congr rfl fun r _ => ?_))
    rw [qE_apply m c t _ n 0 (row t r) rfl, after_zero,
      gE_apply m c t _ n 1 (row t r) (by show t.val * 256 + (8 + r.val + 272 - 1) % 272 + 1 = _; have := hr r; omega) (by omega)]
    rfl
  · refine (tap2 _ _ acc n).trans (congrArg _ (Finset.sum_congr rfl fun r _ => ?_))
    rw [qE_apply m c t _ n 0 (row t r) rfl, after_zero,
      gE_apply m c t _ n 0 (row t r) (by show t.val * 256 + (8 + r.val) + 0 = _; have := hr r; omega) (by omega)]
    rfl
  · omega

theorem biasStep_apply (t : Fin 8) (acc : FVec Ideal S1x2816 .f32) (n : Fin 2816) :
    biasStep (qE m c (pt t)) acc (ix2 0 n) = acc (ix2 0 n) + biasPart m c n t := by
  refine (bias_apply _ acc n).trans (congrArg _ (Finset.sum_congr rfl fun r _ => ?_))
  rw [qE_apply m c t _ n 0 (row t r) rfl, after_zero]

end Cert.GluBwdIdeal.Mm

end
-- ==== Proof.GluBwdRef.lean ====
/-
  The gate's gradient as the reference has it: its values read entry by entry, in terms of the two branches, the taps, the bias
  and the cotangent.
-/
module

public import proofs.«01_k».proof.Proof.Gen.GluBwdRefIdeal.Run
public import proofs.«01_k».proof.Proof.Channel
public import proofs.«01_k».proof.Proof.Mul
public import Idealize.ShloMosaic.Lib.Pointwise
public import Idealize.ShloMosaic.Lib.Claim
public import Idealize.ShloMosaic.Lib.Tactic

@[expose] public section

set_option maxRecDepth 16384

noncomputable section

namespace Cert.GluBwdRefIdeal.Mm

open Cert.GluBwdRefIdeal Cert.GluBwdRefIdeal.Gen Cert.GluBwdRefIdeal.Value
open Idealize.ShloMosaic Idealize.ShloMosaic.TcCoe Idealize.SL.Sem Idealize.ShloMosaic.StableHlo

variable (m : (ℓ : Loc nD τ sig) → Buf (Elt Ideal) ℓ) (c : Dev nD)

/-- The gate's branch a row and two rows earlier, and the taps on every row. -/
def early1 : FVec Ideal S2048x2816 .f32 :=
  concatenate S2048x2816 0 [⟨S1x2816, (broadcastInDim S1x2816 ![] bcast_S_S1x2816 (constant S_ .f32 0x00000000#32))⟩, ⟨S2047x2816, (extractStridedSlice S2047x2816 ![0, 0] (m ((c.tc : Thread nD τ).loc main_arg0)) slices_S2048x2816_S2047x2816_0_0)⟩] concatenates_S1x2816_S2047x2816_S2048x2816_d0
def early2 : FVec Ideal S2048x2816 .f32 :=
  concatenate S2048x2816 0 [⟨S2x2816, (broadcastInDim S2x2816 ![] bcast_S_S2x2816 (constant S_ .f32 0x00000000#32))⟩, ⟨S2046x2816, (extractStridedSlice S2046x2816 ![0, 0] (m ((c.tc : Thread nD τ).loc main_arg0)) slices_S2048x2816_S2046x2816_0_0)⟩] concatenates_S2x2816_S2046x2816_S2048x2816_d0
def tap0 : FVec Ideal S2048x2816 .f32 :=
  broadcastInDim S2048x2816 ![0, 1] bcast_S1x2816_S2048x2816_0_1 (broadcastInDim S1x2816 ![1] bcast_S2816_S1x2816_1 (shapeCast _ (extractStridedSlice S1x2816 ![0, 0] (m ((c.tc : Thread nD τ).loc main_arg2)) slices_S3x2816_S1x2816_0_0) shapeCasts_S1x2816_S2816))
def tap1 : FVec Ideal S2048x2816 .f32 :=
  broadcastInDim S2048x2816 ![0, 1] bcast_S1x2816_S2048x2816_0_1 (broadcastInDim S1x2816 ![1] bcast_S2816_S1x2816_1 (shapeCast _ (extractStridedSlice S1x2816 ![1, 0] (m ((c.tc : Thread nD τ).loc main_arg2)) slices_S3x2816_S1x2816_1_0) shapeCasts_S1x2816_S2816))
def tap2 : FVec Ideal S2048x2816 .f32 :=
  broadcastInDim S2048x2816 ![0, 1] bcast_S1x2816_S2048x2816_0_1 (broadcastInDim S1x2816 ![1] bcast_S2816_S1x2816_1 (shapeCast _ (extractStridedSlice S1x2816 ![2, 0] (m ((c.tc : Thread nD τ).loc main_arg2)) slices_S3x2816_S1x2816_2_0) shapeCasts_S1x2816_S2816))

/-- The convolution, the logistic function of it, and the convolution's cotangent. -/
def refX : FVec Ideal S2048x2816 .f32 :=
  addf (addf (addf (mulf (early2 m c) (tap0 m c)) (mulf (early1 m c) (tap1 m c))) (mulf (m ((c.tc : Thread nD τ).loc main_arg0)) (tap2 m c))) (broadcastInDim S2048x2816 ![0, 1] bcast_S1x2816_S2048x2816_0_1 (broadcastInDim S1x2816 ![1] bcast_S2816_S1x2816_1 (m ((c.tc : Thread nD τ).loc main_arg3))))
def refS : FVec Ideal S2048x2816 .f32 :=
  Host.divf (broadcastInDim S2048x2816 ![] bcast_S_S2048x2816 (constant S_ .f32 0x3F800000#32)) (addf (broadcastInDim S2048x2816 ![] bcast_S_S2048x2816 (constant S_ .f32 0x3F800000#32)) (Host.exp (Host.negf (refX m c))))
def refD : FVec Ideal S2048x2816 .f32 :=
  addf (mulf (mulf (m ((c.tc : Thread nD τ).loc main_arg4)) (m ((c.tc : Thread nD τ).loc main_arg1))) (refS m c)) (mulf (mulf (refX m c) (mulf (m ((c.tc : Thread nD τ).loc main_arg4)) (m ((c.tc : Thread nD τ).loc main_arg1)))) (mulf (refS m c) (subf (broadcastInDim S2048x2816 ![] bcast_S_S2048x2816 (constant S_ .f32 0x3F800000#32)) (refS m c))))

/-- The results, from these. -/
def refGate : FVec Ideal S2048x2816 .bf16 :=
  truncf .bf16 (addf (addf (mulf (refD m c) (tap2 m c)) (pad S2048x2816 ![0, 0] ![1, 0] ![0, 0] (extractStridedSlice S2047x2816 ![1, 0] (mulf (refD m c) (tap1 m c)) slices_S2048x2816_S2047x2816_1_0) (constant S_ .f32 0x00000000#32) pads_S2047x2816_S2048x2816_010_000 h_S_)) (pad S2048x2816 ![0, 0] ![2, 0] ![0, 0] (extractStridedSlice S2046x2816 ![2, 0] (mulf (refD m c) (tap0 m c)) slices_S2048x2816_S2046x2816_2_0) (constant S_ .f32 0x00000000#32) pads_S2046x2816_S2048x2816_020_000 h_S_)) bitsLt_bf16_f32
def refTaps : FVec Ideal S3x2816 .f32 :=
  addf (addf (pad S3x2816 ![2, 0] ![0, 0] ![0, 0] (broadcastInDim S1x2816 ![1] bcast_S2816_S1x2816_1 (Host.reduceAdd (shapeCast _ (Host.reduceAdd (mulf (m ((c.tc : Thread nD τ).loc main_arg0)) (refD m c)) (constant S_ .f32 0x00000000#32) reducesTo_S2048x2816_S2816_d0 h_S_) shapeCasts_S2816_S1x2816) (constant S_ .f32 0x00000000#32) reducesTo_S1x2816_S2816_d0 h_S_)) (constant S_ .f32 0x00000000#32) pads_S1x2816_S3x2816_200_000 h_S_) (pad S3x2816 ![1, 0] ![1, 0] ![0, 0] (broadcastInDim S1x2816 ![1] bcast_S2816_S1x2816_1 (Host.reduceAdd (shapeCast _ (Host.reduceAdd (mulf (early1 m c) (refD m c)) (constant S_ .f32 0x00000000#32) reducesTo_S2048x2816_S2816_d0 h_S_) shapeCasts_S2816_S1x2816) (constant S_ .f32 0x00000000#32) reducesTo_S1x2816_S2816_d0 h_S_)) (constant S_ .f32 0x00000000#32) pads_S1x2816_S3x2816_110_000 h_S_)) (pad S3x2816 ![0, 0] ![2, 0] ![0, 0] (broadcastInDim S1x2816 ![1] bcast_S2816_S1x2816_1 (Host.reduceAdd (shapeCast _ (Host.reduceAdd (mulf (early2 m c) (refD m c)) (constant S_ .f32 0x00000000#32) reducesTo_S2048x2816_S2816_d0 h_S_) shapeCasts_S2816_S1x2816) (constant S_ .f32 0x00000000#32) reducesTo_S1x2816_S2816_d0 h_S_)) (constant S_ .f32 0x00000000#32) pads_S1x2816_S3x2816_020_000 h_S_)
def refBias : FVec Ideal S1x2816 .f32 :=
  shapeCast _ (Host.reduceAdd (shapeCast _ (Host.reduceAdd (refD m c) (constant S_ .f32 0x00000000#32) reducesTo_S2048x2816_S2816_d0 h_S_) shapeCasts_S2816_S1x2816) (constant S_ .f32 0x00000000#32) reducesTo_S1x2816_S2816_d0 h_S_) shapeCasts_S2816_S1x2816

theorem gate_eq : res_main_v70 m c = refGate m c := rfl
theorem taps_eq : res_main_v65 m c = refTaps m c := rfl
theorem bias_eq : res_main_v72 m c = refBias m c := rfl

/-- The arguments, by channel. -/
def gate (n : Fin 2816) (r : Fin 2048) : EReal := m ((c : Thread nD τ).loc main_arg0) (ix2 r n)
def up (n : Fin 2816) (r : Fin 2048) : EReal := m ((c : Thread nD τ).loc main_arg1) (ix2 r n)
def taps (n : Fin 2816) (k : Fin 3) : EReal := m ((c : Thread nD τ).loc main_arg2) (ix2 k n)
def bias (n : Fin 2816) : EReal := m ((c : Thread nD τ).loc main_arg3) (ix1 n)
def ct (n : Fin 2816) (r : Fin 2048) : EReal := m ((c : Thread nD τ).loc main_arg4) (ix2 r n)

theorem early1_apply (r : Fin 2048) (n : Fin 2816) : early1 m c (ix2 r n) = Channel.before (gate m c n) 1 r := by
  unfold early1
  pointwise
  rfl
theorem early2_apply (r : Fin 2048) (n : Fin 2816) : early2 m c (ix2 r n) = Channel.before (gate m c n) 2 r := by
  unfold early2
  pointwise
  rfl
theorem tap0_apply (r : Fin 2048) (n : Fin 2816) : tap0 m c (ix2 r n) = taps m c n 0 := by
  unfold tap0
  pointwise
  rfl
theorem tap1_apply (r : Fin 2048) (n : Fin 2816) : tap1 m c (ix2 r n) = taps m c n 1 := by
  unfold tap1
  pointwise
  rfl
theorem tap2_apply (r : Fin 2048) (n : Fin 2816) : tap2 m c (ix2 r n) = taps m c n 2 := by
  unfold tap2
  pointwise
  rfl

/-- The convolution at a row and a channel. -/
def conv (n : Fin 2816) (r : Fin 2048) : EReal := Channel.conv (gate m c n) (taps m c n) (bias m c n) r

theorem refX_apply (r : Fin 2048) (n : Fin 2816) : refX m c (ix2 r n) = conv m c n r := by
  unfold refX conv
  rw [Channel.conv_eq, ← early1_apply, ← early2_apply, ← tap0_apply m c r, ← tap1_apply m c r, ← tap2_apply m c r]
  generalize early1 m c = e1
  generalize early2 m c = e2
  generalize tap0 m c = t0
  generalize tap1 m c = t1
  generalize tap2 m c = t2
  pointwise
  rfl

theorem refS_apply (r : Fin 2048) (n : Fin 2816) : refS m c (ix2 r n) = Channel.sig (conv m c n r) := by
  unfold refS
  rw [← refX_apply]
  generalize refX m c = X
  pointwise
  rfl

/-- The convolution's cotangent, where the product of the cotangent and the other branch is a number. -/
theorem refD_apply (r : Fin 2048) (n : Fin 2816) (δ : ℝ) (h : ct m c n r * up m c n r = (δ : EReal)) :
    refD m c (ix2 r n) = Channel.dgate (ct m c n r * up m c n r) (conv m c n r) := by
  rw [h, ← Channel.dgate_eq, ← h, ← refS_apply, ← refX_apply]
  unfold refD
  generalize refX m c = X
  generalize refS m c = S
  pointwise
  rfl

/-- The reference's results, in terms of the convolution's cotangent. -/
theorem gate_apply (r : Fin 2048) (n : Fin 2816) (d : Fin 2048 → EReal) (hd : ∀ r, refD m c (ix2 r n) = d r) :
    refGate m c (ix2 r n)
      = taps m c n 2 * d r + taps m c n 1 * Channel.after d 1 r + taps m c n 0 * Channel.after d 2 r := by
  unfold refGate
  have h0 := fun r => tap0_apply m c r n
  have h1 := fun r => tap1_apply m c r n
  have h2 := fun r => tap2_apply m c r n
  generalize tap0 m c = t0 at h0 ⊢
  generalize tap1 m c = t1 at h1 ⊢
  generalize tap2 m c = t2 at h2 ⊢
  generalize refD m c = D at hd ⊢
  pointwise
  refine congrArg₂ (· + ·) (congrArg₂ (· + ·) ?_ ?_) ?_
  · rw [hd, h2, mul_comm]
  · unfold Channel.after
    by_cases h : r.val + 1 < 2048
    · rw [dif_pos h, dif_pos (by omega), hd, h1, mul_comm]
      exact congrArg (fun s => taps m c n 1 * d s) (Fin.ext (Nat.add_comm _ _))
    · rw [dif_neg h, dif_neg (by omega), mul_zero]
  · unfold Channel.after
    by_cases h : r.val + 2 < 2048
    · rw [dif_pos h, dif_pos (by omega), hd, h0, mul_comm]
      exact congrArg (fun s => taps m c n 0 * d s) (Fin.ext (Nat.add_comm _ _))
    · rw [dif_neg h, dif_neg (by omega), mul_zero]

theorem up_apply (r : Fin 2048) (n : Fin 2816) :
    (truncf .bf16 (mulf (mulf (refX m c) (refS m c)) (m ((c.tc : Thread nD τ).loc main_arg4))) bitsLt_bf16_f32 : FVec Ideal S2048x2816 .bf16) (ix2 r n)
      = ct m c n r * (conv m c n r * Channel.sig (conv m c n r)) := by
  rw [mul_comm, ← refS_apply, ← refX_apply]
  generalize refX m c = X
  generalize refS m c = S
  pointwise
  rfl

theorem bias_apply (n : Fin 2816) : refBias m c (ix2 0 n) = ∑ r : Fin 2048, refD m c (ix2 r n) := by
  unfold refBias
  generalize refD m c = D
  pointwise
  exact Fin.sum_univ_one _

theorem taps_apply (k : Fin 3) (n : Fin 2816) : refTaps m c (ix2 k n)
    = ∑ r : Fin 2048, refD m c (ix2 r n) * Channel.before (gate m c n) (2 - k.val) r := by
  unfold refTaps
  have h1 := fun r => early1_apply m c r n
  have h2 := fun r => early2_apply m c r n
  generalize early1 m c = e1 at h1 ⊢
  generalize early2 m c = e2 at h2 ⊢
  generalize refD m c = D
  pointwise
  rcases k with ⟨k, hk⟩
  rcases k with _ | _ | _ | k
  · rw [dif_neg (by simp), dif_neg (by simp), dif_pos (by simp), Fin.sum_univ_one, add_zero, zero_add]
    exact Finset.sum_congr rfl fun r _ => by rw [h2, mul_comm]; rfl
  · rw [dif_neg (by simp), dif_pos (by simp), dif_neg (by simp), Fin.sum_univ_one, add_zero, zero_add]
    exact Finset.sum_congr rfl fun r _ => by rw [h1, mul_comm]; rfl
  · rw [dif_pos (by simp), dif_neg (by simp), dif_neg (by simp), Fin.sum_univ_one, add_zero, add_zero]
    exact Finset.sum_congr rfl fun r _ => by rw [mul_comm]; rfl
  · omega

end Cert.GluBwdRefIdeal.Mm

end
-- ==== Proof.GluBwd.lean ====
/-
  The feed-forward's gate, backward: what the launch leaves in its four results, and that the reference computes the same. The
  gradients of the taps and of the bias are sums over all rows, which the grid's points add up one after another.
-/
module

public import proofs.«01_k».proof.Defs
public import proofs.«01_k».proof.Proof.GluBwdEntry
public import proofs.«01_k».proof.Proof.Gen.GluBwdRefIdeal.Run
public import proofs.«01_k».proof.Proof.Gen.GluBwd
public import proofs.«01_k».proof.Proof.GluBwdRef
public import proofs.«01_k».proof.Proof.Algebraic

@[expose] public section

set_option maxRecDepth 16384

noncomputable section

namespace Cert.GluBwdIdeal.Mm

open Cert.GluBwdIdeal Cert.GluBwdIdeal.Gen Cert.GluBwdIdeal.Value
open Idealize.ShloMosaic Idealize.ShloMosaic.TcCoe Idealize.SL.Sem
open Idealize.ShloMosaic.Pipeline (Dat Window)

variable (m : (ℓ : Loc nD τ sig) → Buf (Elt Ideal) ℓ) (c : Dev nD)

/-- The taps' gradient after point `n` is the sum of the parts so far. -/
theorem taps_chain (k : Fin 3) (j : Fin 2816) : ∀ (n : ℕ) (h : n < 8),
    ((outsAt0 m c n (lt_of_lt_of_eq h N_0.symm)).2.2.1 : FVec Ideal S3x2816 .f32) (ix2 k j) = ∑ s : Fin (n + 1), tapPart m c j k ⟨s.val, by omega⟩
  | 0, h => by
    rw [Fin.sum_univ_one]
    refine (congrFun (taps_first m c (pt ⟨0, h⟩) rfl) (ix2 k j)).trans ?_
    rw [tapsStep_apply]
    unfold k0_pay10
    pointwise
  | n + 1, h => by
    rw [Fin.sum_univ_castSucc]
    refine (congrFun (taps_later m c (pt ⟨n + 1, h⟩) (by show ¬(n + 1) % 8 = 0; omega)) (ix2 k j)).trans ?_
    rw [tapsStep_apply]
    refine congrArg₂ (· + ·) ?_ rfl
    exact taps_chain k j n (by omega)

/-- The bias's likewise. -/
theorem bias_chain (j : Fin 2816) : ∀ (n : ℕ) (h : n < 8),
    ((outsAt0 m c n (lt_of_lt_of_eq h N_0.symm)).2.2.2 : FVec Ideal S1x2816 .f32) (ix2 0 j) = ∑ s : Fin (n + 1), biasPart m c j ⟨s.val, by omega⟩
  | 0, h => by
    rw [Fin.sum_univ_one]
    refine (congrFun (bias_first m c (pt ⟨0, h⟩) rfl) (ix2 0 j)).trans ?_
    rw [biasStep_apply]
    unfold k0_pay11
    pointwise
  | n + 1, h => by
    rw [Fin.sum_univ_castSucc]
    refine (congrFun (bias_later m c (pt ⟨n + 1, h⟩) (by show ¬(n + 1) % 8 = 0; omega)) (ix2 0 j)).trans ?_
    rw [biasStep_apply]
    refine congrArg₂ (· + ·) ?_ rfl
    exact bias_chain j n (by omega)

/-- The gradients of the taps and of the bias, sums over all rows. -/
def tapSum (n : Fin 2816) (k : Fin 3) : EReal := ∑ ρ : Fin 2048, dconv m c n ρ * Channel.before (gate m c n) (2 - k.val) ρ
def biasSum (n : Fin 2816) : EReal := ∑ ρ : Fin 2048, dconv m c n ρ

theorem sum_tapPart (n : Fin 2816) (k : Fin 3) : ∑ s : Fin 8, tapPart m c n k s = tapSum m c n k :=
  Fin.sum_mul_add_fin 8 256 fun ρ : Fin 2048 => dconv m c n ρ * Channel.before (gate m c n) (2 - k.val) ρ
theorem sum_biasPart (n : Fin 2816) : ∑ s : Fin 8, biasPart m c n s = biasSum m c n :=
  Fin.sum_mul_add_fin 8 256 fun ρ : Fin 2048 => dconv m c n ρ

/-- The four results, entry by entry. -/
def gateGrad : Vec Ideal S2048x2816 .bf16 := fun i => dgateAt m c (i 1) (i 0)
def upGrad : Vec Ideal S2048x2816 .bf16 := fun i => dupAt m c (i 1) (i 0)
def tapsGrad : Vec Ideal S3x2816 .f32 := fun i => tapSum m c (i 1) (i 0)
def biasGrad : Vec Ideal S1x2816 .f32 := fun i => biasSum m c (i 1)

theorem point (t : Fin cfg0.N) : ∃ s : Fin 8, t = pt s := ⟨⟨t.val, lt_of_lt_of_eq t.isLt N_0⟩, rfl⟩

theorem final9 : (dats m 0 c).arrAt 9 cfg0.N = gateGrad m c := by
  refine (dats m 0 c).arrAt_eq_of_cover 9 (gateGrad m c) (fun t hf => ?_) fun i => ?_
  · obtain ⟨t, rfl⟩ := point t
    funext y
    obtain ⟨r, n, rfl⟩ : ∃ (r : Fin 256) (n : Fin 2816), y = ix2 r n := ⟨y 0, y 1, (ix2_eta y).symm⟩
    rw [flushed9_eq, View.read_apply, emb9]
    exact gateBlk_apply m c t r n
  · obtain ⟨r, n, rfl⟩ : ∃ (r : Fin 2048) (n : Fin 2816), i = ix2 r n := ⟨i 0, i 1, (ix2_eta i).symm⟩
    obtain ⟨t, r, rfl⟩ := Mul.blocked_surj (n := 2048) (a := 8) 256 rfl (by decide) r
    exact ⟨pt t, flush0_9 _, by rw [show Mul.blocked 256 rfl t r = row t r from rfl, ← emb9]; exact View.emb_mem_set _ _⟩

theorem final10 : (dats m 0 c).arrAt 10 cfg0.N = upGrad m c := by
  refine (dats m 0 c).arrAt_eq_of_cover 10 (upGrad m c) (fun t hf => ?_) fun i => ?_
  · obtain ⟨t, rfl⟩ := point t
    funext y
    obtain ⟨r, n, rfl⟩ : ∃ (r : Fin 256) (n : Fin 2816), y = ix2 r n := ⟨y 0, y 1, (ix2_eta y).symm⟩
    rw [flushed10_eq, View.read_apply, emb10]
    exact upBlk_apply m c t r n
  · obtain ⟨r, n, rfl⟩ : ∃ (r : Fin 2048) (n : Fin 2816), i = ix2 r n := ⟨i 0, i 1, (ix2_eta i).symm⟩
    obtain ⟨t, r, rfl⟩ := Mul.blocked_surj (n := 2048) (a := 8) 256 rfl (by decide) r
    exact ⟨pt t, flush0_10 _, by rw [show Mul.blocked 256 rfl t r = row t r from rfl, ← emb10]; exact View.emb_mem_set _ _⟩

theorem final11 : (dats m 0 c).arrAt 11 cfg0.N = tapsGrad m c := by
  refine (dats m 0 c).arrAt_eq_of_cover 11 (tapsGrad m c) (fun t hf => ?_) fun i => ?_
  · obtain ⟨t, rfl⟩ := point t
    obtain rfl : t = 7 := by
      have h7 : t.val % 8 = 7 := (flush0_11 (pt t)).mp hf
      exact Fin.ext (by show t.val = 7; omega)
    funext y
    obtain ⟨k, n, rfl⟩ : ∃ (k : Fin 3) (n : Fin 2816), y = ix2 k n := ⟨y 0, y 1, (ix2_eta y).symm⟩
    rw [flushed11, View.read_apply, emb11]
    refine Eq.trans ?_ (sum_tapPart m c n k)
    exact taps_chain m c k n 7 (by decide)
  · obtain ⟨k, n, rfl⟩ : ∃ (k : Fin 3) (n : Fin 2816), i = ix2 k n := ⟨i 0, i 1, (ix2_eta i).symm⟩
    exact ⟨pt 7, (flush0_11 _).mpr rfl, by rw [← emb11 7]; exact View.emb_mem_set _ _⟩

theorem final12 : (dats m 0 c).arrAt 12 cfg0.N = biasGrad m c := by
  refine (dats m 0 c).arrAt_eq_of_cover 12 (biasGrad m c) (fun t hf => ?_) fun i => ?_
  · obtain ⟨t, rfl⟩ := point t
    obtain rfl : t = 7 := by
      have h7 : t.val % 8 = 7 := (flush0_12 (pt t)).mp hf
      exact Fin.ext (by show t.val = 7; omega)
    funext y
    obtain ⟨k, n, rfl⟩ : ∃ (k : Fin 1) (n : Fin 2816), y = ix2 k n := ⟨y 0, y 1, (ix2_eta y).symm⟩
    obtain rfl : k = 0 := Subsingleton.elim _ _
    rw [flushed12, View.read_apply, emb12]
    refine Eq.trans ?_ (sum_biasPart m c n)
    exact bias_chain m c n 7 (by decide)
  · obtain ⟨k, n, rfl⟩ : ∃ (k : Fin 1) (n : Fin 2816), i = ix2 k n := ⟨i 0, i 1, (ix2_eta i).symm⟩
    exact ⟨pt 7, (flush0_12 _).mpr rfl, by rw [← emb12 7]; exact View.emb_mem_set _ _⟩

theorem frame_ideal : Cert.quiescent_GluBwdIdeal := fun m ρ _ => Cert.GluBwdIdeal.Gen.frame m ρ

theorem defs₀_eq : Cert.GluBwd.defs₀ (F := Bits) = Cert.GluBwdIdeal.defs₀ (F := Bits) := by
  unfold Cert.GluBwd.defs₀ Cert.GluBwdIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_GluBwd := fun m ρ _ => by
  rw [show Cert.GluBwd.defs (F := Bits) = Cert.GluBwdIdeal.defs (F := Bits) from congrArg (Pipeline.defs _) defs₀_eq]
  exact (θ_run Cert.GluBwdIdeal.defs _ _).mono (fun _ h => h) (Cert.GluBwdIdeal.Gen.frame (F := Bits) m ρ)

theorem frame_ref : Cert.quiescent_GluBwdRefIdeal := fun m ρ _ =>
  (θ_run Cert.GluBwdRefIdeal.defs _ _).mono (fun r h => ⟨fun c => (h c).2.2.2.2, Idealize.ShloMosaic.sem_eq_zero_of_no_sems (by decide) r.2⟩)
    (Cert.GluBwdRefIdeal.Value.run (F := Ideal) m ρ)

/-- The precondition's text has its side conditions. -/
theorem pre_facts : Cert.Pre_finite_glu.Facts where
  bcast_S_S2048x2816 := by decide

theorem frame_ideal_pre : Cert.quiescent_GluBwdIdeal_pre_finite_glu (hPre_finite_glu := pre_facts) := fun m ρ _ => Cert.GluBwdIdeal.Gen.frame m ρ

theorem frame_ref_pre : Cert.quiescent_GluBwdRefIdeal_pre_finite_glu (hPre_finite_glu := pre_facts) := fun m ρ _ => frame_ref m ρ trivial

section Pre

attribute [local instance] pre_facts

/-- What the precondition says of each entry: the cotangent's product with the other branch is a number. -/
theorem pre_apply (g u ct : FVec Ideal S2048x2816 .f32) (w : FVec Ideal S3x2816 .f32) (b : FVec Ideal S2816 .f32)
    (h : Cert.Pre_finite_glu.fn g u w b ct = fun _ => 1#1) (r : Fin 2048) (n : Fin 2816) :
    ∃ δ : ℝ, (ct (ix2 r n) : EReal) * u (ix2 r n) = (δ : EReal) := by
  have e := congrFun h (ix2 r n)
  unfold Cert.Pre_finite_glu.fn at e
  pointwise at e
  rw [Cert.Retention.word_top, Cert.Retention.andi_one, Cert.Retention.bit_one, Cert.Retention.bit_one] at e
  refine ⟨(ct (ix2 r n) : EReal).toReal * (u (ix2 r n) : EReal).toReal, ?_⟩
  rw [EReal.coe_mul, ← Cert.Retention.real_of_abs_lt _ e.1, ← Cert.Retention.real_of_abs_lt _ e.2]

end Pre

/-- The call computes the gate's gradient. -/
theorem algebraic : Cert.algebraic_GluBwdIdeal_GluBwdRefIdeal_pre_finite_glu (hPre_finite_glu := pre_facts) := by
  intro m g m' g' hpre hargs
  refine ⟨fun c => gateGrad m c, fun c => upGrad m c, fun c => tapsGrad m c, fun c => biasGrad m c, ?_, ?_⟩
  · exact (θ_run Cert.GluBwdIdeal.defs _ _).mono (fun r h c => ⟨(h c).1.trans (final9 m c), (h c).2.1.trans (final10 m c),
      (h c).2.2.1.trans (final11 m c), (h c).2.2.2.1.trans (final12 m c), (h c).2.2.2.2⟩) (run_blocks m g)
  · refine (θ_run Cert.GluBwdRefIdeal.defs _ _).mono (fun r h c => ?_) (Cert.GluBwdRefIdeal.Value.run (F := Ideal) m' g')
    obtain ⟨h0, h1, h2, h3, h4⟩ := hargs c
    have hg : ∀ n, Cert.GluBwdRefIdeal.Mm.gate m' c n = gate m c n := fun n => funext fun r => congrFun h0 (ix2 r n)
    have hu : ∀ n, Cert.GluBwdRefIdeal.Mm.up m' c n = up m c n := fun n => funext fun r => congrFun h1 (ix2 r n)
    have hw : ∀ n, Cert.GluBwdRefIdeal.Mm.taps m' c n = taps m c n := fun n => funext fun k => congrFun h2 (ix2 k n)
    have hb : ∀ n, Cert.GluBwdRefIdeal.Mm.bias m' c n = bias m c n := fun n => congrFun h3 (ix1 n)
    have ht : ∀ n, Cert.GluBwdRefIdeal.Mm.ct m' c n = ct m c n := fun n => funext fun r => congrFun h4 (ix2 r n)
    have hx : ∀ n r, Cert.GluBwdRefIdeal.Mm.conv m' c n r = conv m c n r := fun n r => by
      unfold Cert.GluBwdRefIdeal.Mm.conv conv
      rw [hg, hw, hb]
    have hd : ∀ n r, Cert.GluBwdRefIdeal.Mm.refD m' c (ix2 r n) = dconv m c n r := fun n r => by
      obtain ⟨δ, hδ⟩ := pre_apply _ _ _ _ _ (hpre c) r n
      rw [Cert.GluBwdRefIdeal.Mm.refD_apply m' c r n δ (by rw [hu, ht]; exact hδ), hu, ht, hx]
      rfl
    refine ⟨(h c).1.trans ?_, (h c).2.1.trans ?_, (h c).2.2.1.trans ?_, (h c).2.2.2.1.trans ?_, (h c).2.2.2.2⟩
    · funext y
      obtain ⟨r, n, rfl⟩ : ∃ (r : Fin 2048) (n : Fin 2816), y = ix2 r n := ⟨y 0, y 1, (ix2_eta y).symm⟩
      refine ((congrFun (Cert.GluBwdRefIdeal.Mm.gate_eq m' c) _).trans <| Cert.GluBwdRefIdeal.Mm.gate_apply m' c r n (dconv m c n) (hd n)).trans ?_
      rw [hw]
      rfl
    · funext y
      obtain ⟨r, n, rfl⟩ : ∃ (r : Fin 2048) (n : Fin 2816), y = ix2 r n := ⟨y 0, y 1, (ix2_eta y).symm⟩
      refine (Cert.GluBwdRefIdeal.Mm.up_apply m' c r n).trans ?_
      rw [ht, hx]
      rfl
    · funext y
      obtain ⟨k, n, rfl⟩ : ∃ (k : Fin 3) (n : Fin 2816), y = ix2 k n := ⟨y 0, y 1, (ix2_eta y).symm⟩
      have e : ∑ r : Fin 2048, Cert.GluBwdRefIdeal.Mm.refD m' c (ix2 r n) * Channel.before (Cert.GluBwdRefIdeal.Mm.gate m' c n) (2 - k.val) r
          = tapSum m c n k := Finset.sum_congr rfl fun r _ => by rw [hd, hg]
      exact ((congrFun (Cert.GluBwdRefIdeal.Mm.taps_eq m' c) _).trans <| Cert.GluBwdRefIdeal.Mm.taps_apply m' c k n).trans e
    · funext y
      obtain ⟨k, n, rfl⟩ : ∃ (k : Fin 1) (n : Fin 2816), y = ix2 k n := ⟨y 0, y 1, (ix2_eta y).symm⟩
      obtain rfl : k = 0 := Subsingleton.elim _ _
      have e : ∑ r : Fin 2048, Cert.GluBwdRefIdeal.Mm.refD m' c (ix2 r n) = biasSum m c n := Finset.sum_congr rfl fun r _ => hd n r
      exact ((congrFun (Cert.GluBwdRefIdeal.Mm.bias_eq m' c) _).trans <| Cert.GluBwdRefIdeal.Mm.bias_apply m' c n).trans e

end Cert.GluBwdIdeal.Mm

end
-- ==== Proof.Glu.lean ====
/-
  The feed-forward's gate, forward: the short causal convolution of the gate's branch, the logistic gate on it, and the
  product with the other branch. A point takes 256 rows and the 8 rows before them, of which the taps use two.
-/
module

public import proofs.«01_k».proof.Defs
public import proofs.«01_k».proof.Proof.Gen.GluIdeal.Value
public import proofs.«01_k».proof.Proof.Gen.GluRefIdeal.Run
public import proofs.«01_k».proof.Proof.Gen.Glu
public import proofs.«01_k».proof.Proof.Channel
public import proofs.«01_k».proof.Proof.Mul
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.GluIdeal.Mm

open Cert.GluIdeal Cert.GluIdeal.Gen Cert.GluIdeal.Value
open Idealize.ShloMosaic Idealize.ShloMosaic.TcCoe Idealize.SL.Sem
open Idealize.ShloMosaic.Pipeline (Dat Window)

variable (m : (ℓ : Loc nD τ sig) → Buf (Elt Ideal) ℓ) (c : Dev nD)

/-- What a point copies out, of its blocks. -/
theorem flushed_eq (t : Fin cfg0.N) : (dats m 0 c).flushed 5 t = (k0_pay1 (F := Ideal) (grid0.coords t) (iblk m c 1 t) (iblk m c 0 t)
    (View.ld (iblk m c 3 t) r0_2) (View.ld (iblk m c 3 t) r0_3) (View.ld (iblk m c 3 t) r0_4) (iblk m c 4 t) (iblk m c 2 t)) := by
  rw [flushed5]
  unfold out0_5
  simp only [View.canon_unit_zero (S := S256x2816) Mul.hz, View.ld_unit_zero (S := S256x2816) Mul.hz,
    View.ld_unit_zero (S := S8x2816) Mul.hz, View.ld_unit_zero (S := S1x2816) Mul.hz]
  rfl

/-- Row `r` of the block of point `t`. -/
def row (t : Fin 8) (r : Fin 256) : Fin 2048 := Mul.blocked 256 rfl t r

/-- Row `k` of the eight before the block of point `t`; of the first point, the first eight, which it does not use. -/
def prev (t : Fin 8) (k : Fin 8) : Fin 2048 := ⟨(t.val * 32 - 1) * 8 + k.val, by omega⟩

def pt (t : Fin 8) : Fin cfg0.N := ⟨t.val, lt_of_lt_of_eq t.isLt N_0.symm⟩

theorem index0 : ∀ t : Fin 8, (cfg0.win 0).index (pt t) = ![t.val, 0] := by decide
theorem index1 : ∀ t : Fin 8, (cfg0.win 1).index (pt t) = ![t.val * 32 - 1, 0] := by decide
theorem index2 : ∀ t : Fin 8, (cfg0.win 2).index (pt t) = ![t.val, 0] := by decide
theorem index3 : ∀ t : Fin 8, (cfg0.win 3).index (pt t) = ![0, 0] := by decide
theorem index4 : ∀ t : Fin 8, (cfg0.win 4).index (pt t) = ![0, 0] := by decide
theorem index5 : ∀ t : Fin 8, (cfg0.win 5).index (pt t) = ![t.val, 0] := by decide

theorem first_point : ∀ t : Fin 8, Scalar.cmpi .eq (BitVec.ofNat 32 (grid0.coords (pt t) 0).val) 0#32 = if t.val = 0 then 1#1 else 0#1 := by
  decide

theorem emb0 (t : Fin 8) (r : Fin 256) (n : Fin 2816) : ((cfg0.win 0).blk (pt t)).view.emb (ix2 r n) = ix2 (row t r) n :=
  Mul.ix2_of_val (Window.rect_emb_val (cfg0.win 0) (pt t) (ix2 r n)) (by rw [index0]; rfl) (by rw [index0]; exact Nat.zero_add _)
theorem emb1 (t : Fin 8) (r : Fin 8) (n : Fin 2816) : ((cfg0.win 1).blk (pt t)).view.emb (ix2 r n) = ix2 (prev t r) n :=
  Mul.ix2_of_val (Window.rect_emb_val (cfg0.win 1) (pt t) (ix2 r n)) (by rw [index1]; rfl) (by rw [index1]; exact Nat.zero_add _)
theorem emb2 (t : Fin 8) (r : Fin 256) (n : Fin 2816) : ((cfg0.win 2).blk (pt t)).view.emb (ix2 r n) = ix2 (row t r) n :=
  Mul.ix2_of_val (Window.rect_emb_val (cfg0.win 2) (pt t) (ix2 r n)) (by rw [index2]; rfl) (by rw [index2]; exact Nat.zero_add _)
theorem emb3 (t : Fin 8) (k : Fin 3) (n : Fin 2816) : ((cfg0.win 3).blk (pt t)).view.emb (ix2 k n) = ix2 k n :=
  Mul.ix2_of_val (Window.rect_emb_val (cfg0.win 3) (pt t) (ix2 k n)) (by rw [index3]; exact Nat.zero_add _) (by rw [index3]; exact Nat.zero_add _)
theorem emb4 (t : Fin 8) (k : Fin 1) (n : Fin 2816) : ((cfg0.win 4).blk (pt t)).view.emb (ix2 k n) = ix2 k n :=
  Mul.ix2_of_val (Window.rect_emb_val (cfg0.win 4) (pt t) (ix2 k n)) (by rw [index4]; exact Nat.zero_add _) (by rw [index4]; exact Nat.zero_add _)
theorem emb5 (t : Fin 8) (r : Fin 256) (n : Fin 2816) : ((cfg0.win 5).blk (pt t)).view.emb (ix2 r n) = ix2 (row t r) n :=
  Mul.ix2_of_val (Window.rect_emb_val (cfg0.win 5) (pt t) (ix2 r n)) (by rw [index5]; rfl) (by rw [index5]; exact Nat.zero_add _)

/-- The two branches, the taps and the bias, as the launch holds them. -/
def gate (n : Fin 2816) (r : Fin 2048) : EReal := m ((c : Thread nD τ).loc main_arg0) (ix2 r n)
def up (n : Fin 2816) (r : Fin 2048) : EReal := m ((c : Thread nD τ).loc main_arg1) (ix2 r n)
def taps (n : Fin 2816) (k : Fin 3) : EReal := m ((c : Thread nD τ).loc main_arg2) (ix2 k n)
def bias (n : Fin 2816) : EReal := m ((c : Thread nD τ).loc main_arg3) (ix1 n)

theorem blk0 (t : Fin 8) (r : Fin 256) (n : Fin 2816) : (iblk m c 0 (pt t) : Vec Ideal S256x2816 .f32) (ix2 r n) = gate m c n (row t r) := by
  refine (congrArg (V m c main_arg0) (emb0 t r n)).trans ?_
  rw [V_main_arg0]; rfl
theorem blk1 (t : Fin 8) (r : Fin 8) (n : Fin 2816) : (iblk m c 1 (pt t) : Vec Ideal S8x2816 .f32) (ix2 r n) = gate m c n (prev t r) := by
  refine (congrArg (V m c main_arg0) (emb1 t r n)).trans ?_
  rw [V_main_arg0]; rfl
theorem blk2 (t : Fin 8) (r : Fin 256) (n : Fin 2816) : (iblk m c 2 (pt t) : Vec Ideal S256x2816 .f32) (ix2 r n) = up m c n (row t r) := by
  refine (congrArg (V m c main_arg1) (emb2 t r n)).trans ?_
  rw [V_main_arg1]; rfl
theorem blk3 (t : Fin 8) (k : Fin 3) (n : Fin 2816) : (iblk m c 3 (pt t) : Vec Ideal S3x2816 .f32) (ix2 k n) = taps m c n k := by
  refine (congrArg (V m c main_arg2) (emb3 t k n)).trans ?_
  rw [V_main_arg2]; rfl
theorem blk4 (t : Fin 8) (n : Fin 2816) : (iblk m c 4 (pt t) : Vec Ideal S1x2816 .f32) (ix2 0 n) = bias m c n := by
  refine (congrArg (V m c main_v0) (emb4 t 0 n)).trans ?_
  entry_read
  unfold bias
  pointwise

/-- The row `s` earlier, in the block or in the eight rows before it, zero before the first. -/
theorem earlier (t : Fin 8) (r : Fin 256) (n : Fin 2816) (s : ℕ) (hs : s ≤ 8) :
    (if h : (8 + r.val + 264 - s) % 264 < 8 then
      Scalar.select (Scalar.cmpi .eq (BitVec.ofNat 32 (grid0.coords (pt t) 0).val) 0#32) (0 : EReal)
        ((iblk m c 1 (pt t) : Vec Ideal S8x2816 .f32) (ix2 ⟨(8 + r.val + 264 - s) % 264, h⟩ n))
    else (iblk m c 0 (pt t) : Vec Ideal S256x2816 .f32) (ix2 ⟨(8 + r.val + 264 - s) % 264 - 8, by omega⟩ n))
      = Channel.before (gate m c n) s (row t r) := by
  have e : (8 + r.val + 264 - s) % 264 = 8 + r.val - s := by omega
  have hr : (row t r).val = t.val * 256 + r.val := rfl
  unfold Channel.before
  simp only [blk0, blk1, first_point, e]
  by_cases h : 8 + r.val - s < 8
  · rw [dif_pos h]
    by_cases ht : t.val = 0
    · rw [dif_pos (by omega), if_pos ht]; rfl
    · rw [dif_neg (by omega), if_neg ht]
      refine (show Scalar.select (0#1) (0 : EReal) _ = _ from rfl).trans (congrArg (gate m c n) (Fin.ext ?_))
      show (t.val * 32 - 1) * 8 + (8 + r.val - s) = t.val * 256 + r.val - s
      omega
  · rw [dif_neg h, dif_neg (by omega)]
    refine congrArg (gate m c n) (Fin.ext ?_)
    show t.val * 256 + (8 + r.val - s - 8) = t.val * 256 + r.val - s
    omega

/-- The convolution at a row and a channel. -/
def conv (r : Fin 2048) (n : Fin 2816) : EReal := Channel.conv (gate m c n) (taps m c n) (bias m c n) r

/-- The gate's output at a row and a channel. -/
def value (r : Fin 2048) (n : Fin 2816) : EReal := conv m c r n * Channel.sig (conv m c r n) * up m c n r

/-- The gate's output, entry by entry. -/
def result : Vec Ideal S2048x2816 .bf16 := fun i => value m c (i 0) (i 1)

theorem final : (dats m 0 c).arrAt 5 cfg0.N = result m c := by
  refine (dats m 0 c).arrAt_eq_of_cover 5 (result m c) (fun t hf => ?_) fun i => ?_
  · obtain ⟨t, rfl⟩ : ∃ s : Fin 8, t = pt s := ⟨⟨t.val, lt_of_lt_of_eq t.isLt N_0⟩, rfl⟩
    funext y
    obtain ⟨r, n, rfl⟩ : ∃ (r : Fin 256) (n : Fin 2816), y = ix2 r n := ⟨y 0, y 1, (ix2_eta y).symm⟩
    rw [flushed_eq, View.read_apply, emb5]
    show (k0_pay1 (F := Ideal) (grid0.coords (pt t)) (iblk m c 1 (pt t)) (iblk m c 0 (pt t))
      (View.ld (iblk m c 3 (pt t)) r0_2) (View.ld (iblk m c 3 (pt t)) r0_3) (View.ld (iblk m c 3 (pt t)) r0_4) (iblk m c 4 (pt t)) (iblk m c 2 (pt t)) :
      Vec Ideal S256x2816 .bf16) (ix2 r n) = _
    unfold k0_pay1
    pointwise
    rw [earlier m c t r n 1 (by omega), earlier m c t r n 2 (by omega), blk0, blk2, blk3, blk3, blk3, blk4, zero_sub]
    rfl
  · obtain ⟨r, n, rfl⟩ : ∃ (r : Fin 2048) (n : Fin 2816), i = ix2 r n := ⟨i 0, i 1, (ix2_eta i).symm⟩
    obtain ⟨t, r, rfl⟩ := Mul.blocked_surj (n := 2048) (a := 8) 256 rfl (by decide) r
    exact ⟨pt t, flush0_5 _, by rw [show Mul.blocked 256 rfl t r = row t r from rfl, ← emb5]; exact View.emb_mem_set _ _⟩

theorem frame_ideal : Cert.quiescent_GluIdeal := fun m ρ _ => Cert.GluIdeal.Gen.frame m ρ

theorem defs₀_eq : Cert.Glu.defs₀ (F := Bits) = Cert.GluIdeal.defs₀ (F := Bits) := by
  unfold Cert.Glu.defs₀ Cert.GluIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_Glu := fun m ρ _ => by
  rw [show Cert.Glu.defs (F := Bits) = Cert.GluIdeal.defs (F := Bits) from congrArg (Pipeline.defs _) defs₀_eq]
  exact (θ_run Cert.GluIdeal.defs _ _).mono (fun _ h => h) (Cert.GluIdeal.Gen.frame (F := Bits) m ρ)

theorem frame_ref : Cert.quiescent_GluRefIdeal := fun m ρ _ =>
  (θ_run Cert.GluRefIdeal.defs _ _).mono (fun r h => ⟨fun c => (h c).2, Idealize.ShloMosaic.sem_eq_zero_of_no_sems (by decide) r.2⟩)
    (Cert.GluRefIdeal.Value.run (F := Ideal) m ρ)

/-- The call computes the gated convolution. -/
theorem algebraic : Cert.algebraic_GluIdeal_GluRefIdeal := by
  intro m g m' g' _ hargs
  refine ⟨fun c => result m c, ?_, ?_⟩
  · exact (θ_run Cert.GluIdeal.defs _ _).mono (fun r h c => ⟨(h c).1.trans (final m c), (h c).2⟩) (run_blocks m g)
  · refine (θ_run Cert.GluRefIdeal.defs _ _).mono (fun r h c => ⟨(h c).1.trans ?_, (h c).2⟩) (Cert.GluRefIdeal.Value.run (F := Ideal) m' g')
    obtain ⟨h0, h1, h2, h3⟩ := hargs c
    rw [h0, h1, h2, h3]
    funext y
    obtain ⟨r, n, rfl⟩ : ∃ (r : Fin 2048) (n : Fin 2816), y = ix2 r n := ⟨y 0, y 1, (ix2_eta y).symm⟩
    refine Eq.trans ?_ (show value m c r n = result m c (ix2 r n) from rfl)
    unfold value conv
    rw [Channel.conv_eq]
    pointwise
    rfl

end Cert.GluIdeal.Mm

end
-- ==== Proof.RetHead.lean ====
/-
  The retention, forward: what a point computes. Point `(h, i)` holds row block `i` of a head's `q` and all of the head's
  `k` and `v`; trip `j ≤ i` adds to the carried sum the products of block `i` of `q` with block `j` of `k`, each times the
  rows' decay, multiplied into block `j` of `v`.
-/
module

public import proofs.«01_k».proof.Proof.HeadValue
public import proofs.«01_k».proof.Proof.Gen.RetIdeal.Value
public import Idealize.ShloMosaic.Lib.WholeRead
public import Idealize.ShloMosaic.Lib.Pointwise
public import Idealize.ShloMosaic.Lib.Pipeline.ValueKit

@[expose] public section

set_option maxRecDepth 16384

noncomputable section

namespace Cert.RetIdeal.Mm

open Cert.RetIdeal Cert.RetIdeal.Gen Cert.RetIdeal.Value
open Idealize.ShloMosaic Idealize.ShloMosaic.TcCoe Idealize.SL.Sem
open Idealize.ShloMosaic.Pipeline (Dat Window)
open Cert.Retention (decay)
open Cert.Retention.Head (row addQ sum_lt_succ addQ_zero)

section Run

variable {F : FTy → Type} [FloatOps F]

/-- The row block of `X` that trip `k` reads. -/
def win (X : Vec F S2048x128 .f32) (i : grid0.Coords) (k : Fin (k0_t1_loop i).trips) : Vec F S512x128 .f32 :=
  View.ld X (Rect.unit (k0_off1 i k) S512x128.size (k0_off1_inb i k))

/-- The carried sum before trip `n`. -/
def sumSt (i : grid0.Coords) (x0 : Vec F S1x1x128 .f32) (Q : Vec F S512x128 .f32) (K V : Vec F S2048x128 .f32) : ℕ → FVec F S512x128 .f32
  | 0 => k0_pay3
  | n + 1 => if h : n < (k0_t1_loop i).trips then k0_pay4 i x0 Q ⟨n, h⟩ (sumSt i x0 Q K V n) (win K i ⟨n, h⟩) (win V i ⟨n, h⟩)
      else sumSt i x0 Q K V n

variable (c : Dev nD) (i : grid0.Coords) (arg2 : Memref sig .tc .vmem S1x1x128 .f32) (harg2 : arg2.IsWhole)
  (arg3 : Memref sig .tc .vmem S512x128 .f32) (harg3 : arg3.IsWhole) (arg4 : Memref sig .tc .vmem S2048x128 .f32) (harg4 : arg4.IsWhole)
  (arg5 : Memref sig .tc .vmem S2048x128 .f32) (harg5 : arg5.IsWhole) (arg6 : Memref sig .tc .vmem S512x128 .f32) (harg6 : arg6.IsWhole)
  (x0 : Vec F S1x1x128 .f32) (x1 : Vec F S512x128 .f32) (x2 x3 : Vec F S2048x128 .f32)

/-- A load from a whole buffer reads its contents. -/
theorem load_eq {S : Shape} (M : Memref sig .tc .vmem S .f32) (hM : M.IsWhole) (X : Vec F S .f32) (R : Rect S) :
    View.readAt (Elt F) M.view R.toLoadRect (hM.unread X) = View.ld X R :=
  funext fun x => hM.readAt_unread X R.toLoadRect x

/-- The loop carries `sumSt`. -/
theorem st_eq (n : ℕ) (hn : n ≤ (k0_t1_loop i).trips) :
    st_k0_t1 (F := F) Variants.none c none i arg2 harg2 arg3 harg3 arg4 harg4 arg5 harg5 arg6 harg6 x0 x1 (harg4.unread x2) (harg5.unread x3) k0_pay3 n
      = sumSt i x0 x1 x2 x3 n := by
  induction n with
  | zero => rfl
  | succ n ih =>
    have e := st_k0_t1_succ (F := F) Variants.none c none i arg2 harg2 arg3 harg3 arg4 harg4 arg5 harg5 arg6 harg6 x0 x1 (harg4.unread x2)
      (harg5.unread x3) k0_pay3 ⟨n, hn⟩
    refine e.trans ?_
    rw [sumSt.eq_2, dif_pos (show n < (k0_t1_loop i).trips from hn), ← ih (by omega)]
    unfold tripR_k0_t1 trip_k0_t1
    dsimp only
    exact congrArg₂ (k0_pay4 i x0 x1 ⟨n, hn⟩ _) (load_eq arg4 harg4 x2 _) (load_eq arg5 harg5 x3 _)

theorem trips2 : (k0_t2_loop i).trips = 0 := Nat.le_zero.1 (k0_t2_abs i).2.1

/-- What a point leaves in its block. -/
theorem out_eq : out0_A_4 c i arg2 harg2 arg3 harg3 arg4 harg4 arg5 harg5 arg6 harg6 x0 x1 x2 x3 = sumSt i x0 x1 x2 x3 (k0_t1_loop i).trips := by
  have e0 : View.readAt (Elt F) arg2.view (Rect.unit ![0, 0, 0] ![1, 1, 128] inb_S1x1x128_S1x1x128_0_0_0).toLoadRect (harg2.unread x0) = x0 :=
    (load_eq arg2 harg2 x0 _).trans (View.ld_unit_zero (by decide) _ x0)
  have e1 : View.readAt (Elt F) arg3.view (Rect.unit ![0, 0] ![512, 128] inb_S512x128_S512x128_0_0).toLoadRect (harg3.unread x1) = x1 :=
    (load_eq arg3 harg3 x1 _).trans (View.ld_unit_zero (by decide) _ x1)
  unfold out0_A_4 kernelRun0_A
  dsimp only
  rw [View.read_writes_eq_canon _ _ _ (fun y => ⟨_, List.mem_singleton_self _, View.mem_set_unit_zero (by decide) inb_S512x128_S512x128_0_0 y⟩),
    View.canon_unit_zero (by decide)]
  rw [e0, e1]
  refine Eq.trans ?_ (st_eq c i arg2 harg2 arg3 harg3 arg4 harg4 arg5 harg5 arg6 harg6 x0 x1 x2 x3 _ le_rfl)
  exact congrArg (st_k0_t2 Variants.none c none i arg2 harg2 arg3 harg3 arg4 harg4 arg5 harg5 arg6 harg6 x0 x1 (harg4.unread x2) (harg5.unread x3)
    (st_k0_t1 Variants.none c none i arg2 harg2 arg3 harg3 arg4 harg4 arg5 harg5 arg6 harg6 x0 x1 (harg4.unread x2) (harg5.unread x3) k0_pay3
      (k0_t1_loop i).trips)) (trips2 i)

end Run

/-! ## Over the extended reals -/

theorem trips1 : ∀ i : grid0.Coords, (k0_t1_loop i).trips = (i 1).val + 1 := by decide +kernel

theorem off_eq : ∀ (i : grid0.Coords) (k : Fin (k0_t1_loop i).trips), k0_off1 i k = ![512 * k.val, 0] := k0_off1_eq

variable (i : grid0.Coords)

/-- The row block a point works on. -/
abbrev blk : Fin 4 := i 1

theorem trip_lt (k : Fin (k0_t1_loop i).trips) : k.val < 4 := by
  have h1 := (i 1).isLt
  have h2 := lt_of_lt_of_eq k.isLt (trips1 i)
  exact lt_of_lt_of_le h2 h1

/-- The words the kernel compares positions by. -/
theorem word_eq (a b : Fin 512) (j : ℕ) (hj : j < 4) :
    (IntOp.addi (IntOp.subi (BitVec.ofNat 32 a.val) (BitVec.ofNat 32 b.val))
      (Scalar.muli (Scalar.subi (BitVec.ofNat 32 (i 1).val) (Scf.iv 0#32 1#32 j)) 512#32)).toInt
      = (512 * (i 1).val + a.val : ℤ) - (512 * j + b.val) := by
  have e : (BitVec.ofNat 32 (i 1).val) = Scf.iv 0#32 1#32 (i 1).val := by
    unfold Scf.iv
    simp
  rw [e]
  exact Cert.Retention.Head.word_eq a b (i 1).val j (i 1).isLt hj

/-- What a trip adds. -/
theorem pay4_apply (x0 : Vec Ideal S1x1x128 .f32) (L : ℝ) (hL : x0 (ix3 0 0 0) = ((L : ℝ) : EReal)) (k : Fin (k0_t1_loop i).trips)
    (Q K V A : Vec Ideal S512x128 .f32) (a : Fin 512) (e : Fin 128) :
    (k0_pay4 i x0 Q k A K V : FVec Ideal S512x128 .f32) (ix2 a e)
      = (A (ix2 a e) : Ideal .f32) + ∑ b : Fin 512, (∑ d : Fin 128, (Q (ix2 a d) : Ideal .f32) * K (ix2 b d))
          * ((decay L (512 * (i 1).val + a.val) (512 * k.val + b.val) : ℝ) : EReal) * V (ix2 b e) := by
  unfold k0_pay4 k0_pay2 k0_pay1
  pointwise
  refine congrArg (_ + ·) (Finset.sum_congr rfl fun b _ => congrArg (· * _) (congrArg (_ * ·) ?_))
  have hw : (FloatOps.sitofp .f32 (IntOp.addi (IntOp.subi (BitVec.ofNat 32 a.val) (BitVec.ofNat 32 b.val))
      (Scalar.muli (Scalar.subi (BitVec.ofNat 32 (i 1).val) (Scf.iv 0#32 1#32 k)) 512#32)) : Ideal .f32)
      = ((((512 * (i 1).val + a.val : ℕ) : ℝ) - ((512 * k.val + b.val : ℕ) : ℝ) : ℝ) : EReal) := by
    refine (congrArg (fun z : ℤ => ((z : ℝ) : EReal)) (word_eq i a b k (trip_lt i k))).trans ?_
    push_cast
    rfl
  rw [hw, hL]
  unfold decay
  by_cases hab : 512 * k.val + b.val ≤ 512 * (i 1).val + a.val
  · have h0 : (0 : ℝ) ≤ ((512 * (i 1).val + a.val : ℕ) : ℝ) - ((512 * k.val + b.val : ℕ) : ℝ) := sub_nonneg.2 (Nat.cast_le.2 hab)
    rw [if_pos hab, if_pos (EReal.coe_nonneg.2 h0), max_eq_left (EReal.coe_nonneg.2 h0), ← EReal.coe_mul, Ideal.exp_coe]
  · have h0 : ¬ (0 : ℝ) ≤ ((512 * (i 1).val + a.val : ℕ) : ℝ) - ((512 * k.val + b.val : ℕ) : ℝ) :=
      fun h => hab (Nat.cast_le.1 (sub_nonneg.1 h))
    rw [if_neg hab, if_neg (fun h => h0 (EReal.coe_nonneg.1 h))]
    exact EReal.coe_zero.symm

theorem win_row (X : Vec Ideal S2048x128 .f32) (k : Fin (k0_t1_loop i).trips) (b : Fin 512) (d : Fin 128) :
    win X i k (ix2 b d) = X (ix2 (row ⟨k.val, trip_lt i k⟩ b) d) := by
  refine congrArg X (funext fun a => Fin.ext ?_)
  refine (ValueKit.rect_emb_unit_val _ _ (k0_off1_inb i k) (ix2 b d) a).trans ((congrArg (fun o : Fin 2 → ℕ => o a + _) (off_eq i k)).trans ?_)
  fin_cases a
  · rfl
  · exact Nat.zero_add _

/-- The carried sum before trip `n`, entry by entry: what the row blocks before `n` add. -/
theorem sum_value (x0 : Vec Ideal S1x1x128 .f32) (L : ℝ) (hL : x0 (ix3 0 0 0) = ((L : ℝ) : EReal)) (x1 : Vec Ideal S512x128 .f32)
    (Q K V : Vec Ideal S2048x128 .f32) (hQ : ∀ a d, x1 (ix2 a d) = Q (ix2 (row (blk i) a) d)) (n : ℕ) (hn : n ≤ (k0_t1_loop i).trips)
    (a : Fin 512) (e : Fin 128) :
    (sumSt i x0 x1 K V n (ix2 a e) : EReal) = ∑ j : Fin 4, if j.val < n then addQ L V K Q (blk i) j a e else 0 := by
  induction n with
  | zero =>
    rw [sumSt.eq_1]
    unfold k0_pay3
    pointwise
    simp
  | succ n ih =>
    have h4 := trip_lt i ⟨n, hn⟩
    rw [sumSt.eq_2, dif_pos (show n < (k0_t1_loop i).trips from hn), sum_lt_succ _ n h4, ← ih (by omega), pay4_apply i x0 L hL]
    refine congrArg (_ + ·) (Finset.sum_congr rfl fun b _ => ?_)
    simp only [win_row, hQ]
    rfl

/-- What a point leaves: over all row blocks. -/
theorem point_value (x0 : Vec Ideal S1x1x128 .f32) (L : ℝ) (hL : x0 (ix3 0 0 0) = ((L : ℝ) : EReal)) (x1 : Vec Ideal S512x128 .f32)
    (Q K V : Vec Ideal S2048x128 .f32) (hQ : ∀ a d, x1 (ix2 a d) = Q (ix2 (row (blk i) a) d)) (a : Fin 512) (e : Fin 128) :
    (sumSt i x0 x1 K V (k0_t1_loop i).trips (ix2 a e) : EReal) = ∑ j : Fin 4, addQ L V K Q (blk i) j a e := by
  rw [sum_value i x0 L hL x1 Q K V hQ _ le_rfl, trips1]
  refine Finset.sum_congr rfl fun j _ => ?_
  by_cases h : j.val < (i 1).val + 1
  · rw [if_pos h]
  · rw [if_neg h, addQ_zero]
    exact Fin.lt_def.2 (show (i 1).val < j.val by omega)

end Cert.RetIdeal.Mm

end
-- ==== Proof.RetRef.lean ====
/-
  The retention, forward: what the reference's arrays hold, entry by entry, where the arguments are numbers.
-/
module

public import proofs.«01_k».proof.Proof.RefArgs
public import proofs.«01_k».proof.Proof.Gen.RetRefIdeal.Run
public import Idealize.ShloMosaic.Lib.Pointwise

@[expose] public section

set_option maxRecDepth 16384

noncomputable section

namespace Cert.RetIdeal.Ref

open Cert.RetRefIdeal Cert.RetRefIdeal.Gen Cert.RetRefIdeal.Value Idealize.ShloMosaic Idealize.ShloMosaic.StableHlo
open Cert.Retention (decay carry ext ext_val coe_sum forward_sum log_tower)
open Cert.Retention.Ref (Args argsOf fwd rowR colR sitofp_small word_127 word_128)

variable (V0 : Valuation τ sig (Elt Ideal))

/-- The reference's arrays hold these numbers. -/
structure Holds (A : Args) : Prop where
  L : ∀ h, (res_main_v14 V0 : FVec Ideal S4 .f32) (ix1 h) = ((A.L h : ℝ) : EReal)
  q : ∀ n a h d, (res_main_v15 V0 : FVec Ideal S1x16x128x4x128 .f32) (ix5 0 n a h d) = ((A.q n a h d : ℝ) : EReal)
  k : ∀ n a h d, (res_main_v16 V0 : FVec Ideal S1x16x128x4x128 .f32) (ix5 0 n a h d) = ((A.k n a h d : ℝ) : EReal)
  v : ∀ n a h d, (res_main_v17 V0 : FVec Ideal S1x16x128x4x128 .f32) (ix5 0 n a h d) = ((A.v n a h d : ℝ) : EReal)

/-- The decay between the rows of a chunk. -/
def mask : FVec Ideal S1x1x4x128x128 .f32 :=
  broadcastInDim S1x1x4x128x128 ![2, 3, 4] bcast_S4x128x128_S1x1x4x128x128_2_3_4 (select (broadcastInDim S4x128x128 ![0, 1, 2] bcast_S1x128x128_S4x128x128_0_1_2 (cmpf .oge (broadcastInDim S1x128x128 ![1, 2] bcast_S128x128_S1x128x128_1_2 (res_main_v23 V0)) (broadcastInDim S1x128x128 ![] bcast_S_S1x128x128 (constant S_ .f32 0x00000000#32)))) (Host.exp (mulf (broadcastInDim S4x128x128 ![0, 1, 2] bcast_S1x128x128_S4x128x128_0_1_2 (broadcastInDim S1x128x128 ![1, 2] bcast_S128x128_S1x128x128_1_2 (maximumf (res_main_v23 V0) (broadcastInDim S128x128 ![] bcast_S_S128x128 (constant S_ .f32 0x00000000#32))))) (broadcastInDim S4x128x128 ![0, 1, 2] bcast_S4x1x1_S4x128x128_0_1_2 (broadcastInDim S4x1x1 ![0] bcast_S4_S4x1x1_0 (res_main_v14 V0))))) (broadcastInDim S4x128x128 ![] bcast_S_S4x128x128 (id (constant S_ .f32 0x00000000#32))))

/-- The decay from a chunk's end back to each of its rows, and from its start forward. -/
def zeta : FVec Ideal S1x1x128x4x1 .f32 :=
  broadcastInDim S1x1x128x4x1 ![2, 3] bcast_S128x4_S1x1x128x4x1_2_3 (transpose S128x4 [1, 0] (Host.exp (mulf (broadcastInDim S4x128 ![0, 1] bcast_S1x128_S4x128_0_1 (broadcastInDim S1x128 ![1] bcast_S128_S1x128_1 (subf (broadcastInDim S128 ![] bcast_S_S128 (constant S_ .f32 0x42FE0000#32)) (res_main_v18 V0)))) (broadcastInDim S4x128 ![0, 1] bcast_S4x1_S4x128_0_1 (broadcastInDim S4x1 ![0] bcast_S4_S4x1_0 (res_main_v14 V0))))) transposes_S4x128_S128x4_1_0)
def xi : FVec Ideal S1x1x128x4x1 .f32 :=
  broadcastInDim S1x1x128x4x1 ![2, 3] bcast_S128x4_S1x1x128x4x1_2_3 (transpose S128x4 [1, 0] (Host.exp (mulf (broadcastInDim S4x128 ![0, 1] bcast_S1x128_S4x128_0_1 (broadcastInDim S1x128 ![1] bcast_S128_S1x128_1 (addf (res_main_v18 V0) (broadcastInDim S128 ![] bcast_S_S128 (constant S_ .f32 0x3F800000#32))))) (broadcastInDim S4x128 ![0, 1] bcast_S4x1_S4x128_0_1 (broadcastInDim S4x1 ![0] bcast_S4_S4x1_0 (res_main_v14 V0))))) transposes_S4x128_S128x4_1_0)

/-- The products of `q` with `k` inside a chunk, each times the decay. -/
def scores : FVec Ideal S1x16x4x128x128 .f32 :=
  mulf (Host.dotGeneral (φ₁ := .f32) (φ₂ := .f32) dot_S1x16x128x4x128_S1x16x128x4x128_S1x16x4x128x128_4_4_2_2_013_013 none (res_main_v15 V0) (res_main_v16 V0))
    (broadcastInDim S1x16x4x128x128 ![0, 1, 2, 3, 4] bcast_S1x1x4x128x128_S1x16x4x128x128_0_1_2_3_4 (mask V0))

/-- The retention before its last reshape. -/
def preY : FVec Ideal S1x16x128x4x128 .f32 :=
  addf (transpose S1x16x128x4x128 [0, 1, 4, 2, 3] (Host.dotGeneral (φ₁ := .f32) (φ₂ := .f32) dot_S1x16x128x4x128_S1x16x4x128x128_S1x16x4x128x128_2_4_4_3_013_012 none (res_main_v17 V0) (scores V0)) transposes_S1x16x4x128x128_S1x16x128x4x128_0_1_4_2_3)
    (res_main_v176 V0)

/-- What the earlier chunks give, from the stacked carried sums `T`. -/
def inter (T : FVec Ideal S1x16x4x128x128 .f32) : FVec Ideal S1x16x128x4x128 .f32 :=
  mulf (transpose S1x16x128x4x128 [0, 1, 4, 2, 3] (Host.dotGeneral (φ₁ := .f32) (φ₂ := .f32) dot_S1x16x4x128x128_S1x16x128x4x128_S1x16x4x128x128_3_4_4_2_012_013 none T (res_main_v15 V0)) transposes_S1x16x4x128x128_S1x16x128x4x128_0_1_4_2_3)
    (broadcastInDim S1x16x128x4x128 ![0, 1, 2, 3, 4] bcast_S1x1x128x4x1_S1x16x128x4x128_0_1_2_3_4 (xi V0))

theorem v60_eq : res_main_v60 V0 = transpose S16x1x4x128x128 [1, 0, 2, 3, 4] (Host.dotGeneral (φ₁ := .f32) (φ₂ := .f32) dot_S1x16x128x4x128_S1x16x128x4x128_S1x16x4x128x128_2_2_4_4_013_013 none
    (mulf (res_main_v16 V0) (broadcastInDim S1x16x128x4x128 ![0, 1, 2, 3, 4] bcast_S1x1x128x4x1_S1x16x128x4x128_0_1_2_3_4 (zeta V0))) (res_main_v17 V0)) transposes_S1x16x4x128x128_S16x1x4x128x128_1_0_2_3_4 := rfl

variable {V0} {A : Args} (H : Holds V0 A)
include H

theorem mask_apply (h : Fin 4) (a b : Fin 128) : mask V0 (ix5 0 0 h a b) = ((decay (A.L h) a.val b.val : ℝ) : EReal) := by
  unfold mask res_main_v23 res_main_v18
  pointwise
  rw [sitofp_small _ a.isLt, sitofp_small _ b.isLt, H.L, ← EReal.coe_sub]
  unfold decay
  by_cases hab : b.val ≤ a.val
  · have h0 : (0 : ℝ) ≤ (a.val : ℝ) - b.val := sub_nonneg.2 (Nat.cast_le.2 hab)
    rw [if_pos hab, if_pos (EReal.coe_nonneg.2 h0), max_eq_left (EReal.coe_nonneg.2 h0), ← EReal.coe_mul, Ideal.exp_coe, mul_comm]
  · have h0 : ¬ (0 : ℝ) ≤ (a.val : ℝ) - b.val := fun h => hab (Nat.cast_le.1 (sub_nonneg.1 h))
    rw [if_neg hab, if_neg (fun h => h0 (EReal.coe_nonneg.1 h))]
    exact (Ideal.ofBits_zero .f32).trans EReal.coe_zero.symm

theorem zeta_apply (h : Fin 4) (a : Fin 128) :
    zeta V0 (ix5 0 0 a h 0) = ((Real.exp ((((128 : ℕ) : ℝ) - 1 - a.val) * A.L h) : ℝ) : EReal) := by
  unfold zeta res_main_v18
  pointwise
  rw [sitofp_small _ a.isLt, H.L, word_127, ← EReal.coe_sub, ← EReal.coe_mul, Ideal.exp_coe]
  congr 3; norm_num

theorem xi_apply (h : Fin 4) (a : Fin 128) : xi V0 (ix5 0 0 a h 0) = ((Real.exp ((a.val + 1) * A.L h) : ℝ) : EReal) := by
  unfold xi res_main_v18
  pointwise
  rw [sitofp_small _ a.isLt, H.L, ← EReal.coe_one, ← EReal.coe_add, ← EReal.coe_mul, Ideal.exp_coe]

theorem gamma_apply (h : Fin 4) :
    (res_main_v58 V0 : FVec Ideal S1x4x1x1 .f32) (ix4 0 h 0 0) = ((Real.exp (((128 : ℕ) : ℝ) * A.L h) : ℝ) : EReal) := by
  unfold res_main_v58
  pointwise
  rw [H.L, word_128, ← EReal.coe_mul, Ideal.exp_coe]
  congr 3

theorem scores_apply (n : Fin 16) (h : Fin 4) (a b : Fin 128) :
    scores V0 (ix5 0 n h a b) = (((∑ d, A.q n a h d * A.k n b h d) * decay (A.L h) a.val b.val : ℝ) : EReal) := by
  unfold scores
  pointwise
  rw [mask_apply H, EReal.coe_mul, coe_sum]
  simp only [H.q, H.k, EReal.coe_mul]

/-- What a chunk adds to the carried sum. -/
theorem add_apply (n : Fin 16) (h : Fin 4) (d e : Fin 128) :
    (res_main_v62 V0 : FVec Ideal S16x1x4x128x128 .f32) (ix5 n 0 h d e)
      = ((∑ b, A.k n b h d * Real.exp ((((128 : ℕ) : ℝ) - 1 - b.val) * A.L h) * A.v n b h e : ℝ) : EReal) := by
  unfold res_main_v62
  rw [v60_eq]
  pointwise
  rw [coe_sum]
  simp only [zeta_apply H, H.k, H.v, EReal.coe_mul]

/-- One step of the carried sum. -/
theorem step (n : Fin 16) (hs : S16x1x4x128x128.Slices ![n.val, 0, 0, 0, 0] S1x1x4x128x128) (x : FVec Ideal S1x4x128x128 .f32)
    (hx : ∀ h d e, x (ix4 0 h d e) = ((fwd A h d e n.val : ℝ) : EReal)) (h : Fin 4) (d e : Fin 128) :
    addf (mulf x (broadcastInDim S1x4x128x128 ![0, 1, 2, 3] bcast_S1x4x1x1_S1x4x128x128_0_1_2_3 (res_main_v58 V0)))
        (shapeCast S1x4x128x128 (extractStridedSlice S1x1x4x128x128 ![n.val, 0, 0, 0, 0] (res_main_v62 V0) hs) shapeCasts_S1x1x4x128x128_S1x4x128x128) (ix4 0 h d e)
      = ((fwd A h d e (n.val + 1) : ℝ) : EReal) := by
  pointwise
  rw [hx, gamma_apply H, add_apply H, ← EReal.coe_mul, ← EReal.coe_add]
  simp only [fwd, carry, ext_val]

omit H in
theorem stack_intro {α β : Type} {P : α → Prop} {f : α → β} {x : β} (T : α) (e : x = f T) (h : P T) : ∃ T, P T ∧ x = f T := ⟨T, h, e⟩

/-- The carried sums, stacked. -/
theorem stack : ∃ T : FVec Ideal S1x16x4x128x128 .f32,
    (∀ n h d e, T (ix5 0 n h d e) = ((fwd A h d e n.val : ℝ) : EReal)) ∧ (res_main_v176 V0 : FVec Ideal S1x16x128x4x128 .f32) = inter V0 T := by
  refine stack_intro (f := inter V0) _ rfl fun n h d e => ?_
  have h0 : ∀ h d e, (res_main_v59 V0 : FVec Ideal S1x4x128x128 .f32) (ix4 0 h d e) = ((fwd A h d e 0 : ℝ) : EReal) := fun h d e => by
    unfold res_main_v59
    pointwise
    exact EReal.coe_zero.symm
  have h1 := step H 0 (by decide) _ h0
  have h2 := step H 1 (by decide) _ h1
  have h3 := step H 2 (by decide) _ h2
  have h4 := step H 3 (by decide) _ h3
  have h5 := step H 4 (by decide) _ h4
  have h6 := step H 5 (by decide) _ h5
  have h7 := step H 6 (by decide) _ h6
  have h8 := step H 7 (by decide) _ h7
  have h9 := step H 8 (by decide) _ h8
  have h10 := step H 9 (by decide) _ h9
  have h11 := step H 10 (by decide) _ h10
  have h12 := step H 11 (by decide) _ h11
  have h13 := step H 12 (by decide) _ h12
  have h14 := step H 13 (by decide) _ h13
  have h15 := step H 14 (by decide) _ h14
  pointwise
  fin_vals n with hk
  all_goals simp only [hk, Nat.reduceSub, Nat.reduceLT, ↓reduceDIte]
  · exact h0 h d e
  · exact h1 h d e
  · exact h2 h d e
  · exact h3 h d e
  · exact h4 h d e
  · exact h5 h d e
  · exact h6 h d e
  · exact h7 h d e
  · exact h8 h d e
  · exact h9 h d e
  · exact h10 h d e
  · exact h11 h d e
  · exact h12 h d e
  · exact h13 h d e
  · exact h14 h d e
  · exact h15 h d e

omit H in
/-- The retention, entry by entry. -/
def forward (A : Args) (n : Fin 16) (a : Fin 128) (h : Fin 4) (e : Fin 128) : ℝ :=
  ∑ m, ∑ b, (∑ d, A.q n a h d * A.k m b h d) * decay (A.L h) (n.val * 128 + a.val) (m.val * 128 + b.val) * A.v m b h e

theorem forward_apply (n : Fin 16) (a : Fin 128) (h : Fin 4) (e : Fin 128) : preY V0 (ix5 0 n a h e) = ((forward A n a h e : ℝ) : EReal) := by
  obtain ⟨T, hT, eT⟩ := stack H
  unfold preY
  rw [eT]
  unfold inter
  pointwise
  simp only [xi_apply H, hT, scores_apply H, H.q, H.v, ← EReal.coe_mul, ← coe_sum, ← EReal.coe_add]
  rw [forward, ← forward_sum (A.L h) n a (fun d => A.q n a h d) (fun m b d => A.k m b h d) (fun m b => A.v m b h e)]
  have hb : ∀ d, fwd A h d e n.val = carry (Real.exp (((128 : ℕ) : ℝ) * A.L h))
      (ext fun m : Fin 16 => ∑ b, A.v m b h e * Real.exp ((((128 : ℕ) : ℝ) - 1 - b.val) * A.L h) * A.k m b h d) n.val := by
    intro d
    unfold fwd
    congr 2
    funext m
    exact Finset.sum_congr rfl fun b _ => by ring
  simp only [hb, Finset.sum_mul]
  rw [add_comm]
  congr 2
  · exact Finset.sum_congr rfl fun d _ => by ring
  · exact Finset.sum_congr rfl fun b _ => by rw [mul_comm, Finset.sum_mul]

omit H in
theorem holds (V0 : Valuation τ sig (Elt Ideal)) (q k v : Fin 2048 → Fin 512 → ℝ)
    (hq : ∀ r x, (V0 (Proc.devRef .tc main_arg0) : FVec Ideal S2048x512 .f32) (ix2 r x) = ((q r x : ℝ) : EReal))
    (hk : ∀ r x, (V0 (Proc.devRef .tc main_arg1) : FVec Ideal S2048x512 .f32) (ix2 r x) = ((k r x : ℝ) : EReal))
    (hv : ∀ r x, (V0 (Proc.devRef .tc main_arg2) : FVec Ideal S2048x3584 .f32) (ix2 r (⟨2560 + x.val, by omega⟩ : Fin 3584)) = ((v r x : ℝ) : EReal)) :
    Holds V0 (argsOf q k v q) where
  L h := by
    unfold res_main_v14
    pointwise
    exact log_tower h
  q n a h d := by
    unfold res_main_v15
    pointwise
    exact hq _ _
  k n a h d := by
    unfold res_main_v16
    pointwise
    exact hk _ _
  v n a h d := by
    unfold res_main_v17
    pointwise
    exact hv (rowR n a) (colR h d)

end Cert.RetIdeal.Ref

end
-- ==== Proof.RetClaim.lean ====
/-
  The retention, forward: the frames, and the value claim. Where `q`, `k` and `v` are numbers, the kernel and the reference
  compute the same rows over the extended reals: row `r` is the sum over the rows `s ≤ r` of `v`'s row `s`, times the product
  of the rows `r` of `q` and `s` of `k`, times the decay of their distance.
-/
module

public import proofs.«01_k».proof.Proof.RetHead
public import proofs.«01_k».proof.Proof.RetRef
public import proofs.«01_k».proof.Proof.Algebraic
public import proofs.«01_k».proof.Proof.Gen.Ret
public import proofs.«01_k».proof.Proof.Gen.RetIdeal
public import proofs.«01_k».proof.Pre_finite_ret
public import proofs.«01_k».proof.Defs
public import Idealize.ShloMosaic.Lib.Claim
public import Idealize.ShloMosaic.Lib.Pipeline.ValueKit

@[expose] public section

set_option maxRecDepth 16384

noncomputable section

namespace Cert.RetIdeal.Mm

open Cert.RetIdeal Cert.RetIdeal.Gen Cert.RetIdeal.Value
open Idealize.ShloMosaic Idealize.ShloMosaic.TcCoe Idealize.SL.Sem
open Idealize.ShloMosaic.Pipeline (Dat Window)
open Cert.Retention (logDecay log_tower fullQ addQ_full row_surj rowR_surj col_surj colR_eq sum_chunks word_top real_of_abs_lt andi_one bit_one)
open Cert.Retention.Head (row)
open Cert.Retention.Kern (col colV)
open Cert.Retention.Ref (rowR colR argsOf)

section Point

variable (m : (ℓ : Loc nD τ sig) → Buf (Elt Ideal) ℓ) (c : Dev nD)

/-- The point of head `h` and row block `i`. -/
def pt (h i : Fin 4) : Fin cfg0.N := ⟨4 * h.val + i.val, lt_of_lt_of_eq (show 4 * h.val + i.val < 16 by omega) N_0.symm⟩

theorem coord_val : ∀ h i : Fin 4, ((grid0.coords (pt h i)) 1).val = i.val := by decide
theorem coord (h i : Fin 4) : blk (grid0.coords (pt h i)) = i := Fin.ext (coord_val h i)
theorem index0 : ∀ h i : Fin 4, (cfg0.win 0).index (pt h i) = ![h.val, 0, 0] := by decide
theorem index1 : ∀ h i : Fin 4, (cfg0.win 1).index (pt h i) = ![i.val, h.val] := by decide
theorem index2 : ∀ h i : Fin 4, (cfg0.win 2).index (pt h i) = ![0, h.val] := by decide
theorem index3 : ∀ h i : Fin 4, (cfg0.win 3).index (pt h i) = ![0, 20 + h.val] := by decide
theorem index4 : ∀ h i : Fin 4, (cfg0.win 4).index (pt h i) = ![i.val, h.val] := by decide

/-- Row `a` and column `d` of the block at row block `i` and head `h` are row `512 i + a` and column `128 h + d` of the array. -/
theorem place {idx : Fin 2 → ℕ} {h i : Fin 4} (hidx : idx = ![i.val, h.val]) (r : Fin 512) (d : Fin 128) (a : Fin 2) :
    idx a * S512x128.size a + (ix2 r d a : ℕ) = (ix2 (row i r) (col h d) a : ℕ) := by
  subst hidx
  fin_cases a
  · show i.val * 512 + r.val = 512 * i.val + r.val
    omega
  · show h.val * 128 + d.val = 128 * h.val + d.val
    omega

theorem blk_q (h i : Fin 4) (r : Fin 512) (d : Fin 128) :
    iblk m c 1 (pt h i) (ix2 r d) = m ((c : Thread nD τ).loc main_arg0) (ix2 (row i r) (col h d)) := by
  unfold iblk
  show ((cfg0.win 1).blk (pt h i)).view.read (Elt Ideal) (V m c main_arg0) (ix2 r d) = _
  rw [V_main_arg0, View.read_apply]
  refine congrArg (m ((c : Thread nD τ).loc main_arg0)) (funext fun a => Fin.ext ?_)
  exact (Window.rect_emb_val (cfg0.win 1) (pt h i) (ix2 r d) a).trans (place (index1 h i) r d a)

theorem blk_k (h i : Fin 4) (r : Fin 2048) (d : Fin 128) :
    iblk m c 2 (pt h i) (ix2 r d) = m ((c : Thread nD τ).loc main_arg1) (ix2 r (col h d)) := by
  unfold iblk
  show ((cfg0.win 2).blk (pt h i)).view.read (Elt Ideal) (V m c main_arg1) (ix2 r d) = _
  rw [V_main_arg1, View.read_apply]
  refine congrArg (m ((c : Thread nD τ).loc main_arg1)) (funext fun a => Fin.ext ?_)
  exact (Window.rect_emb_val (cfg0.win 2) (pt h i) (ix2 r d) a).trans (Cert.Retention.Kern.place (index2 h i) r d a)

theorem blk_v (h i : Fin 4) (r : Fin 2048) (d : Fin 128) :
    iblk m c 3 (pt h i) (ix2 r d) = m ((c : Thread nD τ).loc main_arg2) (ix2 r (colV h d)) := by
  unfold iblk
  show ((cfg0.win 3).blk (pt h i)).view.read (Elt Ideal) (V m c main_arg2) (ix2 r d) = _
  rw [V_main_arg2, View.read_apply]
  refine congrArg (m ((c : Thread nD τ).loc main_arg2)) (funext fun a => Fin.ext ?_)
  exact (Window.rect_emb_val (cfg0.win 3) (pt h i) (ix2 r d) a).trans (Cert.Retention.Kern.placeV (index3 h i) r d a)

/-- The block of decays: the logarithm of `1 - 2^(-5-h)`. -/
theorem blk_lg (h i : Fin 4) : (iblk m c 0 (pt h i) : Vec Ideal S1x1x128 .f32) (ix3 0 0 0) = ((logDecay h : ℝ) : EReal) := by
  have e : ((cfg0.win 0).blk (pt h i)).view.emb (ix3 0 0 0) = ix3 h 0 0 := by
    refine funext fun a => Fin.ext ((Window.rect_emb_val (cfg0.win 0) (pt h i) (ix3 0 0 0) a).trans ?_)
    rw [index0]
    fin_cases h <;> fin_cases a <;> rfl
  refine (congrArg (V m c main_v9) e).trans ?_
  entry_read
  pointwise
  exact log_tower h

/-- The result array, block by block. -/
theorem out_apply (h i : Fin 4) (r : Fin 512) (d : Fin 128) :
    ((dats m 0 c).arrAt 4 cfg0.N : Vec Ideal S2048x512 .f32) (ix2 (row i r) (col h d))
      = sumSt (grid0.coords (pt h i)) (iblk m c 0 (pt h i)) (iblk m c 1 (pt h i)) (iblk m c 2 (pt h i)) (iblk m c 3 (pt h i))
          (k0_t1_loop (grid0.coords (pt h i))).trips (ix2 r d) := by
  have hemb : ((cfg0.win 4).blk (pt h i)).view.emb (ix2 r d) = ix2 (row i r) (col h d) :=
    funext fun a => Fin.ext ((Window.rect_emb_val (cfg0.win 4) (pt h i) (ix2 r d) a).trans (place (index4 h i) r d a))
  have e := congrFun (blocks4 m c (pt h i) (flush0_4 (pt h i))) (ix2 r d)
  rw [View.read_apply, hemb, flushed4_A, out_eq] at e
  exact e

end Point

/-! ## The frames -/

theorem frame_ideal : Cert.quiescent_RetIdeal := fun m ρ _ => Cert.RetIdeal.Gen.frame m ρ

theorem defs₀_eq : Cert.Ret.defs₀ (F := Bits) = Cert.RetIdeal.defs₀ (F := Bits) := by
  unfold Cert.Ret.defs₀ Cert.RetIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_Ret := fun m ρ _ => by
  rw [show Cert.Ret.defs (F := Bits) = Cert.RetIdeal.defs (F := Bits) from congrArg (Pipeline.defs _) defs₀_eq]
  exact (θ_run Cert.RetIdeal.defs _ _).mono (fun _ h => h) (Cert.RetIdeal.Gen.frame (F := Bits) m ρ)

theorem frame_ref : Cert.quiescent_RetRefIdeal := fun m ρ _ =>
  (θ_run Cert.RetRefIdeal.defs _ _).mono (fun r h => ⟨fun c => (h c).2, Idealize.ShloMosaic.sem_eq_zero_of_no_sems (by decide) r.2⟩)
    (Cert.RetRefIdeal.Value.run (F := Ideal) m ρ)

/-- The precondition's text has its side conditions. -/
theorem pre_facts : Cert.Pre_finite_ret.Facts where
  bcast_S_S2048x512 := by decide
  slices_S2048x3584_S2048x512_0_2560 := by decide

theorem frame_ideal_pre : Cert.quiescent_RetIdeal_pre_finite_ret (hPre_finite_ret := pre_facts) := fun m ρ _ => Cert.RetIdeal.Gen.frame m ρ

theorem frame_ref_pre : Cert.quiescent_RetRefIdeal_pre_finite_ret (hPre_finite_ret := pre_facts) := fun m ρ _ => frame_ref m ρ trivial

section Pre

open Cert.Pre_finite_ret
attribute [local instance] pre_facts

/-- What the precondition says of each entry. -/
theorem pre_apply (q k : FVec Ideal S2048x512 .f32) (p : FVec Ideal S2048x3584 .f32)
    (h : Cert.Pre_finite_ret.fn q k p = fun _ => 1#1) (r : Fin 2048) (x : Fin 512) :
    (q (ix2 r x) : EReal) = (((q (ix2 r x) : EReal).toReal : ℝ) : EReal)
    ∧ (k (ix2 r x) : EReal) = (((k (ix2 r x) : EReal).toReal : ℝ) : EReal)
    ∧ (p (ix2 r (⟨2560 + x.val, by omega⟩ : Fin 3584)) : EReal) = (((p (ix2 r (⟨2560 + x.val, by omega⟩ : Fin 3584)) : EReal).toReal : ℝ) : EReal) := by
  have e := congrFun h (ix2 r x)
  unfold Cert.Pre_finite_ret.fn at e
  pointwise at e
  rw [word_top, andi_one, andi_one, bit_one, bit_one, bit_one] at e
  exact ⟨real_of_abs_lt _ e.1.1, real_of_abs_lt _ e.1.2, real_of_abs_lt _ e.2⟩

end Pre

/-! ## The value -/

/-- The reference's sum over chunks is the sum over the sequence: `q` in the place of the incoming gradient, `k` in that of
`v`, and `v` in that of `k`. -/
theorem forward_full (q k v : Fin 2048 → Fin 512 → ℝ) (n : Fin 16) (a : Fin 128) (h : Fin 4) (d : Fin 128) :
    Cert.RetIdeal.Ref.forward (argsOf q k v q) n a h d = fullQ v k q (rowR n a) h d := by
  unfold Cert.RetIdeal.Ref.forward fullQ
  rw [← sum_chunks]
  simp only [← colR_eq]
  rfl

theorem result (m : (ℓ : Loc nD τ sig) → Buf (Elt Ideal) ℓ)
    (m' : (ℓ : Loc Cert.RetRefIdeal.nD Cert.RetRefIdeal.τ Cert.RetRefIdeal.sig) → Buf (Elt Ideal) ℓ)
    (hpre : Cert.Pre_RetIdeal_finite_ret (hPre_finite_ret := pre_facts) m) (c : Dev nD)
    (h0 : m' ((c.tc : Thread Cert.RetRefIdeal.nD Cert.RetRefIdeal.τ).loc Cert.RetRefIdeal.main_arg0) = m ((c.tc : Thread nD τ).loc main_arg0))
    (h1 : m' ((c.tc : Thread Cert.RetRefIdeal.nD Cert.RetRefIdeal.τ).loc Cert.RetRefIdeal.main_arg1) = m ((c.tc : Thread nD τ).loc main_arg1))
    (h2 : m' ((c.tc : Thread Cert.RetRefIdeal.nD Cert.RetRefIdeal.τ).loc Cert.RetRefIdeal.main_arg2) = m ((c.tc : Thread nD τ).loc main_arg2))
    (hs : Cert.RetRefIdeal.S1x16x128x4x128.ShapeCasts Cert.RetRefIdeal.S2048x512) :
    (shapeCast Cert.RetRefIdeal.S2048x512 (Cert.RetIdeal.Ref.preY (StableHlo.launchContents m' c)) hs : FVec Ideal Cert.RetRefIdeal.S2048x512 .f32)
      = (dats m 0 c).arrAt 4 cfg0.N := by
  have hp := pre_apply _ _ _ (hpre c)
  let q : Fin 2048 → Fin 512 → ℝ := fun r x => EReal.toReal (m ((c : Thread nD τ).loc main_arg0) (ix2 r x))
  let k : Fin 2048 → Fin 512 → ℝ := fun r x => EReal.toReal (m ((c : Thread nD τ).loc main_arg1) (ix2 r x))
  let v : Fin 2048 → Fin 512 → ℝ := fun r x => EReal.toReal (m ((c : Thread nD τ).loc main_arg2) (ix2 r (⟨2560 + x.val, by omega⟩ : Fin 3584)))
  have H : Cert.RetIdeal.Ref.Holds (StableHlo.launchContents m' c) (argsOf q k v q) :=
    Cert.RetIdeal.Ref.holds _ q k v (fun r x => (congrFun h0 (ix2 r x)).trans (hp r x).1) (fun r x => (congrFun h1 (ix2 r x)).trans (hp r x).2.1)
      (fun r x => (congrFun h2 (ix2 r _)).trans (hp r x).2.2)
  funext y
  obtain ⟨r, x, rfl⟩ : ∃ (r : Fin 2048) (x : Fin 512), y = ix2 r x := ⟨y 0, y 1, (ix2_eta y).symm⟩
  obtain ⟨h, d, rfl⟩ := col_surj x
  obtain ⟨n, a', e⟩ := rowR_surj r
  obtain ⟨i, a, rfl⟩ := row_surj r
  have hK : ∀ r d, (iblk m c 2 (pt h i) : Vec Ideal S2048x128 .f32) (ix2 r d) = ((k r (col h d) : ℝ) : EReal) :=
    fun r d => (blk_k m c h i r d).trans (hp r (col h d)).2.1
  have hV : ∀ r d, (iblk m c 3 (pt h i) : Vec Ideal S2048x128 .f32) (ix2 r d) = ((v r (col h d) : ℝ) : EReal) :=
    fun r d => (blk_v m c h i r d).trans (hp r (col h d)).2.2
  let Q : Vec Ideal S2048x128 .f32 := fun y => ((q (y 0) (col h (y 1)) : ℝ) : EReal)
  have hQ : ∀ a d, (iblk m c 1 (pt h i) : Vec Ideal S512x128 .f32) (ix2 a d) = Q (ix2 (row (blk (grid0.coords (pt h i))) a) d) := fun a d => by
    rw [coord h i]
    exact (blk_q m c h i a d).trans (hp (row i a) (col h d)).1
  have hv := point_value (grid0.coords (pt h i)) (iblk m c 0 (pt h i)) (logDecay h) (blk_lg m c h i) (iblk m c 1 (pt h i)) Q (iblk m c 2 (pt h i))
    (iblk m c 3 (pt h i)) hQ a d
  rw [coord h i] at hv
  refine Eq.trans ?_ ((out_apply m c h i a d).trans (hv.trans (addQ_full hV hK (fun _ _ => rfl) i a d))).symm
  rw [e, ← colR_eq]
  refine (Cert.Retention.Ref.cast_apply _ hs n a' h d).trans ?_
  rw [Cert.RetIdeal.Ref.forward_apply H, forward_full]

/-- The kernel and the reference compute the same retention. -/
theorem algebraic : Cert.algebraic_RetIdeal_RetRefIdeal_pre_finite_ret (hPre_finite_ret := pre_facts) := by
  intro m g m' g' hpre hargs
  refine ⟨fun c => (dats m 0 c).arrAt 4 cfg0.N, ?_, ?_⟩
  · refine (θ_run defs _ _).mono (fun r h c => ?_) (run_blocks m g)
    exact h c
  · refine (θ_run Cert.RetRefIdeal.defs _ _).mono (fun r h c => ?_) (Cert.RetRefIdeal.Value.run (F := Ideal) m' g')
    obtain ⟨e0, hrest⟩ := h c
    obtain ⟨h0, h1, h2⟩ := hargs c
    exact ⟨e0.trans (result m m' hpre c h0 h1 h2 Cert.RetRefIdeal.Gen.shapeCasts_S1x16x128x4x128_S2048x512), hrest⟩

end Cert.RetIdeal.Mm

end
-- ==== Proof.Rms.lean ====
/-
  The root-mean-square norm of one row, and its gradient, over the extended reals.
-/
module

public import Idealize.ShloMosaic.Lib.Pointwise

@[expose] public section

noncomputable section

namespace Cert.Rms

open Idealize.ShloMosaic

/-- The mean of the row's squares, and the small number added to it. -/
def level (x : Fin 1024 → EReal) : EReal :=
  Ideal.div (∑ k, x k * x k) (Ideal.ofBits FTy.f32 1149239296#32) + Ideal.ofBits FTy.f32 897988541#32

/-- One over its root. -/
def scale (x : Fin 1024 → EReal) : EReal := Ideal.rsqrt (level x)

/-- What comes back to each entry of the row through the scale, from the row, the weights and the cotangent; the row's entry
    multiplies it, once for each factor of its square. -/
def back (x g t : Fin 1024 → EReal) : EReal :=
  Ideal.div ((∑ k, x k * (t k * g k)) * (Ideal.ofBits FTy.f32 3204448256#32 * Ideal.div (scale x) (level x))) (Ideal.ofBits FTy.f32 1149239296#32)

/-- The row's gradient at entry `k`. -/
def grad (x g t : Fin 1024 → EReal) (k : Fin 1024) : EReal := t k * g k * scale x + x k * back x g t + back x g t * x k

/-- The norm at entry `k`. -/
def norm (x g : Fin 1024 → EReal) (k : Fin 1024) : EReal := x k * scale x * g k

end Cert.Rms

end
-- ==== Proof.NormBwd.lean ====
/-
  The root-mean-square norm, backward: a point takes 512 rows, gives their gradient with the residual's added, and adds its
  part to the weights' gradient, a sum over all rows.
-/
module

public import proofs.«01_k».proof.Defs
public import proofs.«01_k».proof.Proof.Gen.NormBwdIdeal.Value
public import proofs.«01_k».proof.Proof.Gen.NormBwdRefIdeal.Run
public import proofs.«01_k».proof.Proof.Gen.NormBwd
public import proofs.«01_k».proof.Proof.Mul
public import proofs.«01_k».proof.Proof.Rms
public import Idealize.ShloMosaic.Lib.Pointwise
public import Idealize.ShloMosaic.Lib.Claim
public import Idealize.ShloMosaic.Lib.Tactic
public import Idealize.ShloMosaic.Lib.Pipeline.ValueKit
public import Idealize.ShloMosaic.Lib.Pipeline.ReadBack

@[expose] public section

set_option maxRecDepth 16384

noncomputable section

namespace Cert.NormBwdIdeal.Mm

open Cert.NormBwdIdeal Cert.NormBwdIdeal.Gen Cert.NormBwdIdeal.Value
open Idealize.ShloMosaic Idealize.ShloMosaic.TcCoe Idealize.SL.Sem
open Idealize.ShloMosaic.Pipeline (Dat Window)

variable (m : (ℓ : Loc nD τ sig) → Buf (Elt Ideal) ℓ) (c : Dev nD)

/-- A point's block of the rows' gradient, and its part of the weights', of its blocks. -/
def rowsBlk (t : Fin cfg0.N) : FVec Ideal S512x1024 .f32 := k0_pay6 (iblk m c 0 t) (iblk m c 1 t) (iblk m c 2 t) (iblk m c 3 t)
def partBlk (t : Fin cfg0.N) : FVec Ideal S1x1024 .f32 := k0_pay5 (iblk m c 0 t) (iblk m c 2 t)

theorem flushed4_first (t : Fin cfg0.N) (h : t.val % 4 = 0) : (dats m 0 c).flushed 4 t = rowsBlk m c t := by
  rw [flushed4_A m c t h]
  unfold out0_A_4
  rw [View.read_writes_eq_canon _ _ _ (cover0_A_4 _ _ _ _ _ _ _ _ _ _ _ _ _ _ _ _ _ _ _)]
  unfold kernelRun0_A
  dsimp only
  sl_unfold_words
  simp only [View.canon_unit_zero (S := S512x1024) Mul.hz, View.readAt_eq_ld, (hs0_0 t).read_unread, (hs0_1 t).read_unread,
    (hs0_2 t).read_unread, (hs0_3 t).read_unread, View.ld_unit_zero (S := S512x1024) Mul.hz, View.ld_unit_zero (S := S1x1024) Mul.hz]
  rfl

theorem flushed4_later (t : Fin cfg0.N) (h : ¬t.val % 4 = 0) : (dats m 0 c).flushed 4 t = rowsBlk m c t := by
  rw [flushed4_B m c t h]
  unfold out0_B_4
  rw [View.read_writes_eq_canon _ _ _ (cover0_B_4 _ _ _ _ _ _ _ _ _ _ _ _ _ _ _ _ _ _ _ _)]
  unfold kernelRun0_B
  dsimp only
  sl_unfold_words
  simp only [View.canon_unit_zero (S := S512x1024) Mul.hz, View.readAt_eq_ld, (hs0_0 t).read_unread, (hs0_1 t).read_unread,
    (hs0_2 t).read_unread, (hs0_3 t).read_unread, View.ld_unit_zero (S := S512x1024) Mul.hz, View.ld_unit_zero (S := S1x1024) Mul.hz]
  rfl

theorem flushed4_eq (t : Fin cfg0.N) : (dats m 0 c).flushed 4 t = rowsBlk m c t := by
  by_cases h : t.val % 4 = 0
  · exact flushed4_first m c t h
  · exact flushed4_later m c t h

theorem part_first (t : Fin cfg0.N) (h : t.val % 4 = 0) :
    (outsAt0 m c t.val t.isLt).2 = k0_pay2 (partBlk m c t) (k0_pay1 (F := Ideal)) := by
  rw [outsAt0_A m c t h]
  dsimp only
  unfold out0_A_5
  rw [View.read_writes_eq_canon _ _ _ (cover0_A_5 _ _ _ _ _ _ _ _ _ _ _ _ _ _ _ _ _ _ _)]
  unfold kernelRun0_A
  dsimp only
  sl_unfold_words
  simp only [View.canon_cons_unit_zero (S := S1x1024) Mul.hz, View.readCov_cons_toLoadRect, View.readAt_eq_ld, (hs0_0 t).read_unread, (hs0_1 t).read_unread,
    (hs0_2 t).read_unread, (hs0_3 t).read_unread, View.ld_unit_zero (S := S512x1024) Mul.hz, View.ld_unit_zero (S := S1x1024) Mul.hz]
  rfl

theorem part_later (t : Fin cfg0.N) (h : ¬t.val % 4 = 0) :
    (outsAt0 m c t.val t.isLt).2 = k0_pay2 (partBlk m c t) (outsAt0 m c (t.val - 1) (Nat.lt_of_le_of_lt (Nat.sub_le _ _) t.isLt)).2 := by
  rw [outsAt0_B m c t h]
  dsimp only
  generalize (outsAt0 m c (t.val - 1) _).2 = acc
  unfold out0_B_5
  rw [View.read_writes_eq_canon _ _ _ (cover0_B_5 _ _ _ _ _ _ _ _ _ _ _ _ _ _ _ _ _ _ _ _)]
  unfold kernelRun0_B
  dsimp only
  sl_unfold_words
  simp only [View.canon_unit_zero (S := S1x1024) Mul.hz, View.readAt_eq_ld, (hs0_0 t).read_unread, (hs0_1 t).read_unread, (hs0_5 t).read_unread,
    (hs0_2 t).read_unread, (hs0_3 t).read_unread, View.ld_unit_zero (S := S512x1024) Mul.hz, View.ld_unit_zero (S := S1x1024) Mul.hz]
  rfl

/-- Row `r` of the block of point `t`. -/
def row (t : Fin 4) (r : Fin 512) : Fin 2048 := Mul.blocked 512 rfl t r
def pt (t : Fin 4) : Fin cfg0.N := ⟨t.val, lt_of_lt_of_eq t.isLt N_0.symm⟩

theorem index0 : ∀ t : Fin 4, (cfg0.win 0).index (pt t) = ![t.val, 0] := by decide
theorem index1 : ∀ t : Fin 4, (cfg0.win 1).index (pt t) = ![0, 0] := by decide
theorem index2 : ∀ t : Fin 4, (cfg0.win 2).index (pt t) = ![t.val, 0] := by decide
theorem index3 : ∀ t : Fin 4, (cfg0.win 3).index (pt t) = ![t.val, 0] := by decide
theorem index4 : ∀ t : Fin 4, (cfg0.win 4).index (pt t) = ![t.val, 0] := by decide
theorem index5 : ∀ t : Fin 4, (cfg0.win 5).index (pt t) = ![0, 0] := by decide

theorem emb0 (t : Fin 4) (r : Fin 512) (n : Fin 1024) : ((cfg0.win 0).blk (pt t)).view.emb (ix2 r n) = ix2 (row t r) n :=
  Mul.ix2_of_val (Window.rect_emb_val (cfg0.win 0) (pt t) (ix2 r n)) (by rw [index0]; rfl) (by rw [index0]; exact Nat.zero_add _)
theorem emb1 (t : Fin 4) (r : Fin 1) (n : Fin 1024) : ((cfg0.win 1).blk (pt t)).view.emb (ix2 r n) = ix2 r n :=
  Mul.ix2_of_val (Window.rect_emb_val (cfg0.win 1) (pt t) (ix2 r n)) (by rw [index1]; exact Nat.zero_add _) (by rw [index1]; exact Nat.zero_add _)
theorem emb2 (t : Fin 4) (r : Fin 512) (n : Fin 1024) : ((cfg0.win 2).blk (pt t)).view.emb (ix2 r n) = ix2 (row t r) n :=
  Mul.ix2_of_val (Window.rect_emb_val (cfg0.win 2) (pt t) (ix2 r n)) (by rw [index2]; rfl) (by rw [index2]; exact Nat.zero_add _)
theorem emb3 (t : Fin 4) (r : Fin 512) (n : Fin 1024) : ((cfg0.win 3).blk (pt t)).view.emb (ix2 r n) = ix2 (row t r) n :=
  Mul.ix2_of_val (Window.rect_emb_val (cfg0.win 3) (pt t) (ix2 r n)) (by rw [index3]; rfl) (by rw [index3]; exact Nat.zero_add _)
theorem emb4 (t : Fin 4) (r : Fin 512) (n : Fin 1024) : ((cfg0.win 4).blk (pt t)).view.emb (ix2 r n) = ix2 (row t r) n :=
  Mul.ix2_of_val (Window.rect_emb_val (cfg0.win 4) (pt t) (ix2 r n)) (by rw [index4]; rfl) (by rw [index4]; exact Nat.zero_add _)
theorem emb5 (t : Fin 4) (r : Fin 1) (n : Fin 1024) : ((cfg0.win 5).blk (pt t)).view.emb (ix2 r n) = ix2 r n :=
  Mul.ix2_of_val (Window.rect_emb_val (cfg0.win 5) (pt t) (ix2 r n)) (by rw [index5]; exact Nat.zero_add _) (by rw [index5]; exact Nat.zero_add _)

/-- The rows, the weights, the cotangent and the residual's gradient, as the launch holds them. -/
def rows (r : Fin 2048) (n : Fin 1024) : EReal := m ((c : Thread nD τ).loc main_arg0) (ix2 r n)
def weights (n : Fin 1024) : EReal := m ((c : Thread nD τ).loc main_arg1) (ix1 n)
def ct (r : Fin 2048) (n : Fin 1024) : EReal := m ((c : Thread nD τ).loc main_arg2) (ix2 r n)
def resid (r : Fin 2048) (n : Fin 1024) : EReal := m ((c : Thread nD τ).loc main_arg3) (ix2 r n)

theorem blk0 (t : Fin 4) (r : Fin 512) (n : Fin 1024) : (iblk m c 0 (pt t) : Vec Ideal S512x1024 .f32) (ix2 r n) = rows m c (row t r) n := by
  refine (congrArg (V m c main_arg0) (emb0 t r n)).trans ?_
  rw [V_main_arg0]; rfl
theorem blk1 (t : Fin 4) (n : Fin 1024) : (iblk m c 1 (pt t) : Vec Ideal S1x1024 .f32) (ix2 0 n) = weights m c n := by
  refine (congrArg (V m c main_v0) (emb1 t 0 n)).trans ?_
  entry_read
  unfold weights
  pointwise
theorem blk2 (t : Fin 4) (r : Fin 512) (n : Fin 1024) : (iblk m c 2 (pt t) : Vec Ideal S512x1024 .f32) (ix2 r n) = ct m c (row t r) n := by
  refine (congrArg (V m c main_arg2) (emb2 t r n)).trans ?_
  rw [V_main_arg2]; rfl
theorem blk3 (t : Fin 4) (r : Fin 512) (n : Fin 1024) : (iblk m c 3 (pt t) : Vec Ideal S512x1024 .f32) (ix2 r n) = resid m c (row t r) n := by
  refine (congrArg (V m c main_arg3) (emb3 t r n)).trans ?_
  rw [V_main_arg3]; rfl

theorem level_apply (x : Vec Ideal S512x1024 .f32) (r : Fin 512) : k0_pay3 x (ix2 r 0) = Rms.level fun k => x (ix2 r k) := by
  unfold k0_pay3 Rms.level
  pointwise
theorem scale_apply (x : Vec Ideal S512x1024 .f32) (r : Fin 512) : k0_pay4 x (ix2 r 0) = Rms.scale fun k => x (ix2 r k) := by
  unfold k0_pay4 Rms.scale
  rw [← level_apply]
  generalize k0_pay3 x = p
  pointwise

/-- The results, entry by entry. -/
def rowsAt (r : Fin 2048) (n : Fin 1024) : EReal := Rms.grad (rows m c r) (weights m c) (ct m c r) n + resid m c r n
def part (r : Fin 2048) (n : Fin 1024) : EReal := rows m c r n * Rms.scale (rows m c r) * ct m c r n
def rowsGrad : Vec Ideal S2048x1024 .f32 := fun i => rowsAt m c (i 0) (i 1)
def weightsGrad : Vec Ideal S1x1024 .f32 := fun i => ∑ r : Fin 2048, part m c r (i 1)

theorem rowsBlk_apply (t : Fin 4) (r : Fin 512) (n : Fin 1024) : rowsBlk m c (pt t) (ix2 r n) = rowsAt m c (row t r) n := by
  have h3 := level_apply (iblk m c 0 (pt t)) r
  have h4 := scale_apply (iblk m c 0 (pt t)) r
  simp only [blk0] at h3 h4
  unfold rowsBlk k0_pay6
  generalize k0_pay4 (iblk m c 0 (pt t)) = q at h4 ⊢
  generalize k0_pay3 (iblk m c 0 (pt t)) = p at h3 ⊢
  pointwise
  simp only [Fin.sum_univ_one, h3, h4, blk0, blk1, blk2, blk3]
  rfl

theorem partBlk_apply (t : Fin 4) (n : Fin 1024) : partBlk m c (pt t) (ix2 0 n) = ∑ r : Fin 512, part m c (row t r) n := by
  have h4 := fun r => scale_apply (iblk m c 0 (pt t)) r
  simp only [blk0] at h4
  unfold partBlk k0_pay5
  generalize k0_pay4 (iblk m c 0 (pt t)) = q at h4 ⊢
  pointwise
  simp only [h4, blk0, blk2]
  rfl

theorem add_apply (x z : Vec Ideal S1x1024 .f32) (n : Fin 1024) : k0_pay2 x z (ix2 0 n) = z (ix2 0 n) + x (ix2 0 n) := by
  unfold k0_pay2
  pointwise

/-- The weights' gradient after point `n` is the sum of the parts so far. -/
theorem part_chain (j : Fin 1024) : ∀ (n : ℕ) (h : n < 4),
    ((outsAt0 m c n (lt_of_lt_of_eq h N_0.symm)).2 : FVec Ideal S1x1024 .f32) (ix2 0 j)
      = ∑ s : Fin (n + 1), ∑ r : Fin 512, part m c (row ⟨s.val, by omega⟩ r) j
  | 0, h => by
    rw [Fin.sum_univ_one]
    refine (congrFun (part_first m c (pt ⟨0, h⟩) rfl) (ix2 0 j)).trans ?_
    rw [add_apply, partBlk_apply]
    unfold k0_pay1
    pointwise
  | n + 1, h => by
    rw [Fin.sum_univ_castSucc]
    refine (congrFun (part_later m c (pt ⟨n + 1, h⟩) (by show ¬(n + 1) % 4 = 0; omega)) (ix2 0 j)).trans ?_
    rw [add_apply, partBlk_apply]
    refine congrArg₂ (· + ·) ?_ rfl
    exact part_chain j n (by omega)

theorem sum_part (n : Fin 1024) : ∑ s : Fin 4, ∑ r : Fin 512, part m c (row s r) n = ∑ r : Fin 2048, part m c r n :=
  Fin.sum_mul_add_fin 4 512 fun r : Fin 2048 => part m c r n

theorem point (t : Fin cfg0.N) : ∃ s : Fin 4, t = pt s := ⟨⟨t.val, lt_of_lt_of_eq t.isLt N_0⟩, rfl⟩

theorem final4 : (dats m 0 c).arrAt 4 cfg0.N = rowsGrad m c := by
  refine (dats m 0 c).arrAt_eq_of_cover 4 (rowsGrad m c) (fun t hf => ?_) fun i => ?_
  · obtain ⟨t, rfl⟩ := point t
    funext y
    obtain ⟨r, n, rfl⟩ : ∃ (r : Fin 512) (n : Fin 1024), y = ix2 r n := ⟨y 0, y 1, (ix2_eta y).symm⟩
    rw [flushed4_eq, View.read_apply, emb4]
    exact rowsBlk_apply m c t r n
  · obtain ⟨r, n, rfl⟩ : ∃ (r : Fin 2048) (n : Fin 1024), i = ix2 r n := ⟨i 0, i 1, (ix2_eta i).symm⟩
    obtain ⟨t, r, rfl⟩ := Mul.blocked_surj (n := 2048) (a := 4) 512 rfl (by decide) r
    exact ⟨pt t, flush0_4 _, by rw [show Mul.blocked 512 rfl t r = row t r from rfl, ← emb4]; exact View.emb_mem_set _ _⟩

theorem final5 : (dats m 0 c).arrAt 5 cfg0.N = weightsGrad m c := by
  refine (dats m 0 c).arrAt_eq_of_cover 5 (weightsGrad m c) (fun t hf => ?_) fun i => ?_
  · obtain ⟨t, rfl⟩ := point t
    obtain rfl : t = 3 := by
      have h3 : t.val % 4 = 3 := (flush0_5 (pt t)).mp hf
      exact Fin.ext (by show t.val = 3; omega)
    funext y
    obtain ⟨k, n, rfl⟩ : ∃ (k : Fin 1) (n : Fin 1024), y = ix2 k n := ⟨y 0, y 1, (ix2_eta y).symm⟩
    obtain rfl : k = 0 := Subsingleton.elim _ _
    rw [flushed5, View.read_apply, emb5]
    refine Eq.trans ?_ (sum_part m c n)
    exact part_chain m c n 3 (by decide)
  · obtain ⟨k, n, rfl⟩ : ∃ (k : Fin 1) (n : Fin 1024), i = ix2 k n := ⟨i 0, i 1, (ix2_eta i).symm⟩
    exact ⟨pt 3, (flush0_5 _).mpr rfl, by rw [← emb5 3]; exact View.emb_mem_set _ _⟩

theorem frame_ideal : Cert.quiescent_NormBwdIdeal := fun m ρ _ => Cert.NormBwdIdeal.Gen.frame m ρ

theorem defs₀_eq : Cert.NormBwd.defs₀ (F := Bits) = Cert.NormBwdIdeal.defs₀ (F := Bits) := by
  unfold Cert.NormBwd.defs₀ Cert.NormBwdIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_NormBwd := fun m ρ _ => by
  rw [show Cert.NormBwd.defs (F := Bits) = Cert.NormBwdIdeal.defs (F := Bits) from congrArg (Pipeline.defs _) defs₀_eq]
  exact (θ_run Cert.NormBwdIdeal.defs _ _).mono (fun _ h => h) (Cert.NormBwdIdeal.Gen.frame (F := Bits) m ρ)

theorem frame_ref : Cert.quiescent_NormBwdRefIdeal := fun m ρ _ =>
  (θ_run Cert.NormBwdRefIdeal.defs _ _).mono (fun r h => ⟨fun c => (h c).2.2, Idealize.ShloMosaic.sem_eq_zero_of_no_sems (by decide) r.2⟩)
    (Cert.NormBwdRefIdeal.Value.run (F := Ideal) m ρ)

end Cert.NormBwdIdeal.Mm

namespace Cert.NormBwdRefIdeal.Mm

open Cert.NormBwdRefIdeal Cert.NormBwdRefIdeal.Gen Cert.NormBwdRefIdeal.Value
open Idealize.ShloMosaic Idealize.ShloMosaic.TcCoe Idealize.SL.Sem Idealize.ShloMosaic.StableHlo

/-- The reference's mean square, scale and what comes back through the scale, from its arguments. -/
def level (x : FVec Ideal S2048x1024 .f32) : FVec Ideal S2048x1 .f32 :=
  addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))
def scale (x : FVec Ideal S2048x1024 .f32) : FVec Ideal S2048x1 .f32 := Host.rsqrt (level x)
def scaled (ct : FVec Ideal S2048x1024 .f32) (g : FVec Ideal S1024 .f32) : FVec Ideal S2048x1024 .f32 :=
  mulf ct (broadcastInDim S2048x1024 ![0, 1] bcast_S1x1024_S2048x1024_0_1 (broadcastInDim S1x1024 ![1] bcast_S1024_S1x1024_1 g))
def back (x ct : FVec Ideal S2048x1024 .f32) (g : FVec Ideal S1024 .f32) : FVec Ideal S2048x1024 .f32 :=
  broadcastInDim S2048x1024 ![0] bcast_S2048_S2048x1024_0 (Host.reduceAdd (Host.divf (mulf (shapeCast _ (Host.reduceAdd (mulf x (scaled ct g)) (constant S_ .f32 0x00000000#32) reducesTo_S2048x1024_S2048_d1 h_S_) shapeCasts_S2048_S2048x1) (mulf (broadcastInDim S2048x1 ![] bcast_S_S2048x1 (constant S_ .f32 0xBF000000#32)) (Host.divf (scale x) (level x)))) (broadcastInDim S2048x1 ![] bcast_S_S2048x1 (constant S_ .f32 0x44800000#32))) (constant S_ .f32 0x00000000#32) reducesTo_S2048x1_S2048_d1 h_S_)

/-- Its two results. -/
def rowsGrad (x ct add : FVec Ideal S2048x1024 .f32) (g : FVec Ideal S1024 .f32) : FVec Ideal S2048x1024 .f32 :=
  addf (addf (addf (mulf (scaled ct g) (broadcastInDim S2048x1024 ![0, 1] bcast_S2048x1_S2048x1024_0_1 (scale x))) (mulf x (back x ct g))) (mulf (back x ct g) x)) add
def weightsGrad (x ct : FVec Ideal S2048x1024 .f32) : FVec Ideal S1x1024 .f32 :=
  shapeCast _ (Host.reduceAdd (shapeCast _ (Host.reduceAdd (mulf (mulf x (broadcastInDim S2048x1024 ![0, 1] bcast_S2048x1_S2048x1024_0_1 (scale x))) ct) (constant S_ .f32 0x00000000#32) reducesTo_S2048x1024_S1024_d0 h_S_) shapeCasts_S1024_S1x1024) (constant S_ .f32 0x00000000#32) reducesTo_S1x1024_S1024_d0 h_S_) shapeCasts_S1024_S1x1024

variable (x t z : FVec Ideal S2048x1024 .f32) (g : FVec Ideal S1024 .f32) (r : Fin 2048) (n : Fin 1024)

theorem level_apply : level x (ix2 r 0) = Rms.level fun k => x (ix2 r k) := by
  unfold level Rms.level
  pointwise
theorem scale_apply : scale x (ix2 r 0) = Rms.scale fun k => x (ix2 r k) := by
  unfold scale Rms.scale
  rw [← level_apply]
  generalize level x = p
  pointwise
theorem scaled_apply : scaled t g (ix2 r n) = t (ix2 r n) * g (ix1 n) := by
  unfold scaled
  pointwise
theorem back_apply : back x t g (ix2 r n) = Rms.back (fun k => x (ix2 r k)) (fun k => g (ix1 k)) (fun k => t (ix2 r k)) := by
  unfold back Rms.back
  rw [← level_apply, ← scale_apply]
  simp only [← scaled_apply t g r]
  generalize scale x = q
  generalize level x = p
  generalize scaled t g = s
  pointwise
  exact Fin.sum_univ_one _
theorem rowsGrad_apply : rowsGrad x t z g (ix2 r n)
    = Rms.grad (fun k => x (ix2 r k)) (fun k => g (ix1 k)) (fun k => t (ix2 r k)) n + z (ix2 r n) := by
  unfold rowsGrad Rms.grad
  rw [← scale_apply, ← back_apply x t g r n, ← scaled_apply t g r n]
  generalize scale x = q
  generalize back x t g = b
  generalize scaled t g = s
  pointwise
theorem weightsGrad_apply : weightsGrad x t (ix2 0 n) = ∑ r : Fin 2048, x (ix2 r n) * Rms.scale (fun k => x (ix2 r k)) * t (ix2 r n) := by
  unfold weightsGrad
  simp only [← scale_apply]
  generalize scale x = q
  pointwise
  exact Fin.sum_univ_one _

end Cert.NormBwdRefIdeal.Mm

namespace Cert.NormBwdIdeal.Mm

open Cert.NormBwdIdeal Cert.NormBwdIdeal.Gen Cert.NormBwdIdeal.Value
open Idealize.ShloMosaic Idealize.ShloMosaic.TcCoe Idealize.SL.Sem

/-- The call computes the norm's gradient. -/
theorem algebraic : Cert.algebraic_NormBwdIdeal_NormBwdRefIdeal := by
  intro m g m' g' _ hargs
  refine ⟨fun c => rowsGrad m c, fun c => weightsGrad m c, ?_, ?_⟩
  · exact (θ_run Cert.NormBwdIdeal.defs _ _).mono (fun r h c => ⟨(h c).1.trans (final4 m c), (h c).2.1.trans (final5 m c), (h c).2.2⟩) (run_blocks m g)
  · refine (θ_run Cert.NormBwdRefIdeal.defs _ _).mono (fun r h c => ⟨(h c).1.trans ?_, (h c).2.1.trans ?_, (h c).2.2⟩)
      (Cert.NormBwdRefIdeal.Value.run (F := Ideal) m' g')
    · obtain ⟨h0, h1, h2, h3⟩ := hargs c
      rw [h0, h1, h2, h3]
      funext y
      obtain ⟨r, n, rfl⟩ : ∃ (r : Fin 2048) (n : Fin 1024), y = ix2 r n := ⟨y 0, y 1, (ix2_eta y).symm⟩
      exact Cert.NormBwdRefIdeal.Mm.rowsGrad_apply _ _ _ _ r n
    · obtain ⟨h0, h1, h2, h3⟩ := hargs c
      rw [h0, h2]
      funext y
      obtain ⟨k, n, rfl⟩ : ∃ (k : Fin 1) (n : Fin 1024), y = ix2 k n := ⟨y 0, y 1, (ix2_eta y).symm⟩
      obtain rfl : k = 0 := Subsingleton.elim _ _
      exact Cert.NormBwdRefIdeal.Mm.weightsGrad_apply _ _ n

end Cert.NormBwdIdeal.Mm

end
-- ==== Proof.Norm.lean ====
/-
  The root-mean-square norm, forward: a point takes 512 rows.
-/
module

public import proofs.«01_k».proof.Defs
public import proofs.«01_k».proof.Proof.Gen.NormIdeal.Value
public import proofs.«01_k».proof.Proof.Gen.NormRefIdeal.Run
public import proofs.«01_k».proof.Proof.Gen.Norm
public import proofs.«01_k».proof.Proof.Mul
public import proofs.«01_k».proof.Proof.Rms
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.NormIdeal.Mm

open Cert.NormIdeal Cert.NormIdeal.Gen Cert.NormIdeal.Value
open Idealize.ShloMosaic Idealize.ShloMosaic.TcCoe Idealize.SL.Sem
open Idealize.ShloMosaic.Pipeline (Dat Window)

variable (m : (ℓ : Loc nD τ sig) → Buf (Elt Ideal) ℓ) (c : Dev nD)

/-- What a point copies out, of its blocks. -/
theorem flushed_eq (t : Fin cfg0.N) : (dats m 0 c).flushed 2 t = (k0_pay1 (F := Ideal) (iblk m c 0 t) (iblk m c 1 t)) := by
  rw [flushed2]
  unfold out0_2
  simp only [View.canon_unit_zero (S := S512x1024) Mul.hz, View.ld_unit_zero (S := S512x1024) Mul.hz, View.ld_unit_zero (S := S1x1024) Mul.hz]
  rfl

/-- Row `r` of the block of point `t`. -/
def row (t : Fin 4) (r : Fin 512) : Fin 2048 := Mul.blocked 512 rfl t r
def pt (t : Fin 4) : Fin cfg0.N := ⟨t.val, lt_of_lt_of_eq t.isLt N_0.symm⟩

theorem index0 : ∀ t : Fin 4, (cfg0.win 0).index (pt t) = ![t.val, 0] := by decide
theorem index1 : ∀ t : Fin 4, (cfg0.win 1).index (pt t) = ![0, 0] := by decide
theorem index2 : ∀ t : Fin 4, (cfg0.win 2).index (pt t) = ![t.val, 0] := by decide

theorem emb0 (t : Fin 4) (r : Fin 512) (n : Fin 1024) : ((cfg0.win 0).blk (pt t)).view.emb (ix2 r n) = ix2 (row t r) n :=
  Mul.ix2_of_val (Window.rect_emb_val (cfg0.win 0) (pt t) (ix2 r n)) (by rw [index0]; rfl) (by rw [index0]; exact Nat.zero_add _)
theorem emb1 (t : Fin 4) (r : Fin 1) (n : Fin 1024) : ((cfg0.win 1).blk (pt t)).view.emb (ix2 r n) = ix2 r n :=
  Mul.ix2_of_val (Window.rect_emb_val (cfg0.win 1) (pt t) (ix2 r n)) (by rw [index1]; exact Nat.zero_add _) (by rw [index1]; exact Nat.zero_add _)
theorem emb2 (t : Fin 4) (r : Fin 512) (n : Fin 1024) : ((cfg0.win 2).blk (pt t)).view.emb (ix2 r n) = ix2 (row t r) n :=
  Mul.ix2_of_val (Window.rect_emb_val (cfg0.win 2) (pt t) (ix2 r n)) (by rw [index2]; rfl) (by rw [index2]; exact Nat.zero_add _)

/-- The rows and the weights, as the launch holds them. -/
def rows (r : Fin 2048) (n : Fin 1024) : EReal := m ((c : Thread nD τ).loc main_arg0) (ix2 r n)
def weights (n : Fin 1024) : EReal := m ((c : Thread nD τ).loc main_arg1) (ix1 n)

theorem blk0 (t : Fin 4) (r : Fin 512) (n : Fin 1024) : (iblk m c 0 (pt t) : Vec Ideal S512x1024 .f32) (ix2 r n) = rows m c (row t r) n := by
  refine (congrArg (V m c main_arg0) (emb0 t r n)).trans ?_
  rw [V_main_arg0]; rfl
theorem blk1 (t : Fin 4) (n : Fin 1024) : (iblk m c 1 (pt t) : Vec Ideal S1x1024 .f32) (ix2 0 n) = weights m c n := by
  refine (congrArg (V m c main_v0) (emb1 t 0 n)).trans ?_
  entry_read
  unfold weights
  pointwise

/-- The normed rows, entry by entry. -/
def result : Vec Ideal S2048x1024 .f32 := fun i => Rms.norm (rows m c (i 0)) (weights m c) (i 1)

theorem final : (dats m 0 c).arrAt 2 cfg0.N = result m c := by
  refine (dats m 0 c).arrAt_eq_of_cover 2 (result m c) (fun t hf => ?_) fun i => ?_
  · obtain ⟨t, rfl⟩ : ∃ s : Fin 4, t = pt s := ⟨⟨t.val, lt_of_lt_of_eq t.isLt N_0⟩, rfl⟩
    funext y
    obtain ⟨r, n, rfl⟩ : ∃ (r : Fin 512) (n : Fin 1024), y = ix2 r n := ⟨y 0, y 1, (ix2_eta y).symm⟩
    rw [flushed_eq, View.read_apply, emb2]
    show (k0_pay1 (F := Ideal) (iblk m c 0 (pt t)) (iblk m c 1 (pt t)) : Vec Ideal S512x1024 .f32) (ix2 r n) = _
    unfold k0_pay1
    pointwise
    simp only [blk0, blk1]
    rfl
  · obtain ⟨r, n, rfl⟩ : ∃ (r : Fin 2048) (n : Fin 1024), i = ix2 r n := ⟨i 0, i 1, (ix2_eta i).symm⟩
    obtain ⟨t, r, rfl⟩ := Mul.blocked_surj (n := 2048) (a := 4) 512 rfl (by decide) r
    exact ⟨pt t, flush0_2 _, by rw [show Mul.blocked 512 rfl t r = row t r from rfl, ← emb2]; exact View.emb_mem_set _ _⟩

theorem frame_ideal : Cert.quiescent_NormIdeal := fun m ρ _ => Cert.NormIdeal.Gen.frame m ρ

theorem defs₀_eq : Cert.Norm.defs₀ (F := Bits) = Cert.NormIdeal.defs₀ (F := Bits) := by
  unfold Cert.Norm.defs₀ Cert.NormIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_Norm := fun m ρ _ => by
  rw [show Cert.Norm.defs (F := Bits) = Cert.NormIdeal.defs (F := Bits) from congrArg (Pipeline.defs _) defs₀_eq]
  exact (θ_run Cert.NormIdeal.defs _ _).mono (fun _ h => h) (Cert.NormIdeal.Gen.frame (F := Bits) m ρ)

theorem frame_ref : Cert.quiescent_NormRefIdeal := fun m ρ _ =>
  (θ_run Cert.NormRefIdeal.defs _ _).mono (fun r h => ⟨fun c => (h c).2, Idealize.ShloMosaic.sem_eq_zero_of_no_sems (by decide) r.2⟩)
    (Cert.NormRefIdeal.Value.run (F := Ideal) m ρ)

/-- The call computes the norm. -/
theorem algebraic : Cert.algebraic_NormIdeal_NormRefIdeal := by
  intro m g m' g' _ hargs
  refine ⟨fun c => result m c, ?_, ?_⟩
  · exact (θ_run Cert.NormIdeal.defs _ _).mono (fun r h c => ⟨(h c).1.trans (final m c), (h c).2⟩) (run_blocks m g)
  · refine (θ_run Cert.NormRefIdeal.defs _ _).mono (fun r h c => ⟨(h c).1.trans ?_, (h c).2⟩) (Cert.NormRefIdeal.Value.run (F := Ideal) m' g')
    obtain ⟨h0, h1⟩ := hargs c
    rw [h0, h1]
    funext y
    obtain ⟨r, n, rfl⟩ : ∃ (r : Fin 2048) (n : Fin 1024), y = ix2 r n := ⟨y 0, y 1, (ix2_eta y).symm⟩
    refine Eq.trans ?_ (show Rms.norm (rows m c r) (weights m c) n = result m c (ix2 r n) from rfl)
    unfold Rms.norm Rms.scale Rms.level
    pointwise
    rfl

end Cert.NormIdeal.Mm

end
-- ==== Proof.Rotary.lean ====
/-
  The rotation of a head's row by its position's angles, and its gradient, over the extended reals: the plain form, by the two
  halves, and the form with the halves exchanged and a signed sine.
-/
module

public import proofs.«01_k».proof.Proof.Mul

@[expose] public section

noncomputable section

namespace Cert.Rotary

open Idealize.ShloMosaic

/-- The angle of position `r` and frequency `j`. -/
def angle (r j : ℕ) : EReal :=
  (FloatOps.sitofp (F := Ideal) FTy.f32 (BitVec.ofNat 32 r) : EReal) * Ideal.pow (Ideal.ofBits FTy.f32 1176256512#32)
    (Ideal.div (-(FloatOps.sitofp (F := Ideal) FTy.f32 (BitVec.ofNat 32 j) : EReal)) (Ideal.ofBits FTy.f32 1115684864#32))

variable (r : ℕ) (x : Fin 128 → EReal) (d : Fin 128)

/-- The rotated row at lane `d`. -/
def turn : EReal :=
  if h : d.val < 64 then x d * Ideal.cos (angle r d.val) - x ⟨64 + d.val, by omega⟩ * Ideal.sin (angle r d.val)
  else x ⟨d.val - 64, by omega⟩ * Ideal.sin (angle r (d.val - 64)) + x d * Ideal.cos (angle r (d.val - 64))

/-- The gradient at lane `d`, from the rotated row's cotangent. -/
def back : EReal :=
  if h : d.val < 64 then x ⟨64 + d.val, by omega⟩ * Ideal.sin (angle r d.val) + x d * Ideal.cos (angle r d.val)
  else x d * Ideal.cos (angle r (d.val - 64)) + -x ⟨d.val - 64, by omega⟩ * Ideal.sin (angle r (d.val - 64))

/-- The cosine on both halves, the sine with its sign, and the lane's partner. -/
def cos2 : EReal := if d.val < 64 then Ideal.cos (angle r d.val) else Ideal.cos (angle r (d.val - 64))
def sin2 : EReal := if d.val < 64 then -Ideal.sin (angle r d.val) else Ideal.sin (angle r (d.val - 64))
def swap : Fin 128 := ⟨(d.val + 128 - 64) % 128, Nat.mod_lt _ (by decide)⟩

theorem swap_low (h : d.val < 64) : swap d = ⟨64 + d.val, by omega⟩ := Fin.ext (by show (d.val + 128 - 64) % 128 = 64 + d.val; omega)
theorem swap_high (h : ¬d.val < 64) : swap d = ⟨d.val - 64, by omega⟩ := Fin.ext (by show (d.val + 128 - 64) % 128 = d.val - 64; omega)

theorem turn_eq : x d * cos2 r d + x (swap d) * sin2 r d = turn r x d := by
  unfold turn cos2 sin2
  by_cases h : d.val < 64
  · rw [if_pos h, if_pos h, dif_pos h, swap_low d h, mul_neg, sub_eq_add_neg]
  · rw [if_neg h, if_neg h, dif_neg h, swap_high d h, add_comm]

theorem back_eq : x (swap d) * sin2 r (swap d) + x d * cos2 r d = back r x d := by
  unfold back cos2 sin2
  by_cases h : d.val < 64
  · rw [if_pos h, dif_pos h, swap_low d h, if_neg (by show ¬64 + d.val < 64; omega)]
    show _ * Ideal.sin (angle r (64 + d.val - 64)) + _ = _
    rw [Nat.add_sub_cancel_left]
  · rw [if_neg h, dif_neg h, swap_high d h, if_pos (by show d.val - 64 < 64; omega), add_comm, mul_neg, neg_mul]

/-- Lane `d` of head `h`, among the heads' lanes side by side. -/
def col (h : Fin 4) (d : Fin 128) : Fin 512 := ⟨h.val * 128 + d.val, by omega⟩

theorem col_surj (n : Fin 512) : ∃ h d, n = col h d :=
  ⟨⟨n.val / 128, by omega⟩, ⟨n.val % 128, Nat.mod_lt _ (by decide)⟩, Fin.ext (by show n.val = n.val / 128 * 128 + n.val % 128; omega)⟩

/-- The heads side by side. -/
def wide (f : Fin 4 → Fin 128 → EReal) (n : Fin 512) : EReal := f ⟨n.val / 128, by omega⟩ ⟨n.val % 128, Nat.mod_lt _ (by decide)⟩

theorem wide_col (f : Fin 4 → Fin 128 → EReal) (h : Fin 4) (d : Fin 128) : wide f (col h d) = f h d :=
  congrArg₂ f (Fin.ext (by show (h.val * 128 + d.val) / 128 = h.val; omega)) (Fin.ext (by show (h.val * 128 + d.val) % 128 = d.val; omega))

end Cert.Rotary

end
-- ==== Proof.RotBwd.lean ====
/-
  The rotation of the retention's queries and keys, backward: a point takes 512 rows of the two cotangents and turns each head's
  lanes back by the row's angles.
-/
module

public import proofs.«01_k».proof.Defs
public import proofs.«01_k».proof.Proof.Gen.RotBwdIdeal.Value
public import proofs.«01_k».proof.Proof.Gen.RotBwdRefIdeal.Run
public import proofs.«01_k».proof.Proof.Gen.RotBwd
public import proofs.«01_k».proof.Proof.Rotary
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.RotBwdIdeal.Mm

open Cert.RotBwdIdeal Cert.RotBwdIdeal.Gen Cert.RotBwdIdeal.Value Cert.Rotary
open Idealize.ShloMosaic Idealize.ShloMosaic.TcCoe Idealize.SL.Sem
open Idealize.ShloMosaic.Pipeline (Dat Window)

section Point

variable (C S : Vec Ideal S512x128 .f32) (x : Vec Ideal S512x512 .f32) (r : Fin 512) (h : Fin 4) (d : Fin 128)

/-- A point's two blocks, of the cosines, the sines and the cotangent's lanes. -/
def queries : FVec Ideal S512x512 .bf16 := k0_pay11 (k0_pay1 C) (k0_pay2 S) (k0_pay5 x) (k0_pay6 x) (k0_pay8 C S x) (k0_pay9 C S x)
def keys : FVec Ideal S512x512 .bf16 := k0_pay12 (k0_pay1 C) (k0_pay2 S) (k0_pay3 x) (k0_pay4 x) (k0_pay7 C S x) (k0_pay10 C S x)

/-- A lane's gradient, from the lane of the cotangent times `s`, its partner, the cosine and the sine. -/
def lane (s : EReal → EReal) : EReal :=
  s (x (ix2 r (col h (swap d)))) * S (ix2 r (swap d)) + s (x (ix2 r (col h d))) * C (ix2 r d)

theorem lane_of (s : EReal → EReal) {a b : Fin 512} {e f : Fin 128} (ha : a.val = h.val * 128 + d.val) (he : e.val = d.val)
    (hb : b.val = h.val * 128 + (d.val + 128 - 64) % 128) (hf : f.val = (d.val + 128 - 64) % 128) :
    (s (x (ix2 r b)) * S (ix2 r f) + s (x (ix2 r a)) * C (ix2 r e) : EReal) = lane C S x r h d s := by
  obtain rfl : a = col h d := Fin.ext ha
  obtain rfl : e = d := Fin.ext he
  obtain rfl : b = col h (swap e) := Fin.ext hb
  obtain rfl : f = swap e := Fin.ext hf
  rfl

theorem queries_apply : queries C S x (ix2 r (col h d)) = lane C S x r h d fun z => z := by
  unfold queries k0_pay11 k0_pay8 k0_pay9 k0_pay5 k0_pay6 k0_pay1 k0_pay2
  pointwise
  have e : (col h d).val = h.val * 128 + d.val := rfl
  simp only [e]
  rcases (by omega : h.val = 0 ∨ h.val = 1 ∨ h.val = 2 ∨ h.val = 3) with hh | hh | hh | hh
  · have c1 : h.val * 128 + d.val < 384 := by omega
    have c2 : h.val * 128 + d.val < 256 := by omega
    have c3 : h.val * 128 + d.val < 128 := by omega
    simp only [c1, c2, c3, ↓reduceDIte, zero_add, add_zero]
    exact lane_of C S x r h d (fun z => z) (by first | omega | (dsimp only; omega)) (by dsimp only; omega) (by dsimp only; omega) (by dsimp only; omega)
  · have c1 : h.val * 128 + d.val < 384 := by omega
    have c2 : h.val * 128 + d.val < 256 := by omega
    have c3 : ¬h.val * 128 + d.val < 128 := by omega
    simp only [c1, c2, c3, ↓reduceDIte, zero_add, add_zero]
    exact lane_of C S x r h d (fun z => z) (by first | omega | (dsimp only; omega)) (by dsimp only; omega) (by dsimp only; omega) (by dsimp only; omega)
  · have c1 : h.val * 128 + d.val < 384 := by omega
    have c2 : ¬h.val * 128 + d.val < 256 := by omega
    have c3 : ¬h.val * 128 + d.val < 128 := by omega
    simp only [c1, c2, c3, ↓reduceDIte, zero_add, add_zero]
    exact lane_of C S x r h d (fun z => z) (by first | omega | (dsimp only; omega)) (by dsimp only; omega) (by dsimp only; omega) (by dsimp only; omega)
  · have c1 : ¬h.val * 128 + d.val < 384 := by omega
    have c2 : ¬h.val * 128 + d.val < 256 := by omega
    have c3 : ¬h.val * 128 + d.val < 128 := by omega
    simp only [c1, c2, c3, ↓reduceDIte, zero_add, add_zero]
    exact lane_of C S x r h d (fun z => z) (by first | omega | (dsimp only; omega)) (by dsimp only; omega) (by dsimp only; omega) (by dsimp only; omega)

theorem keys_apply : keys C S x (ix2 r (col h d)) = lane C S x r h d fun z => z * Ideal.ofBits FTy.f32 1035273459#32 := by
  unfold keys k0_pay12 k0_pay7 k0_pay10 k0_pay3 k0_pay4 k0_pay1 k0_pay2
  pointwise
  have e : (col h d).val = h.val * 128 + d.val := rfl
  simp only [e]
  rcases (by omega : h.val = 0 ∨ h.val = 1 ∨ h.val = 2 ∨ h.val = 3) with hh | hh | hh | hh
  · have c1 : h.val * 128 + d.val < 384 := by omega
    have c2 : h.val * 128 + d.val < 256 := by omega
    have c3 : h.val * 128 + d.val < 128 := by omega
    simp only [c1, c2, c3, ↓reduceDIte, zero_add, add_zero]
    exact lane_of C S x r h d (fun z => z * Ideal.ofBits FTy.f32 1035273459#32) (by first | omega | (dsimp only; omega)) (by dsimp only; omega) (by dsimp only; omega) (by dsimp only; omega)
  · have c1 : h.val * 128 + d.val < 384 := by omega
    have c2 : h.val * 128 + d.val < 256 := by omega
    have c3 : ¬h.val * 128 + d.val < 128 := by omega
    simp only [c1, c2, c3, ↓reduceDIte, zero_add, add_zero]
    exact lane_of C S x r h d (fun z => z * Ideal.ofBits FTy.f32 1035273459#32) (by first | omega | (dsimp only; omega)) (by dsimp only; omega) (by dsimp only; omega) (by dsimp only; omega)
  · have c1 : h.val * 128 + d.val < 384 := by omega
    have c2 : ¬h.val * 128 + d.val < 256 := by omega
    have c3 : ¬h.val * 128 + d.val < 128 := by omega
    simp only [c1, c2, c3, ↓reduceDIte, zero_add, add_zero]
    exact lane_of C S x r h d (fun z => z * Ideal.ofBits FTy.f32 1035273459#32) (by first | omega | (dsimp only; omega)) (by dsimp only; omega) (by dsimp only; omega) (by dsimp only; omega)
  · have c1 : ¬h.val * 128 + d.val < 384 := by omega
    have c2 : ¬h.val * 128 + d.val < 256 := by omega
    have c3 : ¬h.val * 128 + d.val < 128 := by omega
    simp only [c1, c2, c3, ↓reduceDIte, zero_add, add_zero]
    exact lane_of C S x r h d (fun z => z * Ideal.ofBits FTy.f32 1035273459#32) (by first | omega | (dsimp only; omega)) (by dsimp only; omega) (by dsimp only; omega) (by dsimp only; omega)

end Point

variable (m : (ℓ : Loc nD τ sig) → Buf (Elt Ideal) ℓ) (c : Dev nD)

/-- What a point copies out, of its blocks. -/
theorem flushed6_eq (t : Fin cfg0.N) : (dats m 0 c).flushed 6 t = queries (iblk m c 0 t) (iblk m c 1 t) (iblk m c 4 t) := by
  rw [flushed6]
  unfold_out out0_6
  simp only [View.canon_unit_zero (S := S512x512) Mul.hz, View.ld_unit_zero (S := S512x512) Mul.hz, View.ld_unit_zero (S := S512x128) Mul.hz]
  rfl
theorem flushed7_eq (t : Fin cfg0.N) : (dats m 0 c).flushed 7 t = keys (iblk m c 0 t) (iblk m c 1 t) (iblk m c 5 t) := by
  rw [flushed7]
  unfold_out out0_7
  simp only [View.canon_unit_zero (S := S512x512) Mul.hz, View.ld_unit_zero (S := S512x512) Mul.hz, View.ld_unit_zero (S := S512x128) Mul.hz]
  rfl

/-- Row `r` of the block of point `t`. -/
def row (t : Fin 4) (r : Fin 512) : Fin 2048 := Mul.blocked 512 rfl t r
def pt (t : Fin 4) : Fin cfg0.N := ⟨t.val, lt_of_lt_of_eq t.isLt N_0.symm⟩

theorem index0 : ∀ t : Fin 4, (cfg0.win 0).index (pt t) = ![t.val, 0] := by decide
theorem index1 : ∀ t : Fin 4, (cfg0.win 1).index (pt t) = ![t.val, 0] := by decide
theorem index4 : ∀ t : Fin 4, (cfg0.win 4).index (pt t) = ![t.val, 0] := by decide
theorem index5 : ∀ t : Fin 4, (cfg0.win 5).index (pt t) = ![t.val, 0] := by decide
theorem index6 : ∀ t : Fin 4, (cfg0.win 6).index (pt t) = ![t.val, 0] := by decide
theorem index7 : ∀ t : Fin 4, (cfg0.win 7).index (pt t) = ![t.val, 0] := by decide

theorem emb0 (t : Fin 4) (r : Fin 512) (n : Fin 128) : ((cfg0.win 0).blk (pt t)).view.emb (ix2 r n) = ix2 (row t r) n :=
  Mul.ix2_of_val (Window.rect_emb_val (cfg0.win 0) (pt t) (ix2 r n)) (by rw [index0]; rfl) (by rw [index0]; exact Nat.zero_add _)
theorem emb1 (t : Fin 4) (r : Fin 512) (n : Fin 128) : ((cfg0.win 1).blk (pt t)).view.emb (ix2 r n) = ix2 (row t r) n :=
  Mul.ix2_of_val (Window.rect_emb_val (cfg0.win 1) (pt t) (ix2 r n)) (by rw [index1]; rfl) (by rw [index1]; exact Nat.zero_add _)
theorem emb4 (t : Fin 4) (r : Fin 512) (n : Fin 512) : ((cfg0.win 4).blk (pt t)).view.emb (ix2 r n) = ix2 (row t r) n :=
  Mul.ix2_of_val (Window.rect_emb_val (cfg0.win 4) (pt t) (ix2 r n)) (by rw [index4]; rfl) (by rw [index4]; exact Nat.zero_add _)
theorem emb5 (t : Fin 4) (r : Fin 512) (n : Fin 512) : ((cfg0.win 5).blk (pt t)).view.emb (ix2 r n) = ix2 (row t r) n :=
  Mul.ix2_of_val (Window.rect_emb_val (cfg0.win 5) (pt t) (ix2 r n)) (by rw [index5]; rfl) (by rw [index5]; exact Nat.zero_add _)
theorem emb6 (t : Fin 4) (r : Fin 512) (n : Fin 512) : ((cfg0.win 6).blk (pt t)).view.emb (ix2 r n) = ix2 (row t r) n :=
  Mul.ix2_of_val (Window.rect_emb_val (cfg0.win 6) (pt t) (ix2 r n)) (by rw [index6]; rfl) (by rw [index6]; exact Nat.zero_add _)
theorem emb7 (t : Fin 4) (r : Fin 512) (n : Fin 512) : ((cfg0.win 7).blk (pt t)).view.emb (ix2 r n) = ix2 (row t r) n :=
  Mul.ix2_of_val (Window.rect_emb_val (cfg0.win 7) (pt t) (ix2 r n)) (by rw [index7]; rfl) (by rw [index7]; exact Nat.zero_add _)

/-- The cotangents of the rotated queries and keys, by row, head and lane, as the launch holds them. -/
def q (r : Fin 2048) (h : Fin 4) (d : Fin 128) : EReal := m ((c : Thread nD τ).loc main_arg1) (ix2 r (col h d))
def k (r : Fin 2048) (h : Fin 4) (d : Fin 128) : EReal := m ((c : Thread nD τ).loc main_arg2) (ix2 r (col h d))

theorem blk0 (t : Fin 4) (r : Fin 512) (d : Fin 128) : (iblk m c 0 (pt t) : Vec Ideal S512x128 .f32) (ix2 r d) = cos2 (row t r).val d := by
  refine (congrArg (V m c main_v14) (emb0 t r d)).trans ?_
  entry_read
  unfold cos2 angle
  pointwise
  rfl
theorem blk1 (t : Fin 4) (r : Fin 512) (d : Fin 128) : (iblk m c 1 (pt t) : Vec Ideal S512x128 .f32) (ix2 r d) = sin2 (row t r).val d := by
  refine (congrArg (V m c main_v18) (emb1 t r d)).trans ?_
  entry_read
  unfold sin2 angle
  pointwise
  rfl
theorem blk4 (t : Fin 4) (r : Fin 512) (h : Fin 4) (d : Fin 128) : (iblk m c 4 (pt t) : Vec Ideal S512x512 .f32) (ix2 r (col h d)) = q m c (row t r) h d := by
  refine (congrArg (V m c main_arg1) (emb4 t r (col h d))).trans ?_
  rw [V_main_arg1]; rfl
theorem blk5 (t : Fin 4) (r : Fin 512) (h : Fin 4) (d : Fin 128) : (iblk m c 5 (pt t) : Vec Ideal S512x512 .f32) (ix2 r (col h d)) = k m c (row t r) h d := by
  refine (congrArg (V m c main_arg2) (emb5 t r (col h d))).trans ?_
  rw [V_main_arg2]; rfl

/-- The gradients of the queries and the keys, entry by entry; the keys' cotangent is scaled first. -/
def qAt (r : Fin 2048) (h : Fin 4) (d : Fin 128) : EReal := back r.val (q m c r h) d
def kAt (r : Fin 2048) (h : Fin 4) (d : Fin 128) : EReal := back r.val (fun d => k m c r h d * Ideal.ofBits FTy.f32 1035273459#32) d
def qGrad : Vec Ideal S2048x512 .bf16 := fun i => wide (qAt m c (i 0)) (i 1)
def kGrad : Vec Ideal S2048x512 .bf16 := fun i => wide (kAt m c (i 0)) (i 1)

theorem point (t : Fin cfg0.N) : ∃ s : Fin 4, t = pt s := ⟨⟨t.val, lt_of_lt_of_eq t.isLt N_0⟩, rfl⟩

theorem final6 : (dats m 0 c).arrAt 6 cfg0.N = qGrad m c := by
  refine (dats m 0 c).arrAt_eq_of_cover 6 (qGrad m c) (fun t hf => ?_) fun i => ?_
  · obtain ⟨t, rfl⟩ := point t
    funext y
    obtain ⟨r, n, rfl⟩ : ∃ (r n : Fin 512), y = ix2 r n := ⟨y 0, y 1, (ix2_eta y).symm⟩
    obtain ⟨h, d, rfl⟩ := col_surj n
    rw [flushed6_eq, View.read_apply, emb6]
    refine (queries_apply _ _ _ r h d).trans (Eq.trans ?_ (wide_col (qAt m c (row t r)) h d).symm)
    unfold lane qAt
    rw [blk0, blk1, blk4, blk4]
    exact back_eq _ (q m c (row t r) h) d
  · obtain ⟨r, n, rfl⟩ : ∃ (r : Fin 2048) (n : Fin 512), i = ix2 r n := ⟨i 0, i 1, (ix2_eta i).symm⟩
    obtain ⟨t, r, rfl⟩ := Mul.blocked_surj (n := 2048) (a := 4) 512 rfl (by decide) r
    exact ⟨pt t, flush0_6 _, by rw [show Mul.blocked 512 rfl t r = row t r from rfl, ← emb6]; exact View.emb_mem_set _ _⟩

theorem final7 : (dats m 0 c).arrAt 7 cfg0.N = kGrad m c := by
  refine (dats m 0 c).arrAt_eq_of_cover 7 (kGrad m c) (fun t hf => ?_) fun i => ?_
  · obtain ⟨t, rfl⟩ := point t
    funext y
    obtain ⟨r, n, rfl⟩ : ∃ (r n : Fin 512), y = ix2 r n := ⟨y 0, y 1, (ix2_eta y).symm⟩
    obtain ⟨h, d, rfl⟩ := col_surj n
    rw [flushed7_eq, View.read_apply, emb7]
    refine (keys_apply _ _ _ r h d).trans (Eq.trans ?_ (wide_col (kAt m c (row t r)) h d).symm)
    unfold lane kAt
    rw [blk0, blk1, blk5, blk5, back_eq _ (fun d => k m c (row t r) h d * Ideal.ofBits FTy.f32 1035273459#32) d]
  · obtain ⟨r, n, rfl⟩ : ∃ (r : Fin 2048) (n : Fin 512), i = ix2 r n := ⟨i 0, i 1, (ix2_eta i).symm⟩
    obtain ⟨t, r, rfl⟩ := Mul.blocked_surj (n := 2048) (a := 4) 512 rfl (by decide) r
    exact ⟨pt t, flush0_7 _, by rw [show Mul.blocked 512 rfl t r = row t r from rfl, ← emb7]; exact View.emb_mem_set _ _⟩

theorem frame_ideal : Cert.quiescent_RotBwdIdeal := fun m ρ _ => Cert.RotBwdIdeal.Gen.frame m ρ

theorem defs₀_eq : Cert.RotBwd.defs₀ (F := Bits) = Cert.RotBwdIdeal.defs₀ (F := Bits) := by
  unfold Cert.RotBwd.defs₀ Cert.RotBwdIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_RotBwd := fun m ρ _ => by
  rw [show Cert.RotBwd.defs (F := Bits) = Cert.RotBwdIdeal.defs (F := Bits) from congrArg (Pipeline.defs _) defs₀_eq]
  exact (θ_run Cert.RotBwdIdeal.defs _ _).mono (fun _ h => h) (Cert.RotBwdIdeal.Gen.frame (F := Bits) m ρ)

theorem frame_ref : Cert.quiescent_RotBwdRefIdeal := fun m ρ _ =>
  (θ_run Cert.RotBwdRefIdeal.defs _ _).mono (fun r h => ⟨fun c => (h c).2.2, Idealize.ShloMosaic.sem_eq_zero_of_no_sems (by decide) r.2⟩)
    (Cert.RotBwdRefIdeal.Value.run (F := Ideal) m ρ)

end Cert.RotBwdIdeal.Mm

namespace Cert.RotBwdRefIdeal.Mm

open Cert.RotBwdRefIdeal Cert.RotBwdRefIdeal.Gen Cert.RotBwdRefIdeal.Value Cert.Rotary
open Idealize.ShloMosaic Idealize.ShloMosaic.TcCoe Idealize.SL.Sem Idealize.ShloMosaic.StableHlo

/-- The reference's angles, their cosines and sines for every head, and the rotation by halves. -/
def angles : FVec Ideal S2048x64 .f32 :=
  mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))
def cosines : FVec Ideal S1x2048x4x64 .f32 :=
  broadcastInDim S1x2048x4x64 ![0, 1, 2, 3] bcast_S1x2048x1x64_S1x2048x4x64_0_1_2_3 (broadcastInDim S1x2048x1x64 ![1, 3] bcast_S2048x64_S1x2048x1x64_1_3 (Host.cos angles))
def sines : FVec Ideal S1x2048x4x64 .f32 :=
  broadcastInDim S1x2048x4x64 ![0, 1, 2, 3] bcast_S1x2048x1x64_S1x2048x4x64_0_1_2_3 (broadcastInDim S1x2048x1x64 ![1, 3] bcast_S2048x64_S1x2048x1x64_1_3 (Host.sin angles))
def turned (x : FVec Ideal S1x2048x4x128 .f32) : FVec Ideal S1x2048x4x128 .f32 :=
  addf (pad S1x2048x4x128 ![0, 0, 0, 64] ![0, 0, 0, 0] ![0, 0, 0, 0] (addf (mulf (extractStridedSlice S1x2048x4x64 ![0, 0, 0, 64] x slices_S1x2048x4x128_S1x2048x4x64_0_0_0_64) cosines) (mulf (Host.negf (extractStridedSlice S1x2048x4x64 ![0, 0, 0, 0] x slices_S1x2048x4x128_S1x2048x4x64_0_0_0_0)) sines)) (constant S_ .f32 0x00000000#32) pads_S1x2048x4x64_S1x2048x4x128_000_000_000_6400 h_S_)
    (pad S1x2048x4x128 ![0, 0, 0, 0] ![0, 0, 0, 64] ![0, 0, 0, 0] (addf (mulf (extractStridedSlice S1x2048x4x64 ![0, 0, 0, 64] x slices_S1x2048x4x128_S1x2048x4x64_0_0_0_64) sines) (mulf (extractStridedSlice S1x2048x4x64 ![0, 0, 0, 0] x slices_S1x2048x4x128_S1x2048x4x64_0_0_0_0) cosines)) (constant S_ .f32 0x00000000#32) pads_S1x2048x4x64_S1x2048x4x128_000_000_000_0640 h_S_)

/-- Its two results. -/
def qGrad (x : FVec Ideal S2048x512 .f32) : FVec Ideal S2048x512 .bf16 :=
  truncf .bf16 (shapeCast _ (turned (shapeCast _ x shapeCasts_S2048x512_S1x2048x4x128)) shapeCasts_S1x2048x4x128_S2048x512) bitsLt_bf16_f32
def kGrad (x : FVec Ideal S2048x512 .f32) : FVec Ideal S2048x512 .bf16 :=
  truncf .bf16 (shapeCast _ (turned (mulf (shapeCast _ x shapeCasts_S2048x512_S1x2048x4x128) (broadcastInDim S1x2048x4x128 ![] bcast_S_S1x2048x4x128 (constant S_ .f32 0x3DB504F3#32)))) shapeCasts_S1x2048x4x128_S2048x512) bitsLt_bf16_f32

theorem kGrad_eq (m : (ℓ : Loc nD τ sig) → Buf (Elt Ideal) ℓ) (c : Dev nD) : res_main_v111 m c = kGrad (m ((c.tc : Thread nD τ).loc main_arg2)) := rfl

variable (r : Fin 2048) (h : Fin 4)

theorem cosines_apply (j : Fin 64) : cosines (ix4 0 r h j) = Ideal.cos (angle r.val j.val) := by
  unfold cosines angles angle
  pointwise
theorem sines_apply (j : Fin 64) : sines (ix4 0 r h j) = Ideal.sin (angle r.val j.val) := by
  unfold sines angles angle
  pointwise
theorem turned_apply (x : FVec Ideal S1x2048x4x128 .f32) (d : Fin 128) : turned x (ix4 0 r h d) = back r.val (fun d => x (ix4 0 r h d)) d := by
  have hc := cosines_apply r h
  have hs := sines_apply r h
  unfold turned back
  generalize cosines = C at hc ⊢
  generalize sines = S at hs ⊢
  pointwise
  simp only [hc, hs]
  by_cases hd : d.val < 64
  · rw [dif_pos hd, dif_pos hd, dif_neg (fun h => absurd h.1 (by omega)), zero_add]
  · rw [dif_neg hd, dif_neg hd, dif_pos ⟨by omega, by omega⟩, add_zero,
      show (⟨64 + (d.val - 64), by omega⟩ : Fin 128) = d from Fin.ext (by show 64 + (d.val - 64) = d.val; omega)]

theorem qGrad_apply (x : FVec Ideal S2048x512 .f32) (n : Fin 512) :
    qGrad x (ix2 r n) = wide (fun h => back r.val fun d => x (ix2 r (col h d))) n := by
  unfold qGrad wide
  have ht := fun y h d => turned_apply r h y d
  generalize turned = T at ht ⊢
  pointwise
  rw [ht]
  pointwise
  rfl
theorem kGrad_apply (x : FVec Ideal S2048x512 .f32) (n : Fin 512) :
    kGrad x (ix2 r n) = wide (fun h d => back r.val (fun d => x (ix2 r (col h d)) * Ideal.ofBits FTy.f32 1035273459#32) d) n := by
  unfold kGrad wide
  have ht := fun y h d => turned_apply r h y d
  generalize turned = T at ht ⊢
  pointwise
  rw [ht]
  pointwise
  rfl

end Cert.RotBwdRefIdeal.Mm

namespace Cert.RotBwdIdeal.Mm

open Cert.RotBwdIdeal Cert.RotBwdIdeal.Gen Cert.RotBwdIdeal.Value
open Idealize.ShloMosaic Idealize.ShloMosaic.TcCoe Idealize.SL.Sem

/-- The call computes the rotation's gradient. -/
theorem algebraic : Cert.algebraic_RotBwdIdeal_RotBwdRefIdeal := by
  intro m g m' g' _ hargs
  refine ⟨fun c => qGrad m c, fun c => kGrad m c, ?_, ?_⟩
  · exact (θ_run Cert.RotBwdIdeal.defs _ _).mono (fun r h c => ⟨(h c).1.trans (final6 m c), (h c).2.1.trans (final7 m c), (h c).2.2⟩) (run_blocks m g)
  · refine (θ_run Cert.RotBwdRefIdeal.defs _ _).mono (fun r h c => ⟨(h c).1.trans ?_, (h c).2.1.trans ?_, (h c).2.2⟩)
      (Cert.RotBwdRefIdeal.Value.run (F := Ideal) m' g')
    · obtain ⟨-, h1, -⟩ := hargs c
      rw [h1]
      funext y
      obtain ⟨r, n, rfl⟩ : ∃ (r : Fin 2048) (n : Fin 512), y = ix2 r n := ⟨y 0, y 1, (ix2_eta y).symm⟩
      exact Cert.RotBwdRefIdeal.Mm.qGrad_apply r _ n
    · obtain ⟨-, -, h2⟩ := hargs c
      rw [Cert.RotBwdRefIdeal.Mm.kGrad_eq, h2]
      funext y
      obtain ⟨r, n, rfl⟩ : ∃ (r : Fin 2048) (n : Fin 512), y = ix2 r n := ⟨y 0, y 1, (ix2_eta y).symm⟩
      exact Cert.RotBwdRefIdeal.Mm.kGrad_apply r _ n

end Cert.RotBwdIdeal.Mm

end
-- ==== Proof.Rot.lean ====
/-
  The rotation of the retention's queries and keys, forward: a point takes 512 rows and turns each head's lanes by the row's
  angles.
-/
module

public import proofs.«01_k».proof.Defs
public import proofs.«01_k».proof.Proof.Gen.RotIdeal.Value
public import proofs.«01_k».proof.Proof.Gen.RotRefIdeal.Run
public import proofs.«01_k».proof.Proof.Gen.Rot
public import proofs.«01_k».proof.Proof.Rotary
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.RotIdeal.Mm

open Cert.RotIdeal Cert.RotIdeal.Gen Cert.RotIdeal.Value Cert.Rotary
open Idealize.ShloMosaic Idealize.ShloMosaic.TcCoe Idealize.SL.Sem
open Idealize.ShloMosaic.Pipeline (Dat Window)

section Point

variable (C S : Vec Ideal S512x128 .f32) (x : Vec Ideal S512x512 .f32) (r : Fin 512) (h : Fin 4) (d : Fin 128)

/-- A point's two blocks, of the cosines, the sines and the lanes. -/
def queries : FVec Ideal S512x512 .f32 := k0_pay1 (k0_pay3 C) (k0_pay4 S) x (k0_pay5 C S x) (k0_pay7 C S x) (k0_pay9 C S x)
def keys : FVec Ideal S512x512 .f32 := k0_pay2 (k0_pay3 C) (k0_pay4 S) x (k0_pay6 C S x) (k0_pay8 C S x) (k0_pay10 C S x)

/-- A lane's rotated value, from the lane, its partner, the cosine and the sine. -/
def lane : EReal := x (ix2 r (col h d)) * C (ix2 r d) + x (ix2 r (col h (swap d))) * S (ix2 r d)

theorem lane_of {a b : Fin 512} {e f : Fin 128} (ha : a.val = h.val * 128 + d.val) (he : e.val = d.val)
    (hb : b.val = h.val * 128 + (d.val + 128 - 64) % 128) (hf : f.val = d.val) :
    (x (ix2 r a) * C (ix2 r e) + x (ix2 r b) * S (ix2 r f) : EReal) = lane C S x r h d := by
  obtain rfl : a = col h d := Fin.ext ha
  obtain rfl : e = d := Fin.ext he
  obtain rfl : b = col h (swap e) := Fin.ext hb
  obtain rfl : f = e := Fin.ext hf
  rfl

theorem queries_apply : queries C S x (ix2 r (col h d)) = lane C S x r h d := by
  unfold queries k0_pay1 k0_pay5 k0_pay7 k0_pay9 k0_pay3 k0_pay4
  pointwise
  have e : (col h d).val = h.val * 128 + d.val := rfl
  simp only [e]
  obtain ⟨h, hh⟩ := h
  rcases h with _ | _ | _ | _ | h
  · rw [dif_pos (by simp)]
    exact lane_of C S x r _ d (by simp [col]) (by simp) (by simp) (by simp)
  · rw [dif_neg (by simp), dif_pos (by simp)]
    exact lane_of C S x r _ d (by simp) (by simp) (by simp) (by simp)
  · rw [dif_neg (by simp; omega), dif_neg (by simp; omega), dif_pos (by simp; omega)]
    exact lane_of C S x r _ d (by simp; omega) (by simp; omega) (by simp; omega) (by simp; omega)
  · rw [dif_neg (by simp; omega), dif_neg (by simp; omega), dif_neg (by simp; omega)]
    exact lane_of C S x r _ d (by simp; omega) (by simp; omega) (by simp; omega) (by simp; omega)
  · omega

theorem keys_apply : keys C S x (ix2 r (col h d)) = lane C S x r h d * Ideal.ofBits FTy.f32 1035273459#32 := by
  unfold keys k0_pay2 k0_pay6 k0_pay8 k0_pay10 k0_pay3 k0_pay4
  pointwise
  have e : (col h d).val = h.val * 128 + d.val := rfl
  simp only [e]
  obtain ⟨h, hh⟩ := h
  rcases h with _ | _ | _ | _ | h
  · rw [dif_pos (by simp), lane_of C S x r ⟨0, hh⟩ d (by simp [col]) (by simp) (by simp) (by simp)]
  · rw [dif_neg (by simp), dif_pos (by simp), lane_of C S x r ⟨0 + 1, hh⟩ d (by simp) (by simp) (by simp) (by simp)]
  · rw [dif_neg (by simp; omega), dif_neg (by simp; omega), dif_pos (by simp; omega),
      lane_of C S x r ⟨0 + 1 + 1, hh⟩ d (by simp; omega) (by simp; omega) (by simp; omega) (by simp; omega)]
  · rw [dif_neg (by simp; omega), dif_neg (by simp; omega), dif_neg (by simp; omega),
      lane_of C S x r ⟨0 + 1 + 1 + 1, hh⟩ d (by simp; omega) (by simp; omega) (by simp; omega) (by simp; omega)]
  · omega

end Point

variable (m : (ℓ : Loc nD τ sig) → Buf (Elt Ideal) ℓ) (c : Dev nD)

/-- What a point copies out, of its blocks. -/
theorem flushed4_eq (t : Fin cfg0.N) : (dats m 0 c).flushed 4 t = queries (iblk m c 0 t) (iblk m c 1 t) (iblk m c 2 t) := by
  rw [flushed4]
  unfold_out out0_4
  simp only [View.canon_unit_zero (S := S512x512) Mul.hz, View.ld_unit_zero (S := S512x512) Mul.hz, View.ld_unit_zero (S := S512x128) Mul.hz]
  rfl
theorem flushed5_eq (t : Fin cfg0.N) : (dats m 0 c).flushed 5 t = keys (iblk m c 0 t) (iblk m c 1 t) (iblk m c 3 t) := by
  rw [flushed5]
  unfold_out out0_5
  simp only [View.canon_unit_zero (S := S512x512) Mul.hz, View.ld_unit_zero (S := S512x512) Mul.hz, View.ld_unit_zero (S := S512x128) Mul.hz]
  rfl

/-- Row `r` of the block of point `t`. -/
def row (t : Fin 4) (r : Fin 512) : Fin 2048 := Mul.blocked 512 rfl t r
def pt (t : Fin 4) : Fin cfg0.N := ⟨t.val, lt_of_lt_of_eq t.isLt N_0.symm⟩

theorem index0 : ∀ t : Fin 4, (cfg0.win 0).index (pt t) = ![t.val, 0] := by decide
theorem index1 : ∀ t : Fin 4, (cfg0.win 1).index (pt t) = ![t.val, 0] := by decide
theorem index2 : ∀ t : Fin 4, (cfg0.win 2).index (pt t) = ![t.val, 3] := by decide
theorem index3 : ∀ t : Fin 4, (cfg0.win 3).index (pt t) = ![t.val, 4] := by decide
theorem index4 : ∀ t : Fin 4, (cfg0.win 4).index (pt t) = ![t.val, 0] := by decide
theorem index5 : ∀ t : Fin 4, (cfg0.win 5).index (pt t) = ![t.val, 0] := by decide

/-- The queries' and the keys' lanes among the projection's. -/
def atQ (n : Fin 512) : Fin 3584 := ⟨1536 + n.val, by omega⟩
def atK (n : Fin 512) : Fin 3584 := ⟨2048 + n.val, by omega⟩

theorem emb0 (t : Fin 4) (r : Fin 512) (n : Fin 128) : ((cfg0.win 0).blk (pt t)).view.emb (ix2 r n) = ix2 (row t r) n :=
  Mul.ix2_of_val (Window.rect_emb_val (cfg0.win 0) (pt t) (ix2 r n)) (by rw [index0]; rfl) (by rw [index0]; exact Nat.zero_add _)
theorem emb1 (t : Fin 4) (r : Fin 512) (n : Fin 128) : ((cfg0.win 1).blk (pt t)).view.emb (ix2 r n) = ix2 (row t r) n :=
  Mul.ix2_of_val (Window.rect_emb_val (cfg0.win 1) (pt t) (ix2 r n)) (by rw [index1]; rfl) (by rw [index1]; exact Nat.zero_add _)
theorem emb2 (t : Fin 4) (r : Fin 512) (n : Fin 512) : ((cfg0.win 2).blk (pt t)).view.emb (ix2 r n) = ix2 (row t r) (atQ n) :=
  Mul.ix2_of_val (Window.rect_emb_val (cfg0.win 2) (pt t) (ix2 r n)) (by rw [index2]; rfl) (by rw [index2]; rfl)
theorem emb3 (t : Fin 4) (r : Fin 512) (n : Fin 512) : ((cfg0.win 3).blk (pt t)).view.emb (ix2 r n) = ix2 (row t r) (atK n) :=
  Mul.ix2_of_val (Window.rect_emb_val (cfg0.win 3) (pt t) (ix2 r n)) (by rw [index3]; rfl) (by rw [index3]; rfl)
theorem emb4 (t : Fin 4) (r : Fin 512) (n : Fin 512) : ((cfg0.win 4).blk (pt t)).view.emb (ix2 r n) = ix2 (row t r) n :=
  Mul.ix2_of_val (Window.rect_emb_val (cfg0.win 4) (pt t) (ix2 r n)) (by rw [index4]; rfl) (by rw [index4]; exact Nat.zero_add _)
theorem emb5 (t : Fin 4) (r : Fin 512) (n : Fin 512) : ((cfg0.win 5).blk (pt t)).view.emb (ix2 r n) = ix2 (row t r) n :=
  Mul.ix2_of_val (Window.rect_emb_val (cfg0.win 5) (pt t) (ix2 r n)) (by rw [index5]; rfl) (by rw [index5]; exact Nat.zero_add _)

/-- The queries and the keys, by row, head and lane, as the launch holds them. -/
def q (r : Fin 2048) (h : Fin 4) (d : Fin 128) : EReal := m ((c : Thread nD τ).loc main_arg0) (ix2 r (atQ (col h d)))
def k (r : Fin 2048) (h : Fin 4) (d : Fin 128) : EReal := m ((c : Thread nD τ).loc main_arg0) (ix2 r (atK (col h d)))

theorem blk0 (t : Fin 4) (r : Fin 512) (d : Fin 128) : (iblk m c 0 (pt t) : Vec Ideal S512x128 .f32) (ix2 r d) = cos2 (row t r).val d := by
  refine (congrArg (V m c main_v14) (emb0 t r d)).trans ?_
  entry_read
  unfold cos2 angle
  pointwise
  rfl
theorem blk1 (t : Fin 4) (r : Fin 512) (d : Fin 128) : (iblk m c 1 (pt t) : Vec Ideal S512x128 .f32) (ix2 r d) = sin2 (row t r).val d := by
  refine (congrArg (V m c main_v18) (emb1 t r d)).trans ?_
  entry_read
  unfold sin2 angle
  pointwise
  rfl
theorem blk2 (t : Fin 4) (r : Fin 512) (h : Fin 4) (d : Fin 128) : (iblk m c 2 (pt t) : Vec Ideal S512x512 .f32) (ix2 r (col h d)) = q m c (row t r) h d := by
  refine (congrArg (V m c main_arg0) (emb2 t r (col h d))).trans ?_
  rw [V_main_arg0]; rfl
theorem blk3 (t : Fin 4) (r : Fin 512) (h : Fin 4) (d : Fin 128) : (iblk m c 3 (pt t) : Vec Ideal S512x512 .f32) (ix2 r (col h d)) = k m c (row t r) h d := by
  refine (congrArg (V m c main_arg0) (emb3 t r (col h d))).trans ?_
  rw [V_main_arg0]; rfl

/-- The rotated queries and the rotated and scaled keys, entry by entry. -/
def qAt (r : Fin 2048) (h : Fin 4) (d : Fin 128) : EReal := turn r.val (q m c r h) d
def kAt (r : Fin 2048) (h : Fin 4) (d : Fin 128) : EReal := turn r.val (k m c r h) d * Ideal.ofBits FTy.f32 1035273459#32
def qRot : Vec Ideal S2048x512 .f32 := fun i => wide (qAt m c (i 0)) (i 1)
def kRot : Vec Ideal S2048x512 .f32 := fun i => wide (kAt m c (i 0)) (i 1)

theorem point (t : Fin cfg0.N) : ∃ s : Fin 4, t = pt s := ⟨⟨t.val, lt_of_lt_of_eq t.isLt N_0⟩, rfl⟩

theorem final4 : (dats m 0 c).arrAt 4 cfg0.N = qRot m c := by
  refine (dats m 0 c).arrAt_eq_of_cover 4 (qRot m c) (fun t hf => ?_) fun i => ?_
  · obtain ⟨t, rfl⟩ := point t
    funext y
    obtain ⟨r, n, rfl⟩ : ∃ (r n : Fin 512), y = ix2 r n := ⟨y 0, y 1, (ix2_eta y).symm⟩
    obtain ⟨h, d, rfl⟩ := col_surj n
    rw [flushed4_eq, View.read_apply, emb4]
    refine (queries_apply _ _ _ r h d).trans (Eq.trans ?_ (wide_col (qAt m c (row t r)) h d).symm)
    unfold lane qAt
    rw [blk0, blk1, blk2, blk2]
    exact turn_eq _ (q m c (row t r) h) d
  · obtain ⟨r, n, rfl⟩ : ∃ (r : Fin 2048) (n : Fin 512), i = ix2 r n := ⟨i 0, i 1, (ix2_eta i).symm⟩
    obtain ⟨t, r, rfl⟩ := Mul.blocked_surj (n := 2048) (a := 4) 512 rfl (by decide) r
    exact ⟨pt t, flush0_4 _, by rw [show Mul.blocked 512 rfl t r = row t r from rfl, ← emb4]; exact View.emb_mem_set _ _⟩

theorem final5 : (dats m 0 c).arrAt 5 cfg0.N = kRot m c := by
  refine (dats m 0 c).arrAt_eq_of_cover 5 (kRot m c) (fun t hf => ?_) fun i => ?_
  · obtain ⟨t, rfl⟩ := point t
    funext y
    obtain ⟨r, n, rfl⟩ : ∃ (r n : Fin 512), y = ix2 r n := ⟨y 0, y 1, (ix2_eta y).symm⟩
    obtain ⟨h, d, rfl⟩ := col_surj n
    rw [flushed5_eq, View.read_apply, emb5]
    refine (keys_apply _ _ _ r h d).trans (Eq.trans ?_ (wide_col (kAt m c (row t r)) h d).symm)
    unfold lane kAt
    rw [blk0, blk1, blk3, blk3, turn_eq _ (k m c (row t r) h) d]
  · obtain ⟨r, n, rfl⟩ : ∃ (r : Fin 2048) (n : Fin 512), i = ix2 r n := ⟨i 0, i 1, (ix2_eta i).symm⟩
    obtain ⟨t, r, rfl⟩ := Mul.blocked_surj (n := 2048) (a := 4) 512 rfl (by decide) r
    exact ⟨pt t, flush0_5 _, by rw [show Mul.blocked 512 rfl t r = row t r from rfl, ← emb5]; exact View.emb_mem_set _ _⟩

theorem frame_ideal : Cert.quiescent_RotIdeal := fun m ρ _ => Cert.RotIdeal.Gen.frame m ρ

theorem defs₀_eq : Cert.Rot.defs₀ (F := Bits) = Cert.RotIdeal.defs₀ (F := Bits) := by
  unfold Cert.Rot.defs₀ Cert.RotIdeal.defs₀
  refine congrArg Idealize.ShloMosaic.Defs.onTc ?_
  funext ℓ a
  match ℓ, a with
  | 0, (t, s) => rfl
  | ⟨_ + 1, h⟩, _ => exact absurd h (by omega)

theorem frame_bits : Cert.quiescent_Rot := fun m ρ _ => by
  rw [show Cert.Rot.defs (F := Bits) = Cert.RotIdeal.defs (F := Bits) from congrArg (Pipeline.defs _) defs₀_eq]
  exact (θ_run Cert.RotIdeal.defs _ _).mono (fun _ h => h) (Cert.RotIdeal.Gen.frame (F := Bits) m ρ)

theorem frame_ref : Cert.quiescent_RotRefIdeal := fun m ρ _ =>
  (θ_run Cert.RotRefIdeal.defs _ _).mono (fun r h => ⟨fun c => (h c).2.2, Idealize.ShloMosaic.sem_eq_zero_of_no_sems (by decide) r.2⟩)
    (Cert.RotRefIdeal.Value.run (F := Ideal) m ρ)

end Cert.RotIdeal.Mm

namespace Cert.RotRefIdeal.Mm

open Cert.RotRefIdeal Cert.RotRefIdeal.Gen Cert.RotRefIdeal.Value Cert.Rotary
open Idealize.ShloMosaic Idealize.ShloMosaic.TcCoe Idealize.SL.Sem Idealize.ShloMosaic.StableHlo

/-- The reference's angles, their cosines and sines for every head, and the rotation by halves. -/
def angles : FVec Ideal S2048x64 .f32 :=
  mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))
def cosines : FVec Ideal S1x2048x4x64 .f32 :=
  broadcastInDim S1x2048x4x64 ![0, 1, 2, 3] bcast_S1x2048x1x64_S1x2048x4x64_0_1_2_3 (broadcastInDim S1x2048x1x64 ![1, 3] bcast_S2048x64_S1x2048x1x64_1_3 (Host.cos angles))
def sines : FVec Ideal S1x2048x4x64 .f32 :=
  broadcastInDim S1x2048x4x64 ![0, 1, 2, 3] bcast_S1x2048x1x64_S1x2048x4x64_0_1_2_3 (broadcastInDim S1x2048x1x64 ![1, 3] bcast_S2048x64_S1x2048x1x64_1_3 (Host.sin angles))
def turned (x : FVec Ideal S1x2048x4x128 .f32) : FVec Ideal S1x2048x4x128 .f32 :=
  concatenate S1x2048x4x128 3 [⟨S1x2048x4x64, (subf (mulf (extractStridedSlice S1x2048x4x64 ![0, 0, 0, 0] x slices_S1x2048x4x128_S1x2048x4x64_0_0_0_0) cosines) (mulf (extractStridedSlice S1x2048x4x64 ![0, 0, 0, 64] x slices_S1x2048x4x128_S1x2048x4x64_0_0_0_64) sines))⟩,
    ⟨S1x2048x4x64, (addf (mulf (extractStridedSlice S1x2048x4x64 ![0, 0, 0, 0] x slices_S1x2048x4x128_S1x2048x4x64_0_0_0_0) sines) (mulf (extractStridedSlice S1x2048x4x64 ![0, 0, 0, 64] x slices_S1x2048x4x128_S1x2048x4x64_0_0_0_64) cosines))⟩] concatenates_S1x2048x4x64_S1x2048x4x64_S1x2048x4x128_d3

/-- Its two results. -/
def qRot (x : FVec Ideal S2048x3584 .f32) : FVec Ideal S2048x512 .f32 :=
  shapeCast _ (turned (shapeCast _ (extractStridedSlice S2048x512 ![0, 1536] x slices_S2048x3584_S2048x512_0_1536) shapeCasts_S2048x512_S1x2048x4x128)) shapeCasts_S1x2048x4x128_S2048x512
def kRot (x : FVec Ideal S2048x3584 .f32) : FVec Ideal S2048x512 .f32 :=
  shapeCast _ (mulf (turned (shapeCast _ (extractStridedSlice S2048x512 ![0, 2048] x slices_S2048x3584_S2048x512_0_2048) shapeCasts_S2048x512_S1x2048x4x128)) (broadcastInDim S1x2048x4x128 ![] bcast_S_S1x2048x4x128 (constant S_ .f32 0x3DB504F3#32))) shapeCasts_S1x2048x4x128_S2048x512

variable (r : Fin 2048) (h : Fin 4)

theorem cosines_apply (j : Fin 64) : cosines (ix4 0 r h j) = Ideal.cos (angle r.val j.val) := by
  unfold cosines angles angle
  pointwise
theorem sines_apply (j : Fin 64) : sines (ix4 0 r h j) = Ideal.sin (angle r.val j.val) := by
  unfold sines angles angle
  pointwise
theorem turned_apply (x : FVec Ideal S1x2048x4x128 .f32) (d : Fin 128) : turned x (ix4 0 r h d) = turn r.val (fun d => x (ix4 0 r h d)) d := by
  have hc := cosines_apply r h
  have hs := sines_apply r h
  unfold turned turn
  generalize cosines = C at hc ⊢
  generalize sines = S at hs ⊢
  pointwise
  simp only [hc, hs]
  by_cases hd : d.val < 64
  · rw [dif_pos hd, dif_pos hd]
  · rw [dif_neg hd, dif_neg hd, show (⟨64 + (d.val - 64), by omega⟩ : Fin 128) = d from Fin.ext (by show 64 + (d.val - 64) = d.val; omega)]

theorem qRot_apply (x : FVec Ideal S2048x3584 .f32) (n : Fin 512) :
    qRot x (ix2 r n) = wide (fun h => turn r.val fun d => x (ix2 r (Cert.RotIdeal.Mm.atQ (col h d)))) n := by
  unfold qRot wide
  have ht := fun y h d => turned_apply r h y d
  generalize turned = T at ht ⊢
  pointwise
  rw [ht]
  pointwise
  rfl
theorem kRot_apply (x : FVec Ideal S2048x3584 .f32) (n : Fin 512) :
    kRot x (ix2 r n) = wide (fun h d => turn r.val (fun d => x (ix2 r (Cert.RotIdeal.Mm.atK (col h d)))) d * Ideal.ofBits FTy.f32 1035273459#32) n := by
  unfold kRot wide
  have ht := fun y h d => turned_apply r h y d
  generalize turned = T at ht ⊢
  pointwise
  rw [ht]
  pointwise
  rfl

end Cert.RotRefIdeal.Mm

namespace Cert.RotIdeal.Mm

open Cert.RotIdeal Cert.RotIdeal.Gen Cert.RotIdeal.Value
open Idealize.ShloMosaic Idealize.ShloMosaic.TcCoe Idealize.SL.Sem

/-- The call computes the rotation. -/
theorem algebraic : Cert.algebraic_RotIdeal_RotRefIdeal := by
  intro m g m' g' _ hargs
  refine ⟨fun c => qRot m c, fun c => kRot m c, ?_, ?_⟩
  · exact (θ_run Cert.RotIdeal.defs _ _).mono (fun r h c => ⟨(h c).1.trans (final4 m c), (h c).2.1.trans (final5 m c), (h c).2.2⟩) (run_blocks m g)
  · refine (θ_run Cert.RotRefIdeal.defs _ _).mono (fun r h c => ⟨(h c).1.trans ?_, (h c).2.1.trans ?_, (h c).2.2⟩)
      (Cert.RotRefIdeal.Value.run (F := Ideal) m' g')
    · have h0 := hargs c
      rw [h0]
      funext y
      obtain ⟨r, n, rfl⟩ : ∃ (r : Fin 2048) (n : Fin 512), y = ix2 r n := ⟨y 0, y 1, (ix2_eta y).symm⟩
      exact Cert.RotRefIdeal.Mm.qRot_apply r _ n
    · have h0 := hargs c
      rw [h0]
      funext y
      obtain ⟨r, n, rfl⟩ : ∃ (r : Fin 2048) (n : Fin 512), y = ix2 r n := ⟨y 0, y 1, (ix2_eta y).symm⟩
      exact Cert.RotRefIdeal.Mm.kRot_apply r _ n

end Cert.RotIdeal.Mm

end
-- ==== Proof.lean ====
/-
  The certificate: the retention gradient, and the matrix products and the gated convolution of the step, forward and backward. Of each program: its frames, that the ideal
  program is the program, and that it computes what its reference does.
-/
module

public import proofs.«01_k».proof.Defs
public import proofs.«01_k».proof.Proof.Frames
public import proofs.«01_k».proof.Proof.Algebraic
public import proofs.«01_k».proof.Proof.Gen.ReferenceIdeal.Run
public import proofs.«01_k».proof.Proof.DownDx
public import proofs.«01_k».proof.Proof.DownDw
public import proofs.«01_k».proof.Proof.GateDx
public import proofs.«01_k».proof.Proof.UpDx
public import proofs.«01_k».proof.Proof.GateDw
public import proofs.«01_k».proof.Proof.OutDx
public import proofs.«01_k».proof.Proof.OutDw
public import proofs.«01_k».proof.Proof.InDw
public import proofs.«01_k».proof.Proof.Down
public import proofs.«01_k».proof.Proof.Gate
public import proofs.«01_k».proof.Proof.Out
public import proofs.«01_k».proof.Proof.In
public import proofs.«01_k».proof.Proof.GluBwd
public import proofs.«01_k».proof.Proof.Gen.RetIdeal.Value
public import proofs.«01_k».proof.Proof.Gen.Ret
public import proofs.«01_k».proof.Proof.Gen.RetIdeal
public import proofs.«01_k».proof.Proof.Gen.RetRefIdeal.Run
public import proofs.«01_k».proof.Proof.Glu
public import proofs.«01_k».proof.Proof.Gen.GluBwdIdeal.Value
public import proofs.«01_k».proof.Proof.Gen.GluBwdRefIdeal.Run
public import proofs.«01_k».proof.Proof.Gen.GluIdeal.Value
public import proofs.«01_k».proof.Proof.Gen.GluRefIdeal.Run
public import proofs.«01_k».proof.Proof.RetClaim
public import proofs.«01_k».proof.Proof.NormBwd
public import proofs.«01_k».proof.Proof.Norm
public import proofs.«01_k».proof.Proof.RotBwd
public import proofs.«01_k».proof.Proof.Rot
public import proofs.«01_k».proof.Proof.Gen.NormBwdIdeal.Value
public import proofs.«01_k».proof.Proof.Gen.NormBwd
public import proofs.«01_k».proof.Proof.Gen.NormBwdIdeal
public import proofs.«01_k».proof.Proof.Gen.NormBwdRefIdeal.Run
public import proofs.«01_k».proof.Proof.Gen.NormIdeal.Value
public import proofs.«01_k».proof.Proof.Gen.Norm
public import proofs.«01_k».proof.Proof.Gen.NormIdeal
public import proofs.«01_k».proof.Proof.Gen.NormRefIdeal.Run
public import proofs.«01_k».proof.Proof.Gen.RotBwdIdeal.Value
public import proofs.«01_k».proof.Proof.Gen.RotBwd
public import proofs.«01_k».proof.Proof.Gen.RotBwdIdeal
public import proofs.«01_k».proof.Proof.Gen.RotBwdRefIdeal.Run
public import proofs.«01_k».proof.Proof.Gen.RotIdeal.Value
public import proofs.«01_k».proof.Proof.Gen.Rot
public import proofs.«01_k».proof.Proof.Gen.RotIdeal
public import proofs.«01_k».proof.Proof.Gen.RotRefIdeal.Run

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.DownDx.Gen.facts,
  Cert.DownDxIdeal.Gen.facts, Cert.DownDxRefIdeal.Gen.facts, Cert.DownDw.Gen.facts, Cert.DownDwIdeal.Gen.facts,
  Cert.DownDwRefIdeal.Gen.facts, Cert.GateDx.Gen.facts, Cert.GateDxIdeal.Gen.facts, Cert.GateDxRefIdeal.Gen.facts,
  Cert.UpDx.Gen.facts, Cert.UpDxIdeal.Gen.facts, Cert.UpDxRefIdeal.Gen.facts, Cert.GateDw.Gen.facts, Cert.GateDwIdeal.Gen.facts,
  Cert.GateDwRefIdeal.Gen.facts, Cert.OutDx.Gen.facts, Cert.OutDxIdeal.Gen.facts, Cert.OutDxRefIdeal.Gen.facts,
  Cert.OutDw.Gen.facts, Cert.OutDwIdeal.Gen.facts, Cert.OutDwRefIdeal.Gen.facts, Cert.InDw.Gen.facts, Cert.InDwIdeal.Gen.facts,
  Cert.InDwRefIdeal.Gen.facts, Cert.Down.Gen.facts, Cert.DownIdeal.Gen.facts, Cert.DownRefIdeal.Gen.facts, Cert.Gate.Gen.facts,
  Cert.GateIdeal.Gen.facts, Cert.GateRefIdeal.Gen.facts, Cert.Out.Gen.facts, Cert.OutIdeal.Gen.facts, Cert.OutRefIdeal.Gen.facts,
  Cert.In.Gen.facts, Cert.InIdeal.Gen.facts, Cert.InRefIdeal.Gen.facts, Cert.GluBwd.Gen.facts,
  Cert.GluBwdIdeal.Gen.facts, Cert.GluBwdRefIdeal.Gen.facts, Cert.Glu.Gen.facts, Cert.GluIdeal.Gen.facts, Cert.GluRefIdeal.Gen.facts,
  Cert.Ret.Gen.facts, Cert.RetIdeal.Gen.facts, Cert.RetRefIdeal.Gen.facts,
  Cert.NormBwd.Gen.facts, Cert.NormBwdIdeal.Gen.facts, Cert.NormBwdRefIdeal.Gen.facts,
  Cert.Norm.Gen.facts, Cert.NormIdeal.Gen.facts, Cert.NormRefIdeal.Gen.facts,
  Cert.RotBwd.Gen.facts, Cert.RotBwdIdeal.Gen.facts, Cert.RotBwdRefIdeal.Gen.facts,
  Cert.Rot.Gen.facts, Cert.RotIdeal.Gen.facts, Cert.RotRefIdeal.Gen.facts,
  Cert.Retention.pre_facts, Cert.GluBwdIdeal.Mm.pre_facts, Cert.RetIdeal.Mm.pre_facts,
  Cert.Retention.frame_kernel, Cert.Retention.frame_kernelIdeal, fun m ρ _ => Cert.Retention.frame_kernelIdeal m ρ trivial,
  Cert.Retention.frame_reference, fun m ρ _ => Cert.Retention.frame_reference m ρ trivial,
  Cert.DownDxIdeal.Mm.frame_bits, Cert.DownDxIdeal.Mm.frame_ideal, Cert.DownDxIdeal.Mm.frame_ref,
  Cert.DownDwIdeal.Mm.frame_bits, Cert.DownDwIdeal.Mm.frame_ideal, Cert.DownDwIdeal.Mm.frame_ref,
  Cert.GateDxIdeal.Mm.frame_bits, Cert.GateDxIdeal.Mm.frame_ideal, Cert.GateDxIdeal.Mm.frame_ref,
  Cert.UpDxIdeal.Mm.frame_bits, Cert.UpDxIdeal.Mm.frame_ideal, Cert.UpDxIdeal.Mm.frame_ref,
  Cert.GateDwIdeal.Mm.frame_bits, Cert.GateDwIdeal.Mm.frame_ideal, Cert.GateDwIdeal.Mm.frame_ref,
  Cert.OutDxIdeal.Mm.frame_bits, Cert.OutDxIdeal.Mm.frame_ideal, Cert.OutDxIdeal.Mm.frame_ref,
  Cert.OutDwIdeal.Mm.frame_bits, Cert.OutDwIdeal.Mm.frame_ideal, Cert.OutDwIdeal.Mm.frame_ref,
  Cert.InDwIdeal.Mm.frame_bits, Cert.InDwIdeal.Mm.frame_ideal, Cert.InDwIdeal.Mm.frame_ref,
  Cert.DownIdeal.Mm.frame_bits, Cert.DownIdeal.Mm.frame_ideal, Cert.DownIdeal.Mm.frame_ref,
  Cert.GateIdeal.Mm.frame_bits, Cert.GateIdeal.Mm.frame_ideal, Cert.GateIdeal.Mm.frame_ref,
  Cert.OutIdeal.Mm.frame_bits, Cert.OutIdeal.Mm.frame_ideal, Cert.OutIdeal.Mm.frame_ref,
  Cert.InIdeal.Mm.frame_bits, Cert.InIdeal.Mm.frame_ideal, Cert.InIdeal.Mm.frame_ref,
  Cert.GluBwdIdeal.Mm.frame_bits, Cert.GluBwdIdeal.Mm.frame_ideal, Cert.GluBwdIdeal.Mm.frame_ideal_pre,
  Cert.GluBwdIdeal.Mm.frame_ref, Cert.GluBwdIdeal.Mm.frame_ref_pre,
  Cert.GluIdeal.Mm.frame_bits, Cert.GluIdeal.Mm.frame_ideal, Cert.GluIdeal.Mm.frame_ref,
  Cert.RetIdeal.Mm.frame_bits, Cert.RetIdeal.Mm.frame_ideal, Cert.RetIdeal.Mm.frame_ideal_pre,
  Cert.RetIdeal.Mm.frame_ref, Cert.RetIdeal.Mm.frame_ref_pre,
  Cert.NormBwdIdeal.Mm.frame_bits, Cert.NormBwdIdeal.Mm.frame_ideal, Cert.NormBwdIdeal.Mm.frame_ref,
  Cert.NormIdeal.Mm.frame_bits, Cert.NormIdeal.Mm.frame_ideal, Cert.NormIdeal.Mm.frame_ref,
  Cert.RotBwdIdeal.Mm.frame_bits, Cert.RotBwdIdeal.Mm.frame_ideal, Cert.RotBwdIdeal.Mm.frame_ref,
  Cert.RotIdeal.Mm.frame_bits, Cert.RotIdeal.Mm.frame_ideal, Cert.RotIdeal.Mm.frame_ref,
  trivial, Cert.Retention.algebraic,
  trivial, Cert.DownDxIdeal.Mm.algebraic,
  trivial, Cert.DownDwIdeal.Mm.algebraic,
  trivial, Cert.GateDxIdeal.Mm.algebraic,
  trivial, Cert.UpDxIdeal.Mm.algebraic,
  trivial, Cert.GateDwIdeal.Mm.algebraic,
  trivial, Cert.OutDxIdeal.Mm.algebraic,
  trivial, Cert.OutDwIdeal.Mm.algebraic,
  trivial, Cert.InDwIdeal.Mm.algebraic,
  trivial, Cert.DownIdeal.Mm.algebraic,
  trivial, Cert.GateIdeal.Mm.algebraic,
  trivial, Cert.OutIdeal.Mm.algebraic,
  trivial, Cert.InIdeal.Mm.algebraic,
  trivial, Cert.GluBwdIdeal.Mm.algebraic,
  trivial, Cert.GluIdeal.Mm.algebraic,
  trivial, Cert.RetIdeal.Mm.algebraic,
  trivial, Cert.NormBwdIdeal.Mm.algebraic,
  trivial, Cert.NormIdeal.Mm.algebraic,
  trivial, Cert.RotBwdIdeal.Mm.algebraic,
  trivial, Cert.RotIdeal.Mm.algebraic⟩

end Cert.Proof

end
